-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_inputs [hPre_finite_inputs : Cert.Pre_finite_inputs.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_inputs.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).1 = (fun _ => 1#1)
    ∧ (Cert.Pre_finite_inputs.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))).2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_inputs [hPre_finite_inputs : Cert.Pre_finite_inputs.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_inputs.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))).1 = (fun _ => 1#1)
    ∧ (Cert.Pre_finite_inputs.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))).2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Kernel19Ideal_pre_finite_inputs [hKernel19Ideal : Cert.Kernel19Ideal.Facts] [hPre_finite_inputs : Cert.Pre_finite_inputs.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_inputs m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_finite_inputs [hReference19Ideal : Cert.Reference19Ideal.Facts] [hPre_finite_inputs : Cert.Pre_finite_inputs.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_inputs m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v135) = v3 c
          ∧ r.2.mem ((c.tc : Thread Cert.ReferenceIdeal.nD Cert.ReferenceIdeal.τ).loc Cert.ReferenceIdeal.main_v136) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v49) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_v50) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal_pre_finite_inputs [hKernel19Ideal : Cert.Kernel19Ideal.Facts] [hReference19Ideal : Cert.Reference19Ideal.Facts] [hPre_finite_inputs : Cert.Pre_finite_inputs.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_inputs m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v48) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_v8) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg1) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v23) = v0 c
          ∧ r.2.mem ((c.tc : Thread Cert.Reference29Ideal.nD Cert.Reference29Ideal.τ).loc Cert.Reference29Ideal.main_v4) = v1 c
          ∧ r.2.mem ((c.tc : Thread Cert.Reference29Ideal.nD Cert.Reference29Ideal.τ).loc Cert.Reference29Ideal.main_v10) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite_inputs : Cert.Pre_finite_inputs.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_inputs (hKernel19Ideal := hKernel19Ideal) (hPre_finite_inputs := hPre_finite_inputs)
    ∧ quiescent_Reference19Ideal (hReference19Ideal := hReference19Ideal)
    ∧ quiescent_Reference19Ideal_pre_finite_inputs (hReference19Ideal := hReference19Ideal) (hPre_finite_inputs := hPre_finite_inputs)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_inputs (hKernel19Ideal := hKernel19Ideal) (hReference19Ideal := hReference19Ideal) (hPre_finite_inputs := hPre_finite_inputs)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S9216x1024 : Shape := ⟨2, ![9216, 1024]⟩
abbrev S9216x512 : Shape := ⟨2, ![9216, 512]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)
  bcast_S_S9216x512 : S_.BroadcastsInDim S9216x512 (![] : Fin 0 → Fin S9216x512.rank)

variable [Facts]

def fn {F : FTy → Type} [FloatOps F] (main_arg0 : FVec F S9216x1024 .bf16) (main_arg1 : FVec F S9216x1024 .bf16) (main_arg2 : FVec F S9216x512 .bf16) (main_arg3 : FVec F S9216x1024 .f32) : IVec S9216x1024 1 × IVec S9216x1024 1 × IVec S9216x512 1 × IVec S9216x1024 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_v4 : FVec F S9216x1024 .f32 := (extf .f32 · bitsLt_bf16_f32) main_arg1
  let main_v5 : FVec F S9216x1024 .f32 := Host.absf main_v4
  let main_cst_0 : FVec F S_ .f32 := constant S_ .f32 0x7F800000#32
  let main_v6 : FVec F S9216x1024 .f32 := broadcastInDim S9216x1024 ![] bcast_S_S9216x1024 main_cst_0
  let main_v7 : IVec S9216x1024 1 := cmpf .olt main_v5 main_v6
  let main_v8 : FVec F S9216x512 .f32 := (extf .f32 · bitsLt_bf16_f32) main_arg2
  let main_v9 : FVec F S9216x512 .f32 := Host.absf main_v8
  let main_cst_1 : FVec F S_ .f32 := constant S_ .f32 0x7F800000#32
  let main_v10 : FVec F S9216x512 .f32 := broadcastInDim S9216x512 ![] bcast_S_S9216x512 main_cst_1
  let main_v11 : IVec S9216x512 1 := cmpf .olt main_v9 main_v10
  let main_v12 : FVec F S9216x1024 .f32 := Host.absf main_arg3
  let main_cst_2 : FVec F S_ .f32 := constant S_ .f32 0x7F800000#32
  let main_v13 : FVec F S9216x1024 .f32 := broadcastInDim S9216x1024 ![] bcast_S_S9216x1024 main_cst_2
  let main_v14 : IVec S9216x1024 1 := cmpf .olt main_v12 main_v13
  (main_v3, main_v7, main_v11, main_v14)
-- ==== Pre_finite_inputs.lean ====
abbrev S9216x1024 : Shape := ⟨2, ![9216, 1024]⟩
abbrev S9216x512 : Shape := ⟨2, ![9216, 512]⟩
abbrev S_ : Shape := ⟨0, ![]⟩

class Facts : Prop where
  bitsLt_bf16_f32 : FTy.bits .bf16 < FTy.bits .f32
  bcast_S_S9216x1024 : S_.BroadcastsInDim S9216x1024 (![] : Fin 0 → Fin S9216x1024.rank)

variable [Facts]

def fn {F : FTy → Type} [FloatOps F] (main_arg0 : FVec F S9216x1024 .bf16) (main_arg1 : FVec F S9216x1024 .bf16) (main_arg2 : FVec F S9216x512 .bf16) : IVec S9216x1024 1 × IVec S9216x1024 1 :=
  let main_v0 : FVec F S9216x1024 .f32 := (extf .f32 · bitsLt_bf16_f32) main_arg0
  let main_v1 : FVec F S9216x1024 .f32 := Host.absf main_v0
  let main_cst : FVec F S_ .f32 := constant S_ .f32 0x7F800000#32
  let main_v2 : FVec F S9216x1024 .f32 := broadcastInDim S9216x1024 ![] bcast_S_S9216x1024 main_cst
  let main_v3 : IVec S9216x1024 1 := cmpf .olt main_v1 main_v2
  let main_v4 : FVec F S9216x1024 .f32 := (extf .f32 · bitsLt_bf16_f32) main_arg1
  let main_v5 : FVec F S9216x1024 .f32 := Host.absf main_v4
  let main_cst_0 : FVec F S_ .f32 := constant S_ .f32 0x7F800000#32
  let main_v6 : FVec F S9216x1024 .f32 := broadcastInDim S9216x1024 ![] bcast_S_S9216x1024 main_cst_0
  let main_v7 : IVec S9216x1024 1 := cmpf .olt main_v5 main_v6
  (main_v3, main_v7)
-- ==== Kernel.lean ====
abbrev S9216x1024 : Shape := ⟨2, ![9216, 1024]⟩
abbrev S9216x512 : Shape := ⟨2, ![9216, 512]⟩
abbrev S8192x1024 : Shape := ⟨2, ![8192, 1024]⟩
abbrev S1024x1024 : Shape := ⟨2, ![1024, 1024]⟩
abbrev S8192x512 : Shape := ⟨2, ![8192, 512]⟩
abbrev S1024x512 : Shape := ⟨2, ![1024, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 22
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x1024, .f32⟩
  | .hbm, ⟨4, _⟩ => ⟨S9216x1024, .f32⟩
  | .hbm, ⟨5, _⟩ => ⟨S8192x1024, .f32⟩
  | .hbm, ⟨6, _⟩ => ⟨S1024x1024, .f32⟩
  | .hbm, ⟨7, _⟩ => ⟨S8192x512, .f32⟩
  | .hbm, ⟨8, _⟩ => ⟨S1024x512, .f32⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S2048x256, .f32⟩
  | .local _ .vmem, ⟨15, _⟩ => ⟨S2048x256, .f32⟩
  | .local _ .vmem, ⟨16, _⟩ => ⟨S256x256, .f32⟩
  | .local _ .vmem, ⟨17, _⟩ => ⟨S256x256, .f32⟩
  | .local _ .vmem, ⟨18, _⟩ => ⟨S2048x128, .f32⟩
  | .local _ .vmem, ⟨19, _⟩ => ⟨S2048x128, .f32⟩
  | .local _ .vmem, ⟨20, _⟩ => ⟨S256x128, .f32⟩
  | .local _ .vmem, ⟨21, _⟩ => ⟨S256x128, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 4, 9], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond6 (i : grid0.Coords) : BitVec 1 :=
  let arg2 : BitVec 32 := BitVec.ofNat 32 (i 2).val
  let c8_i32_0 : BitVec 32 := 8#32
  let v3 : BitVec 1 := Scalar.cmpi .eq arg2 c8_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg2 : BitVec 32 := BitVec.ofNat 32 (i 2).val
  let c0_i32_37 : BitVec 32 := 0#32
  let v97 : BitVec 1 := Scalar.cmpi .eq arg2 c0_i32_37
  let v98 : BitVec 32 := Scalar.extui v97
  let c0_i32_38 : BitVec 32 := 0#32
  let v99 : BitVec 1 := Scalar.cmpi .ne v98 c0_i32_38
  v99

def k0_cond4 (i : grid0.Coords) : BitVec 1 :=
  let arg2 : BitVec 32 := BitVec.ofNat 32 (i 2).val
  let c0_i32_49 : BitVec 32 := 0#32
  let v111 : BitVec 1 := Scalar.cmpi .eq arg2 c0_i32_49
  let v112 : BitVec 32 := Scalar.extui v111
  let c0_i32_50 : BitVec 32 := 0#32
  let v113 : BitVec 1 := Scalar.cmpi .ne v112 c0_i32_50
  v113

def k0_cond3 (i : grid0.Coords) : BitVec 1 :=
  let arg2 : BitVec 32 := BitVec.ofNat 32 (i 2).val
  let c0_i32_43 : BitVec 32 := 0#32
  let v104 : BitVec 1 := Scalar.cmpi .eq arg2 c0_i32_43
  let v105 : BitVec 32 := Scalar.extui v104
  let c0_i32_44 : BitVec 32 := 0#32
  let v106 : BitVec 1 := Scalar.cmpi .ne v105 c0_i32_44
  v106

def k0_cond5 (i : grid0.Coords) : BitVec 1 :=
  let arg2 : BitVec 32 := BitVec.ofNat 32 (i 2).val
  let c0_i32_55 : BitVec 32 := 0#32
  let v118 : BitVec 1 := Scalar.cmpi .eq arg2 c0_i32_55
  let v119 : BitVec 32 := Scalar.extui v118
  let c0_i32_56 : BitVec 32 := 0#32
  let v120 : BitVec 1 := Scalar.cmpi .ne v119 c0_i32_56
  v120

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S9216x1024 : Shape := ⟨2, ![9216, 1024]⟩
abbrev S9216x512 : Shape := ⟨2, ![9216, 512]⟩
abbrev S8192x1024 : Shape := ⟨2, ![8192, 1024]⟩
abbrev S4x2048x4x256 : Shape := ⟨4, ![4, 2048, 4, 256]⟩
abbrev S1024x1024 : Shape := ⟨2, ![1024, 1024]⟩
abbrev S4x256x4x256 : Shape := ⟨4, ![4, 256, 4, 256]⟩
abbrev S8192x512 : Shape := ⟨2, ![8192, 512]⟩
abbrev S4x2048x4x128 : Shape := ⟨4, ![4, 2048, 4, 128]⟩
abbrev S1024x512 : Shape := ⟨2, ![1024, 512]⟩
abbrev S4x256x4x128 : Shape := ⟨4, ![4, 256, 4, 128]⟩
abbrev S4x2304x4x256 : Shape := ⟨4, ![4, 2304, 4, 256]⟩
abbrev S4x2304x4x128 : Shape := ⟨4, ![4, 2304, 4, 128]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x4x128x256 : Shape := ⟨4, ![4, 4, 128, 256]⟩
abbrev S4x4x128x2304 : Shape := ⟨4, ![4, 4, 128, 2304]⟩
abbrev S4x4x2304x256 : Shape := ⟨4, ![4, 4, 2304, 256]⟩
abbrev S4x4x2048x256 : Shape := ⟨4, ![4, 4, 2048, 256]⟩

abbrev nBuf : Space → Nat
  | .hbm => 165
  | .vmem => 0
  | .smem => 0
  | _ => 0

abbrev hbmTy0_0 (i : Nat) : BufTy := match i % 128 with
  | 0 => ⟨S9216x1024, .bf16⟩
  | 1 => ⟨S9216x1024, .bf16⟩
  | 2 => ⟨S9216x512, .bf16⟩
  | 3 => ⟨S9216x1024, .f32⟩
  | 4 => ⟨S9216x1024, .f32⟩
  | 5 => ⟨S9216x1024, .f32⟩
  | 6 => ⟨S9216x512, .f32⟩
  | 7 => ⟨S9216x512, .f32⟩
  | 8 => ⟨S8192x1024, .f32⟩
  | 9 => ⟨S4x2048x4x256, .f32⟩
  | 10 => ⟨S1024x1024, .f32⟩
  | 11 => ⟨S4x256x4x256, .f32⟩
  | 12 => ⟨S8192x1024, .f32⟩
  | 13 => ⟨S4x2048x4x256, .f32⟩
  | 14 => ⟨S1024x1024, .f32⟩
  | 15 => ⟨S4x256x4x256, .f32⟩
  | 16 => ⟨S8192x512, .f32⟩
  | 17 => ⟨S4x2048x4x128, .f32⟩
  | 18 => ⟨S1024x512, .f32⟩
  | 19 => ⟨S4x256x4x128, .f32⟩
  | 20 => ⟨S4x2304x4x256, .f32⟩
  | 21 => ⟨S4x2304x4x128, .f32⟩
  | 22 => ⟨S4x4x2048x2304, .f32⟩
  | 23 => ⟨S_, .f32⟩
  | 24 => ⟨S4x4x2048, .f32⟩
  | 25 => ⟨S4x4x2048x1, .f32⟩
  | 26 => ⟨S4x4x2048x2304, .f32⟩
  | 27 => ⟨S4x4x2048x2304, .i1⟩
  | 28 => ⟨S4x4x2048x2304, .f32⟩
  | 29 => ⟨S_, .f32⟩
  | 30 => ⟨S4x4x2048, .f32⟩
  | 31 => ⟨S_, .f32⟩
  | 32 => ⟨S4x4x2048, .f32⟩
  | 33 => ⟨S4x4x2048, .f32⟩
  | 34 => ⟨S_, .f32⟩
  | 35 => ⟨S4x4x2048, .f32⟩
  | 36 => ⟨S4x4x2048, .i1⟩
  | 37 => ⟨S_, .f32⟩
  | 38 => ⟨S4x4x2048, .f32⟩
  | 39 => ⟨S4x4x2048, .i1⟩
  | 40 => ⟨S_, .f32⟩
  | 41 => ⟨S4x4x2048, .f32⟩
  | 42 => ⟨S_, .f32⟩
  | 43 => ⟨S4x4x2048, .f32⟩
  | 44 => ⟨S_, .f32⟩
  | 45 => ⟨S4x4x2048, .f32⟩
  | 46 => ⟨S4x4x2048, .f32⟩
  | 47 => ⟨S4x4x2048, .f32⟩
  | 48 => ⟨S4x4x2048x1, .f32⟩
  | 49 => ⟨S4x4x2048x2304, .f32⟩
  | 50 => ⟨S4x4x2048x2304, .f32⟩
  | 51 => ⟨S4x4x2048x2304, .f32⟩
  | 52 => ⟨S_, .f32⟩
  | 53 => ⟨S4x4x2048, .f32⟩
  | 54 => ⟨S4x4x2048x1, .f32⟩
  | 55 => ⟨S4x4x2048x2304, .f32⟩
  | 56 => ⟨S4x4x2048x2304, .f32⟩
  | 57 => ⟨S4x4x2048x1, .f32⟩
  | 58 => ⟨S_, .f32⟩
  | 59 => ⟨S4x4x2048x1, .f32⟩
  | 60 => ⟨S4x4x2048x1, .f32⟩
  | 61 => ⟨S4x4x128x2048, .f32⟩
  | 62 => ⟨S4x2048x4x128, .f32⟩
  | 63 => ⟨S4x4x256x256, .f32⟩
  | 64 => ⟨S_, .f32⟩
  | 65 => ⟨S4x4x256, .f32⟩
  | 66 => ⟨S4x4x256x1, .f32⟩
  | 67 => ⟨S4x4x256x256, .f32⟩
  | 68 => ⟨S4x4x256x256, .i1⟩
  | 69 => ⟨S4x4x256x256, .f32⟩
  | 70 => ⟨S_, .f32⟩
  | 71 => ⟨S4x4x256, .f32⟩
  | 72 => ⟨S_, .f32⟩
  | 73 => ⟨S4x4x256, .f32⟩
  | 74 => ⟨S4x4x256, .f32⟩
  | 75 => ⟨S_, .f32⟩
  | 76 => ⟨S4x4x256, .f32⟩
  | 77 => ⟨S4x4x256, .i1⟩
  | 78 => ⟨S_, .f32⟩
  | 79 => ⟨S4x4x256, .f32⟩
  | 80 => ⟨S4x4x256, .i1⟩
  | 81 => ⟨S_, .f32⟩
  | 82 => ⟨S4x4x256, .f32⟩
  | 83 => ⟨S_, .f32⟩
  | 84 => ⟨S4x4x256, .f32⟩
  | 85 => ⟨S_, .f32⟩
  | 86 => ⟨S4x4x256, .f32⟩
  | 87 => ⟨S4x4x256, .f32⟩
  | 88 => ⟨S4x4x256, .f32⟩
  | 89 => ⟨S4x4x256x1, .f32⟩
  | 90 => ⟨S4x4x256x256, .f32⟩
  | 91 => ⟨S4x4x256x256, .f32⟩
  | 92 => ⟨S4x4x256x256, .f32⟩
  | 93 => ⟨S_, .f32⟩
  | 94 => ⟨S4x4x256, .f32⟩
  | 95 => ⟨S4x4x256x1, .f32⟩
  | 96 => ⟨S4x4x256x256, .f32⟩
  | 97 => ⟨S4x4x256x256, .f32⟩
  | 98 => ⟨S4x4x256x1, .f32⟩
  | 99 => ⟨S_, .f32⟩
  | 100 => ⟨S4x4x256x1, .f32⟩
  | 101 => ⟨S4x4x256x1, .f32⟩
  | 102 => ⟨S4x4x128x256, .f32⟩
  | 103 => ⟨S4x256x4x128, .f32⟩
  | 104 => ⟨S8192x512, .f32⟩
  | 105 => ⟨S4x2048x4x128, .f32⟩
  | 106 => ⟨S1024x512, .f32⟩
  | 107 => ⟨S4x256x4x128, .f32⟩
  | 108 => ⟨S4x4x128x256, .f32⟩
  | 109 => ⟨S4x4x256x256, .f32⟩
  | 110 => ⟨S4x4x128x256, .f32⟩
  | 111 => ⟨S4x256x4x128, .f32⟩
  | 112 => ⟨S4x4x256x256, .f32⟩
  | 113 => ⟨S4x4x256x256, .f32⟩
  | 114 => ⟨S4x4x256x256, .f32⟩
  | 115 => ⟨S_, .f32⟩
  | 116 => ⟨S4x4x256, .f32⟩
  | 117 => ⟨S4x4x256x1, .f32⟩
  | 118 => ⟨S4x4x256x1, .f32⟩
  | 119 => ⟨S4x4x256x256, .f32⟩
  | 120 => ⟨S4x4x256x256, .f32⟩
  | 121 => ⟨S_, .f32⟩
  | 122 => ⟨S4x4x256, .f32⟩
  | 123 => ⟨S4x4x256x256, .f32⟩
  | 124 => ⟨S4x4x256x256, .f32⟩
  | 125 => ⟨S4x4x256x256, .f32⟩
  | 126 => ⟨S4x4x256x256, .f32⟩
  | 127 => ⟨S4x256x4x256, .f32⟩
  | _ => ⟨S9216x1024, .bf16⟩

abbrev hbmTy0_1 (i : Nat) : BufTy := match i % 128 with
  | 0 => ⟨S4x4x256x256, .f32⟩
  | 1 => ⟨S4x256x4x256, .f32⟩
  | 2 => ⟨S4x4x128x2048, .f32⟩
  | 3 => ⟨S4x4x2048x2304, .f32⟩
  | 4 => ⟨S4x4x128x2304, .f32⟩
  | 5 => ⟨S4x2304x4x128, .f32⟩
  | 6 => ⟨S4x4x2048x2304, .f32⟩
  | 7 => ⟨S4x4x2048x2304, .f32⟩
  | 8 => ⟨S4x4x2048x2304, .f32⟩
  | 9 => ⟨S_, .f32⟩
  | 10 => ⟨S4x4x2048, .f32⟩
  | 11 => ⟨S4x4x2048x1, .f32⟩
  | 12 => ⟨S4x4x2048x1, .f32⟩
  | 13 => ⟨S4x4x2048x2304, .f32⟩
  | 14 => ⟨S4x4x2048x2304, .f32⟩
  | 15 => ⟨S_, .f32⟩
  | 16 => ⟨S4x4x2048, .f32⟩
  | 17 => ⟨S4x4x2048x2304, .f32⟩
  | 18 => ⟨S4x4x2048x2304, .f32⟩
  | 19 => ⟨S4x4x2048x2304, .f32⟩
  | 20 => ⟨S4x4x2304x256, .f32⟩
  | 21 => ⟨S4x2304x4x256, .f32⟩
  | 22 => ⟨S4x4x2048x256, .f32⟩
  | 23 => ⟨S4x2048x4x256, .f32⟩
  | 24 => ⟨S4x2048x4x128, .f32⟩
  | 25 => ⟨S4x256x4x128, .f32⟩
  | 26 => ⟨S4x256x4x128, .f32⟩
  | 27 => ⟨S4x2048x4x256, .f32⟩
  | 28 => ⟨S4x256x4x256, .f32⟩
  | 29 => ⟨S4x256x4x256, .f32⟩
  | 30 => ⟨S8192x1024, .f32⟩
  | 31 => ⟨S1024x1024, .f32⟩
  | 32 => ⟨S9216x1024, .f32⟩
  | 33 => ⟨S8192x1024, .f32⟩
  | 34 => ⟨S1024x1024, .f32⟩
  | 35 => ⟨S8192x512, .f32⟩
  | 36 => ⟨S1024x512, .f32⟩
  | _ => ⟨S9216x1024, .bf16⟩

abbrev hbmTy (i : Nat) : BufTy := match i / 128 with
  | 0 => hbmTy0_0 i
  | 1 => hbmTy0_1 i
  | _ => ⟨S9216x1024, .bf16⟩

abbrev bufTy : (tb : Table) → Fin (tcTables nBuf tb) → BufTy
  | .hbm, ⟨i, _⟩ => hbmTy i
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_cst_13 : Ref sig .tc := ⟨.hbm, 78, rfl⟩
abbrev main_v60 : Ref sig .tc := ⟨.hbm, 79, rfl⟩
abbrev main_v61 : Ref sig .tc := ⟨.hbm, 80, rfl⟩
abbrev main_cst_14 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_17 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_18 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_19 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_20 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_21 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_cst_22 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩

abbrev nD : Nat := 1
abbrev τ : Topo := Topo.v7x

variable {F : FTy → Type} [FloatOps F]
-- ==== Kernel2.lean ====
abbrev S9216x1024 : Shape := ⟨2, ![9216, 1024]⟩
abbrev S2816x1024 : Shape := ⟨2, ![2816, 1024]⟩
abbrev S9216x2816 : Shape := ⟨2, ![9216, 2816]⟩
abbrev S1024x2816 : Shape := ⟨2, ![1024, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .bf16⟩
  | .hbm, ⟨3, _⟩ => ⟨S9216x2816, .bf16⟩
  | .hbm, ⟨4, _⟩ => ⟨S1024x2816, .bf16⟩
  | .hbm, ⟨5, _⟩ => ⟨S9216x2816, .bf16⟩
  | .hbm, ⟨6, _⟩ => ⟨S9216x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S9216x1024 : Shape := ⟨2, ![9216, 1024]⟩
abbrev S2816x1024 : Shape := ⟨2, ![2816, 1024]⟩
abbrev S9216x2816 : Shape := ⟨2, ![9216, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .bf16⟩
  | .hbm, ⟨3, _⟩ => ⟨S9216x2816, .bf16⟩
  | .hbm, ⟨4, _⟩ => ⟨S9216x2816, .f32⟩
  | .hbm, ⟨5, _⟩ => ⟨S9216x2816, .f32⟩
  | .hbm, ⟨6, _⟩ => ⟨S2816x1024, .f32⟩
  | .hbm, ⟨7, _⟩ => ⟨S9216x2816, .f32⟩
  | .hbm, ⟨8, _⟩ => ⟨S9216x2816, .f32⟩
  | .hbm, ⟨9, _⟩ => ⟨S_, .f32⟩
  | .hbm, ⟨10, _⟩ => ⟨S9216x2816, .f32⟩
  | .hbm, ⟨11, _⟩ => ⟨S9216x2816, .f32⟩
  | .hbm, ⟨12, _⟩ => ⟨S_, .f32⟩
  | .hbm, ⟨13, _⟩ => ⟨S9216x2816, .f32⟩
  | .hbm, ⟨14, _⟩ => ⟨S9216x2816, .f32⟩
  | .hbm, ⟨15, _⟩ => ⟨S_, .f32⟩
  | .hbm, ⟨16, _⟩ => ⟨S9216x2816, .f32⟩
  | .hbm, ⟨17, _⟩ => ⟨S9216x2816, .f32⟩
  | .hbm, ⟨18, _⟩ => ⟨S9216x2816, .f32⟩
  | .hbm, ⟨19, _⟩ => ⟨S9216x2816, .f32⟩
  | .hbm, ⟨20, _⟩ => ⟨S9216x2816, .f32⟩
  | .hbm, ⟨21, _⟩ => ⟨S9216x1024, .f32⟩
  | .hbm, ⟨22, _⟩ => ⟨S9216x1024, .f32⟩
  | .hbm, ⟨23, _⟩ => ⟨S9216x2816, .f32⟩
  | .hbm, ⟨24, _⟩ => ⟨S9216x2816, .f32⟩
  | .hbm, ⟨25, _⟩ => ⟨S9216x2816, .f32⟩
  | .hbm, ⟨26, _⟩ => ⟨S9216x2816, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x2816, .bf16⟩
  | .hbm, ⟨31, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S9216x2816 : Shape := ⟨2, ![9216, 2816]⟩
abbrev S4x4x1024x1408 : Shape := ⟨4, ![4, 4, 1024, 1408]⟩
abbrev S9216x1024 : Shape := ⟨2, ![9216, 1024]⟩
abbrev S512x2816 : Shape := ⟨2, ![512, 2816]⟩
abbrev S1x1x1024x1408 : Shape := ⟨4, ![1, 1, 1024, 1408]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S9216x2816, .bf16⟩
  | .hbm, ⟨1, _⟩ => ⟨S9216x2816, .bf16⟩
  | .hbm, ⟨2, _⟩ => ⟨S4x4x1024x1408, .bf16⟩
  | .hbm, ⟨3, _⟩ => ⟨S9216x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S512x1024, .f32⟩
  | .local _ .vmem, ⟨9, _⟩ => ⟨S512x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![18, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S9216x2816 : Shape := ⟨2, ![9216, 2816]⟩
abbrev S4x4x1024x1408 : Shape := ⟨4, ![4, 4, 1024, 1408]⟩
abbrev S1x1x1024x1408 : Shape := ⟨4, ![1, 1, 1024, 1408]⟩
abbrev S1024x1408 : Shape := ⟨2, ![1024, 1408]⟩
abbrev S1024x5632 : Shape := ⟨2, ![1024, 5632]⟩
abbrev S9216x5632 : Shape := ⟨2, ![9216, 5632]⟩
abbrev S_ : Shape := ⟨0, ![]⟩
abbrev S9216x1024 : Shape := ⟨2, ![9216, 1024]⟩

abbrev nBuf : Space → Nat
  | .hbm => 19
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x2816, .bf16⟩
  | .hbm, ⟨2, _⟩ => ⟨S4x4x1024x1408, .bf16⟩
  | .hbm, ⟨3, _⟩ => ⟨S1x1x1024x1408, .bf16⟩
  | .hbm, ⟨4, _⟩ => ⟨S1024x1408, .bf16⟩
  | .hbm, ⟨5, _⟩ => ⟨S1x1x1024x1408, .bf16⟩
  | .hbm, ⟨6, _⟩ => ⟨S1024x1408, .bf16⟩
  | .hbm, ⟨7, _⟩ => ⟨S1x1x1024x1408, .bf16⟩
  | .hbm, ⟨8, _⟩ => ⟨S1024x1408, .bf16⟩
  | .hbm, ⟨9, _⟩ => ⟨S1x1x1024x1408, .bf16⟩
  | .hbm, ⟨10, _⟩ => ⟨S1024x1408, .bf16⟩
  | .hbm, ⟨11, _⟩ => ⟨S1024x5632, .bf16⟩
  | .hbm, ⟨12, _⟩ => ⟨S9216x5632, .bf16⟩
  | .hbm, ⟨13, _⟩ => ⟨S_, .f32⟩
  | .hbm, ⟨14, _⟩ => ⟨S9216x1024, .f32⟩
  | .hbm, ⟨15, _⟩ => ⟨S1024x5632, .f32⟩
  | .hbm, ⟨16, _⟩ => ⟨S9216x5632, .f32⟩
  | .hbm, ⟨17, _⟩ => ⟨S9216x5632, .f32⟩
  | .hbm, ⟨18, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S9216x2816 : Shape := ⟨2, ![9216, 2816]⟩
abbrev S9216x1024 : Shape := ⟨2, ![9216, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S9216x1024 : Shape := ⟨2, ![9216, 1024]⟩
abbrev S9216x2816 : Shape := ⟨2, ![9216, 2816]⟩
abbrev S2x1024x1408 : Shape := ⟨3, ![2, 1024, 1408]⟩
abbrev S1024x1024 : Shape := ⟨2, ![1024, 1024]⟩
abbrev S1024x2816 : Shape := ⟨2, ![1024, 2816]⟩
abbrev S1024x1408 : Shape := ⟨2, ![1024, 1408]⟩
abbrev S1x1024x1408 : Shape := ⟨3, ![1, 1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x2816, .bf16⟩
  | .hbm, ⟨2, _⟩ => ⟨S2x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference5Ideal.lean ====
abbrev S9216x1024 : Shape := ⟨2, ![9216, 1024]⟩
abbrev S9216x2816 : Shape := ⟨2, ![9216, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x2816, .bf16⟩
  | .hbm, ⟨2, _⟩ => ⟨S_, .f32⟩
  | .hbm, ⟨3, _⟩ => ⟨S1024x2816, .f32⟩
  | .hbm, ⟨4, _⟩ => ⟨S9216x1024, .f32⟩
  | .hbm, ⟨5, _⟩ => ⟨S9216x2816, .f32⟩
  | .hbm, ⟨6, _⟩ => ⟨S9216x2816, .f32⟩
  | .hbm, ⟨7, _⟩ => ⟨S2816x1024, .f32⟩
  | .hbm, ⟨8, _⟩ => ⟨S1024x2816, .f32⟩
  | .hbm, ⟨9, _⟩ => ⟨S1024x2x1408, .f32⟩
  | .hbm, ⟨10, _⟩ => ⟨S2x1024x1408, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S9216x1024 : Shape := ⟨2, ![9216, 1024]⟩
abbrev S4x4x1024x1408 : Shape := ⟨4, ![4, 4, 1024, 1408]⟩
abbrev S9216x2816 : Shape := ⟨2, ![9216, 2816]⟩
abbrev S512x1024 : Shape := ⟨2, ![512, 1024]⟩
abbrev S1x1x1024x1408 : Shape := ⟨4, ![1, 1, 1024, 1408]⟩
abbrev S512x1408 : Shape := ⟨2, ![512, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S4x4x1024x1408, .bf16⟩
  | .hbm, ⟨2, _⟩ => ⟨S9216x2816, .bf16⟩
  | .hbm, ⟨3, _⟩ => ⟨S9216x2816, .bf16⟩
  | .hbm, ⟨4, _⟩ => ⟨S9216x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S9216x1024 : Shape := ⟨2, ![9216, 1024]⟩
abbrev S4x4x1024x1408 : Shape := ⟨4, ![4, 4, 1024, 1408]⟩
abbrev S1x1x1024x1408 : Shape := ⟨4, ![1, 1, 1024, 1408]⟩
abbrev S1024x1408 : Shape := ⟨2, ![1024, 1408]⟩
abbrev S1024x2816 : Shape := ⟨2, ![1024, 2816]⟩
abbrev S9216x2816 : Shape := ⟨2, ![9216, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4x4x1024x1408, .bf16⟩
  | .hbm, ⟨2, _⟩ => ⟨S1x1x1024x1408, .bf16⟩
  | .hbm, ⟨3, _⟩ => ⟨S1024x1408, .bf16⟩
  | .hbm, ⟨4, _⟩ => ⟨S1x1x1024x1408, .bf16⟩
  | .hbm, ⟨5, _⟩ => ⟨S1024x1408, .bf16⟩
  | .hbm, ⟨6, _⟩ => ⟨S1024x2816, .bf16⟩
  | .hbm, ⟨7, _⟩ => ⟨S9216x1024, .f32⟩
  | .hbm, ⟨8, _⟩ => ⟨S1024x2816, .f32⟩
  | .hbm, ⟨9, _⟩ => ⟨S9216x2816, .f32⟩
  | .hbm, ⟨10, _⟩ => ⟨S1x1x1024x1408, .bf16⟩
  | .hbm, ⟨11, _⟩ => ⟨S1024x1408, .bf16⟩
  | .hbm, ⟨12, _⟩ => ⟨S1x1x1024x1408, .bf16⟩
  | .hbm, ⟨13, _⟩ => ⟨S1024x1408, .bf16⟩
  | .hbm, ⟨14, _⟩ => ⟨S1024x2816, .bf16⟩
  | .hbm, ⟨15, _⟩ => ⟨S9216x1024, .f32⟩
  | .hbm, ⟨16, _⟩ => ⟨S1024x2816, .f32⟩
  | .hbm, ⟨17, _⟩ => ⟨S9216x2816, .f32⟩
  | .hbm, ⟨18, _⟩ => ⟨S9216x2816, .f32⟩
  | .hbm, ⟨19, _⟩ => ⟨S9216x2816, .f32⟩
  | .hbm, ⟨20, _⟩ => ⟨S_, .f32⟩
  | .hbm, ⟨21, _⟩ => ⟨S9216x2816, .f32⟩
  | .hbm, ⟨22, _⟩ => ⟨S9216x2816, .f32⟩
  | .hbm, ⟨23, _⟩ => ⟨S_, .f32⟩
  | .hbm, ⟨24, _⟩ => ⟨S9216x2816, .f32⟩
  | .hbm, ⟨25, _⟩ => ⟨S9216x2816, .f32⟩
  | .hbm, ⟨26, _⟩ => ⟨S9216x2816, .f32⟩
  | .hbm, ⟨27, _⟩ => ⟨S9216x2816, .f32⟩
  | .hbm, ⟨28, _⟩ => ⟨S9216x2816, .bf16⟩
  | .hbm, ⟨29, _⟩ => ⟨S9216x2816, .bf16⟩
  | .hbm, ⟨30, _⟩ => ⟨S9216x2816, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel7.lean ====
abbrev S9216x1024 : Shape := ⟨2, ![9216, 1024]⟩
abbrev S1024x1024 : Shape := ⟨2, ![1024, 1024]⟩
abbrev S1536x1024 : Shape := ⟨2, ![1536, 1024]⟩
abbrev S512x1024 : Shape := ⟨2, ![512, 1024]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1536x1024, .bf16⟩
  | .local _ .vmem, ⟨1, _⟩ => ⟨S1536x1024, .bf16⟩
  | .local _ .vmem, ⟨2, _⟩ => ⟨S512x1024, .bf16⟩
  | .local _ .vmem, ⟨3, _⟩ => ⟨S512x1024, .bf16⟩
  | .local _ .vmem, ⟨4, _⟩ => ⟨S1536x512, .f32⟩
  | .local _ .vmem, ⟨5, _⟩ => ⟨S1536x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | .hbm, ⟨7, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S9216x1024 : Shape := ⟨2, ![9216, 1024]⟩
abbrev S9216x1664 : Shape := ⟨2, ![9216, 1664]⟩
abbrev S1024x1664 : Shape := ⟨2, ![1024, 1664]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x1664, .bf16⟩
  | .hbm, ⟨2, _⟩ => ⟨S1024x1664, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S9216x1024 : Shape := ⟨2, ![9216, 1024]⟩
abbrev S9216x1664 : Shape := ⟨2, ![9216, 1664]⟩
abbrev S_ : Shape := ⟨0, ![]⟩
abbrev S1024x1664 : Shape := ⟨2, ![1024, 1664]⟩
abbrev S1664x1024 : Shape := ⟨2, ![1664, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1664, .bf16⟩
  | .hbm, ⟨2, _⟩ => ⟨S_, .f32⟩
  | .hbm, ⟨3, _⟩ => ⟨S1024x1664, .f32⟩
  | .hbm, ⟨4, _⟩ => ⟨S9216x1024, .f32⟩
  | .hbm, ⟨5, _⟩ => ⟨S9216x1664, .f32⟩
  | .hbm, ⟨6, _⟩ => ⟨S9216x1664, .f32⟩
  | .hbm, ⟨7, _⟩ => ⟨S1664x1024, .f32⟩
  | .hbm, ⟨8, _⟩ => ⟨S1024x1664, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S9216x1024 : Shape := ⟨2, ![9216, 1024]⟩
abbrev S9216x2304 : Shape := ⟨2, ![9216, 2304]⟩
abbrev S1024x2304 : Shape := ⟨2, ![1024, 2304]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x2304, .bf16⟩
  | .hbm, ⟨2, _⟩ => ⟨S1024x2304, .f32⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S9216x1024 : Shape := ⟨2, ![9216, 1024]⟩
abbrev S9216x2304 : Shape := ⟨2, ![9216, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x2304, .bf16⟩
  | .hbm, ⟨2, _⟩ => ⟨S_, .f32⟩
  | .hbm, ⟨3, _⟩ => ⟨S1024x2304, .f32⟩
  | .hbm, ⟨4, _⟩ => ⟨S9216x1024, .f32⟩
  | .hbm, ⟨5, _⟩ => ⟨S9216x2304, .f32⟩
  | .hbm, ⟨6, _⟩ => ⟨S9216x2304, .f32⟩
  | .hbm, ⟨7, _⟩ => ⟨S2304x1024, .f32⟩
  | .hbm, ⟨8, _⟩ => ⟨S1024x2304, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S9216x1664 : Shape := ⟨2, ![9216, 1664]⟩
abbrev S1024x1664 : Shape := ⟨2, ![1024, 1664]⟩
abbrev S9216x1024 : Shape := ⟨2, ![9216, 1024]⟩
abbrev S1536x1664 : Shape := ⟨2, ![1536, 1664]⟩
abbrev S512x1664 : Shape := ⟨2, ![512, 1664]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x1664, .bf16⟩
  | .hbm, ⟨1, _⟩ => ⟨S1024x1664, .bf16⟩
  | .hbm, ⟨2, _⟩ => ⟨S9216x1024, .f32⟩
  | .local _ .vmem, ⟨0, _⟩ => ⟨S1536x1664, .bf16⟩
  | .local _ .vmem, ⟨1, _⟩ => ⟨S1536x1664, .bf16⟩
  | .local _ .vmem, ⟨2, _⟩ => ⟨S512x1664, .bf16⟩
  | .local _ .vmem, ⟨3, _⟩ => ⟨S512x1664, .bf16⟩
  | .local _ .vmem, ⟨4, _⟩ => ⟨S1536x512, .f32⟩
  | .local _ .vmem, ⟨5, _⟩ => ⟨S1536x512, .f32⟩
  | _, _ => ⟨S9216x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S9216x1664 : Shape := ⟨2, ![9216, 1664]⟩
abbrev S1024x1664 : Shape := ⟨2, ![1024, 1664]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x1664, .bf16⟩
  | .hbm, ⟨1, _⟩ => ⟨S1024x1664, .bf16⟩
  | .hbm, ⟨2, _⟩ => ⟨S_, .f32⟩
  | .hbm, ⟨3, _⟩ => ⟨S9216x1024, .f32⟩
  | .hbm, ⟨4, _⟩ => ⟨S1024x1664, .f32⟩
  | .hbm, ⟨5, _⟩ => ⟨S9216x1664, .f32⟩
  | .hbm, ⟨6, _⟩ => ⟨S9216x1664, .f32⟩
  | .hbm, ⟨7, _⟩ => ⟨S9216x1024, .f32⟩
  | _, _ => ⟨S9216x1664, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S9216x2304 : Shape := ⟨2, ![9216, 2304]⟩
abbrev S1024x2304 : Shape := ⟨2, ![1024, 2304]⟩
abbrev S9216x1024 : Shape := ⟨2, ![9216, 1024]⟩
abbrev S1536x2304 : Shape := ⟨2, ![1536, 2304]⟩
abbrev S512x2304 : Shape := ⟨2, ![512, 2304]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x2304, .bf16⟩
  | .hbm, ⟨1, _⟩ => ⟨S1024x2304, .bf16⟩
  | .hbm, ⟨2, _⟩ => ⟨S9216x1024, .f32⟩
  | .local _ .vmem, ⟨0, _⟩ => ⟨S1536x2304, .bf16⟩
  | .local _ .vmem, ⟨1, _⟩ => ⟨S1536x2304, .bf16⟩
  | .local _ .vmem, ⟨2, _⟩ => ⟨S512x2304, .bf16⟩
  | .local _ .vmem, ⟨3, _⟩ => ⟨S512x2304, .bf16⟩
  | .local _ .vmem, ⟨4, _⟩ => ⟨S1536x512, .f32⟩
  | .local _ .vmem, ⟨5, _⟩ => ⟨S1536x512, .f32⟩
  | _, _ => ⟨S9216x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S9216x2304 : Shape := ⟨2, ![9216, 2304]⟩
abbrev S1024x2304 : Shape := ⟨2, ![1024, 2304]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x2304, .bf16⟩
  | .hbm, ⟨1, _⟩ => ⟨S1024x2304, .bf16⟩
  | .hbm, ⟨2, _⟩ => ⟨S_, .f32⟩
  | .hbm, ⟨3, _⟩ => ⟨S9216x1024, .f32⟩
  | .hbm, ⟨4, _⟩ => ⟨S1024x2304, .f32⟩
  | .hbm, ⟨5, _⟩ => ⟨S9216x2304, .f32⟩
  | .hbm, ⟨6, _⟩ => ⟨S9216x2304, .f32⟩
  | .hbm, ⟨7, _⟩ => ⟨S9216x1024, .f32⟩
  | _, _ => ⟨S9216x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S9216x1024 : Shape := ⟨2, ![9216, 1024]⟩
abbrev S1024x1664 : Shape := ⟨2, ![1024, 1664]⟩
abbrev S9216x1664 : Shape := ⟨2, ![9216, 1664]⟩
abbrev S512x1024 : Shape := ⟨2, ![512, 1024]⟩
abbrev S512x1664 : Shape := ⟨2, ![512, 1664]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1664, .bf16⟩
  | .hbm, ⟨2, _⟩ => ⟨S9216x1664, .f32⟩
  | .local _ .vmem, ⟨0, _⟩ => ⟨S512x1024, .bf16⟩
  | .local _ .vmem, ⟨1, _⟩ => ⟨S512x1024, .bf16⟩
  | .local _ .vmem, ⟨2, _⟩ => ⟨S1024x1664, .bf16⟩
  | .local _ .vmem, ⟨3, _⟩ => ⟨S512x1664, .f32⟩
  | .local _ .vmem, ⟨4, _⟩ => ⟨S512x1664, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![18, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S9216x1024 : Shape := ⟨2, ![9216, 1024]⟩
abbrev S1024x1664 : Shape := ⟨2, ![1024, 1664]⟩
abbrev S9216x1664 : Shape := ⟨2, ![9216, 1664]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1664, .bf16⟩
  | .hbm, ⟨2, _⟩ => ⟨S9216x1024, .f32⟩
  | .hbm, ⟨3, _⟩ => ⟨S1024x1664, .f32⟩
  | .hbm, ⟨4, _⟩ => ⟨S9216x1664, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S9216x1024 : Shape := ⟨2, ![9216, 1024]⟩
abbrev S1024x2304 : Shape := ⟨2, ![1024, 2304]⟩
abbrev S9216x2304 : Shape := ⟨2, ![9216, 2304]⟩
abbrev S1152x1024 : Shape := ⟨2, ![1152, 1024]⟩
abbrev S1024x768 : Shape := ⟨2, ![1024, 768]⟩
abbrev S1152x768 : Shape := ⟨2, ![1152, 768]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x2304, .bf16⟩
  | .hbm, ⟨2, _⟩ => ⟨S9216x2304, .f32⟩
  | .local _ .vmem, ⟨0, _⟩ => ⟨S1152x1024, .bf16⟩
  | .local _ .vmem, ⟨1, _⟩ => ⟨S1152x1024, .bf16⟩
  | .local _ .vmem, ⟨2, _⟩ => ⟨S1024x768, .bf16⟩
  | .local _ .vmem, ⟨3, _⟩ => ⟨S1024x768, .bf16⟩
  | .local _ .vmem, ⟨4, _⟩ => ⟨S1152x768, .f32⟩
  | .local _ .vmem, ⟨5, _⟩ => ⟨S1152x768, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1152x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S9216x1024 : Shape := ⟨2, ![9216, 1024]⟩
abbrev S1024x2304 : Shape := ⟨2, ![1024, 2304]⟩
abbrev S9216x2304 : Shape := ⟨2, ![9216, 2304]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2304, .bf16⟩
  | .hbm, ⟨2, _⟩ => ⟨S9216x1024, .f32⟩
  | .hbm, ⟨3, _⟩ => ⟨S1024x2304, .f32⟩
  | .hbm, ⟨4, _⟩ => ⟨S9216x2304, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S9216x2816 : Shape := ⟨2, ![9216, 2816]⟩
abbrev S2816x1024 : Shape := ⟨2, ![2816, 1024]⟩
abbrev S9216x1024 : Shape := ⟨2, ![9216, 1024]⟩
abbrev S5x6x1024 : Shape := ⟨3, ![5, 6, 1024]⟩
abbrev S1024 : Shape := ⟨1, ![1024]⟩
abbrev S1x1024 : Shape := ⟨2, ![1, 1024]⟩
abbrev S256x2816 : Shape := ⟨2, ![256, 2816]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x6x1024, .f32⟩
  | .hbm, ⟨4, _⟩ => ⟨S1024, .f32⟩
  | .hbm, ⟨5, _⟩ => ⟨S5x6x1024, .f32⟩
  | .hbm, ⟨6, _⟩ => ⟨S1x1024, .f32⟩
  | .hbm, ⟨7, _⟩ => ⟨S9216x1024, .bf16⟩
  | .hbm, ⟨8, _⟩ => ⟨S9216x1024, .f32⟩
  | .hbm, ⟨9, _⟩ => ⟨S9216x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x6x1024, .f32⟩
  | .local _ .vmem, ⟨9, _⟩ => ⟨S1x6x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S9216x2816 : Shape := ⟨2, ![9216, 2816]⟩
abbrev S2816x1024 : Shape := ⟨2, ![2816, 1024]⟩
abbrev S9216x1024 : Shape := ⟨2, ![9216, 1024]⟩
abbrev S5x6x1024 : Shape := ⟨3, ![5, 6, 1024]⟩
abbrev S1024 : Shape := ⟨1, ![1024]⟩
abbrev S5x1x1024 : Shape := ⟨3, ![5, 1, 1024]⟩
abbrev S5x1024 : Shape := ⟨2, ![5, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S9216 : Shape := ⟨1, ![9216]⟩
abbrev S9216x1 : Shape := ⟨2, ![9216, 1]⟩

abbrev nBuf : Space → Nat
  | .hbm => 61
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x6x1024, .f32⟩
  | .hbm, ⟨4, _⟩ => ⟨S1024, .f32⟩
  | .hbm, ⟨5, _⟩ => ⟨S5x6x1024, .f32⟩
  | .hbm, ⟨6, _⟩ => ⟨S5x1x1024, .f32⟩
  | .hbm, ⟨7, _⟩ => ⟨S5x1024, .f32⟩
  | .hbm, ⟨8, _⟩ => ⟨S5x1x1024, .f32⟩
  | .hbm, ⟨9, _⟩ => ⟨S5x1024, .f32⟩
  | .hbm, ⟨10, _⟩ => ⟨S5x1x1024, .f32⟩
  | .hbm, ⟨11, _⟩ => ⟨S5x1024, .f32⟩
  | .hbm, ⟨12, _⟩ => ⟨S9216x2816, .f32⟩
  | .hbm, ⟨13, _⟩ => ⟨S2816x1024, .f32⟩
  | .hbm, ⟨14, _⟩ => ⟨S9216x1024, .f32⟩
  | .hbm, ⟨15, _⟩ => ⟨S4x1024, .f32⟩
  | .hbm, ⟨16, _⟩ => ⟨S4x1x1024, .f32⟩
  | .hbm, ⟨17, _⟩ => ⟨S4x2048x1024, .f32⟩
  | .hbm, ⟨18, _⟩ => ⟨S8192x1024, .f32⟩
  | .hbm, ⟨19, _⟩ => ⟨S1x1024, .f32⟩
  | .hbm, ⟨20, _⟩ => ⟨S1024x1024, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S9216x1024, .f32⟩
  | .hbm, ⟨25, _⟩ => ⟨S_, .f32⟩
  | .hbm, ⟨26, _⟩ => ⟨S9216, .f32⟩
  | .hbm, ⟨27, _⟩ => ⟨S9216x1, .f32⟩
  | .hbm, ⟨28, _⟩ => ⟨S_, .f32⟩
  | .hbm, ⟨29, _⟩ => ⟨S9216x1, .f32⟩
  | .hbm, ⟨30, _⟩ => ⟨S9216x1, .f32⟩
  | .hbm, ⟨31, _⟩ => ⟨S_, .f32⟩
  | .hbm, ⟨32, _⟩ => ⟨S9216x1, .f32⟩
  | .hbm, ⟨33, _⟩ => ⟨S9216x1, .f32⟩
  | .hbm, ⟨34, _⟩ => ⟨S9216x1, .f32⟩
  | .hbm, ⟨35, _⟩ => ⟨S9216x1024, .f32⟩
  | .hbm, ⟨36, _⟩ => ⟨S9216x1024, .f32⟩
  | .hbm, ⟨37, _⟩ => ⟨S1x1024, .f32⟩
  | .hbm, ⟨38, _⟩ => ⟨S9216x1024, .f32⟩
  | .hbm, ⟨39, _⟩ => ⟨S9216x1024, .f32⟩
  | .hbm, ⟨40, _⟩ => ⟨S4x1024, .f32⟩
  | .hbm, ⟨41, _⟩ => ⟨S4x1x1024, .f32⟩
  | .hbm, ⟨42, _⟩ => ⟨S4x2048x1024, .f32⟩
  | .hbm, ⟨43, _⟩ => ⟨S8192x1024, .f32⟩
  | .hbm, ⟨44, _⟩ => ⟨S1x1024, .f32⟩
  | .hbm, ⟨45, _⟩ => ⟨S1024x1024, .f32⟩
  | .hbm, ⟨46, _⟩ => ⟨S9216x1024, .f32⟩
  | .hbm, ⟨47, _⟩ => ⟨S_, .f32⟩
  | .hbm, ⟨48, _⟩ => ⟨S9216x1024, .f32⟩
  | .hbm, ⟨49, _⟩ => ⟨S9216x1024, .f32⟩
  | .hbm, ⟨50, _⟩ => ⟨S9216x1024, .f32⟩
  | .hbm, ⟨51, _⟩ => ⟨S4x1024, .f32⟩
  | .hbm, ⟨52, _⟩ => ⟨S4x1x1024, .f32⟩
  | .hbm, ⟨53, _⟩ => ⟨S4x2048x1024, .f32⟩
  | .hbm, ⟨54, _⟩ => ⟨S8192x1024, .f32⟩
  | .hbm, ⟨55, _⟩ => ⟨S1x1024, .f32⟩
  | .hbm, ⟨56, _⟩ => ⟨S1024x1024, .f32⟩
  | .hbm, ⟨57, _⟩ => ⟨S9216x1024, .f32⟩
  | .hbm, ⟨58, _⟩ => ⟨S9216x1024, .f32⟩
  | .hbm, ⟨59, _⟩ => ⟨S9216x1024, .bf16⟩
  | .hbm, ⟨60, _⟩ => ⟨S9216x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== Kernel16.lean ====
abbrev S9216x1024 : Shape := ⟨2, ![9216, 1024]⟩
abbrev S1024x1024 : Shape := ⟨2, ![1024, 1024]⟩
abbrev S5x6x1024 : Shape := ⟨3, ![5, 6, 1024]⟩
abbrev S1024 : Shape := ⟨1, ![1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S5x6x1024, .f32⟩
  | .hbm, ⟨4, _⟩ => ⟨S1024, .f32⟩
  | .hbm, ⟨5, _⟩ => ⟨S1x1024, .f32⟩
  | .hbm, ⟨6, _⟩ => ⟨S9216x1024, .bf16⟩
  | .hbm, ⟨7, _⟩ => ⟨S9216x1024, .f32⟩
  | .hbm, ⟨8, _⟩ => ⟨S9216x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S1x6x1024, .f32⟩
  | .local _ .vmem, ⟨9, _⟩ => ⟨S1x6x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S9216x1024 : Shape := ⟨2, ![9216, 1024]⟩
abbrev S1024x1024 : Shape := ⟨2, ![1024, 1024]⟩
abbrev S5x6x1024 : Shape := ⟨3, ![5, 6, 1024]⟩
abbrev S1024 : Shape := ⟨1, ![1024]⟩
abbrev S5x1x1024 : Shape := ⟨3, ![5, 1, 1024]⟩
abbrev S5x1024 : Shape := ⟨2, ![5, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S1x1024 : Shape := ⟨2, ![1, 1024]⟩
abbrev S_ : Shape := ⟨0, ![]⟩
abbrev S9216 : Shape := ⟨1, ![9216]⟩
abbrev S9216x1 : Shape := ⟨2, ![9216, 1]⟩

abbrev nBuf : Space → Nat
  | .hbm => 60
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S5x6x1024, .f32⟩
  | .hbm, ⟨4, _⟩ => ⟨S1024, .f32⟩
  | .hbm, ⟨5, _⟩ => ⟨S5x1x1024, .f32⟩
  | .hbm, ⟨6, _⟩ => ⟨S5x1024, .f32⟩
  | .hbm, ⟨7, _⟩ => ⟨S5x1x1024, .f32⟩
  | .hbm, ⟨8, _⟩ => ⟨S5x1024, .f32⟩
  | .hbm, ⟨9, _⟩ => ⟨S5x1x1024, .f32⟩
  | .hbm, ⟨10, _⟩ => ⟨S5x1024, .f32⟩
  | .hbm, ⟨11, _⟩ => ⟨S9216x1024, .f32⟩
  | .hbm, ⟨12, _⟩ => ⟨S1024x1024, .f32⟩
  | .hbm, ⟨13, _⟩ => ⟨S9216x1024, .f32⟩
  | .hbm, ⟨14, _⟩ => ⟨S4x1024, .f32⟩
  | .hbm, ⟨15, _⟩ => ⟨S4x1x1024, .f32⟩
  | .hbm, ⟨16, _⟩ => ⟨S4x2048x1024, .f32⟩
  | .hbm, ⟨17, _⟩ => ⟨S8192x1024, .f32⟩
  | .hbm, ⟨18, _⟩ => ⟨S1x1024, .f32⟩
  | .hbm, ⟨19, _⟩ => ⟨S1024x1024, .f32⟩
  | .hbm, ⟨20, _⟩ => ⟨S9216x1024, .f32⟩
  | .hbm, ⟨21, _⟩ => ⟨S9216x1024, .f32⟩
  | .hbm, ⟨22, _⟩ => ⟨S9216x1024, .f32⟩
  | .hbm, ⟨23, _⟩ => ⟨S9216x1024, .f32⟩
  | .hbm, ⟨24, _⟩ => ⟨S_, .f32⟩
  | .hbm, ⟨25, _⟩ => ⟨S9216, .f32⟩
  | .hbm, ⟨26, _⟩ => ⟨S9216x1, .f32⟩
  | .hbm, ⟨27, _⟩ => ⟨S_, .f32⟩
  | .hbm, ⟨28, _⟩ => ⟨S9216x1, .f32⟩
  | .hbm, ⟨29, _⟩ => ⟨S9216x1, .f32⟩
  | .hbm, ⟨30, _⟩ => ⟨S_, .f32⟩
  | .hbm, ⟨31, _⟩ => ⟨S9216x1, .f32⟩
  | .hbm, ⟨32, _⟩ => ⟨S9216x1, .f32⟩
  | .hbm, ⟨33, _⟩ => ⟨S9216x1, .f32⟩
  | .hbm, ⟨34, _⟩ => ⟨S9216x1024, .f32⟩
  | .hbm, ⟨35, _⟩ => ⟨S9216x1024, .f32⟩
  | .hbm, ⟨36, _⟩ => ⟨S1x1024, .f32⟩
  | .hbm, ⟨37, _⟩ => ⟨S9216x1024, .f32⟩
  | .hbm, ⟨38, _⟩ => ⟨S9216x1024, .f32⟩
  | .hbm, ⟨39, _⟩ => ⟨S4x1024, .f32⟩
  | .hbm, ⟨40, _⟩ => ⟨S4x1x1024, .f32⟩
  | .hbm, ⟨41, _⟩ => ⟨S4x2048x1024, .f32⟩
  | .hbm, ⟨42, _⟩ => ⟨S8192x1024, .f32⟩
  | .hbm, ⟨43, _⟩ => ⟨S1x1024, .f32⟩
  | .hbm, ⟨44, _⟩ => ⟨S1024x1024, .f32⟩
  | .hbm, ⟨45, _⟩ => ⟨S9216x1024, .f32⟩
  | .hbm, ⟨46, _⟩ => ⟨S_, .f32⟩
  | .hbm, ⟨47, _⟩ => ⟨S9216x1024, .f32⟩
  | .hbm, ⟨48, _⟩ => ⟨S9216x1024, .f32⟩
  | .hbm, ⟨49, _⟩ => ⟨S9216x1024, .f32⟩
  | .hbm, ⟨50, _⟩ => ⟨S4x1024, .f32⟩
  | .hbm, ⟨51, _⟩ => ⟨S4x1x1024, .f32⟩
  | .hbm, ⟨52, _⟩ => ⟨S4x2048x1024, .f32⟩
  | .hbm, ⟨53, _⟩ => ⟨S8192x1024, .f32⟩
  | .hbm, ⟨54, _⟩ => ⟨S1x1024, .f32⟩
  | .hbm, ⟨55, _⟩ => ⟨S1024x1024, .f32⟩
  | .hbm, ⟨56, _⟩ => ⟨S9216x1024, .f32⟩
  | .hbm, ⟨57, _⟩ => ⟨S9216x1024, .f32⟩
  | .hbm, ⟨58, _⟩ => ⟨S9216x1024, .bf16⟩
  | .hbm, ⟨59, _⟩ => ⟨S9216x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel17.lean ====
abbrev S9216x2816 : Shape := ⟨2, ![9216, 2816]⟩
abbrev S2816x1024 : Shape := ⟨2, ![2816, 1024]⟩
abbrev S9216x1024 : Shape := ⟨2, ![9216, 1024]⟩
abbrev S5x6x1024 : Shape := ⟨3, ![5, 6, 1024]⟩
abbrev S256x2816 : Shape := ⟨2, ![256, 2816]⟩
abbrev S256x1024 : Shape := ⟨2, ![256, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x6x1024, .f32⟩
  | .hbm, ⟨4, _⟩ => ⟨S9216x1024, .bf16⟩
  | .hbm, ⟨5, _⟩ => ⟨S9216x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x6x1024, .f32⟩
  | .local _ .vmem, ⟨6, _⟩ => ⟨S1x6x1024, .f32⟩
  | .local _ .vmem, ⟨7, _⟩ => ⟨S256x1024, .bf16⟩
  | .local _ .vmem, ⟨8, _⟩ => ⟨S256x1024, .bf16⟩
  | .local _ .vmem, ⟨9, _⟩ => ⟨S256x1024, .f32⟩
  | .local _ .vmem, ⟨10, _⟩ => ⟨S256x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S9216x2816 : Shape := ⟨2, ![9216, 2816]⟩
abbrev S2816x1024 : Shape := ⟨2, ![2816, 1024]⟩
abbrev S9216x1024 : Shape := ⟨2, ![9216, 1024]⟩
abbrev S5x6x1024 : Shape := ⟨3, ![5, 6, 1024]⟩
abbrev S5x1x1024 : Shape := ⟨3, ![5, 1, 1024]⟩
abbrev S5x1024 : Shape := ⟨2, ![5, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S1x1024 : Shape := ⟨2, ![1, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .hbm, ⟨3, _⟩ => ⟨S5x6x1024, .f32⟩
  | .hbm, ⟨4, _⟩ => ⟨S9216x2816, .f32⟩
  | .hbm, ⟨5, _⟩ => ⟨S2816x1024, .f32⟩
  | .hbm, ⟨6, _⟩ => ⟨S9216x1024, .f32⟩
  | .hbm, ⟨7, _⟩ => ⟨S9216x1024, .bf16⟩
  | .hbm, ⟨8, _⟩ => ⟨S5x1x1024, .f32⟩
  | .hbm, ⟨9, _⟩ => ⟨S5x1024, .f32⟩
  | .hbm, ⟨10, _⟩ => ⟨S4x1024, .f32⟩
  | .hbm, ⟨11, _⟩ => ⟨S4x1x1024, .f32⟩
  | .hbm, ⟨12, _⟩ => ⟨S4x2048x1024, .f32⟩
  | .hbm, ⟨13, _⟩ => ⟨S8192x1024, .f32⟩
  | .hbm, ⟨14, _⟩ => ⟨S1x1024, .f32⟩
  | .hbm, ⟨15, _⟩ => ⟨S1024x1024, .f32⟩
  | .hbm, ⟨16, _⟩ => ⟨S9216x1024, .f32⟩
  | .hbm, ⟨17, _⟩ => ⟨S9216x1024, .f32⟩
  | .hbm, ⟨18, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel18.lean ====
abbrev S9216x1024 : Shape := ⟨2, ![9216, 1024]⟩
abbrev S1024 : Shape := ⟨1, ![1024]⟩
abbrev S5x6x1024 : Shape := ⟨3, ![5, 6, 1024]⟩
abbrev S1x1024 : Shape := ⟨2, ![1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S1024, .f32⟩
  | .hbm, ⟨2, _⟩ => ⟨S5x6x1024, .f32⟩
  | .hbm, ⟨3, _⟩ => ⟨S1x1024, .f32⟩
  | .hbm, ⟨4, _⟩ => ⟨S9216x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S256x1024, .bf16⟩
  | .local _ .vmem, ⟨6, _⟩ => ⟨S256x1024, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference18Ideal.lean ====
abbrev S9216x1024 : Shape := ⟨2, ![9216, 1024]⟩
abbrev S1024 : Shape := ⟨1, ![1024]⟩
abbrev S5x6x1024 : Shape := ⟨3, ![5, 6, 1024]⟩
abbrev S_ : Shape := ⟨0, ![]⟩
abbrev S9216 : Shape := ⟨1, ![9216]⟩
abbrev S9216x1 : Shape := ⟨2, ![9216, 1]⟩
abbrev S1x1024 : Shape := ⟨2, ![1, 1024]⟩
abbrev S5x1x1024 : Shape := ⟨3, ![5, 1, 1024]⟩
abbrev S5x1024 : Shape := ⟨2, ![5, 1024]⟩
abbrev S4x1024 : Shape := ⟨2, ![4, 1024]⟩
abbrev S4x1x1024 : Shape := ⟨3, ![4, 1, 1024]⟩
abbrev S4x2048x1024 : Shape := ⟨3, ![4, 2048, 1024]⟩
abbrev S8192x1024 : Shape := ⟨2, ![8192, 1024]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S1024, .f32⟩
  | .hbm, ⟨2, _⟩ => ⟨S5x6x1024, .f32⟩
  | .hbm, ⟨3, _⟩ => ⟨S9216x1024, .f32⟩
  | .hbm, ⟨4, _⟩ => ⟨S_, .f32⟩
  | .hbm, ⟨5, _⟩ => ⟨S9216, .f32⟩
  | .hbm, ⟨6, _⟩ => ⟨S9216x1, .f32⟩
  | .hbm, ⟨7, _⟩ => ⟨S_, .f32⟩
  | .hbm, ⟨8, _⟩ => ⟨S9216x1, .f32⟩
  | .hbm, ⟨9, _⟩ => ⟨S9216x1, .f32⟩
  | .hbm, ⟨10, _⟩ => ⟨S_, .f32⟩
  | .hbm, ⟨11, _⟩ => ⟨S9216x1, .f32⟩
  | .hbm, ⟨12, _⟩ => ⟨S9216x1, .f32⟩
  | .hbm, ⟨13, _⟩ => ⟨S9216x1, .f32⟩
  | .hbm, ⟨14, _⟩ => ⟨S9216x1024, .f32⟩
  | .hbm, ⟨15, _⟩ => ⟨S9216x1024, .f32⟩
  | .hbm, ⟨16, _⟩ => ⟨S1x1024, .f32⟩
  | .hbm, ⟨17, _⟩ => ⟨S9216x1024, .f32⟩
  | .hbm, ⟨18, _⟩ => ⟨S9216x1024, .f32⟩
  | .hbm, ⟨19, _⟩ => ⟨S5x1x1024, .f32⟩
  | .hbm, ⟨20, _⟩ => ⟨S5x1024, .f32⟩
  | .hbm, ⟨21, _⟩ => ⟨S4x1024, .f32⟩
  | .hbm, ⟨22, _⟩ => ⟨S4x1x1024, .f32⟩
  | .hbm, ⟨23, _⟩ => ⟨S4x2048x1024, .f32⟩
  | .hbm, ⟨24, _⟩ => ⟨S8192x1024, .f32⟩
  | .hbm, ⟨25, _⟩ => ⟨S1x1024, .f32⟩
  | .hbm, ⟨26, _⟩ => ⟨S1024x1024, .f32⟩
  | .hbm, ⟨27, _⟩ => ⟨S9216x1024, .f32⟩
  | .hbm, ⟨28, _⟩ => ⟨S_, .f32⟩
  | .hbm, ⟨29, _⟩ => ⟨S9216x1024, .f32⟩
  | .hbm, ⟨30, _⟩ => ⟨S9216x1024, .f32⟩
  | .hbm, ⟨31, _⟩ => ⟨S9216x1024, .f32⟩
  | .hbm, ⟨32, _⟩ => ⟨S5x1x1024, .f32⟩
  | .hbm, ⟨33, _⟩ => ⟨S5x1024, .f32⟩
  | .hbm, ⟨34, _⟩ => ⟨S4x1024, .f32⟩
  | .hbm, ⟨35, _⟩ => ⟨S4x1x1024, .f32⟩
  | .hbm, ⟨36, _⟩ => ⟨S4x2048x1024, .f32⟩
  | .hbm, ⟨37, _⟩ => ⟨S8192x1024, .f32⟩
  | .hbm, ⟨38, _⟩ => ⟨S1x1024, .f32⟩
  | .hbm, ⟨39, _⟩ => ⟨S1024x1024, .f32⟩
  | .hbm, ⟨40, _⟩ => ⟨S9216x1024, .f32⟩
  | .hbm, ⟨41, _⟩ => ⟨S9216x1024, .f32⟩
  | .hbm, ⟨42, _⟩ => ⟨S9216x1024, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩

abbrev nD : Nat := 1
abbrev τ : Topo := Topo.v7x

variable {F : FTy → Type} [FloatOps F]
-- ==== Kernel19.lean ====
abbrev S9216x1024 : Shape := ⟨2, ![9216, 1024]⟩
abbrev S9216x512 : Shape := ⟨2, ![9216, 512]⟩
abbrev S256x256 : Shape := ⟨2, ![256, 256]⟩
abbrev S2048x256 : Shape := ⟨2, ![2048, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x512, .bf16⟩
  | .local _ .vmem, ⟨0, _⟩ => ⟨S256x256, .bf16⟩
  | .local _ .vmem, ⟨1, _⟩ => ⟨S256x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 9], ![false, false, false]⟩

def k0_cond1 (i : grid0.Coords) : BitVec 1 :=
  let arg2 : BitVec 32 := BitVec.ofNat 32 (i 2).val
  let c8_i32 : BitVec 32 := 8#32
  let v0 : BitVec 1 := Scalar.cmpi .slt arg2 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg2 : BitVec 32 := BitVec.ofNat 32 (i 2).val
  let c8_i32_0 : BitVec 32 := 8#32
  let v3 : BitVec 1 := Scalar.cmpi .eq arg2 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c32_i32 : BitVec 32 := 32#32
  let v3 : BitVec 32 := Scalar.addi c32_i32 arg0
  let v4 : BitVec 32 := Scalar.select v0 v2 v3
  let c0_i32 : BitVec 32 := 0#32
  ![v4.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference19Ideal.lean ====
abbrev S9216x1024 : Shape := ⟨2, ![9216, 1024]⟩
abbrev S9216x512 : Shape := ⟨2, ![9216, 512]⟩
abbrev S8192x1024 : Shape := ⟨2, ![8192, 1024]⟩
abbrev S4x2048x4x256 : Shape := ⟨4, ![4, 2048, 4, 256]⟩
abbrev S1024x1024 : Shape := ⟨2, ![1024, 1024]⟩
abbrev S4x256x4x256 : Shape := ⟨4, ![4, 256, 4, 256]⟩
abbrev S8192x512 : Shape := ⟨2, ![8192, 512]⟩
abbrev S4x2048x4x128 : Shape := ⟨4, ![4, 2048, 4, 128]⟩
abbrev S1024x512 : Shape := ⟨2, ![1024, 512]⟩
abbrev S4x256x4x128 : Shape := ⟨4, ![4, 256, 4, 128]⟩
abbrev S4x2304x4x256 : Shape := ⟨4, ![4, 2304, 4, 256]⟩
abbrev S4x2304x4x128 : Shape := ⟨4, ![4, 2304, 4, 128]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x256x256 : Shape := ⟨4, ![4, 4, 256, 256]⟩
abbrev S4x4x256 : Shape := ⟨3, ![4, 4, 256]⟩
abbrev S4x4x256x1 : Shape := ⟨4, ![4, 4, 256, 1]⟩
abbrev S4x4x128x256 : Shape := ⟨4, ![4, 4, 128, 256]⟩

abbrev nBuf : Space → Nat
  | .hbm => 58
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S9216x512, .bf16⟩
  | .hbm, ⟨3, _⟩ => ⟨S9216x1024, .f32⟩
  | .hbm, ⟨4, _⟩ => ⟨S9216x1024, .f32⟩
  | .hbm, ⟨5, _⟩ => ⟨S9216x512, .f32⟩
  | .hbm, ⟨6, _⟩ => ⟨S8192x1024, .f32⟩
  | .hbm, ⟨7, _⟩ => ⟨S4x2048x4x256, .f32⟩
  | .hbm, ⟨8, _⟩ => ⟨S1024x1024, .f32⟩
  | .hbm, ⟨9, _⟩ => ⟨S4x256x4x256, .f32⟩
  | .hbm, ⟨10, _⟩ => ⟨S8192x1024, .f32⟩
  | .hbm, ⟨11, _⟩ => ⟨S4x2048x4x256, .f32⟩
  | .hbm, ⟨12, _⟩ => ⟨S1024x1024, .f32⟩
  | .hbm, ⟨13, _⟩ => ⟨S4x256x4x256, .f32⟩
  | .hbm, ⟨14, _⟩ => ⟨S8192x512, .f32⟩
  | .hbm, ⟨15, _⟩ => ⟨S4x2048x4x128, .f32⟩
  | .hbm, ⟨16, _⟩ => ⟨S1024x512, .f32⟩
  | .hbm, ⟨17, _⟩ => ⟨S4x256x4x128, .f32⟩
  | .hbm, ⟨18, _⟩ => ⟨S4x2304x4x256, .f32⟩
  | .hbm, ⟨19, _⟩ => ⟨S4x2304x4x128, .f32⟩
  | .hbm, ⟨20, _⟩ => ⟨S4x4x2048x2304, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S4x4x2048x1, .f32⟩
  | .hbm, ⟨27, _⟩ => ⟨S4x4x2048x2304, .f32⟩
  | .hbm, ⟨28, _⟩ => ⟨S4x4x2048x2304, .f32⟩
  | .hbm, ⟨29, _⟩ => ⟨S4x4x2048x2304, .f32⟩
  | .hbm, ⟨30, _⟩ => ⟨S_, .f32⟩
  | .hbm, ⟨31, _⟩ => ⟨S4x4x2048, .f32⟩
  | .hbm, ⟨32, _⟩ => ⟨S4x4x2048x1, .f32⟩
  | .hbm, ⟨33, _⟩ => ⟨S4x4x2048x2304, .f32⟩
  | .hbm, ⟨34, _⟩ => ⟨S4x4x2048x2304, .f32⟩
  | .hbm, ⟨35, _⟩ => ⟨S4x4x128x2048, .f32⟩
  | .hbm, ⟨36, _⟩ => ⟨S4x2048x4x128, .f32⟩
  | .hbm, ⟨37, _⟩ => ⟨S4x4x256x256, .f32⟩
  | .hbm, ⟨38, _⟩ => ⟨S_, .f32⟩
  | .hbm, ⟨39, _⟩ => ⟨S4x4x256, .f32⟩
  | .hbm, ⟨40, _⟩ => ⟨S_, .f32⟩
  | .hbm, ⟨41, _⟩ => ⟨S4x4x256, .f32⟩
  | .hbm, ⟨42, _⟩ => ⟨S4x4x256, .f32⟩
  | .hbm, ⟨43, _⟩ => ⟨S4x4x256x1, .f32⟩
  | .hbm, ⟨44, _⟩ => ⟨S4x4x256x256, .f32⟩
  | .hbm, ⟨45, _⟩ => ⟨S4x4x256x256, .f32⟩
  | .hbm, ⟨46, _⟩ => ⟨S4x4x256x256, .f32⟩
  | .hbm, ⟨47, _⟩ => ⟨S_, .f32⟩
  | .hbm, ⟨48, _⟩ => ⟨S4x4x256, .f32⟩
  | .hbm, ⟨49, _⟩ => ⟨S4x4x256x1, .f32⟩
  | .hbm, ⟨50, _⟩ => ⟨S4x4x256x256, .f32⟩
  | .hbm, ⟨51, _⟩ => ⟨S4x4x256x256, .f32⟩
  | .hbm, ⟨52, _⟩ => ⟨S4x4x128x256, .f32⟩
  | .hbm, ⟨53, _⟩ => ⟨S4x256x4x128, .f32⟩
  | .hbm, ⟨54, _⟩ => ⟨S8192x512, .f32⟩
  | .hbm, ⟨55, _⟩ => ⟨S1024x512, .f32⟩
  | .hbm, ⟨56, _⟩ => ⟨S9216x512, .f32⟩
  | .hbm, ⟨57, _⟩ => ⟨S9216x512, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Kernel20.lean ====
abbrev S48x1024 : Shape := ⟨2, ![48, 1024]⟩
abbrev S4x1024x1536 : Shape := ⟨3, ![4, 1024, 1536]⟩
abbrev S4x48x1536 : Shape := ⟨3, ![4, 48, 1536]⟩
abbrev S4x1x1536 : Shape := ⟨3, ![4, 1, 1536]⟩
abbrev S1x1024x512 : Shape := ⟨3, ![1, 1024, 512]⟩
abbrev S1x48x512 : Shape := ⟨3, ![1, 48, 512]⟩
abbrev S1x1x512 : Shape := ⟨3, ![1, 1, 512]⟩
abbrev S1024x512 : Shape := ⟨2, ![1024, 512]⟩
abbrev S48x512 : Shape := ⟨2, ![48, 512]⟩
abbrev S512 : Shape := ⟨1, ![512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S48x1024, .f32⟩
  | .hbm, ⟨1, _⟩ => ⟨S4x1024x1536, .f32⟩
  | .hbm, ⟨2, _⟩ => ⟨S4x48x1536, .f32⟩
  | .hbm, ⟨3, _⟩ => ⟨S4x1024x1536, .f32⟩
  | .hbm, ⟨4, _⟩ => ⟨S4x1x1536, .f32⟩
  | .hbm, ⟨5, _⟩ => ⟨S48x1024, .f32⟩
  | .local _ .vmem, ⟨0, _⟩ => ⟨S48x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x48x512, .f32⟩
  | .local _ .vmem, ⟨4, _⟩ => ⟨S1x48x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1x512, .f32⟩
  | .local _ .vmem, ⟨8, _⟩ => ⟨S1x1x512, .f32⟩
  | .local _ .vmem, ⟨9, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference20Ideal.lean ====
abbrev S48x1024 : Shape := ⟨2, ![48, 1024]⟩
abbrev S4x1024x1536 : Shape := ⟨3, ![4, 1024, 1536]⟩
abbrev S4x48x1536 : Shape := ⟨3, ![4, 48, 1536]⟩
abbrev S_ : Shape := ⟨0, ![]⟩
abbrev S4x1x1536 : Shape := ⟨3, ![4, 1, 1536]⟩
abbrev S4x1536x48 : Shape := ⟨3, ![4, 1536, 48]⟩
abbrev S4x1536 : Shape := ⟨2, ![4, 1536]⟩
abbrev S4x1536x1024 : Shape := ⟨3, ![4, 1536, 1024]⟩

abbrev nBuf : Space → Nat
  | .hbm => 26
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S4x1024x1536, .f32⟩
  | .hbm, ⟨2, _⟩ => ⟨S4x48x1536, .f32⟩
  | .hbm, ⟨3, _⟩ => ⟨S48x1024, .f32⟩
  | .hbm, ⟨4, _⟩ => ⟨S48x1024, .f32⟩
  | .hbm, ⟨5, _⟩ => ⟨S_, .f32⟩
  | .hbm, ⟨6, _⟩ => ⟨S48x1024, .f32⟩
  | .hbm, ⟨7, _⟩ => ⟨S48x1024, .f32⟩
  | .hbm, ⟨8, _⟩ => ⟨S_, .f32⟩
  | .hbm, ⟨9, _⟩ => ⟨S48x1024, .f32⟩
  | .hbm, ⟨10, _⟩ => ⟨S48x1024, .f32⟩
  | .hbm, ⟨11, _⟩ => ⟨S48x1024, .f32⟩
  | .hbm, ⟨12, _⟩ => ⟨S_, .f32⟩
  | .hbm, ⟨13, _⟩ => ⟨S4x1x1536, .f32⟩
  | .hbm, ⟨14, _⟩ => ⟨S4x1536x48, .f32⟩
  | .hbm, ⟨15, _⟩ => ⟨S4x48x1536, .f32⟩
  | .hbm, ⟨16, _⟩ => ⟨S4x48x1536, .f32⟩
  | .hbm, ⟨17, _⟩ => ⟨S4x48x1536, .f32⟩
  | .hbm, ⟨18, _⟩ => ⟨S4x48x1536, .f32⟩
  | .hbm, ⟨19, _⟩ => ⟨S_, .f32⟩
  | .hbm, ⟨20, _⟩ => ⟨S4x1536, .f32⟩
  | .hbm, ⟨21, _⟩ => ⟨S4x1x1536, .f32⟩
  | .hbm, ⟨22, _⟩ => ⟨S4x1536x48, .f32⟩
  | .hbm, ⟨23, _⟩ => ⟨S48x1024, .f32⟩
  | .hbm, ⟨24, _⟩ => ⟨S4x1536x1024, .f32⟩
  | .hbm, ⟨25, _⟩ => ⟨S4x1024x1536, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Kernel21.lean ====
abbrev S4096x1408 : Shape := ⟨2, ![4096, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel21Ideal.lean ====
abbrev S4096x1408 : Shape := ⟨2, ![4096, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2816x1024 : Shape := ⟨2, ![2816, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel22Ideal.lean ====
abbrev S2816x1024 : Shape := ⟨2, ![2816, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x400 : Shape := ⟨2, ![2048, 400]⟩
abbrev S1024x400 : Shape := ⟨2, ![1024, 400]⟩

abbrev nBuf : Space → Nat
  | .hbm => 8
  | .vmem => 16
  | .smem => 0
  | _ => 0

abbrev bufTy : (tb : Table) → Fin (tcTables nBuf tb) → BufTy
  | .hbm, ⟨0, _⟩ => ⟨S2048x400, .f32⟩
  | .hbm, ⟨1, _⟩ => ⟨S2048x400, .f32⟩
  | .hbm, ⟨2, _⟩ => ⟨S2048x400, .f32⟩
  | .hbm, ⟨3, _⟩ => ⟨S2048x400, .f32⟩
  | .hbm, ⟨4, _⟩ => ⟨S2048x400, .f32⟩
  | .hbm, ⟨5, _⟩ => ⟨S2048x400, .f32⟩
  | .hbm, ⟨6, _⟩ => ⟨S2048x400, .f32⟩
  | .hbm, ⟨7, _⟩ => ⟨S2048x400, .f32⟩
  | .local _ .vmem, ⟨0, _⟩ => ⟨S1024x400, .f32⟩
  | .local _ .vmem, ⟨1, _⟩ => ⟨S1024x400, .f32⟩
  | .local _ .vmem, ⟨2, _⟩ => ⟨S1024x400, .f32⟩
  | .local _ .vmem, ⟨3, _⟩ => ⟨S1024x400, .f32⟩
  | .local _ .vmem, ⟨4, _⟩ => ⟨S1024x400, .f32⟩
  | .local _ .vmem, ⟨5, _⟩ => ⟨S1024x400, .f32⟩
  | .local _ .vmem, ⟨6, _⟩ => ⟨S1024x400, .f32⟩
  | .local _ .vmem, ⟨7, _⟩ => ⟨S1024x400, .f32⟩
  | .local _ .vmem, ⟨8, _⟩ => ⟨S1024x400, .f32⟩
  | .local _ .vmem, ⟨9, _⟩ => ⟨S1024x400, .f32⟩
  | .local _ .vmem, ⟨10, _⟩ => ⟨S1024x400, .f32⟩
  | .local _ .vmem, ⟨11, _⟩ => ⟨S1024x400, .f32⟩
  | .local _ .vmem, ⟨12, _⟩ => ⟨S1024x400, .f32⟩
  | .local _ .vmem, ⟨13, _⟩ => ⟨S1024x400, .f32⟩
  | .local _ .vmem, ⟨14, _⟩ => ⟨S1024x400, .f32⟩
  | .local _ .vmem, ⟨15, _⟩ => ⟨S1024x400, .f32⟩
  | _, _ => ⟨S2048x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel23Ideal.lean ====
abbrev S2048x400 : Shape := ⟨2, ![2048, 400]⟩
abbrev S1024x400 : Shape := ⟨2, ![1024, 400]⟩

abbrev nBuf : Space → Nat
  | .hbm => 8
  | .vmem => 16
  | .smem => 0
  | _ => 0

abbrev bufTy : (tb : Table) → Fin (tcTables nBuf tb) → BufTy
  | .hbm, ⟨0, _⟩ => ⟨S2048x400, .f32⟩
  | .hbm, ⟨1, _⟩ => ⟨S2048x400, .f32⟩
  | .hbm, ⟨2, _⟩ => ⟨S2048x400, .f32⟩
  | .hbm, ⟨3, _⟩ => ⟨S2048x400, .f32⟩
  | .hbm, ⟨4, _⟩ => ⟨S2048x400, .f32⟩
  | .hbm, ⟨5, _⟩ => ⟨S2048x400, .f32⟩
  | .hbm, ⟨6, _⟩ => ⟨S2048x400, .f32⟩
  | .hbm, ⟨7, _⟩ => ⟨S2048x400, .f32⟩
  | .local _ .vmem, ⟨0, _⟩ => ⟨S1024x400, .f32⟩
  | .local _ .vmem, ⟨1, _⟩ => ⟨S1024x400, .f32⟩
  | .local _ .vmem, ⟨2, _⟩ => ⟨S1024x400, .f32⟩
  | .local _ .vmem, ⟨3, _⟩ => ⟨S1024x400, .f32⟩
  | .local _ .vmem, ⟨4, _⟩ => ⟨S1024x400, .f32⟩
  | .local _ .vmem, ⟨5, _⟩ => ⟨S1024x400, .f32⟩
  | .local _ .vmem, ⟨6, _⟩ => ⟨S1024x400, .f32⟩
  | .local _ .vmem, ⟨7, _⟩ => ⟨S1024x400, .f32⟩
  | .local _ .vmem, ⟨8, _⟩ => ⟨S1024x400, .f32⟩
  | .local _ .vmem, ⟨9, _⟩ => ⟨S1024x400, .f32⟩
  | .local _ .vmem, ⟨10, _⟩ => ⟨S1024x400, .f32⟩
  | .local _ .vmem, ⟨11, _⟩ => ⟨S1024x400, .f32⟩
  | .local _ .vmem, ⟨12, _⟩ => ⟨S1024x400, .f32⟩
  | .local _ .vmem, ⟨13, _⟩ => ⟨S1024x400, .f32⟩
  | .local _ .vmem, ⟨14, _⟩ => ⟨S1024x400, .f32⟩
  | .local _ .vmem, ⟨15, _⟩ => ⟨S1024x400, .f32⟩
  | _, _ => ⟨S2048x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2048x400 : Shape := ⟨2, ![2048, 400]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x400, .f32⟩
  | .hbm, ⟨1, _⟩ => ⟨S2048x400, .f32⟩
  | .hbm, ⟨2, _⟩ => ⟨S2048x400, .f32⟩
  | .hbm, ⟨3, _⟩ => ⟨S2048x400, .f32⟩
  | .hbm, ⟨4, _⟩ => ⟨S_, .f32⟩
  | .hbm, ⟨5, _⟩ => ⟨S2048x400, .f32⟩
  | .hbm, ⟨6, _⟩ => ⟨S2048x400, .f32⟩
  | .hbm, ⟨7, _⟩ => ⟨S_, .f32⟩
  | .hbm, ⟨8, _⟩ => ⟨S2048x400, .f32⟩
  | .hbm, ⟨9, _⟩ => ⟨S2048x400, .f32⟩
  | .hbm, ⟨10, _⟩ => ⟨S2048x400, .f32⟩
  | .hbm, ⟨11, _⟩ => ⟨S_, .f32⟩
  | .hbm, ⟨12, _⟩ => ⟨S2048x400, .f32⟩
  | .hbm, ⟨13, _⟩ => ⟨S2048x400, .f32⟩
  | .hbm, ⟨14, _⟩ => ⟨S2048x400, .f32⟩
  | .hbm, ⟨15, _⟩ => ⟨S_, .f32⟩
  | .hbm, ⟨16, _⟩ => ⟨S2048x400, .f32⟩
  | .hbm, ⟨17, _⟩ => ⟨S2048x400, .f32⟩
  | .hbm, ⟨18, _⟩ => ⟨S2048x400, .f32⟩
  | .hbm, ⟨19, _⟩ => ⟨S_, .f32⟩
  | .hbm, ⟨20, _⟩ => ⟨S2048x400, .f32⟩
  | .hbm, ⟨21, _⟩ => ⟨S2048x400, .f32⟩
  | .hbm, ⟨22, _⟩ => ⟨S_, .f32⟩
  | .hbm, ⟨23, _⟩ => ⟨S2048x400, .f32⟩
  | .hbm, ⟨24, _⟩ => ⟨S2048x400, .f32⟩
  | .hbm, ⟨25, _⟩ => ⟨S2048x400, .f32⟩
  | .hbm, ⟨26, _⟩ => ⟨S_, .f32⟩
  | .hbm, ⟨27, _⟩ => ⟨S2048x400, .f32⟩
  | .hbm, ⟨28, _⟩ => ⟨S2048x400, .f32⟩
  | .hbm, ⟨29, _⟩ => ⟨S2048x400, .f32⟩
  | .hbm, ⟨30, _⟩ => ⟨S_, .f32⟩
  | .hbm, ⟨31, _⟩ => ⟨S2048x400, .f32⟩
  | .hbm, ⟨32, _⟩ => ⟨S2048x400, .f32⟩
  | .hbm, ⟨33, _⟩ => ⟨S2048x400, .f32⟩
  | .hbm, ⟨34, _⟩ => ⟨S_, .f32⟩
  | .hbm, ⟨35, _⟩ => ⟨S2048x400, .f32⟩
  | .hbm, ⟨36, _⟩ => ⟨S2048x400, .f32⟩
  | _, _ => ⟨S2048x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel24Ideal.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S512x192 : Shape := ⟨2, ![512, 192]⟩

abbrev nBuf : Space → Nat
  | .hbm => 8
  | .vmem => 8
  | .smem => 0
  | _ => 0

abbrev bufTy : (tb : Table) → Fin (tcTables nBuf tb) → BufTy
  | .hbm, ⟨0, _⟩ => ⟨S512x192, .f32⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S512x192, .f32⟩
  | .hbm, ⟨5, _⟩ => ⟨S512x192, .f32⟩
  | .hbm, ⟨6, _⟩ => ⟨S512x192, .f32⟩
  | .hbm, ⟨7, _⟩ => ⟨S512x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | _, _ => ⟨S512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel25Ideal.lean ====
abbrev S512x192 : Shape := ⟨2, ![512, 192]⟩

abbrev nBuf : Space → Nat
  | .hbm => 8
  | .vmem => 8
  | .smem => 0
  | _ => 0

abbrev bufTy : (tb : Table) → Fin (tcTables nBuf tb) → BufTy
  | .hbm, ⟨0, _⟩ => ⟨S512x192, .f32⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S512x192, .f32⟩
  | .hbm, ⟨5, _⟩ => ⟨S512x192, .f32⟩
  | .hbm, ⟨6, _⟩ => ⟨S512x192, .f32⟩
  | .hbm, ⟨7, _⟩ => ⟨S512x192, .f32⟩
  | .local _ .vmem, ⟨0, _⟩ => ⟨S512x192, .f32⟩
  | .local _ .vmem, ⟨1, _⟩ => ⟨S512x192, .f32⟩
  | .local _ .vmem, ⟨2, _⟩ => ⟨S512x192, .f32⟩
  | .local _ .vmem, ⟨3, _⟩ => ⟨S512x192, .f32⟩
  | .local _ .vmem, ⟨4, _⟩ => ⟨S512x192, .f32⟩
  | .local _ .vmem, ⟨5, _⟩ => ⟨S512x192, .f32⟩
  | .local _ .vmem, ⟨6, _⟩ => ⟨S512x192, .f32⟩
  | .local _ .vmem, ⟨7, _⟩ => ⟨S512x192, .f32⟩
  | _, _ => ⟨S512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference25Ideal.lean ====
abbrev S512x192 : Shape := ⟨2, ![512, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x192, .f32⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S_, .f32⟩
  | .hbm, ⟨5, _⟩ => ⟨S512x192, .f32⟩
  | .hbm, ⟨6, _⟩ => ⟨S512x192, .f32⟩
  | .hbm, ⟨7, _⟩ => ⟨S_, .f32⟩
  | .hbm, ⟨8, _⟩ => ⟨S512x192, .f32⟩
  | .hbm, ⟨9, _⟩ => ⟨S512x192, .f32⟩
  | .hbm, ⟨10, _⟩ => ⟨S512x192, .f32⟩
  | .hbm, ⟨11, _⟩ => ⟨S_, .f32⟩
  | .hbm, ⟨12, _⟩ => ⟨S512x192, .f32⟩
  | .hbm, ⟨13, _⟩ => ⟨S512x192, .f32⟩
  | .hbm, ⟨14, _⟩ => ⟨S512x192, .f32⟩
  | .hbm, ⟨15, _⟩ => ⟨S_, .f32⟩
  | .hbm, ⟨16, _⟩ => ⟨S512x192, .f32⟩
  | .hbm, ⟨17, _⟩ => ⟨S512x192, .f32⟩
  | .hbm, ⟨18, _⟩ => ⟨S512x192, .f32⟩
  | .hbm, ⟨19, _⟩ => ⟨S_, .f32⟩
  | .hbm, ⟨20, _⟩ => ⟨S512x192, .f32⟩
  | .hbm, ⟨21, _⟩ => ⟨S512x192, .f32⟩
  | .hbm, ⟨22, _⟩ => ⟨S_, .f32⟩
  | .hbm, ⟨23, _⟩ => ⟨S512x192, .f32⟩
  | .hbm, ⟨24, _⟩ => ⟨S512x192, .f32⟩
  | .hbm, ⟨25, _⟩ => ⟨S512x192, .f32⟩
  | .hbm, ⟨26, _⟩ => ⟨S_, .f32⟩
  | .hbm, ⟨27, _⟩ => ⟨S512x192, .f32⟩
  | .hbm, ⟨28, _⟩ => ⟨S512x192, .f32⟩
  | .hbm, ⟨29, _⟩ => ⟨S512x192, .f32⟩
  | .hbm, ⟨30, _⟩ => ⟨S_, .f32⟩
  | .hbm, ⟨31, _⟩ => ⟨S512x192, .f32⟩
  | .hbm, ⟨32, _⟩ => ⟨S512x192, .f32⟩
  | .hbm, ⟨33, _⟩ => ⟨S512x192, .f32⟩
  | .hbm, ⟨34, _⟩ => ⟨S_, .f32⟩
  | .hbm, ⟨35, _⟩ => ⟨S512x192, .f32⟩
  | .hbm, ⟨36, _⟩ => ⟨S512x192, .f32⟩
  | _, _ => ⟨S512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S2048x576 : Shape := ⟨2, ![2048, 576]⟩
abbrev S512x576 : Shape := ⟨2, ![512, 576]⟩

abbrev nBuf : Space → Nat
  | .hbm => 8
  | .vmem => 16
  | .smem => 0
  | _ => 0

abbrev bufTy : (tb : Table) → Fin (tcTables nBuf tb) → BufTy
  | .hbm, ⟨0, _⟩ => ⟨S2048x576, .f32⟩
  | .hbm, ⟨1, _⟩ => ⟨S2048x576, .f32⟩
  | .hbm, ⟨2, _⟩ => ⟨S2048x576, .f32⟩
  | .hbm, ⟨3, _⟩ => ⟨S2048x576, .f32⟩
  | .hbm, ⟨4, _⟩ => ⟨S2048x576, .f32⟩
  | .hbm, ⟨5, _⟩ => ⟨S2048x576, .f32⟩
  | .hbm, ⟨6, _⟩ => ⟨S2048x576, .f32⟩
  | .hbm, ⟨7, _⟩ => ⟨S2048x576, .f32⟩
  | .local _ .vmem, ⟨0, _⟩ => ⟨S512x576, .f32⟩
  | .local _ .vmem, ⟨1, _⟩ => ⟨S512x576, .f32⟩
  | .local _ .vmem, ⟨2, _⟩ => ⟨S512x576, .f32⟩
  | .local _ .vmem, ⟨3, _⟩ => ⟨S512x576, .f32⟩
  | .local _ .vmem, ⟨4, _⟩ => ⟨S512x576, .f32⟩
  | .local _ .vmem, ⟨5, _⟩ => ⟨S512x576, .f32⟩
  | .local _ .vmem, ⟨6, _⟩ => ⟨S512x576, .f32⟩
  | .local _ .vmem, ⟨7, _⟩ => ⟨S512x576, .f32⟩
  | .local _ .vmem, ⟨8, _⟩ => ⟨S512x576, .f32⟩
  | .local _ .vmem, ⟨9, _⟩ => ⟨S512x576, .f32⟩
  | .local _ .vmem, ⟨10, _⟩ => ⟨S512x576, .f32⟩
  | .local _ .vmem, ⟨11, _⟩ => ⟨S512x576, .f32⟩
  | .local _ .vmem, ⟨12, _⟩ => ⟨S512x576, .f32⟩
  | .local _ .vmem, ⟨13, _⟩ => ⟨S512x576, .f32⟩
  | .local _ .vmem, ⟨14, _⟩ => ⟨S512x576, .f32⟩
  | .local _ .vmem, ⟨15, _⟩ => ⟨S512x576, .f32⟩
  | _, _ => ⟨S2048x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S2048x576 : Shape := ⟨2, ![2048, 576]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x576, .f32⟩
  | .hbm, ⟨1, _⟩ => ⟨S2048x576, .f32⟩
  | .hbm, ⟨2, _⟩ => ⟨S2048x576, .f32⟩
  | .hbm, ⟨3, _⟩ => ⟨S2048x576, .f32⟩
  | .hbm, ⟨4, _⟩ => ⟨S_, .f32⟩
  | .hbm, ⟨5, _⟩ => ⟨S2048x576, .f32⟩
  | .hbm, ⟨6, _⟩ => ⟨S2048x576, .f32⟩
  | .hbm, ⟨7, _⟩ => ⟨S_, .f32⟩
  | .hbm, ⟨8, _⟩ => ⟨S2048x576, .f32⟩
  | .hbm, ⟨9, _⟩ => ⟨S2048x576, .f32⟩
  | .hbm, ⟨10, _⟩ => ⟨S2048x576, .f32⟩
  | .hbm, ⟨11, _⟩ => ⟨S_, .f32⟩
  | .hbm, ⟨12, _⟩ => ⟨S2048x576, .f32⟩
  | .hbm, ⟨13, _⟩ => ⟨S2048x576, .f32⟩
  | .hbm, ⟨14, _⟩ => ⟨S2048x576, .f32⟩
  | .hbm, ⟨15, _⟩ => ⟨S_, .f32⟩
  | .hbm, ⟨16, _⟩ => ⟨S2048x576, .f32⟩
  | .hbm, ⟨17, _⟩ => ⟨S2048x576, .f32⟩
  | .hbm, ⟨18, _⟩ => ⟨S2048x576, .f32⟩
  | .hbm, ⟨19, _⟩ => ⟨S_, .f32⟩
  | .hbm, ⟨20, _⟩ => ⟨S2048x576, .f32⟩
  | .hbm, ⟨21, _⟩ => ⟨S2048x576, .f32⟩
  | .hbm, ⟨22, _⟩ => ⟨S_, .f32⟩
  | .hbm, ⟨23, _⟩ => ⟨S2048x576, .f32⟩
  | .hbm, ⟨24, _⟩ => ⟨S2048x576, .f32⟩
  | .hbm, ⟨25, _⟩ => ⟨S2048x576, .f32⟩
  | .hbm, ⟨26, _⟩ => ⟨S_, .f32⟩
  | .hbm, ⟨27, _⟩ => ⟨S2048x576, .f32⟩
  | .hbm, ⟨28, _⟩ => ⟨S2048x576, .f32⟩
  | .hbm, ⟨29, _⟩ => ⟨S2048x576, .f32⟩
  | .hbm, ⟨30, _⟩ => ⟨S_, .f32⟩
  | .hbm, ⟨31, _⟩ => ⟨S2048x576, .f32⟩
  | .hbm, ⟨32, _⟩ => ⟨S2048x576, .f32⟩
  | .hbm, ⟨33, _⟩ => ⟨S2048x576, .f32⟩
  | .hbm, ⟨34, _⟩ => ⟨S_, .f32⟩
  | .hbm, ⟨35, _⟩ => ⟨S2048x576, .f32⟩
  | .hbm, ⟨36, _⟩ => ⟨S2048x576, .f32⟩
  | _, _ => ⟨S2048x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel28Ideal.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference28Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S1360x128 : Shape := ⟨2, ![1360, 128]⟩

abbrev nBuf : Space → Nat
  | .hbm => 7
  | .vmem => 7
  | .smem => 0
  | _ => 0

abbrev bufTy : (tb : Table) → Fin (tcTables nBuf tb) → BufTy
  | .hbm, ⟨0, _⟩ => ⟨S1360x128, .f32⟩
  | .hbm, ⟨1, _⟩ => ⟨S1360x128, .f32⟩
  | .hbm, ⟨2, _⟩ => ⟨S1360x128, .f32⟩
  | .hbm, ⟨3, _⟩ => ⟨S1360x128, .f32⟩
  | .hbm, ⟨4, _⟩ => ⟨S1360x128, .f32⟩
  | .hbm, ⟨5, _⟩ => ⟨S1360x128, .f32⟩
  | .hbm, ⟨6, _⟩ => ⟨S1360x128, .f32⟩
  | .local _ .vmem, ⟨0, _⟩ => ⟨S1360x128, .f32⟩
  | .local _ .vmem, ⟨1, _⟩ => ⟨S1360x128, .f32⟩
  | .local _ .vmem, ⟨2, _⟩ => ⟨S1360x128, .f32⟩
  | .local _ .vmem, ⟨3, _⟩ => ⟨S1360x128, .f32⟩
  | .local _ .vmem, ⟨4, _⟩ => ⟨S1360x128, .f32⟩
  | .local _ .vmem, ⟨5, _⟩ => ⟨S1360x128, .f32⟩
  | .local _ .vmem, ⟨6, _⟩ => ⟨S1360x128, .f32⟩
  | _, _ => ⟨S1360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1360x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1360x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1360x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1360x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1360x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1360x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1360x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S1360x128 : Shape := ⟨2, ![1360, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1360x128, .f32⟩
  | .hbm, ⟨1, _⟩ => ⟨S1360x128, .f32⟩
  | .hbm, ⟨2, _⟩ => ⟨S1360x128, .f32⟩
  | .hbm, ⟨3, _⟩ => ⟨S1360x128, .f32⟩
  | .hbm, ⟨4, _⟩ => ⟨S_, .f32⟩
  | .hbm, ⟨5, _⟩ => ⟨S1360x128, .f32⟩
  | .hbm, ⟨6, _⟩ => ⟨S1360x128, .f32⟩
  | .hbm, ⟨7, _⟩ => ⟨S_, .f32⟩
  | .hbm, ⟨8, _⟩ => ⟨S1360x128, .f32⟩
  | .hbm, ⟨9, _⟩ => ⟨S1360x128, .f32⟩
  | .hbm, ⟨10, _⟩ => ⟨S1360x128, .f32⟩
  | .hbm, ⟨11, _⟩ => ⟨S_, .f32⟩
  | .hbm, ⟨12, _⟩ => ⟨S1360x128, .f32⟩
  | .hbm, ⟨13, _⟩ => ⟨S1360x128, .f32⟩
  | .hbm, ⟨14, _⟩ => ⟨S1360x128, .f32⟩
  | .hbm, ⟨15, _⟩ => ⟨S_, .f32⟩
  | .hbm, ⟨16, _⟩ => ⟨S1360x128, .f32⟩
  | .hbm, ⟨17, _⟩ => ⟨S1360x128, .f32⟩
  | .hbm, ⟨18, _⟩ => ⟨S1360x128, .f32⟩
  | .hbm, ⟨19, _⟩ => ⟨S_, .f32⟩
  | .hbm, ⟨20, _⟩ => ⟨S1360x128, .f32⟩
  | .hbm, ⟨21, _⟩ => ⟨S1360x128, .f32⟩
  | .hbm, ⟨22, _⟩ => ⟨S_, .f32⟩
  | .hbm, ⟨23, _⟩ => ⟨S1360x128, .f32⟩
  | .hbm, ⟨24, _⟩ => ⟨S1360x128, .f32⟩
  | .hbm, ⟨25, _⟩ => ⟨S1360x128, .f32⟩
  | .hbm, ⟨26, _⟩ => ⟨S_, .f32⟩
  | .hbm, ⟨27, _⟩ => ⟨S1360x128, .f32⟩
  | .hbm, ⟨28, _⟩ => ⟨S1360x128, .f32⟩
  | .hbm, ⟨29, _⟩ => ⟨S1360x128, .f32⟩
  | .hbm, ⟨30, _⟩ => ⟨S_, .f32⟩
  | .hbm, ⟨31, _⟩ => ⟨S1360x128, .f32⟩
  | .hbm, ⟨32, _⟩ => ⟨S1360x128, .f32⟩
  | .hbm, ⟨33, _⟩ => ⟨S1360x128, .f32⟩
  | .hbm, ⟨34, _⟩ => ⟨S_, .f32⟩
  | .hbm, ⟨35, _⟩ => ⟨S1360x128, .f32⟩
  | .hbm, ⟨36, _⟩ => ⟨S1360x128, .f32⟩
  | _, _ => ⟨S1360x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S48x1024 : Shape := ⟨2, ![48, 1024]⟩
abbrev S4x1024x1536 : Shape := ⟨3, ![4, 1024, 1536]⟩
abbrev S4x1x1536 : Shape := ⟨3, ![4, 1, 1536]⟩
abbrev S4x48x1536 : Shape := ⟨3, ![4, 48, 1536]⟩
abbrev S1x1024x512 : Shape := ⟨3, ![1, 1024, 512]⟩
abbrev S1x1x512 : Shape := ⟨3, ![1, 1, 512]⟩
abbrev S1x48x512 : Shape := ⟨3, ![1, 48, 512]⟩
abbrev S1024x512 : Shape := ⟨2, ![1024, 512]⟩
abbrev S48x512 : Shape := ⟨2, ![48, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S4x1024x1536, .f32⟩
  | .hbm, ⟨2, _⟩ => ⟨S4x1x1536, .f32⟩
  | .hbm, ⟨3, _⟩ => ⟨S4x48x1536, .f32⟩
  | .local _ .vmem, ⟨0, _⟩ => ⟨S48x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x48x512, .f32⟩
  | .local _ .vmem, ⟨6, _⟩ => ⟨S1x48x512, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x48x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference30Ideal.lean ====
abbrev S48x1024 : Shape := ⟨2, ![48, 1024]⟩
abbrev S4x1024x1536 : Shape := ⟨3, ![4, 1024, 1536]⟩
abbrev S4x1x1536 : Shape := ⟨3, ![4, 1, 1536]⟩
abbrev S_ : Shape := ⟨0, ![]⟩
abbrev S4x1536x48 : Shape := ⟨3, ![4, 1536, 48]⟩
abbrev S4x48x1536 : Shape := ⟨3, ![4, 48, 1536]⟩

abbrev nBuf : Space → Nat
  | .hbm => 16
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S4x1024x1536, .f32⟩
  | .hbm, ⟨2, _⟩ => ⟨S4x1x1536, .f32⟩
  | .hbm, ⟨3, _⟩ => ⟨S48x1024, .f32⟩
  | .hbm, ⟨4, _⟩ => ⟨S48x1024, .f32⟩
  | .hbm, ⟨5, _⟩ => ⟨S_, .f32⟩
  | .hbm, ⟨6, _⟩ => ⟨S48x1024, .f32⟩
  | .hbm, ⟨7, _⟩ => ⟨S48x1024, .f32⟩
  | .hbm, ⟨8, _⟩ => ⟨S_, .f32⟩
  | .hbm, ⟨9, _⟩ => ⟨S48x1024, .f32⟩
  | .hbm, ⟨10, _⟩ => ⟨S48x1024, .f32⟩
  | .hbm, ⟨11, _⟩ => ⟨S48x1024, .f32⟩
  | .hbm, ⟨12, _⟩ => ⟨S4x1536x48, .f32⟩
  | .hbm, ⟨13, _⟩ => ⟨S4x48x1536, .f32⟩
  | .hbm, ⟨14, _⟩ => ⟨S4x48x1536, .f32⟩
  | .hbm, ⟨15, _⟩ => ⟨S4x48x1536, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel31.lean ====
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference31Ideal.lean ====
abbrev S8x1024 : Shape := ⟨2, ![8, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== Proof.Attention.Body.lean ====
/- What one grid point of the attention gradient's kernel computes: the body run on its staging buffers, in its three
   cases. At a tile of sequence queries the body stores the queries' gradient and adds to the four gradients of keys and
   values, which the first tile of a head starts from zero; at the tile of context queries it adds to the two gradients
   of the context's keys and values only. -/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values -/

/-- The gradients of a head's keys and values so far: of the sequence's keys, the context's keys, the sequence's values
    and the context's values. -/
structure Grads (F : FTy → Type) [FloatOps F] where
  kx : Vec F S2048x256 .f32
  kh : Vec F S256x256 .f32
  vx : Vec F S2048x128 .f32
  vh : Vec F S256x128 .f32

/-- All four at zero, as the first tile of a head starts them. -/
def Grads.zero : Grads F := ⟨k0_pay31, k0_pay35, k0_pay33, k0_pay37⟩

/-- The queries' gradient at a tile of sequence queries. -/
def dqX (x0 : Vec F S256x256 .bf16) (x1 : Vec F S2048x256 .bf16) (x2 : Vec F S2048x128 .bf16) (x3 : Vec F S256x256 .bf16)
    (x4 : Vec F S256x128 .bf16) (x5 : Vec F S256x128 .f32) : Vec F S256x256 .f32 :=
  k0_pay30
    (k0_pay27 (k0_pay9 x3) (k0_pay10 x4) (k0_pay15 x0 x1 x3) (k0_pay17 x0 x1 x3) (k0_pay18 x0 x1 x3) (k0_pay19 x0 x1 x2 x3)
      (k0_pay20 x0 x1 x3) x5)
    (k0_pay29 (k0_pay7 x1) (k0_pay8 x2) (k0_pay10 x4) (k0_pay14 x0 x1 x3) (k0_pay17 x0 x1 x3) (k0_pay18 x0 x1 x3)
      (k0_pay19 x0 x1 x2 x3) (k0_pay20 x0 x1 x3) x5)

/-- What a tile of sequence queries makes of the four gradients. -/
def stepX (x0 : Vec F S256x256 .bf16) (x1 : Vec F S2048x256 .bf16) (x2 : Vec F S2048x128 .bf16) (x3 : Vec F S256x256 .bf16)
    (x4 : Vec F S256x128 .bf16) (x5 : Vec F S256x128 .f32) (a : Grads F) : Grads F where
  kx := k0_pay32 (k0_pay6 x0)
    (k0_pay26 (k0_pay8 x2) (k0_pay10 x4) (k0_pay14 x0 x1 x3) (k0_pay17 x0 x1 x3) (k0_pay18 x0 x1 x3) (k0_pay19 x0 x1 x2 x3)
      (k0_pay20 x0 x1 x3) x5) a.kx
  kh := k0_pay36
    (k0_pay28 (k0_pay6 x0) (k0_pay10 x4) (k0_pay15 x0 x1 x3) (k0_pay17 x0 x1 x3) (k0_pay18 x0 x1 x3) (k0_pay19 x0 x1 x2 x3)
      (k0_pay20 x0 x1 x3) x5) a.kh
  vx := k0_pay34 (k0_pay23 (k0_pay14 x0 x1 x3) (k0_pay17 x0 x1 x3) x5) a.vx
  vh := k0_pay1 (k0_pay22 (k0_pay15 x0 x1 x3) (k0_pay17 x0 x1 x3) x5) a.vh

/-- The queries' gradient at a tile of context queries. -/
def dqH (x0 x3 : Vec F S256x256 .bf16) (x4 : Vec F S256x128 .bf16) (x5 : Vec F S256x128 .f32) : Vec F S256x256 .f32 :=
  k0_pay3 (k0_pay39 x3) (k0_pay41 x0 x3) (k0_pay44 x0 x3 x4 x5) (k0_pay45 x0 x3 x4 x5)

/-- What the tile of context queries makes of the four gradients. -/
def stepH (x0 x3 : Vec F S256x256 .bf16) (x4 : Vec F S256x128 .bf16) (x5 : Vec F S256x128 .f32) (a : Grads F) : Grads F where
  kx := a.kx
  kh := k0_pay4 (k0_pay38 x0) (k0_pay41 x0 x3) (k0_pay44 x0 x3 x4 x5) (k0_pay45 x0 x3 x4 x5) a.kh
  vx := a.vx
  vh := k0_pay5 (k0_pay41 x0 x3) (k0_pay43 x0 x3 x5) a.vh

/-! ## The runs -/

theorem hz2 : (![0, 0] : Fin 2 → Nat) = fun _ => 0 := funext fun a => by fin_cases a <;> rfl

/-- A buffer whose last store covers it reads as that store. -/
theorem read_last {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

section Runs
variable (c : Dev nD) (i : grid0.Coords)
  (arg3 : Memref sig .tc .vmem S256x256 .bf16) (harg3 : arg3.IsWhole) (arg4 : Memref sig .tc .vmem S2048x256 .bf16) (harg4 : arg4.IsWhole)
  (arg5 : Memref sig .tc .vmem S2048x128 .bf16) (harg5 : arg5.IsWhole) (arg6 : Memref sig .tc .vmem S256x256 .bf16) (harg6 : arg6.IsWhole)
  (arg7 : Memref sig .tc .vmem S256x128 .bf16) (harg7 : arg7.IsWhole) (arg8 : Memref sig .tc .vmem S256x128 .f32) (harg8 : arg8.IsWhole)
  (arg9 : Memref sig .tc .vmem S256x256 .f32) (harg9 : arg9.IsWhole) (arg10 : Memref sig .tc .vmem S2048x256 .f32) (harg10 : arg10.IsWhole)
  (arg11 : Memref sig .tc .vmem S256x256 .f32) (harg11 : arg11.IsWhole) (arg12 : Memref sig .tc .vmem S2048x128 .f32) (harg12 : arg12.IsWhole)
  (arg13 : Memref sig .tc .vmem S256x128 .f32) (harg13 : arg13.IsWhole)
  (x0 : Vec F S256x256 .bf16) (x1 : Vec F S2048x256 .bf16) (x2 : Vec F S2048x128 .bf16) (x3 : Vec F S256x256 .bf16)
  (x4 : Vec F S256x128 .bf16) (x5 : Vec F S256x128 .f32) (a : Grads F)

/-- The six input buffers, at their contents. -/
def ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5)

/-- The four accumulating output buffers, at the gradients `a`. -/
def accs : sProp 𝕄 :=
  iprop(owns (c : Thread nD τ) arg10 fullShare a.kx ∗ owns (c : Thread nD τ) arg11 fullShare a.kh
    ∗ owns (c : Thread nD τ) arg12 fullShare a.vx ∗ owns (c : Thread nD τ) arg13 fullShare a.vh)

/-- The four accumulating output buffers, at contents nobody knows. -/
def accsAny : sProp 𝕄 :=
  iprop((∃ d, owns (c : Thread nD τ) arg10 fullShare d) ∗ (∃ d, owns (c : Thread nD τ) arg11 fullShare d)
    ∗ (∃ d, owns (c : Thread nD τ) arg12 fullShare d) ∗ (∃ d, owns (c : Thread nD τ) arg13 fullShare d))

/-- The input buffers at their contents, from what the body hands back. -/
theorem ins_of :
    iprop((arg3.view.loc (c : Thread nD τ) ↦[arg3.view.set]{fullShare} harg3.unread x0)
        ∗ (arg4.view.loc (c : Thread nD τ) ↦[arg4.view.set]{fullShare} harg4.unread x1)
        ∗ (arg5.view.loc (c : Thread nD τ) ↦[arg5.view.set]{fullShare} harg5.unread x2)
        ∗ (arg6.view.loc (c : Thread nD τ) ↦[arg6.view.set]{fullShare} harg6.unread x3)
        ∗ (arg7.view.loc (c : Thread nD τ) ↦[arg7.view.set]{fullShare} harg7.unread x4)
        ∗ (arg8.view.loc (c : Thread nD τ) ↦[arg8.view.set]{fullShare} harg8.unread x5))
      ⊢ (ins c arg3 arg4 arg5 arg6 arg7 arg8 x0 x1 x2 x3 x4 x5 : sProp 𝕄) := by
  unfold ins owns
  iintro ⟨H0, H1, H2, H3, H4, H5⟩
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr; · ipureintro; exact harg8.read_unread _
  iexact H5

/-- And the way back: the contents under each buffer are the ones its value determines. -/
theorem ins_to :
    (ins c arg3 arg4 arg5 arg6 arg7 arg8 x0 x1 x2 x3 x4 x5 : sProp 𝕄) ⊢
      iprop((arg3.view.loc (c : Thread nD τ) ↦[arg3.view.set]{fullShare} harg3.unread x0)
        ∗ (arg4.view.loc (c : Thread nD τ) ↦[arg4.view.set]{fullShare} harg4.unread x1)
        ∗ (arg5.view.loc (c : Thread nD τ) ↦[arg5.view.set]{fullShare} harg5.unread x2)
        ∗ (arg6.view.loc (c : Thread nD τ) ↦[arg6.view.set]{fullShare} harg6.unread x3)
        ∗ (arg7.view.loc (c : Thread nD τ) ↦[arg7.view.set]{fullShare} harg7.unread x4)
        ∗ (arg8.view.loc (c : Thread nD τ) ↦[arg8.view.set]{fullShare} harg8.unread x5)) := by
  unfold ins owns
  iintro ⟨⟨%f0, %hf0, H0⟩, ⟨%f1, %hf1, H1⟩, ⟨%f2, %hf2, H2⟩, ⟨%f3, %hf3, H3⟩, ⟨%f4, %hf4, H4⟩, ⟨%f5, %hf5, H5⟩⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  isplitl [H0]; · iexact H0
  isplitl [H1]; · iexact H1
  isplitl [H2]; · iexact H2
  isplitl [H3]; · iexact H3
  isplitl [H4]; · iexact H4
  iexact H5

/-- The body at a later tile of sequence queries: it adds to what the buffers hold. -/
theorem run_later (hc0 : k0_cond1 i = 1#1) (hc1 : ¬ k0_cond2 i = 1#1) (hc2 : ¬ k0_cond3 i = 1#1) (hc3 : ¬ k0_cond4 i = 1#1) (hc4 : ¬ k0_cond5 i = 1#1) (hc5 : ¬ k0_cond6 i = 1#1) (E : Set ℕ) (K : PUnit → sProp 𝕄) :
    iprop(ins c arg3 arg4 arg5 arg6 arg7 arg8 x0 x1 x2 x3 x4 x5 ∗ (∃ d, owns (c : Thread nD τ) arg9 fullShare d)
        ∗ accs c arg10 arg11 arg12 arg13 a
        ∗ (iprop(ins c arg3 arg4 arg5 arg6 arg7 arg8 x0 x1 x2 x3 x4 x5 ∗ owns (c : Thread nD τ) arg9 fullShare (dqX x0 x1 x2 x3 x4 x5)
            ∗ accs c arg10 arg11 arg12 arg13 (stepX x0 x1 x2 x3 x4 x5 a)) -∗ K ⟨⟩))
      ⊢ wp frame (wpE (defs₀ (F := F)) Variants.none c none) E (cc0_mla_bwd i arg3 harg3 arg4 harg4 arg5 harg5 arg6 harg6 arg7 harg7 arg8 harg8 arg9 harg9
        arg10 harg10 arg11 harg11 arg12 harg12 arg13 harg13) K := by
  simp only [cc0_mla_bwd_eq_skeleton]; unfold cc0_mla_bwd_skel
  simp only [k0_part1_eq_skeleton, k0_part2_eq_skeleton, k0_part3_eq_skeleton]
  unfold accs owns
  refine (sep_mono (ins_to c arg3 harg3 arg4 harg4 arg5 harg5 arg6 harg6 arg7 harg7 arg8 harg8 x0 x1 x2 x3 x4 x5) .rfl).trans ?_
  iintro ⟨⟨H0, H1, H2, H3, H4, H5⟩, ⟨%d6, %f6, -, H6⟩, ⟨⟨%f7, %hf7, H7⟩, ⟨%f8, %hf8, H8⟩, ⟨%f9, %hf9, H9⟩, ⟨%f10, %hf10, H10⟩⟩, Hk⟩
  obtain rfl := harg10.eq_unread hf7; obtain rfl := harg11.eq_unread hf8; obtain rfl := harg12.eq_unread hf9
  obtain rfl := harg13.eq_unread hf10
  sl_exec (disch := first | sl_exact hc0 | sl_exact hc1 | sl_exact hc2 | sl_exact hc3 | sl_exact hc4 | sl_exact hc5)
  sl_step
  iapply Hk
  isplitl [H0 H1 H2 H3 H4 H5]
  · iapply (ins_of c arg3 harg3 arg4 harg4 arg5 harg5 arg6 harg6 arg7 harg7 arg8 harg8 x0 x1 x2 x3 x4 x5)
    isplitl [H0]; · iexact H0
    isplitl [H1]; · iexact H1
    isplitl [H2]; · iexact H2
    isplitl [H3]; · iexact H3
    isplitl [H4]; · iexact H4
    iexact H5
  isplitl [H6]
  · iexists _; isplitr; swap; · iexact H6
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H7]
  · iexists _; isplitr; swap; · iexact H7
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H8]
  · iexists _; isplitr; swap; · iexact H8
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H9]
  · iexists _; isplitr; swap; · iexact H9
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  · iexists _; isplitr; swap; · iexact H10
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl

/-- The body at the first tile of a head: it starts the four gradients from zero. -/
theorem run_first (hc0 : k0_cond1 i = 1#1) (hc1 : k0_cond2 i = 1#1) (hc2 : k0_cond3 i = 1#1) (hc3 : k0_cond4 i = 1#1) (hc4 : k0_cond5 i = 1#1) (hc5 : ¬ k0_cond6 i = 1#1) (E : Set ℕ) (K : PUnit → sProp 𝕄) :
    iprop(ins c arg3 arg4 arg5 arg6 arg7 arg8 x0 x1 x2 x3 x4 x5 ∗ (∃ d, owns (c : Thread nD τ) arg9 fullShare d)
        ∗ accsAny c arg10 arg11 arg12 arg13
        ∗ (iprop(ins c arg3 arg4 arg5 arg6 arg7 arg8 x0 x1 x2 x3 x4 x5 ∗ owns (c : Thread nD τ) arg9 fullShare (dqX x0 x1 x2 x3 x4 x5)
            ∗ accs c arg10 arg11 arg12 arg13 (stepX x0 x1 x2 x3 x4 x5 Grads.zero)) -∗ K ⟨⟩))
      ⊢ wp frame (wpE (defs₀ (F := F)) Variants.none c none) E (cc0_mla_bwd i arg3 harg3 arg4 harg4 arg5 harg5 arg6 harg6 arg7 harg7 arg8 harg8 arg9 harg9
        arg10 harg10 arg11 harg11 arg12 harg12 arg13 harg13) K := by
  simp only [cc0_mla_bwd_eq_skeleton]; unfold cc0_mla_bwd_skel
  simp only [k0_part1_eq_skeleton, k0_part2_eq_skeleton, k0_part3_eq_skeleton]
  unfold accsAny accs owns
  refine (sep_mono (ins_to c arg3 harg3 arg4 harg4 arg5 harg5 arg6 harg6 arg7 harg7 arg8 harg8 x0 x1 x2 x3 x4 x5) .rfl).trans ?_
  iintro ⟨⟨H0, H1, H2, H3, H4, H5⟩, ⟨%d6, %f6, -, H6⟩, ⟨⟨%d7, %f7, -, H7⟩, ⟨%d8, %f8, -, H8⟩, ⟨%d9, %f9, -, H9⟩, ⟨%d10, %f10, -, H10⟩⟩, Hk⟩
  sl_exec (disch := first | sl_exact hc0 | sl_exact hc1 | sl_exact hc2 | sl_exact hc3 | sl_exact hc4 | sl_exact hc5)
  sl_step
  iapply Hk
  isplitl [H0 H1 H2 H3 H4 H5]
  · iapply (ins_of c arg3 harg3 arg4 harg4 arg5 harg5 arg6 harg6 arg7 harg7 arg8 harg8 x0 x1 x2 x3 x4 x5)
    isplitl [H0]; · iexact H0
    isplitl [H1]; · iexact H1
    isplitl [H2]; · iexact H2
    isplitl [H3]; · iexact H3
    isplitl [H4]; · iexact H4
    iexact H5
  isplitl [H6]
  · iexists _; isplitr; swap; · iexact H6
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H7]
  · iexists _; isplitr; swap; · iexact H7
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H8]
  · iexists _; isplitr; swap; · iexact H8
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H9]
  · iexists _; isplitr; swap; · iexact H9
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  · iexists _; isplitr; swap; · iexact H10
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl

/-- The body at the tile of context queries. -/
theorem run_context (hc0 : ¬ k0_cond1 i = 1#1) (hc1 : ¬ k0_cond2 i = 1#1) (hc2 : ¬ k0_cond3 i = 1#1) (hc3 : ¬ k0_cond4 i = 1#1) (hc4 : ¬ k0_cond5 i = 1#1) (hc5 : k0_cond6 i = 1#1) (E : Set ℕ) (K : PUnit → sProp 𝕄) :
    iprop(ins c arg3 arg4 arg5 arg6 arg7 arg8 x0 x1 x2 x3 x4 x5 ∗ (∃ d, owns (c : Thread nD τ) arg9 fullShare d)
        ∗ accs c arg10 arg11 arg12 arg13 a
        ∗ (iprop(ins c arg3 arg4 arg5 arg6 arg7 arg8 x0 x1 x2 x3 x4 x5 ∗ owns (c : Thread nD τ) arg9 fullShare (dqH x0 x3 x4 x5)
            ∗ accs c arg10 arg11 arg12 arg13 (stepH x0 x3 x4 x5 a)) -∗ K ⟨⟩))
      ⊢ wp frame (wpE (defs₀ (F := F)) Variants.none c none) E (cc0_mla_bwd i arg3 harg3 arg4 harg4 arg5 harg5 arg6 harg6 arg7 harg7 arg8 harg8 arg9 harg9
        arg10 harg10 arg11 harg11 arg12 harg12 arg13 harg13) K := by
  simp only [cc0_mla_bwd_eq_skeleton]; unfold cc0_mla_bwd_skel
  simp only [k0_part4_eq_skeleton]
  unfold accs owns
  refine (sep_mono (ins_to c arg3 harg3 arg4 harg4 arg5 harg5 arg6 harg6 arg7 harg7 arg8 harg8 x0 x1 x2 x3 x4 x5) .rfl).trans ?_
  iintro ⟨⟨H0, H1, H2, H3, H4, H5⟩, ⟨%d6, %f6, -, H6⟩, ⟨⟨%f7, %hf7, H7⟩, ⟨%f8, %hf8, H8⟩, ⟨%f9, %hf9, H9⟩, ⟨%f10, %hf10, H10⟩⟩, Hk⟩
  obtain rfl := harg10.eq_unread hf7; obtain rfl := harg11.eq_unread hf8; obtain rfl := harg12.eq_unread hf9
  obtain rfl := harg13.eq_unread hf10
  sl_exec (disch := first | sl_exact hc0 | sl_exact hc1 | sl_exact hc2 | sl_exact hc3 | sl_exact hc4 | sl_exact hc5)
  sl_step
  iapply Hk
  isplitl [H0 H1 H2 H3 H4 H5]
  · iapply (ins_of c arg3 harg3 arg4 harg4 arg5 harg5 arg6 harg6 arg7 harg7 arg8 harg8 x0 x1 x2 x3 x4 x5)
    isplitl [H0]; · iexact H0
    isplitl [H1]; · iexact H1
    isplitl [H2]; · iexact H2
    isplitl [H3]; · iexact H3
    isplitl [H4]; · iexact H4
    iexact H5
  isplitl [H6]
  · iexists _; isplitr; swap; · iexact H6
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H7]
  · iexists _; isplitr; · ipureintro; exact harg10.read_unread _
    iexact H7
  isplitl [H8]
  · iexists _; isplitr; swap; · iexact H8
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl
  isplitl [H9]
  · iexists _; isplitr; · ipureintro; exact harg12.read_unread _
    iexact H9
  · iexists _; isplitr; swap; · iexact H10
    ipureintro
    rw [read_last _ _ hz2]
    sl_unfold_words
    simp only [View.readAt_eq_ld, View.readCov_unit_zero (S := S256x256) _ hz2, View.readCov_unit_zero (S := S2048x256) _ hz2,
      View.readCov_unit_zero (S := S2048x128) _ hz2, View.readCov_unit_zero (S := S256x128) _ hz2, harg3.read_unread, harg4.read_unread, harg5.read_unread, harg6.read_unread,
      harg7.read_unread, harg8.read_unread, harg10.read_unread, harg11.read_unread, harg12.read_unread, harg13.read_unread,
      View.ld_unit_zero (S := S256x256) hz2, View.ld_unit_zero (S := S2048x256) hz2,
      View.ld_unit_zero (S := S2048x128) hz2, View.ld_unit_zero (S := S256x128) hz2]
    rfl

end Runs

end Cert.Attention

end
-- ==== Proof.Attention.Run.lean ====
/- The attention gradient's kernel run over its grid: what the output buffers hold after every grid point, and the run of
   the whole program, which ends with every output array at what those points wrote back, the arguments unchanged and
   every semaphore counter at zero. -/
module

public import proofs.«01_k».proof.Proof.Attention.Body
public import Idealize.ShloMosaic.Lib.Claim
public import Idealize.ShloMosaic.Lib.Pipeline.Value

@[expose] public section

set_option maxRecDepth 16384

noncomputable section

namespace Cert.Attention

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a grid point reads -/

/-- The query rows of point `t`. -/
def qB (c : Dev nD) (t : Fin cfg0.N) : Vec F S256x256 .bf16 := iblk m c 0 t
/-- The sequence keys of point `t`. -/
def kxB (c : Dev nD) (t : Fin cfg0.N) : Vec F S2048x256 .bf16 := X0_1 m c t
/-- The sequence values of point `t`. -/
def vxB (c : Dev nD) (t : Fin cfg0.N) : Vec F S2048x128 .bf16 := X0_2 m c t
/-- The context keys of point `t`. -/
def khB (c : Dev nD) (t : Fin cfg0.N) : Vec F S256x256 .bf16 := iblk m c 3 t
/-- The context values of point `t`. -/
def vhB (c : Dev nD) (t : Fin cfg0.N) : Vec F S256x128 .bf16 := iblk m c 4 t
/-- The incoming gradient of point `t`. -/
def gB (c : Dev nD) (t : Fin cfg0.N) : Vec F S256x128 .f32 := iblk m c 5 t

/-! ## What the output buffers hold -/

/-- One point's step: the tile of context queries is the last of nine. -/
def step (c : Dev nD) (t : Fin cfg0.N) (a : Grads F) : Grads F :=
  if t.val % 9 = 8 then stepH (qB m c t) (khB m c t) (vhB m c t) (gB m c t) a
  else stepX (qB m c t) (kxB m c t) (vxB m c t) (khB m c t) (vhB m c t) (gB m c t) a

/-- The queries' gradient of point `t`. -/
def dqAt (c : Dev nD) (t : Fin cfg0.N) : Vec F S256x256 .f32 :=
  if t.val % 9 = 8 then dqH (qB m c t) (khB m c t) (vhB m c t) (gB m c t)
  else dqX (qB m c t) (kxB m c t) (vxB m c t) (khB m c t) (vhB m c t) (gB m c t)

/-- What the four accumulating buffers hold after point `n`: a head's first tile starts them from zero. -/
def stAt (c : Dev nD) : (n : ℕ) → n < cfg0.N → Grads F
  | 0, h => step m c ⟨0, h⟩ Grads.zero
  | n + 1, h => step m c ⟨n + 1, h⟩ (if (n + 1) % 9 = 0 then Grads.zero else stAt c n (Nat.lt_of_succ_lt h))

theorem stAt_first (c : Dev nD) (t : Fin cfg0.N) (h0 : t.val % 9 = 0) :
    stAt m c t.val t.isLt = step m c t Grads.zero := by
  obtain ⟨n, hn⟩ := t
  cases n with
  | zero => rfl
  | succ n => show step m c _ (if (n + 1) % 9 = 0 then _ else _) = _; rw [if_pos h0]

theorem stAt_later (c : Dev nD) (t : Fin cfg0.N) (h0 : ¬ t.val % 9 = 0) :
    stAt m c t.val t.isLt = step m c t (stAt m c (t.val - 1) (Nat.lt_of_le_of_lt (Nat.sub_le _ _) t.isLt)) := by
  obtain ⟨n, hn⟩ := t
  cases n with
  | zero => exact absurd (Nat.zero_mod _) h0
  | succ n => show step m c _ (if (n + 1) % 9 = 0 then _ else _) = _; rw [if_neg h0]; rfl

/-! ## The conditions of the body, at the grid's points -/

theorem cond_seq : ∀ t : Fin cfg0.N, k0_cond1 (grid0.coords t) = 1#1 ↔ t.val % 9 ≤ 7 :=
  (by decide +kernel : ∀ t : Fin grid0.N, k0_cond1 (grid0.coords t) = 1#1 ↔ t.val % 9 ≤ 7)

theorem cond_first : ∀ t : Fin cfg0.N, (k0_cond2 (grid0.coords t) = 1#1 ↔ t.val % 9 = 0)
    ∧ (k0_cond3 (grid0.coords t) = 1#1 ↔ t.val % 9 = 0) ∧ (k0_cond4 (grid0.coords t) = 1#1 ↔ t.val % 9 = 0)
    ∧ (k0_cond5 (grid0.coords t) = 1#1 ↔ t.val % 9 = 0) :=
  (by decide +kernel : ∀ t : Fin grid0.N, (k0_cond2 (grid0.coords t) = 1#1 ↔ t.val % 9 = 0)
    ∧ (k0_cond3 (grid0.coords t) = 1#1 ↔ t.val % 9 = 0) ∧ (k0_cond4 (grid0.coords t) = 1#1 ↔ t.val % 9 = 0)
    ∧ (k0_cond5 (grid0.coords t) = 1#1 ↔ t.val % 9 = 0))

theorem cond_context : ∀ t : Fin cfg0.N, k0_cond6 (grid0.coords t) = 1#1 ↔ t.val % 9 = 8 :=
  (by decide +kernel : ∀ t : Fin grid0.N, k0_cond6 (grid0.coords t) = 1#1 ↔ t.val % 9 = 8)

/-! ## The pipeline's proof data -/

/-- The proof data: the arrays as the launch finds them; after a point the inputs' buffers still at their blocks, the
    queries' gradient at the point's, the accumulating buffers at `stAt`; an array that two windows stage shared between them. -/
def dats (_ : Fin 1) (c : Dev nD) : Dat τ (Elt F) Unit ℕ (UR sig nD τ) ℕ cfg0 c where
  A w := V m c (Pipeline.arrRef spec0 w)
  after w t := match w with
    | ⟨0, _⟩ => qB m c t
    | ⟨1, _⟩ => kxB m c t
    | ⟨2, _⟩ => vxB m c t
    | ⟨3, _⟩ => khB m c t
    | ⟨4, _⟩ => vhB m c t
    | ⟨5, _⟩ => gB m c t
    | ⟨6, _⟩ => dqAt m c t
    | ⟨7, _⟩ => (stAt m c t.val t.isLt).kx
    | ⟨8, _⟩ => (stAt m c t.val t.isLt).kh
    | ⟨9, _⟩ => (stAt m c t.val t.isLt).vx
    | ⟨10, _⟩ => (stAt m c t.val t.isLt).vh
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = qB m c t := by dsimp only [dats]
theorem after_1 (c : Dev nD) (t : Fin cfg0.N) : (dats m 0 c).after 1 t = kxB m c t := by dsimp only [dats]
theorem after_2 (c : Dev nD) (t : Fin cfg0.N) : (dats m 0 c).after 2 t = vxB m c t := by dsimp only [dats]
theorem after_3 (c : Dev nD) (t : Fin cfg0.N) : (dats m 0 c).after 3 t = khB m c t := by dsimp only [dats]
theorem after_4 (c : Dev nD) (t : Fin cfg0.N) : (dats m 0 c).after 4 t = vhB m c t := by dsimp only [dats]
theorem after_5 (c : Dev nD) (t : Fin cfg0.N) : (dats m 0 c).after 5 t = gB m c t := by dsimp only [dats]
theorem after_6 (c : Dev nD) (t : Fin cfg0.N) : (dats m 0 c).after 6 t = dqAt m c t := by dsimp only [dats]
theorem after_7 (c : Dev nD) (t : Fin cfg0.N) : (dats m 0 c).after 7 t = (stAt m c t.val t.isLt).kx := by dsimp only [dats]
theorem after_8 (c : Dev nD) (t : Fin cfg0.N) : (dats m 0 c).after 8 t = (stAt m c t.val t.isLt).kh := by dsimp only [dats]
theorem after_9 (c : Dev nD) (t : Fin cfg0.N) : (dats m 0 c).after 9 t = (stAt m c t.val t.isLt).vx := by dsimp only [dats]
theorem after_10 (c : Dev nD) (t : Fin cfg0.N) : (dats m 0 c).after 10 t = (stAt m c t.val t.isLt).vh := by dsimp only [dats]

/-! An input's buffer holds its block at every point, fetched there or not. -/

theorem before_0 (c : Dev nD) (t : Fin cfg0.N) (d) : (dats m 0 c).before 0 t d = qB m c t :=
  before0_0_of m (dats m 0 c) (A_eq m c 0) (after_0 m c) t d
theorem before_1 (c : Dev nD) (t : Fin cfg0.N) (d) : (dats m 0 c).before 1 t d = kxB m c t :=
  before0_1_of m (dats m 0 c) (A_eq m c 1) (after_1 m c) t d
theorem before_2 (c : Dev nD) (t : Fin cfg0.N) (d) : (dats m 0 c).before 2 t d = vxB m c t :=
  before0_2_of m (dats m 0 c) (A_eq m c 2) (after_2 m c) t d
theorem before_3 (c : Dev nD) (t : Fin cfg0.N) (d) : (dats m 0 c).before 3 t d = khB m c t :=
  before0_3_of m (dats m 0 c) (A_eq m c 3) (after_3 m c) t d
theorem before_4 (c : Dev nD) (t : Fin cfg0.N) (d) : (dats m 0 c).before 4 t d = vhB m c t :=
  before0_4_of m (dats m 0 c) (A_eq m c 4) (after_4 m c) t d
theorem before_5 (c : Dev nD) (t : Fin cfg0.N) (d) : (dats m 0 c).before 5 t d = gB m c t :=
  before0_5_of m (dats m 0 c) (A_eq m c 5) (after_5 m c) t d

/-! ## Where the body leaves an output alone -/

/-- Every output is stored at every point but the last of a head, and every output but the gradients of the sequence's
    keys and values there too. -/
theorem live : ∀ t : Fin cfg0.N, cfg0.idle 6 (cfg0.grid.coords t) = false ∧ (t.val % 9 ≤ 7 → cfg0.idle 7 (cfg0.grid.coords t) = false)
    ∧ cfg0.idle 8 (cfg0.grid.coords t) = false ∧ (t.val % 9 ≤ 7 → cfg0.idle 9 (cfg0.grid.coords t) = false)
    ∧ cfg0.idle 10 (cfg0.grid.coords t) = false :=
  (by decide +kernel : ∀ t : Fin grid0.N, idle0 6 (grid0.coords t) = false ∧ (t.val % 9 ≤ 7 → idle0 7 (grid0.coords t) = false)
    ∧ idle0 8 (grid0.coords t) = false ∧ (t.val % 9 ≤ 7 → idle0 9 (grid0.coords t) = false) ∧ idle0 10 (grid0.coords t) = false)

/-- At a point where the body stores a window, or one that writes it back, the body hands back its buffer at `after`. -/
theorem leavesExact_of {c : Dev nD} (dat : Dat τ (Elt F) Unit ℕ (UR sig nD τ) ℕ cfg0 c) (w : Fin cfg0.W) (t : Fin cfg0.N)
    (h : cfg0.idle w (cfg0.grid.coords t) = false ∨ (cfg0.win w).flush t = true) :
    dat.leavesExact w t = owns c ((cfg0.win w).stage (cfg0.slots t w)) fullShare (dat.after w t) := by
  unfold Dat.leavesExact
  rcases h with h | h
  · rw [h]
  · rw [h]; cases cfg0.idle w (cfg0.grid.coords t) <;> rfl

/-- An uncut output's buffer, at a point after one that stored it and did not write it back, holds what that point left. -/
theorem before_of_live {c : Dev nD} (dat : Dat τ (Elt F) Unit ℕ (UR sig nD τ) ℕ cfg0 c) (w : Fin cfg0.W) (hw : (cfg0.win w).isOut = true) (t : Fin cfg0.N)
    (ht : t.val ≠ 0) (hfl : (cfg0.win w).flush ⟨t.val - 1, Nat.lt_of_le_of_lt (Nat.sub_le _ _) t.isLt⟩ = false)
    (hl : cfg0.idle w (cfg0.grid.coords ⟨t.val - 1, Nat.lt_of_le_of_lt (Nat.sub_le _ _) t.isLt⟩) = false)
    (hclip : ∀ (i : cfg0.grid.Coords) a, (cfg0.win w).clip i a = none) (d) :
    dat.before w t d = dat.after w ⟨t.val - 1, Nat.lt_of_le_of_lt (Nat.sub_le _ _) t.isLt⟩ := by
  rw [dat.before_of_pos w t ht ((cfg0.win w).fetch_out hw t), hfl, if_neg Bool.false_ne_true]
  unfold Dat.left; rw [hl]; dsimp only; unfold Dat.kept
  rw [Pipeline.fill_of_clip_none w _ (hclip _) d (dat.after w _), Pipeline.Window.fill_cut]

/-! Past a head's first tile an accumulating buffer holds what the point before left. -/

theorem before_7 (c : Dev nD) (t : Fin cfg0.N) (h0 : ¬ t.val % 9 = 0) (d) : (dats m 0 c).before 7 t d
    = (stAt m c (t.val - 1) (Nat.lt_of_le_of_lt (Nat.sub_le _ _) t.isLt)).kx := by
  have hN : t.val < 144 := lt_of_lt_of_eq t.isLt (show cfg0.N = 144 from N_0)
  rw [before_of_live _ 7 rfl t (by omega) (Bool.eq_false_iff.mpr fun h => by have := (flush0_7 _).mp h; dsimp only at this; omega)
    ((live _).2.1 (by dsimp only; omega)) (fun _ _ => rfl)]
  dsimp only [dats]
theorem before_8 (c : Dev nD) (t : Fin cfg0.N) (h0 : ¬ t.val % 9 = 0) (d) : (dats m 0 c).before 8 t d
    = (stAt m c (t.val - 1) (Nat.lt_of_le_of_lt (Nat.sub_le _ _) t.isLt)).kh := by
  have hN : t.val < 144 := lt_of_lt_of_eq t.isLt (show cfg0.N = 144 from N_0)
  rw [before_of_live _ 8 rfl t (by omega) (Bool.eq_false_iff.mpr fun h => by have := (flush0_8 _).mp h; dsimp only at this; omega)
    (live _).2.2.1 (fun _ _ => rfl)]
  dsimp only [dats]
theorem before_9 (c : Dev nD) (t : Fin cfg0.N) (h0 : ¬ t.val % 9 = 0) (d) : (dats m 0 c).before 9 t d
    = (stAt m c (t.val - 1) (Nat.lt_of_le_of_lt (Nat.sub_le _ _) t.isLt)).vx := by
  have hN : t.val < 144 := lt_of_lt_of_eq t.isLt (show cfg0.N = 144 from N_0)
  rw [before_of_live _ 9 rfl t (by omega) (Bool.eq_false_iff.mpr fun h => by have := (flush0_9 _).mp h; dsimp only at this; omega)
    ((live _).2.2.2.1 (by dsimp only; omega)) (fun _ _ => rfl)]
  dsimp only [dats]
theorem before_10 (c : Dev nD) (t : Fin cfg0.N) (h0 : ¬ t.val % 9 = 0) (d) : (dats m 0 c).before 10 t d
    = (stAt m c (t.val - 1) (Nat.lt_of_le_of_lt (Nat.sub_le _ _) t.isLt)).vh := by
  have hN : t.val < 144 := lt_of_lt_of_eq t.isLt (show cfg0.N = 144 from N_0)
  rw [before_of_live _ 10 rfl t (by omega) (Bool.eq_false_iff.mpr fun h => by have := (flush0_10 _).mp h; dsimp only at this; omega)
    (live _).2.2.2.2 (fun _ _ => rfl)]
  dsimp only [dats]

/-! ## The body at a grid point -/

abbrev ms_0 (t : Fin cfg0.N) : Memref sig .tc .vmem S256x256 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x256 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x256 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S256x128 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x256 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S2048x256 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S256x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S2048x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S256x128 .f32 := win0_10.stage (cfg0.slots t 10)
abbrev hs_10 (t : Fin cfg0.N) : (ms_10 t).IsWhole := hstage0_10 ((cfg0.slots t 10).cast nbuf0_10)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem lv_0 (c : Dev nD) (t : Fin cfg0.N) : (dats m 0 c).leavesExact 0 t
    = owns (c : Thread nD τ) (ms_0 t) fullShare ((dats m 0 c).after 0 t) := leavesExact_of _ 0 t (.inl rfl)
theorem lv_1 (c : Dev nD) (t : Fin cfg0.N) : (dats m 0 c).leavesExact 1 t
    = owns (c : Thread nD τ) (ms_1 t) fullShare ((dats m 0 c).after 1 t) := leavesExact_of _ 1 t (.inl rfl)
theorem lv_2 (c : Dev nD) (t : Fin cfg0.N) : (dats m 0 c).leavesExact 2 t
    = owns (c : Thread nD τ) (ms_2 t) fullShare ((dats m 0 c).after 2 t) := leavesExact_of _ 2 t (.inl rfl)
theorem lv_3 (c : Dev nD) (t : Fin cfg0.N) : (dats m 0 c).leavesExact 3 t
    = owns (c : Thread nD τ) (ms_3 t) fullShare ((dats m 0 c).after 3 t) := leavesExact_of _ 3 t (.inl rfl)
theorem lv_4 (c : Dev nD) (t : Fin cfg0.N) : (dats m 0 c).leavesExact 4 t
    = owns (c : Thread nD τ) (ms_4 t) fullShare ((dats m 0 c).after 4 t) := leavesExact_of _ 4 t (.inl rfl)
theorem lv_5 (c : Dev nD) (t : Fin cfg0.N) : (dats m 0 c).leavesExact 5 t
    = owns (c : Thread nD τ) (ms_5 t) fullShare ((dats m 0 c).after 5 t) := leavesExact_of _ 5 t (.inl rfl)
theorem lv_6 (c : Dev nD) (t : Fin cfg0.N) : (dats m 0 c).leavesExact 6 t
    = owns (c : Thread nD τ) (ms_6 t) fullShare ((dats m 0 c).after 6 t) := leavesExact_of _ 6 t (.inl (live t).1)
theorem lv_7 (c : Dev nD) (t : Fin cfg0.N) : (dats m 0 c).leavesExact 7 t
    = owns (c : Thread nD τ) (ms_7 t) fullShare ((dats m 0 c).after 7 t) := leavesExact_of _ 7 t (if h : t.val % 9 ≤ 7 then .inl ((live t).2.1 h) else .inr ((flush0_7 t).mpr (by omega)))
theorem lv_8 (c : Dev nD) (t : Fin cfg0.N) : (dats m 0 c).leavesExact 8 t
    = owns (c : Thread nD τ) (ms_8 t) fullShare ((dats m 0 c).after 8 t) := leavesExact_of _ 8 t (.inl (live t).2.2.1)
theorem lv_9 (c : Dev nD) (t : Fin cfg0.N) : (dats m 0 c).leavesExact 9 t
    = owns (c : Thread nD τ) (ms_9 t) fullShare ((dats m 0 c).after 9 t) := leavesExact_of _ 9 t (if h : t.val % 9 ≤ 7 then .inl ((live t).2.2.2.1 h) else .inr ((flush0_9 t).mpr (by omega)))
theorem lv_10 (c : Dev nD) (t : Fin cfg0.N) : (dats m 0 c).leavesExact 10 t
    = owns (c : Thread nD τ) (ms_10 t) fullShare ((dats m 0 c).after 10 t) := leavesExact_of _ 10 t (.inl (live t).2.2.2.2)

set_option maxHeartbeats 2400000 in
/-- The body at any point, from what the point finds to what it leaves: one of the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    lv_0, lv_1, lv_2, lv_3, lv_4, lv_5, lv_6, lv_7, lv_8, lv_9, lv_10]
  rw [after_0, after_1, after_2, after_3, after_4, after_5, after_6, after_7, after_8, after_9, after_10]
  by_cases h0 : t.val % 9 = 0
  · rw [stAt_first m c t h0]
    unfold step dqAt
    rw [if_neg (by omega : ¬ t.val % 9 = 8), if_neg (by omega : ¬ t.val % 9 = 8)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t)
      (qB m c t) (kxB m c t) (vxB m c t) (khB m c t) (vhB m c t) (gB m c t) ((cond_seq t).mpr (by omega)) ((cond_first t).1.mpr h0) ((cond_first t).2.1.mpr h0) ((cond_first t).2.2.1.mpr h0) ((cond_first t).2.2.2.mpr h0) (fun h => by have := (cond_context t).mp h; omega) Set.univ _)
    unfold ins accsAny accs
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7 H8 H9 H10]
    · isplitl [H7]; · iexists _; iexact H7
      isplitl [H8]; · iexists _; iexact H8
      isplitl [H9]; · iexists _; iexact H9
      iexists _; iexact H10
    iintro ⟨⟨H0, H1, H2, H3, H4, H5⟩, H6, H7, H8, H9, H10⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [stAt_later m c t h0]
    simp only [before_7 m c t h0, before_8 m c t h0, before_9 m c t h0, before_10 m c t h0]
    unfold step dqAt
    by_cases h8 : t.val % 9 = 8
    · rw [if_pos h8, if_pos h8]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_context c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t)
        (qB m c t) (kxB m c t) (vxB m c t) (khB m c t) (vhB m c t) (gB m c t) (stAt m c (t.val - 1) (Nat.lt_of_le_of_lt (Nat.sub_le _ _) t.isLt)) (fun h => by have := (cond_seq t).mp h; omega) (fun h => h0 ((cond_first t).1.mp h)) (fun h => h0 ((cond_first t).2.1.mp h)) (fun h => h0 ((cond_first t).2.2.1.mp h))
          (fun h => h0 ((cond_first t).2.2.2.mp h)) ((cond_context t).mpr h8) Set.univ _)
      unfold ins accs
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7 H8 H9 H10]
      · isplitl [H7]; · iexact H7
        isplitl [H8]; · iexact H8
        isplitl [H9]; · iexact H9
        iexact H10
      iintro ⟨⟨H0, H1, H2, H3, H4, H5⟩, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [if_neg h8, if_neg h8]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_later c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t)
        (qB m c t) (kxB m c t) (vxB m c t) (khB m c t) (vhB m c t) (gB m c t) (stAt m c (t.val - 1) (Nat.lt_of_le_of_lt (Nat.sub_le _ _) t.isLt)) ((cond_seq t).mpr (by omega)) (fun h => h0 ((cond_first t).1.mp h)) (fun h => h0 ((cond_first t).2.1.mp h)) (fun h => h0 ((cond_first t).2.2.1.mp h))
          (fun h => h0 ((cond_first t).2.2.2.mp h)) (fun h => h8 ((cond_context t).mp h)) Set.univ _)
      unfold ins accs
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7 H8 H9 H10]
      · isplitl [H7]; · iexact H7
        isplitl [H8]; · iexact H8
        isplitl [H9]; · iexact H9
        iexact H10
      iintro ⟨⟨H0, H1, H2, H3, H4, H5⟩, H6, H7, H8, H9, H10⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

theorem defs₀_row (t : Fin cfg0.N) :
    defs₀ (F := F) .tc cfg0.body (cfg0.bodyArgs t (cfg0.slots t)) = bodyAt0 t := by
  unfold defs₀; rw [Defs.onTc_tc]

/-- The launch's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the program -/

set_option backward.isDefEq.respectTransparency.types false in
/-- From any memory with zero counters the program terminates, every array of the launch at what its points wrote back,
    every other buffer as it was and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Attention

end
-- ==== Proof.Attention.Final.lean ====
/- Where the attention gradient's kernel reads its blocks from and where it leaves its results: the five output arrays
   after the run, and the six input blocks of a grid point, at an index. -/
module

public import proofs.«01_k».proof.Proof.Attention.Run
public import Idealize.ShloMosaic.Lib.Pointwise

@[expose] public section

set_option maxRecDepth 16384

noncomputable section

namespace Cert.Attention

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {F : FTy → Type} [FloatOps F]
variable (m : (ℓ : Loc nD τ sig) → Buf (Elt F) ℓ) (ρ : Dev nD → PrngReg)

/-- Two indices of a matrix with equal coordinates are equal. -/
theorem ix2_of {n0 n1 : ℕ} {i : (⟨2, ![n0, n1]⟩ : Shape).Idx} {a : Fin n0} {b : Fin n1} (h0 : (i 0).val = a.val) (h1 : (i 1).val = b.val) :
    i = ix2 a b := (eq_ix2 i).trans (congrArg₂ ix2 (Fin.ext h0) (Fin.ext h1))

/-! ## The grid -/

/-- The grid point of tile `k` of head `h` of sequence `b`. -/
def tile (b h : Fin 4) (k : Fin 9) : Fin cfg0.N :=
  ⟨b.val * 36 + h.val * 9 + k.val, by have := b.isLt; have := h.isLt; have := k.isLt; show _ < 144; omega⟩

theorem tile_mod (b h : Fin 4) (k : Fin 9) : (tile b h k).val % 9 = k.val := by
  have := k.isLt; simp only [tile]; omega
theorem tile_head (b h : Fin 4) (k : Fin 9) : (tile b h k).val / 9 % 4 = h.val := by
  have := k.isLt; have := h.isLt; simp only [tile]; omega
theorem tile_seq (b h : Fin 4) (k : Fin 9) : (tile b h k).val / 36 = b.val := by
  have := k.isLt; have := h.isLt; simp only [tile]; omega

/-- The block row of a tile's queries: eight tiles of a sequence, or the tile of its context. -/
def qrow (t : Fin cfg0.N) : ℕ := if t.val % 9 < 8 then t.val / 36 * 8 + t.val % 9 else 32 + t.val / 36

/-- The block of each window at a grid point. -/
theorem index_in : ∀ t : Fin cfg0.N,
    (win0_0.index t (0 : Fin 2) = qrow t ∧ win0_0.index t (1 : Fin 2) = t.val / 9 % 4)
    ∧ (win0_1.index t (0 : Fin 2) = t.val / 36 ∧ win0_1.index t (1 : Fin 2) = t.val / 9 % 4)
    ∧ (win0_2.index t (0 : Fin 2) = t.val / 36 ∧ win0_2.index t (1 : Fin 2) = t.val / 9 % 4)
    ∧ (win0_3.index t (0 : Fin 2) = 32 + t.val / 36 ∧ win0_3.index t (1 : Fin 2) = t.val / 9 % 4)
    ∧ (win0_4.index t (0 : Fin 2) = 32 + t.val / 36 ∧ win0_4.index t (1 : Fin 2) = t.val / 9 % 4)
    ∧ (win0_5.index t (0 : Fin 2) = qrow t ∧ win0_5.index t (1 : Fin 2) = t.val / 9 % 4) :=
  (by decide +kernel : ∀ t : Fin grid0.N, _)

theorem index_out : ∀ t : Fin cfg0.N,
    (win0_6.index t (0 : Fin 2) = qrow t ∧ win0_6.index t (1 : Fin 2) = t.val / 9 % 4)
    ∧ (win0_7.index t (0 : Fin 2) = t.val / 36 ∧ win0_7.index t (1 : Fin 2) = t.val / 9 % 4)
    ∧ (win0_8.index t (0 : Fin 2) = t.val / 36 ∧ win0_8.index t (1 : Fin 2) = t.val / 9 % 4)
    ∧ (win0_9.index t (0 : Fin 2) = t.val / 36 ∧ win0_9.index t (1 : Fin 2) = t.val / 9 % 4)
    ∧ (win0_10.index t (0 : Fin 2) = t.val / 36 ∧ win0_10.index t (1 : Fin 2) = t.val / 9 % 4) :=
  (by decide +kernel : ∀ t : Fin grid0.N, _)

theorem dqAt_congr (c : Dev nD) {t t' : Fin cfg0.N} (h : t.val = t'.val) : dqAt m c t = dqAt m c t' := by
  rw [Fin.ext h]
theorem stAt_congr (c : Dev nD) {n n' : ℕ} (h : n = n') (hn : n < cfg0.N) (hn' : n' < cfg0.N) : stAt m c n hn = stAt m c n' hn' := by
  subst h; rfl

/-! ## The input blocks -/

/-- A tile's queries. -/
theorem qB_apply (c : Dev nD) (t : Fin cfg0.N) (r : Fin 256) (d : Fin 256) (i : S9216x1024.Idx)
    (h0 : (i 0).val = qrow t * 256 + r.val) (h1 : (i 1).val = t.val / 9 % 4 * 256 + d.val) :
    qB m c t (ix2 r d) = m ((c.tc : Thread nD τ).loc main_arg0) i := by
  have e0 : win0_0.index t (0 : Fin 2) = qrow t := (index_in t).1.1
  have e1 : win0_0.index t (1 : Fin 2) = t.val / 9 % 4 := (index_in t).1.2
  refine congrArg (m ((c.tc : Thread nD τ).loc main_arg0)) (funext fun a => Fin.ext ?_)
  match a with
  | ⟨0, _⟩ => show win0_0.index t (0 : Fin 2) * 256 + 1 * r.val = (i 0).val; rw [e0, h0]; omega
  | ⟨1, _⟩ => show win0_0.index t (1 : Fin 2) * 256 + 1 * d.val = (i 1).val; rw [e1, h1]; omega

/-- A sequence's keys. -/
theorem kxB_apply (c : Dev nD) (t : Fin cfg0.N) (r : Fin 2048) (d : Fin 256) (i : S9216x1024.Idx)
    (h0 : (i 0).val = (t.val / 36) * 2048 + r.val) (h1 : (i 1).val = t.val / 9 % 4 * 256 + d.val) :
    kxB m c t (ix2 r d) = m ((c.tc : Thread nD τ).loc main_arg1) i := by
  have e0 : win0_1.index t (0 : Fin 2) = (t.val / 36) := (index_in t).2.1.1
  have e1 : win0_1.index t (1 : Fin 2) = t.val / 9 % 4 := (index_in t).2.1.2
  unfold kxB X0_1 Pipeline.Window.fill
  rw [dif_pos (moved0_1 t _)]
  refine congrArg (m ((c.tc : Thread nD τ).loc main_arg1)) (funext fun a => Fin.ext ?_)
  match a with
  | ⟨0, _⟩ => show win0_1.index t (0 : Fin 2) * 2048 + 1 * r.val = (i 0).val; rw [e0, h0]; omega
  | ⟨1, _⟩ => show win0_1.index t (1 : Fin 2) * 256 + 1 * d.val = (i 1).val; rw [e1, h1]; omega

/-- A sequence's values. -/
theorem vxB_apply (c : Dev nD) (t : Fin cfg0.N) (r : Fin 2048) (d : Fin 128) (i : S9216x512.Idx)
    (h0 : (i 0).val = (t.val / 36) * 2048 + r.val) (h1 : (i 1).val = t.val / 9 % 4 * 128 + d.val) :
    vxB m c t (ix2 r d) = m ((c.tc : Thread nD τ).loc main_arg2) i := by
  have e0 : win0_2.index t (0 : Fin 2) = (t.val / 36) := (index_in t).2.2.1.1
  have e1 : win0_2.index t (1 : Fin 2) = t.val / 9 % 4 := (index_in t).2.2.1.2
  unfold vxB X0_2 Pipeline.Window.fill
  rw [dif_pos (moved0_2 t _)]
  refine congrArg (m ((c.tc : Thread nD τ).loc main_arg2)) (funext fun a => Fin.ext ?_)
  match a with
  | ⟨0, _⟩ => show win0_2.index t (0 : Fin 2) * 2048 + 1 * r.val = (i 0).val; rw [e0, h0]; omega
  | ⟨1, _⟩ => show win0_2.index t (1 : Fin 2) * 128 + 1 * d.val = (i 1).val; rw [e1, h1]; omega

/-- A context's keys. -/
theorem khB_apply (c : Dev nD) (t : Fin cfg0.N) (r : Fin 256) (d : Fin 256) (i : S9216x1024.Idx)
    (h0 : (i 0).val = (32 + t.val / 36) * 256 + r.val) (h1 : (i 1).val = t.val / 9 % 4 * 256 + d.val) :
    khB m c t (ix2 r d) = m ((c.tc : Thread nD τ).loc main_arg1) i := by
  have e0 : win0_3.index t (0 : Fin 2) = (32 + t.val / 36) := (index_in t).2.2.2.1.1
  have e1 : win0_3.index t (1 : Fin 2) = t.val / 9 % 4 := (index_in t).2.2.2.1.2
  refine congrArg (m ((c.tc : Thread nD τ).loc main_arg1)) (funext fun a => Fin.ext ?_)
  match a with
  | ⟨0, _⟩ => show win0_3.index t (0 : Fin 2) * 256 + 1 * r.val = (i 0).val; rw [e0, h0]; omega
  | ⟨1, _⟩ => show win0_3.index t (1 : Fin 2) * 256 + 1 * d.val = (i 1).val; rw [e1, h1]; omega

/-- A context's values. -/
theorem vhB_apply (c : Dev nD) (t : Fin cfg0.N) (r : Fin 256) (d : Fin 128) (i : S9216x512.Idx)
    (h0 : (i 0).val = (32 + t.val / 36) * 256 + r.val) (h1 : (i 1).val = t.val / 9 % 4 * 128 + d.val) :
    vhB m c t (ix2 r d) = m ((c.tc : Thread nD τ).loc main_arg2) i := by
  have e0 : win0_4.index t (0 : Fin 2) = (32 + t.val / 36) := (index_in t).2.2.2.2.1.1
  have e1 : win0_4.index t (1 : Fin 2) = t.val / 9 % 4 := (index_in t).2.2.2.2.1.2
  refine congrArg (m ((c.tc : Thread nD τ).loc main_arg2)) (funext fun a => Fin.ext ?_)
  match a with
  | ⟨0, _⟩ => show win0_4.index t (0 : Fin 2) * 256 + 1 * r.val = (i 0).val; rw [e0, h0]; omega
  | ⟨1, _⟩ => show win0_4.index t (1 : Fin 2) * 128 + 1 * d.val = (i 1).val; rw [e1, h1]; omega

/-- A tile's incoming gradient. -/
theorem gB_apply (c : Dev nD) (t : Fin cfg0.N) (r : Fin 256) (d : Fin 128) (i : S9216x1024.Idx)
    (h0 : (i 0).val = qrow t * 256 + r.val) (h1 : (i 1).val = t.val / 9 % 4 * 128 + d.val) :
    gB m c t (ix2 r d) = m ((c.tc : Thread nD τ).loc main_arg3) i := by
  have e0 : win0_5.index t (0 : Fin 2) = qrow t := (index_in t).2.2.2.2.2.1
  have e1 : win0_5.index t (1 : Fin 2) = t.val / 9 % 4 := (index_in t).2.2.2.2.2.2
  refine congrArg (m ((c.tc : Thread nD τ).loc main_arg3)) (funext fun a => Fin.ext ?_)
  match a with
  | ⟨0, _⟩ => show win0_5.index t (0 : Fin 2) * 256 + 1 * r.val = (i 0).val; rw [e0, h0]; omega
  | ⟨1, _⟩ => show win0_5.index t (1 : Fin 2) * 128 + 1 * d.val = (i 1).val; rw [e1, h1]; omega

/-! ## The output arrays -/

/-- The point that writes row `r` of the queries' gradient, in head `h`. -/
def qpoint (r : ℕ) (h : ℕ) (hr : r < 9216) (hh : h < 4) : Fin cfg0.N :=
  if r < 8192 then tile ⟨r / 2048 % 4, by omega⟩ ⟨h, hh⟩ ⟨r / 256 % 8, by omega⟩
  else tile ⟨(r - 8192) / 256 % 4, by omega⟩ ⟨h, hh⟩ 8

theorem qpoint_of (t : Fin cfg0.N) (r h : ℕ) (hr : r < 9216) (hh : h < 4) (e0 : r / 256 = qrow t) (e1 : h = t.val / 9 % 4) :
    (qpoint r h hr hh).val = t.val := by
  have ht : t.val < 144 := t.isLt
  have hd : t.val = t.val / 36 * 36 + t.val / 9 % 4 * 9 + t.val % 9 := by omega
  have hr8 : r / 2048 = r / 256 / 8 := by omega
  have hrc : (r - 8192) / 256 = r / 256 - 32 := by omega
  unfold qrow at e0
  unfold qpoint tile
  split at e0 <;> split
  · show r / 2048 % 4 * 36 + h * 9 + r / 256 % 8 = t.val
    rw [hr8, e0, e1]; omega
  · omega
  · omega
  · show (r - 8192) / 256 % 4 * 36 + h * 9 + 8 = t.val
    rw [hrc, e0, e1]; omega

/-- The queries' gradient at an index: its tile's. -/
def queriesAt (c : Dev nD) (r : Fin 9216) (k : Fin 1024) : Elt F .f32 :=
  dqAt m c (qpoint r.val (k.val / 256) r.isLt (by omega))
    (ix2 ⟨r.val % 256, Nat.mod_lt _ (by norm_num)⟩ ⟨k.val % 256, Nat.mod_lt _ (by norm_num)⟩)

/-- The queries' gradient. -/
def queries (c : Dev nD) : Buf (Elt F) ((c.tc : Thread nD τ).loc main_v0_0) := fun i => queriesAt m c (i 0) (i 1)

theorem queriesAt_tile (c : Dev nD) (t : Fin cfg0.N) (y : S256x256.Idx) (r : Fin 9216) (k : Fin 1024)
    (h0 : r.val = qrow t * 256 + (y 0).val) (h1 : k.val = t.val / 9 % 4 * 256 + (y 1).val) :
    dqAt m c t y = queriesAt m c r k := by
  have hy0 : (y 0).val < 256 := (y 0).isLt
  have hy1 : (y 1).val < 256 := (y 1).isLt
  unfold queriesAt
  rw [dqAt_congr m c (qpoint_of t r.val (k.val / 256) r.isLt (by omega) (by omega) (by omega))]
  exact congrArg (dqAt m c t) (ix2_of (show (y 0).val = r.val % 256 by omega) (show (y 1).val = k.val % 256 by omega))

theorem arr_queries (c : Dev nD) : (dats m 0 c).arrAt 6 cfg0.N = queries m c := by
  refine (dats m 0 c).arrAt_eq_of_cover 6 (queries m c) (fun t _ => funext fun y => ?_) fun i => ?_
  · have e0 : win0_6.index t (0 : Fin 2) = qrow t := (index_out t).1.1
    have e1 : win0_6.index t (1 : Fin 2) = t.val / 9 % 4 := (index_out t).1.2
    show (dats m 0 c).after 6 t ((cfg0.win 6).xinj (grid0.coords t) y) = _
    rw [after_6]
    refine queriesAt_tile m c t _ (((cfg0.win 6).blk t).view.emb y 0) (((cfg0.win 6).blk t).view.emb y 1) ?_ ?_
    · show win0_6.index t (0 : Fin 2) * 256 + 1 * (y 0).val = qrow t * 256 + (y 0).val; rw [e0]; omega
    · show win0_6.index t (1 : Fin 2) * 256 + 1 * (y 1).val = t.val / 9 % 4 * 256 + (y 1).val; rw [e1]; omega
  · have h0 : (i (0 : Fin 2)).val < 9216 := (i (0 : Fin 2)).isLt
    have h1 : (i (1 : Fin 2)).val < 1024 := (i (1 : Fin 2)).isLt
    obtain ⟨t, ht0, ht1⟩ : ∃ t : Fin cfg0.N, qrow t = (i (0 : Fin 2)).val / 256 ∧ t.val / 9 % 4 = (i (1 : Fin 2)).val / 256 :=
      (by decide +kernel : ∀ (a : Fin 36) (b : Fin 4), ∃ t : Fin grid0.N, qrow t = a.val ∧ t.val / 9 % 4 = b.val)
        ⟨(i (0 : Fin 2)).val / 256, by omega⟩ ⟨(i (1 : Fin 2)).val / 256, by omega⟩
    have e0 : win0_6.index t (0 : Fin 2) = qrow t := (index_out t).1.1
    have e1 : win0_6.index t (1 : Fin 2) = t.val / 9 % 4 := (index_out t).1.2
    refine ⟨t, flush0_6 t, ?_⟩
    have hi : (((cfg0.win 6).blk t).view.emb (ix2 (n0 := 256) (n1 := 256) ⟨(i (0 : Fin 2)).val % 256, Nat.mod_lt _ (by norm_num)⟩
        ⟨(i (1 : Fin 2)).val % 256, Nat.mod_lt _ (by norm_num)⟩) : S9216x1024.Idx) = i := by
      funext a; apply Fin.ext
      match a with
      | ⟨0, _⟩ => show win0_6.index t (0 : Fin 2) * 256 + 1 * ((i (0 : Fin 2)).val % 256) = (i (0 : Fin 2)).val; rw [e0, ht0]; omega
      | ⟨1, _⟩ => show win0_6.index t (1 : Fin 2) * 256 + 1 * ((i (1 : Fin 2)).val % 256) = (i (1 : Fin 2)).val; rw [e1, ht1]; omega
    exact hi ▸ View.emb_mem_set _ _

/-- The gradient of the sequences' keys: each element is what its head's last tile leaves. At an index. -/
def keysXAt (c : Dev nD) (r : Fin 8192) (k : Fin 1024) : Elt F .f32 :=
  (stAt m c (tile ⟨r.val / 2048, by omega⟩ ⟨k.val / 256, by omega⟩ 8).val (Fin.isLt _)).kx
    (ix2 ⟨r.val % 2048, Nat.mod_lt _ (by norm_num)⟩ ⟨k.val % 256, Nat.mod_lt _ (by norm_num)⟩)

/-- The gradient of the sequences' keys: each element is what its head's last tile leaves. -/
def keysX (c : Dev nD) : Buf (Elt F) ((c.tc : Thread nD τ).loc main_v0_1) := fun i => keysXAt m c (i 0) (i 1)

theorem keysXAt_tile (c : Dev nD) (t : Fin cfg0.N) (ht : t.val % 9 = 8) (y : S2048x256.Idx) (r : Fin 8192) (k : Fin 1024)
    (h0 : r.val = t.val / 36 * 2048 + (y 0).val) (h1 : k.val = t.val / 9 % 4 * 256 + (y 1).val) :
    (stAt m c t.val t.isLt).kx y = keysXAt m c r k := by
  have hy0 : (y 0).val < 2048 := (y 0).isLt
  have hy1 : (y 1).val < 256 := (y 1).isLt
  have e : (tile ⟨r.val / 2048, by omega⟩ ⟨k.val / 256, by omega⟩ 8).val = t.val := by
    show r.val / 2048 * 36 + k.val / 256 * 9 + 8 = t.val; omega
  unfold keysXAt
  rw [stAt_congr m c e _ t.isLt]
  exact congrArg (stAt m c t.val t.isLt).kx
    (ix2_of (show (y 0).val = r.val % 2048 by omega) (show (y 1).val = k.val % 256 by omega))

theorem arr_keysX (c : Dev nD) : (dats m 0 c).arrAt 7 cfg0.N = keysX m c := by
  refine (dats m 0 c).arrAt_eq_of_cover 7 (keysX m c) (fun t hf => funext fun y => ?_) fun i => ?_
  · have e0 : win0_7.index t (0 : Fin 2) = t.val / 36 := (index_out t).2.1.1
    have e1 : win0_7.index t (1 : Fin 2) = t.val / 9 % 4 := (index_out t).2.1.2
    show (dats m 0 c).after 7 t ((cfg0.win 7).xinj (grid0.coords t) y) = _
    rw [after_7]
    refine keysXAt_tile m c t ((flush0_7 t).mp hf) _ (((cfg0.win 7).blk t).view.emb y 0) (((cfg0.win 7).blk t).view.emb y 1) ?_ ?_
    · show win0_7.index t (0 : Fin 2) * 2048 + 1 * (y 0).val = t.val / 36 * 2048 + (y 0).val; rw [e0]; omega
    · show win0_7.index t (1 : Fin 2) * 256 + 1 * (y 1).val = t.val / 9 % 4 * 256 + (y 1).val; rw [e1]; omega
  · have h0 : (i (0 : Fin 2)).val < 8192 := (i (0 : Fin 2)).isLt
    have h1 : (i (1 : Fin 2)).val < 1024 := (i (1 : Fin 2)).isLt
    generalize ht : tile ⟨(i (0 : Fin 2)).val / 2048, by omega⟩ ⟨(i (1 : Fin 2)).val / 256, by omega⟩ 8 = t
    have e0 : win0_7.index t (0 : Fin 2) = (i (0 : Fin 2)).val / 2048 := (index_out t).2.1.1.trans (ht ▸ tile_seq _ _ _)
    have e1 : win0_7.index t (1 : Fin 2) = (i (1 : Fin 2)).val / 256 := (index_out t).2.1.2.trans (ht ▸ tile_head _ _ _)
    refine ⟨t, (flush0_7 t).mpr (ht ▸ tile_mod _ _ _), ?_⟩
    have hi : (((cfg0.win 7).blk t).view.emb (ix2 (n0 := 2048) (n1 := 256) ⟨(i (0 : Fin 2)).val % 2048, Nat.mod_lt _ (by norm_num)⟩
        ⟨(i (1 : Fin 2)).val % 256, Nat.mod_lt _ (by norm_num)⟩) : S8192x1024.Idx) = i := by
      funext a; apply Fin.ext
      match a with
      | ⟨0, _⟩ => show win0_7.index t (0 : Fin 2) * 2048 + 1 * ((i (0 : Fin 2)).val % 2048) = (i (0 : Fin 2)).val; rw [e0]; omega
      | ⟨1, _⟩ => show win0_7.index t (1 : Fin 2) * 256 + 1 * ((i (1 : Fin 2)).val % 256) = (i (1 : Fin 2)).val; rw [e1]; omega
    exact hi ▸ View.emb_mem_set _ _

/-- The gradient of the contexts' keys. At an index. -/
def keysCAt (c : Dev nD) (r : Fin 1024) (k : Fin 1024) : Elt F .f32 :=
  (stAt m c (tile ⟨r.val / 256, by omega⟩ ⟨k.val / 256, by omega⟩ 8).val (Fin.isLt _)).kh
    (ix2 ⟨r.val % 256, Nat.mod_lt _ (by norm_num)⟩ ⟨k.val % 256, Nat.mod_lt _ (by norm_num)⟩)

/-- The gradient of the contexts' keys. -/
def keysC (c : Dev nD) : Buf (Elt F) ((c.tc : Thread nD τ).loc main_v0_2) := fun i => keysCAt m c (i 0) (i 1)

theorem keysCAt_tile (c : Dev nD) (t : Fin cfg0.N) (ht : t.val % 9 = 8) (y : S256x256.Idx) (r : Fin 1024) (k : Fin 1024)
    (h0 : r.val = t.val / 36 * 256 + (y 0).val) (h1 : k.val = t.val / 9 % 4 * 256 + (y 1).val) :
    (stAt m c t.val t.isLt).kh y = keysCAt m c r k := by
  have hy0 : (y 0).val < 256 := (y 0).isLt
  have hy1 : (y 1).val < 256 := (y 1).isLt
  have e : (tile ⟨r.val / 256, by omega⟩ ⟨k.val / 256, by omega⟩ 8).val = t.val := by
    show r.val / 256 * 36 + k.val / 256 * 9 + 8 = t.val; omega
  unfold keysCAt
  rw [stAt_congr m c e _ t.isLt]
  exact congrArg (stAt m c t.val t.isLt).kh
    (ix2_of (show (y 0).val = r.val % 256 by omega) (show (y 1).val = k.val % 256 by omega))

theorem arr_keysC (c : Dev nD) : (dats m 0 c).arrAt 8 cfg0.N = keysC m c := by
  refine (dats m 0 c).arrAt_eq_of_cover 8 (keysC m c) (fun t hf => funext fun y => ?_) fun i => ?_
  · have e0 : win0_8.index t (0 : Fin 2) = t.val / 36 := (index_out t).2.2.1.1
    have e1 : win0_8.index t (1 : Fin 2) = t.val / 9 % 4 := (index_out t).2.2.1.2
    show (dats m 0 c).after 8 t ((cfg0.win 8).xinj (grid0.coords t) y) = _
    rw [after_8]
    refine keysCAt_tile m c t ((flush0_8 t).mp hf) _ (((cfg0.win 8).blk t).view.emb y 0) (((cfg0.win 8).blk t).view.emb y 1) ?_ ?_
    · show win0_8.index t (0 : Fin 2) * 256 + 1 * (y 0).val = t.val / 36 * 256 + (y 0).val; rw [e0]; omega
    · show win0_8.index t (1 : Fin 2) * 256 + 1 * (y 1).val = t.val / 9 % 4 * 256 + (y 1).val; rw [e1]; omega
  · have h0 : (i (0 : Fin 2)).val < 1024 := (i (0 : Fin 2)).isLt
    have h1 : (i (1 : Fin 2)).val < 1024 := (i (1 : Fin 2)).isLt
    generalize ht : tile ⟨(i (0 : Fin 2)).val / 256, by omega⟩ ⟨(i (1 : Fin 2)).val / 256, by omega⟩ 8 = t
    have e0 : win0_8.index t (0 : Fin 2) = (i (0 : Fin 2)).val / 256 := (index_out t).2.2.1.1.trans (ht ▸ tile_seq _ _ _)
    have e1 : win0_8.index t (1 : Fin 2) = (i (1 : Fin 2)).val / 256 := (index_out t).2.2.1.2.trans (ht ▸ tile_head _ _ _)
    refine ⟨t, (flush0_8 t).mpr (ht ▸ tile_mod _ _ _), ?_⟩
    have hi : (((cfg0.win 8).blk t).view.emb (ix2 (n0 := 256) (n1 := 256) ⟨(i (0 : Fin 2)).val % 256, Nat.mod_lt _ (by norm_num)⟩
        ⟨(i (1 : Fin 2)).val % 256, Nat.mod_lt _ (by norm_num)⟩) : S1024x1024.Idx) = i := by
      funext a; apply Fin.ext
      match a with
      | ⟨0, _⟩ => show win0_8.index t (0 : Fin 2) * 256 + 1 * ((i (0 : Fin 2)).val % 256) = (i (0 : Fin 2)).val; rw [e0]; omega
      | ⟨1, _⟩ => show win0_8.index t (1 : Fin 2) * 256 + 1 * ((i (1 : Fin 2)).val % 256) = (i (1 : Fin 2)).val; rw [e1]; omega
    exact hi ▸ View.emb_mem_set _ _

/-- The gradient of the sequences' values. At an index. -/
def valuesXAt (c : Dev nD) (r : Fin 8192) (k : Fin 512) : Elt F .f32 :=
  (stAt m c (tile ⟨r.val / 2048, by omega⟩ ⟨k.val / 128, by omega⟩ 8).val (Fin.isLt _)).vx
    (ix2 ⟨r.val % 2048, Nat.mod_lt _ (by norm_num)⟩ ⟨k.val % 128, Nat.mod_lt _ (by norm_num)⟩)

/-- The gradient of the sequences' values. -/
def valuesX (c : Dev nD) : Buf (Elt F) ((c.tc : Thread nD τ).loc main_v0_3) := fun i => valuesXAt m c (i 0) (i 1)

theorem valuesXAt_tile (c : Dev nD) (t : Fin cfg0.N) (ht : t.val % 9 = 8) (y : S2048x128.Idx) (r : Fin 8192) (k : Fin 512)
    (h0 : r.val = t.val / 36 * 2048 + (y 0).val) (h1 : k.val = t.val / 9 % 4 * 128 + (y 1).val) :
    (stAt m c t.val t.isLt).vx y = valuesXAt m c r k := by
  have hy0 : (y 0).val < 2048 := (y 0).isLt
  have hy1 : (y 1).val < 128 := (y 1).isLt
  have e : (tile ⟨r.val / 2048, by omega⟩ ⟨k.val / 128, by omega⟩ 8).val = t.val := by
    show r.val / 2048 * 36 + k.val / 128 * 9 + 8 = t.val; omega
  unfold valuesXAt
  rw [stAt_congr m c e _ t.isLt]
  exact congrArg (stAt m c t.val t.isLt).vx
    (ix2_of (show (y 0).val = r.val % 2048 by omega) (show (y 1).val = k.val % 128 by omega))

theorem arr_valuesX (c : Dev nD) : (dats m 0 c).arrAt 9 cfg0.N = valuesX m c := by
  refine (dats m 0 c).arrAt_eq_of_cover 9 (valuesX m c) (fun t hf => funext fun y => ?_) fun i => ?_
  · have e0 : win0_9.index t (0 : Fin 2) = t.val / 36 := (index_out t).2.2.2.1.1
    have e1 : win0_9.index t (1 : Fin 2) = t.val / 9 % 4 := (index_out t).2.2.2.1.2
    show (dats m 0 c).after 9 t ((cfg0.win 9).xinj (grid0.coords t) y) = _
    rw [after_9]
    refine valuesXAt_tile m c t ((flush0_9 t).mp hf) _ (((cfg0.win 9).blk t).view.emb y 0) (((cfg0.win 9).blk t).view.emb y 1) ?_ ?_
    · show win0_9.index t (0 : Fin 2) * 2048 + 1 * (y 0).val = t.val / 36 * 2048 + (y 0).val; rw [e0]; omega
    · show win0_9.index t (1 : Fin 2) * 128 + 1 * (y 1).val = t.val / 9 % 4 * 128 + (y 1).val; rw [e1]; omega
  · have h0 : (i (0 : Fin 2)).val < 8192 := (i (0 : Fin 2)).isLt
    have h1 : (i (1 : Fin 2)).val < 512 := (i (1 : Fin 2)).isLt
    generalize ht : tile ⟨(i (0 : Fin 2)).val / 2048, by omega⟩ ⟨(i (1 : Fin 2)).val / 128, by omega⟩ 8 = t
    have e0 : win0_9.index t (0 : Fin 2) = (i (0 : Fin 2)).val / 2048 := (index_out t).2.2.2.1.1.trans (ht ▸ tile_seq _ _ _)
    have e1 : win0_9.index t (1 : Fin 2) = (i (1 : Fin 2)).val / 128 := (index_out t).2.2.2.1.2.trans (ht ▸ tile_head _ _ _)
    refine ⟨t, (flush0_9 t).mpr (ht ▸ tile_mod _ _ _), ?_⟩
    have hi : (((cfg0.win 9).blk t).view.emb (ix2 (n0 := 2048) (n1 := 128) ⟨(i (0 : Fin 2)).val % 2048, Nat.mod_lt _ (by norm_num)⟩
        ⟨(i (1 : Fin 2)).val % 128, Nat.mod_lt _ (by norm_num)⟩) : S8192x512.Idx) = i := by
      funext a; apply Fin.ext
      match a with
      | ⟨0, _⟩ => show win0_9.index t (0 : Fin 2) * 2048 + 1 * ((i (0 : Fin 2)).val % 2048) = (i (0 : Fin 2)).val; rw [e0]; omega
      | ⟨1, _⟩ => show win0_9.index t (1 : Fin 2) * 128 + 1 * ((i (1 : Fin 2)).val % 128) = (i (1 : Fin 2)).val; rw [e1]; omega
    exact hi ▸ View.emb_mem_set _ _

/-- The gradient of the contexts' values. At an index. -/
def valuesCAt (c : Dev nD) (r : Fin 1024) (k : Fin 512) : Elt F .f32 :=
  (stAt m c (tile ⟨r.val / 256, by omega⟩ ⟨k.val / 128, by omega⟩ 8).val (Fin.isLt _)).vh
    (ix2 ⟨r.val % 256, Nat.mod_lt _ (by norm_num)⟩ ⟨k.val % 128, Nat.mod_lt _ (by norm_num)⟩)

/-- The gradient of the contexts' values. -/
def valuesC (c : Dev nD) : Buf (Elt F) ((c.tc : Thread nD τ).loc main_v0_4) := fun i => valuesCAt m c (i 0) (i 1)

theorem valuesCAt_tile (c : Dev nD) (t : Fin cfg0.N) (ht : t.val % 9 = 8) (y : S256x128.Idx) (r : Fin 1024) (k : Fin 512)
    (h0 : r.val = t.val / 36 * 256 + (y 0).val) (h1 : k.val = t.val / 9 % 4 * 128 + (y 1).val) :
    (stAt m c t.val t.isLt).vh y = valuesCAt m c r k := by
  have hy0 : (y 0).val < 256 := (y 0).isLt
  have hy1 : (y 1).val < 128 := (y 1).isLt
  have e : (tile ⟨r.val / 256, by omega⟩ ⟨k.val / 128, by omega⟩ 8).val = t.val := by
    show r.val / 256 * 36 + k.val / 128 * 9 + 8 = t.val; omega
  unfold valuesCAt
  rw [stAt_congr m c e _ t.isLt]
  exact congrArg (stAt m c t.val t.isLt).vh
    (ix2_of (show (y 0).val = r.val % 256 by omega) (show (y 1).val = k.val % 128 by omega))

theorem arr_valuesC (c : Dev nD) : (dats m 0 c).arrAt 10 cfg0.N = valuesC m c := by
  refine (dats m 0 c).arrAt_eq_of_cover 10 (valuesC m c) (fun t hf => funext fun y => ?_) fun i => ?_
  · have e0 : win0_10.index t (0 : Fin 2) = t.val / 36 := (index_out t).2.2.2.2.1
    have e1 : win0_10.index t (1 : Fin 2) = t.val / 9 % 4 := (index_out t).2.2.2.2.2
    show (dats m 0 c).after 10 t ((cfg0.win 10).xinj (grid0.coords t) y) = _
    rw [after_10]
    refine valuesCAt_tile m c t ((flush0_10 t).mp hf) _ (((cfg0.win 10).blk t).view.emb y 0) (((cfg0.win 10).blk t).view.emb y 1) ?_ ?_
    · show win0_10.index t (0 : Fin 2) * 256 + 1 * (y 0).val = t.val / 36 * 256 + (y 0).val; rw [e0]; omega
    · show win0_10.index t (1 : Fin 2) * 128 + 1 * (y 1).val = t.val / 9 % 4 * 128 + (y 1).val; rw [e1]; omega
  · have h0 : (i (0 : Fin 2)).val < 1024 := (i (0 : Fin 2)).isLt
    have h1 : (i (1 : Fin 2)).val < 512 := (i (1 : Fin 2)).isLt
    generalize ht : tile ⟨(i (0 : Fin 2)).val / 256, by omega⟩ ⟨(i (1 : Fin 2)).val / 128, by omega⟩ 8 = t
    have e0 : win0_10.index t (0 : Fin 2) = (i (0 : Fin 2)).val / 256 := (index_out t).2.2.2.2.1.trans (ht ▸ tile_seq _ _ _)
    have e1 : win0_10.index t (1 : Fin 2) = (i (1 : Fin 2)).val / 128 := (index_out t).2.2.2.2.2.trans (ht ▸ tile_head _ _ _)
    refine ⟨t, (flush0_10 t).mpr (ht ▸ tile_mod _ _ _), ?_⟩
    have hi : (((cfg0.win 10).blk t).view.emb (ix2 (n0 := 256) (n1 := 128) ⟨(i (0 : Fin 2)).val % 256, Nat.mod_lt _ (by norm_num)⟩
        ⟨(i (1 : Fin 2)).val % 128, Nat.mod_lt _ (by norm_num)⟩) : S1024x512.Idx) = i := by
      funext a; apply Fin.ext
      match a with
      | ⟨0, _⟩ => show win0_10.index t (0 : Fin 2) * 256 + 1 * ((i (0 : Fin 2)).val % 256) = (i (0 : Fin 2)).val; rw [e0]; omega
      | ⟨1, _⟩ => show win0_10.index t (1 : Fin 2) * 128 + 1 * ((i (1 : Fin 2)).val % 128) = (i (1 : Fin 2)).val; rw [e1]; omega
    exact hi ▸ View.emb_mem_set _ _

/-! ## The run -/

/-- The program leaves the five gradients in its result arrays and its arguments unchanged. -/
theorem run : θ_run defs (onTc (τ := τ) (main (F := F))) ⟨m, fun _ => 0, ρ⟩ fun r => ∀ c : Dev nD,
    (r.2.mem ((c.tc : Thread nD τ).loc main_v0_0) = queries m c
      ∧ r.2.mem ((c.tc : Thread nD τ).loc main_v0_1) = keysX m c
      ∧ r.2.mem ((c.tc : Thread nD τ).loc main_v0_2) = keysC m c
      ∧ r.2.mem ((c.tc : Thread nD τ).loc main_v0_3) = valuesX m c
      ∧ r.2.mem ((c.tc : Thread nD τ).loc main_v0_4) = valuesC m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c =>
    ⟨⟨((h.1.1 c).1 6).trans (arr_queries m c), ((h.1.1 c).1 7).trans (arr_keysX m c), ((h.1.1 c).1 8).trans (arr_keysC m c),
      ((h.1.1 c).1 9).trans (arr_valuesX m c), ((h.1.1 c).1 10).trans (arr_valuesC m c)⟩, h.2.1 c⟩)
    (θ_run_and (run_main m ρ) (frame m ρ))

end Cert.Attention
-- ==== Proof.Attention.Row.lean ====
/- The gradient of one query's attention over the real numbers: a softmax over a finite set of keys, its pullback, and
   the two forms in which programs compute it. Nothing here is about a program. -/
module

public import Idealize.ShloMosaic.PureOps.Ideal

@[expose] public section

noncomputable section

namespace Cert.Attention

open Idealize.ShloMosaic

/-! ## Real numbers among the extended ones -/

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Minus infinity as the pattern of a binary32 float. -/
theorem ofBits_bot : Ideal.ofBits .f32 4286578688#32 = ⊥ := by
  simp [Ideal.ofBits, Ideal.ieee]

/-- The greatest of finitely many real numbers. -/
def top {κ : Type} [Fintype κ] [Nonempty κ] (s : κ → ℝ) : ℝ := Finset.univ.sup' Finset.univ_nonempty s

/-- The running maximum from minus infinity is the greatest number. -/
theorem fold_max_coe {κ : Type} [Fintype κ] [Nonempty κ] (s : κ → ℝ) :
    Finset.univ.fold max (⊥ : EReal) (fun k => ((s k : ℝ) : EReal)) = ((top s : ℝ) : EReal) := by
  show Finset.univ.sup (fun k => ((s k : ℝ) : EReal)) = _
  rw [← Finset.sup'_eq_sup Finset.univ_nonempty, top]
  exact (Finset.comp_sup'_eq_sup'_comp Finset.univ_nonempty (g := Real.toEReal) (fun a b => EReal.coe_strictMono.monotone.map_max)).symm

/-- The greatest number of two families is the greater of the two greatest. -/
theorem top_sum {κ μ : Type} [Fintype κ] [Fintype μ] [Nonempty κ] [Nonempty μ] (s : κ ⊕ μ → ℝ) :
    top s = max (top fun k => s (.inl k)) (top fun k => s (.inr k)) := by
  unfold top
  apply le_antisymm
  · refine Finset.sup'_le _ _ fun k _ => ?_
    cases k with
    | inl k => exact le_max_of_le_left (Finset.le_sup' (fun k => s (.inl k)) (Finset.mem_univ k))
    | inr k => exact le_max_of_le_right (Finset.le_sup' (fun k => s (.inr k)) (Finset.mem_univ k))
  · refine max_le (Finset.sup'_le _ _ fun k _ => ?_) (Finset.sup'_le _ _ fun k _ => ?_)
    · exact Finset.le_sup' s (Finset.mem_univ (Sum.inl k))
    · exact Finset.le_sup' s (Finset.mem_univ (Sum.inr k))

/-- The greatest number does not depend on how the family is numbered. -/
theorem top_equiv {κ μ : Type} [Fintype κ] [Fintype μ] [Nonempty κ] [Nonempty μ] (e : κ ≃ μ) (s : μ → ℝ) :
    top (fun k => s (e k)) = top s := by
  unfold top
  apply le_antisymm
  · exact Finset.sup'_le _ _ fun k _ => Finset.le_sup' s (Finset.mem_univ (e k))
  · refine Finset.sup'_le _ _ fun k _ => ?_
    have h : s (e (e.symm k)) ≤ _ := Finset.le_sup' (fun k => s (e k)) (Finset.mem_univ (e.symm k))
    rwa [Equiv.apply_symm_apply] at h

/-! ## One query -/

variable {κ : Type} [Fintype κ] {n m : ℕ}

/-- The query's score against each key. -/
def score (q : Fin n → ℝ) (k : κ → Fin n → ℝ) (j : κ) : ℝ := ∑ d, q d * k j d

/-- A key's weight: the exponential of its score less the greatest score. -/
def weight [Nonempty κ] (q : Fin n → ℝ) (k : κ → Fin n → ℝ) (j : κ) : ℝ := Real.exp (score q k j - top (score q k))

/-- The sum of the weights. -/
def mass [Nonempty κ] (q : Fin n → ℝ) (k : κ → Fin n → ℝ) : ℝ := ∑ j, weight q k j

/-- The probability of a key. -/
def prob [Nonempty κ] (q : Fin n → ℝ) (k : κ → Fin n → ℝ) (j : κ) : ℝ := weight q k j / mass q k

/-- The output's gradient pulled back to a key's probability. -/
def pull (g : Fin m → ℝ) (v : κ → Fin m → ℝ) (j : κ) : ℝ := ∑ e, g e * v j e

/-- The gradient of a key's score, through the softmax. -/
def dscore [Nonempty κ] (q : Fin n → ℝ) (k : κ → Fin n → ℝ) (v : κ → Fin m → ℝ) (g : Fin m → ℝ) (j : κ) : ℝ :=
  (pull g v j / mass q k - ∑ i, pull g v i * (1 / (mass q k * mass q k)) * weight q k i) * weight q k j

theorem mass_pos [Nonempty κ] (q : Fin n → ℝ) (k : κ → Fin n → ℝ) : 0 < mass q k :=
  Finset.sum_pos (fun _ _ => Real.exp_pos _) Finset.univ_nonempty

theorem mass_ne [Nonempty κ] (q : Fin n → ℝ) (k : κ → Fin n → ℝ) : mass q k ≠ 0 := (mass_pos q k).ne'

/-- The same gradient where the weighted values are summed first and then multiplied by the output's gradient. -/
theorem dscore_values [Nonempty κ] (q : Fin n → ℝ) (k : κ → Fin n → ℝ) (v : κ → Fin m → ℝ) (g : Fin m → ℝ) (j : κ) :
    (∑ e, g e * (1 / mass q k) * v j e
        + (0 - (∑ e, (∑ i, weight q k i * v i e) * g e) * (1 / (mass q k * mass q k)))) * weight q k j
      = dscore q k v g j := by
  have h1 : ∑ e, g e * (1 / mass q k) * v j e = pull g v j / mass q k := by
    rw [pull, Finset.sum_div]
    exact Finset.sum_congr rfl fun e _ => by ring
  have h2 : (∑ e, (∑ i, weight q k i * v i e) * g e) * (1 / (mass q k * mass q k))
      = ∑ i, pull g v i * (1 / (mass q k * mass q k)) * weight q k i := by
    simp only [pull, Finset.sum_mul]
    rw [Finset.sum_comm]
    exact Finset.sum_congr rfl fun i _ => Finset.sum_congr rfl fun e _ => by ring
  rw [h1, h2, zero_sub, ← sub_eq_add_neg, dscore]

/-! ### The numbering of the keys does not matter -/

variable {μ : Type} [Fintype μ]

theorem weight_equiv [Nonempty κ] [Nonempty μ] (σ : κ ≃ μ) (q : Fin n → ℝ) (k : μ → Fin n → ℝ) (j : κ) :
    weight q (fun j => k (σ j)) j = weight q k (σ j) := by
  unfold weight
  rw [← top_equiv σ (score q k)]; rfl

theorem mass_equiv [Nonempty κ] [Nonempty μ] (σ : κ ≃ μ) (q : Fin n → ℝ) (k : μ → Fin n → ℝ) :
    mass q (fun j => k (σ j)) = mass q k := by
  unfold mass
  rw [← Equiv.sum_comp σ]
  exact Finset.sum_congr rfl fun j _ => weight_equiv σ q k j

theorem prob_equiv [Nonempty κ] [Nonempty μ] (σ : κ ≃ μ) (q : Fin n → ℝ) (k : μ → Fin n → ℝ) (j : κ) :
    prob q (fun j => k (σ j)) j = prob q k (σ j) := by
  unfold prob
  rw [weight_equiv, mass_equiv]

theorem dscore_equiv [Nonempty κ] [Nonempty μ] (σ : κ ≃ μ) (q : Fin n → ℝ) (k : μ → Fin n → ℝ) (v : μ → Fin m → ℝ)
    (g : Fin m → ℝ) (j : κ) :
    dscore q (fun j => k (σ j)) (fun j => v (σ j)) g j = dscore q k v g (σ j) := by
  unfold dscore
  rw [weight_equiv, mass_equiv, ← Equiv.sum_comp σ (fun i => pull g v i * (1 / (mass q k * mass q k)) * weight q k i)]
  simp only [weight_equiv]; rfl

end Cert.Attention
-- ==== Proof.Attention.Tile.lean ====
/- What one grid point of the attention gradient's kernel computes, read at an index over the real numbers: the values
   of Body.lean, where the blocks hold real numbers, are the sums of Row.lean. -/
module

public import proofs.«01_k».proof.Proof.Attention.Body
public import proofs.«01_k».proof.Proof.Attention.Row
public import Idealize.ShloMosaic.Lib.Pointwise

@[expose] public section

set_option maxRecDepth 16384

noncomputable section

namespace Cert.Attention

open Idealize.ShloMosaic Cert.KernelIdeal Cert.KernelIdeal.Gen

variable {x0 x3 : Vec Ideal S256x256 .bf16} {x1 : Vec Ideal S2048x256 .bf16} {x2 : Vec Ideal S2048x128 .bf16}
  {x4 : Vec Ideal S256x128 .bf16} {x5 : Vec Ideal S256x128 .f32}
  {q kh : Fin 256 → Fin 256 → ℝ} {kx : Fin 2048 → Fin 256 → ℝ} {vx : Fin 2048 → Fin 128 → ℝ}
  {vh g : Fin 256 → Fin 128 → ℝ}

/-! ## A tile of sequence queries -/

section Sequence

variable (h0 : ∀ r d, x0 (ix2 r d) = ((q r d : ℝ) : EReal)) (h1 : ∀ j d, x1 (ix2 j d) = ((kx j d : ℝ) : EReal))
  (h2 : ∀ j e, x2 (ix2 j e) = ((vx j e : ℝ) : EReal)) (h3 : ∀ j d, x3 (ix2 j d) = ((kh j d : ℝ) : EReal))
  (h4 : ∀ j e, x4 (ix2 j e) = ((vh j e : ℝ) : EReal)) (h5 : ∀ r e, x5 (ix2 r e) = ((g r e : ℝ) : EReal))

include h0 h1 in
theorem scoreX_apply (r : Fin 256) (j : Fin 2048) :
    k0_pay11 x0 x1 (ix2 r j) = ((score (q r) (Sum.elim kx kh) (.inl j) : ℝ) : EReal) := by
  pointwise [k0_pay11, k0_pay6, k0_pay7]
  simp only [h0, h1, ← EReal.coe_mul, coe_sum]; rfl

include h0 h3 in
theorem scoreH_apply (r : Fin 256) (j : Fin 256) :
    k0_pay12 x0 x3 (ix2 r j) = ((score (q r) (Sum.elim kx kh) (.inr j) : ℝ) : EReal) := by
  pointwise [k0_pay12, k0_pay6, k0_pay9]
  simp only [h0, h3, ← EReal.coe_mul, coe_sum]; rfl

include h0 h1 h3

theorem top_apply (r : Fin 256) :
    k0_pay13 x0 x1 x3 (ix2 r 0) = ((top (score (q r) (Sum.elim kx kh)) : ℝ) : EReal) := by
  pointwise [k0_pay13]
  simp only [scoreX_apply (kh := kh) h0 h1, scoreH_apply (kx := kx) h0 h3, ofBits_bot, fold_max_coe, top_sum]
  exact (EReal.coe_strictMono.monotone.map_max).symm

theorem weightX_apply (r : Fin 256) (j : Fin 2048) :
    k0_pay14 x0 x1 x3 (ix2 r j) = ((weight (q r) (Sum.elim kx kh) (.inl j) : ℝ) : EReal) := by
  pointwise [k0_pay14]
  rw [scoreX_apply (kh := kh) h0 h1, top_apply h0 h1 h3, ← EReal.coe_sub]; rfl

theorem weightH_apply (r : Fin 256) (j : Fin 256) :
    k0_pay15 x0 x1 x3 (ix2 r j) = ((weight (q r) (Sum.elim kx kh) (.inr j) : ℝ) : EReal) := by
  pointwise [k0_pay15]
  rw [scoreH_apply (kx := kx) h0 h3, top_apply h0 h1 h3, ← EReal.coe_sub]; rfl

theorem mass_apply (r : Fin 256) :
    k0_pay16 x0 x1 x3 (ix2 r 0) = ((mass (q r) (Sum.elim kx kh) : ℝ) : EReal) := by
  pointwise [k0_pay16]
  simp only [weightX_apply h0 h1 h3, weightH_apply h0 h1 h3, coe_sum, ← EReal.coe_add]
  rw [mass, Fintype.sum_sum_type]

theorem inv_apply (r : Fin 256) :
    k0_pay17 x0 x1 x3 (ix2 r 0) = ((1 / mass (q r) (Sum.elim kx kh) : ℝ) : EReal) := by
  pointwise [k0_pay17]
  rw [mass_apply h0 h1 h3, Ideal.div_coe (mass_ne _ _), one_mul]

theorem inv2_apply (r : Fin 256) :
    k0_pay18 x0 x1 x3 (ix2 r 0)
      = ((1 / (mass (q r) (Sum.elim kx kh) * mass (q r) (Sum.elim kx kh)) : ℝ) : EReal) := by
  pointwise [k0_pay18]
  rw [mass_apply h0 h1 h3, ← EReal.coe_mul, Ideal.div_coe (mul_ne_zero (mass_ne _ _) (mass_ne _ _)), one_mul]

include h5 in
theorem dnum_apply (r : Fin 256) (e : Fin 128) :
    k0_pay21 (k0_pay17 x0 x1 x3) x5 (ix2 r e) = ((g r e * (1 / mass (q r) (Sum.elim kx kh)) : ℝ) : EReal) := by
  pointwise [k0_pay21]
  rw [inv_apply h0 h1 h3, h5, ← EReal.coe_mul]

include h5 in
theorem dvX_apply (j : Fin 2048) (e : Fin 128) :
    k0_pay23 (k0_pay14 x0 x1 x3) (k0_pay17 x0 x1 x3) x5 (ix2 j e)
      = ((∑ r, prob (q r) (Sum.elim kx kh) (.inl j) * g r e : ℝ) : EReal) := by
  pointwise [k0_pay23]
  simp only [weightX_apply h0 h1 h3, dnum_apply h0 h1 h3 h5, ← EReal.coe_mul, coe_sum]
  exact congrArg _ (Finset.sum_congr rfl fun r _ => by rw [prob]; ring)

include h5 in
theorem dvH_apply (j : Fin 256) (e : Fin 128) :
    k0_pay22 (k0_pay15 x0 x1 x3) (k0_pay17 x0 x1 x3) x5 (ix2 j e)
      = ((∑ r, prob (q r) (Sum.elim kx kh) (.inr j) * g r e : ℝ) : EReal) := by
  pointwise [k0_pay22]
  simp only [weightH_apply h0 h1 h3, dnum_apply h0 h1 h3 h5, ← EReal.coe_mul, coe_sum]
  exact congrArg _ (Finset.sum_congr rfl fun r _ => by rw [prob]; ring)

include h2 h4 h5

theorem shift_apply (r : Fin 256) :
    k0_pay24 (k0_pay10 x4) (k0_pay18 x0 x1 x3) (k0_pay19 x0 x1 x2 x3) (k0_pay20 x0 x1 x3) x5 (ix2 r 0)
      = ((0 - (∑ e, (∑ i, weight (q r) (Sum.elim kx kh) i * Sum.elim vx vh i e) * g r e)
          * (1 / (mass (q r) (Sum.elim kx kh) * mass (q r) (Sum.elim kx kh))) : ℝ) : EReal) := by
  pointwise [k0_pay24, k0_pay10, k0_pay19, k0_pay20, k0_pay8]
  simp only [inv2_apply h0 h1 h3, weightX_apply h0 h1 h3, weightH_apply h0 h1 h3, h2, h4, h5, ← EReal.coe_mul, coe_sum,
    ← EReal.coe_add]
  rw [← EReal.coe_zero, ← EReal.coe_sub]
  simp only [Fintype.sum_sum_type, Sum.elim_inl, Sum.elim_inr]

theorem dscoreX_apply (r : Fin 256) (j : Fin 2048) :
    k0_pay26 (k0_pay8 x2) (k0_pay10 x4) (k0_pay14 x0 x1 x3) (k0_pay17 x0 x1 x3) (k0_pay18 x0 x1 x3)
        (k0_pay19 x0 x1 x2 x3) (k0_pay20 x0 x1 x3) x5 (ix2 r j)
      = ((dscore (q r) (Sum.elim kx kh) (Sum.elim vx vh) (g r) (.inl j) : ℝ) : EReal) := by
  have h2' : ∀ j e, k0_pay8 x2 (ix2 j e) = ((vx j e : ℝ) : EReal) := h2
  pointwise [k0_pay26]
  simp only [Fin.sum_univ_one, Fin.isValue, shift_apply h0 h1 h2 h3 h4 h5, dnum_apply h0 h1 h3 h5,
    weightX_apply h0 h1 h3, h2', ← EReal.coe_mul, coe_sum, ← EReal.coe_add]
  rw [← dscore_values]; rfl

theorem dscoreH_apply (r : Fin 256) (j : Fin 256) :
    k0_pay25 (k0_pay10 x4) (k0_pay15 x0 x1 x3) (k0_pay17 x0 x1 x3) (k0_pay18 x0 x1 x3)
        (k0_pay19 x0 x1 x2 x3) (k0_pay20 x0 x1 x3) x5 (ix2 r j)
      = ((dscore (q r) (Sum.elim kx kh) (Sum.elim vx vh) (g r) (.inr j) : ℝ) : EReal) := by
  have h4' : ∀ j e, k0_pay10 x4 (ix2 j e) = ((vh j e : ℝ) : EReal) := h4
  pointwise [k0_pay25]
  simp only [Fin.sum_univ_one, Fin.isValue, shift_apply h0 h1 h2 h3 h4 h5, dnum_apply h0 h1 h3 h5,
    weightH_apply h0 h1 h3, h4', ← EReal.coe_mul, coe_sum, ← EReal.coe_add]
  rw [← dscore_values]; rfl

/-- The gradient of a tile's queries: each key times the gradient of its score, summed over the keys. -/
theorem dqX_apply (r d : Fin 256) :
    dqX x0 x1 x2 x3 x4 x5 (ix2 r d)
      = ((∑ j, dscore (q r) (Sum.elim kx kh) (Sum.elim vx vh) (g r) j * Sum.elim kx kh j d : ℝ) : EReal) := by
  pointwise [dqX, k0_pay30, k0_pay27, k0_pay29, k0_pay9, k0_pay7]
  simp only [dscoreX_apply h0 h1 h2 h3 h4 h5, dscoreH_apply h0 h1 h2 h3 h4 h5, h1, h3, ← EReal.coe_mul, coe_sum,
    ← EReal.coe_add]
  rw [Fintype.sum_sum_type, add_comm]; rfl

/-- What a tile adds to the gradient of the sequence's keys. -/
theorem stepX_kx (a : Grads Ideal) (j : Fin 2048) (d : Fin 256) :
    (stepX x0 x1 x2 x3 x4 x5 a).kx (ix2 j d)
      = a.kx (ix2 j d)
        + ((∑ r, dscore (q r) (Sum.elim kx kh) (Sum.elim vx vh) (g r) (.inl j) * q r d : ℝ) : EReal) := by
  pointwise [stepX, k0_pay32, k0_pay6]
  simp only [dscoreX_apply h0 h1 h2 h3 h4 h5, h0, ← EReal.coe_mul, coe_sum]

/-- What a tile adds to the gradient of the context's keys. -/
theorem stepX_kh (a : Grads Ideal) (j d : Fin 256) :
    (stepX x0 x1 x2 x3 x4 x5 a).kh (ix2 j d)
      = a.kh (ix2 j d)
        + ((∑ r, dscore (q r) (Sum.elim kx kh) (Sum.elim vx vh) (g r) (.inr j) * q r d : ℝ) : EReal) := by
  pointwise [stepX, k0_pay36, k0_pay28, k0_pay6]
  simp only [dscoreH_apply h0 h1 h2 h3 h4 h5, h0, ← EReal.coe_mul, coe_sum]

omit h2 h4 in
/-- What a tile adds to the gradient of the sequence's values. -/
theorem stepX_vx (a : Grads Ideal) (j : Fin 2048) (e : Fin 128) :
    (stepX x0 x1 x2 x3 x4 x5 a).vx (ix2 j e)
      = a.vx (ix2 j e) + ((∑ r, prob (q r) (Sum.elim kx kh) (.inl j) * g r e : ℝ) : EReal) := by
  pointwise [stepX, k0_pay34]
  rw [dvX_apply h0 h1 h3 h5]

omit h2 h4 in
/-- What a tile adds to the gradient of the context's values. -/
theorem stepX_vh (a : Grads Ideal) (j : Fin 256) (e : Fin 128) :
    (stepX x0 x1 x2 x3 x4 x5 a).vh (ix2 j e)
      = a.vh (ix2 j e) + ((∑ r, prob (q r) (Sum.elim kx kh) (.inr j) * g r e : ℝ) : EReal) := by
  pointwise [stepX, k0_pay1]
  rw [dvH_apply h0 h1 h3 h5]

end Sequence

/-! ## The tile of context queries -/

section Context

variable (h0 : ∀ r d, x0 (ix2 r d) = ((q r d : ℝ) : EReal)) (h3 : ∀ j d, x3 (ix2 j d) = ((kh j d : ℝ) : EReal))
  (h4 : ∀ j e, x4 (ix2 j e) = ((vh j e : ℝ) : EReal)) (h5 : ∀ r e, x5 (ix2 r e) = ((g r e : ℝ) : EReal))

include h0 h3

theorem weightC_apply (r j : Fin 256) :
    k0_pay41 x0 x3 (ix2 r j) = ((weight (q r) kh j : ℝ) : EReal) := by
  pointwise [k0_pay41, k0_pay38, k0_pay39]
  simp only [h0, h3, ← EReal.coe_mul, coe_sum, ofBits_bot, fold_max_coe, ← EReal.coe_sub]; rfl

theorem massC_apply (r : Fin 256) :
    k0_pay42 x0 x3 (ix2 r 0) = ((mass (q r) kh : ℝ) : EReal) := by
  pointwise [k0_pay42]
  simp only [weightC_apply h0 h3, coe_sum]; rfl

include h5 in
theorem dnumC_apply (r : Fin 256) (e : Fin 128) :
    k0_pay43 x0 x3 x5 (ix2 r e) = ((g r e * (1 / mass (q r) kh) : ℝ) : EReal) := by
  pointwise [k0_pay43]
  rw [massC_apply h0 h3, Ideal.div_coe (mass_ne _ _), one_mul, h5, ← EReal.coe_mul]

include h4 h5

theorem shiftC_apply (r j : Fin 256) :
    k0_pay44 x0 x3 x4 x5 (ix2 r j)
      = ((0 - (∑ e, (∑ i, weight (q r) kh i * vh i e) * g r e) * (1 / (mass (q r) kh * mass (q r) kh)) : ℝ)
          : EReal) := by
  pointwise [k0_pay44, k0_pay40]
  simp only [massC_apply h0 h3, weightC_apply h0 h3, h4, h5, ← EReal.coe_mul, coe_sum,
    Ideal.div_coe (mul_ne_zero (mass_ne _ _) (mass_ne _ _)), one_mul, Fin.sum_univ_one]
  rw [← EReal.coe_zero, ← EReal.coe_sub]

theorem dscoreC_apply (r j : Fin 256) :
    k0_pay2 (k0_pay41 x0 x3) (k0_pay44 x0 x3 x4 x5) (k0_pay45 x0 x3 x4 x5) (ix2 r j)
      = ((dscore (q r) kh vh (g r) j : ℝ) : EReal) := by
  pointwise [k0_pay2, k0_pay45, k0_pay40]
  simp only [shiftC_apply h0 h3 h4 h5, dnumC_apply h0 h3 h5, weightC_apply h0 h3, h4, ← EReal.coe_mul, coe_sum,
    ← EReal.coe_add]
  rw [← dscore_values, add_comm]

/-- The gradient of the context tile's queries. -/
theorem dqH_apply (r d : Fin 256) :
    dqH x0 x3 x4 x5 (ix2 r d) = ((∑ j, dscore (q r) kh vh (g r) j * kh j d : ℝ) : EReal) := by
  pointwise [dqH, k0_pay3, k0_pay39]
  simp only [dscoreC_apply h0 h3 h4 h5, h3, ← EReal.coe_mul, coe_sum]

/-- What the context tile adds to the gradient of the context's keys. -/
theorem stepH_kh (a : Grads Ideal) (j d : Fin 256) :
    (stepH x0 x3 x4 x5 a).kh (ix2 j d)
      = a.kh (ix2 j d) + ((∑ r, dscore (q r) kh vh (g r) j * q r d : ℝ) : EReal) := by
  pointwise [stepH, k0_pay4, k0_pay38]
  simp only [dscoreC_apply h0 h3 h4 h5, h0, ← EReal.coe_mul, coe_sum]

omit h4 in
/-- What the context tile adds to the gradient of the context's values. -/
theorem stepH_vh (a : Grads Ideal) (j : Fin 256) (e : Fin 128) :
    (stepH x0 x3 x4 x5 a).vh (ix2 j e)
      = a.vh (ix2 j e) + ((∑ r, prob (q r) kh j * g r e : ℝ) : EReal) := by
  pointwise [stepH, k0_pay5]
  simp only [weightC_apply h0 h3, dnumC_apply h0 h3 h5, ← EReal.coe_mul, coe_sum]
  exact congrArg _ (congrArg _ (Finset.sum_congr rfl fun r _ => by rw [prob]; ring))

end Context

/-! ## The start -/

theorem zero_kx (j : Fin 2048) (d : Fin 256) : (Grads.zero : Grads Ideal).kx (ix2 j d) = 0 := by
  pointwise [Grads.zero, k0_pay31]

theorem zero_kh (j d : Fin 256) : (Grads.zero : Grads Ideal).kh (ix2 j d) = 0 := by
  pointwise [Grads.zero, k0_pay35]

theorem zero_vx (j : Fin 2048) (e : Fin 128) : (Grads.zero : Grads Ideal).vx (ix2 j e) = 0 := by
  pointwise [Grads.zero, k0_pay33]

theorem zero_vh (j : Fin 256) (e : Fin 128) : (Grads.zero : Grads Ideal).vh (ix2 j e) = 0 := by
  pointwise [Grads.zero, k0_pay37]

end Cert.Attention
-- ==== Proof.Attention.Layout.lean ====
/- Where a query, a key or a value lies in the arrays. An array has 8192 rows of four sequences of 2048 positions, then
   1024 rows of four contexts of 256; its columns are four heads. -/
module

public import proofs.«01_k».proof.Proof.Attention.Row

@[expose] public section

noncomputable section

namespace Cert.Attention

/-- The row of position `i` of sequence `b`. -/
def row (b : Fin 4) (i : Fin 2048) : Fin 9216 := ⟨b.val * 2048 + i.val, by omega⟩
/-- The row of position `i` of the context of sequence `b`. -/
def rowC (b : Fin 4) (i : Fin 256) : Fin 9216 := ⟨8192 + (b.val * 256 + i.val), by omega⟩
/-- The column of feature `d` of head `h`, where heads are `n` wide. -/
def col (n w : ℕ) (hw : 4 * n ≤ w) (h : Fin 4) (d : Fin n) : Fin w :=
  ⟨h.val * n + d.val, by have := Nat.mul_le_mul_right n (show h.val + 1 ≤ 4 from h.isLt); have := d.isLt; lia⟩

/-- Position `i` of sequence `b`, of head `h`, from an array `w` columns wide. -/
def seq {α : Type} {w : ℕ} (n : ℕ) (hw : 4 * n ≤ w) (A : Fin 9216 → Fin w → α) (b h : Fin 4) (i : Fin 2048) (d : Fin n) : α :=
  A (row b i) (col n w hw h d)
/-- Position `i` of the context of sequence `b`, of head `h`, from an array `w` columns wide. -/
def ctx {α : Type} {w : ℕ} (n : ℕ) (hw : 4 * n ≤ w) (A : Fin 9216 → Fin w → α) (b h : Fin 4) (i : Fin 256) (d : Fin n) : α :=
  A (rowC b i) (col n w hw h d)

/-- The keys or values a query of the sequence attends to: those of its sequence, then those of its context. -/
def both {α : Type} {w : ℕ} (n : ℕ) (hw : 4 * n ≤ w) (A : Fin 9216 → Fin w → α) (b h : Fin 4) :
    Fin 2048 ⊕ Fin 256 → Fin n → α := Sum.elim (seq n hw A b h) (ctx n hw A b h)

/-- The same under one numbering. -/
def joined {α : Type} {w : ℕ} (n : ℕ) (hw : 4 * n ≤ w) (A : Fin 9216 → Fin w → α) (b h : Fin 4) (j : Fin 2304) : Fin n → α :=
  both n hw A b h ((finSumFinEquiv (m := 2048) (n := 256)).symm j)

/-- The row of position `i` of sequence `b` in an array of the sequences alone. -/
def rowS (b : Fin 4) (i : Fin 2048) : Fin 8192 := ⟨b.val * 2048 + i.val, by omega⟩
/-- The row of position `i` of the context of sequence `b` in an array of the contexts alone. -/
def rowK (b : Fin 4) (i : Fin 256) : Fin 1024 := ⟨b.val * 256 + i.val, by omega⟩

/-- The numbers of the joined keys. -/
abbrev numbers : Fin 2304 ≃ Fin 2048 ⊕ Fin 256 := (finSumFinEquiv (m := 2048) (n := 256)).symm

/-- The numbering does not change the gradient of a score. -/
theorem dscore_joined {n m w w' : ℕ} (hn : 4 * n ≤ w) (hm : 4 * m ≤ w') (K : Fin 9216 → Fin w → ℝ) (V : Fin 9216 → Fin w' → ℝ)
    (b h : Fin 4) (q : Fin n → ℝ) (g : Fin m → ℝ) (j : Fin 2304) :
    dscore q (joined n hn K b h) (joined m hm V b h) g j = dscore q (both n hn K b h) (both m hm V b h) g (numbers j) :=
  dscore_equiv numbers q (both n hn K b h) (both m hm V b h) g j

/-- The numbering does not change a probability. -/
theorem prob_joined {n w : ℕ} (hn : 4 * n ≤ w) (K : Fin 9216 → Fin w → ℝ) (b h : Fin 4) (q : Fin n → ℝ) (j : Fin 2304) :
    prob q (joined n hn K b h) j = prob q (both n hn K b h) (numbers j) :=
  prob_equiv numbers q (both n hn K b h) j

/-- Nor the gradient of a query. -/
theorem dq_joined {n m w w' : ℕ} (hn : 4 * n ≤ w) (hm : 4 * m ≤ w') (K : Fin 9216 → Fin w → ℝ) (V : Fin 9216 → Fin w' → ℝ)
    (b h : Fin 4) (q : Fin n → ℝ) (g : Fin m → ℝ) (d : Fin n) :
    ∑ j, dscore q (joined n hn K b h) (joined m hm V b h) g j * joined n hn K b h j d
      = ∑ j, dscore q (both n hn K b h) (both m hm V b h) g j * both n hn K b h j d := by
  rw [← Equiv.sum_comp numbers]
  exact Finset.sum_congr rfl fun j _ => by rw [dscore_joined]; rfl

/-- The number of a sequence's key is its position. -/
theorem numbers_seq (j : Fin 2304) (i : Fin 2048) (h : j.val = i.val) : numbers j = .inl i := by
  rw [Equiv.symm_apply_eq]; exact Fin.ext h
/-- The number of a context's key is its position after the sequence. -/
theorem numbers_ctx (j : Fin 2304) (i : Fin 256) (h : j.val = 2048 + i.val) : numbers j = .inr i := by
  rw [Equiv.symm_apply_eq]; exact Fin.ext h

/-- Four heads 256 wide fill 1024 columns. -/
theorem le1 : 4 * 256 ≤ 1024 := by norm_num
/-- Four heads 128 wide fill 512 columns. -/
theorem le2 : 4 * 128 ≤ 512 := by norm_num
/-- Four heads 128 wide fit into 1024 columns. -/
theorem le3 : 4 * 128 ≤ 1024 := by norm_num

/-- Every column of an array that the heads fill belongs to a head. -/
theorem col_surj {n w : ℕ} (hw : 4 * n ≤ w) (hn : w = 4 * n) (c : Fin w) : ∃ h d, c = col n w hw h d := by
  have hpos : 0 < n := by have := c.isLt; omega
  refine ⟨⟨c.val / n, Nat.div_lt_of_lt_mul (by have := c.isLt; lia)⟩, ⟨c.val % n, Nat.mod_lt _ hpos⟩, Fin.ext ?_⟩
  exact (Nat.div_add_mod' c.val n).symm

/-- Every row is a position of a sequence or of a context. -/
theorem row_cases (r : Fin 9216) : (∃ b i, r = row b i) ∨ ∃ b i, r = rowC b i := by
  by_cases hr : r.val < 8192
  · exact .inl ⟨⟨r.val / 2048, by omega⟩, ⟨r.val % 2048, by omega⟩, Fin.ext (by simp only [row]; omega)⟩
  · exact .inr ⟨⟨(r.val - 8192) / 256, by omega⟩, ⟨(r.val - 8192) % 256, by omega⟩, Fin.ext (by simp only [rowC]; omega)⟩

end Cert.Attention
-- ==== Proof.Attention.Reference.lean ====
/- What the reference computes, read at an index over the real numbers: the gradients of the sequences' and of the
   contexts' attention are the sums of Row.lean over the rows of Layout.lean. -/
module

public import proofs.«01_k».proof.Proof.Attention.Layout
public import proofs.«01_k».proof.Proof.Gen.ReferenceIdeal.Read
public import Idealize.ShloMosaic.Lib.Pointwise

@[expose] public section

set_option maxRecDepth 16384

noncomputable section

namespace Cert.Attention.Reference

open Idealize.ShloMosaic Cert.ReferenceIdeal Cert.ReferenceIdeal.Gen Cert.ReferenceIdeal.Read

/-- A row's maximum, folded from minus infinity. -/
theorem rowMax {s t u : Shape} {a : Fin s.rank} (x : s.Idx → EReal) (init : u.Idx → EReal) (h' : s.ReducesTo [a] t)
    (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (x ∘ h.lift j) :=
  Host.reduce_eq_fold_single (max : EReal → EReal → EReal) x init h' h hu j

variable {x0 x1 : Vec Ideal S9216x1024 .bf16} {x2 : Vec Ideal S9216x512 .bf16} {x3 : Vec Ideal S9216x1024 .f32}
  {Q K G : Fin 9216 → Fin 1024 → ℝ} {V : Fin 9216 → Fin 512 → ℝ}
  (h0 : ∀ r c, x0 (ix2 r c) = ((Q r c : ℝ) : EReal)) (h1 : ∀ r c, x1 (ix2 r c) = ((K r c : ℝ) : EReal))
  (h2 : ∀ r c, x2 (ix2 r c) = ((V r c : ℝ) : EReal)) (h3 : ∀ r c, x3 (ix2 r c) = ((G r c : ℝ) : EReal))

/-! ## The arguments, by sequence, position and head -/

include h0 in
theorem qX (b h : Fin 4) (i : Fin 2048) (d : Fin 256) :
    val_main_v5 (F := Ideal) x0 (ix4 b i h d) = ((seq 256 le1 Q b h i d : ℝ) : EReal) := by
  pointwise [val_main_v5, val_main_v4, val_main_v0]; exact h0 _ _

include h0 in
theorem qC (b h : Fin 4) (i d : Fin 256) :
    val_main_v7 (F := Ideal) x0 (ix4 b i h d) = ((ctx 256 le1 Q b h i d : ℝ) : EReal) := by
  pointwise [val_main_v7, val_main_v6, val_main_v0]; exact h0 _ _

include h1 in
theorem kX (b h : Fin 4) (i : Fin 2048) (d : Fin 256) :
    val_main_v9 (F := Ideal) x1 (ix4 b i h d) = ((seq 256 le1 K b h i d : ℝ) : EReal) := by
  pointwise [val_main_v9, val_main_v8, val_main_v1]; exact h1 _ _

include h1 in
theorem kC (b h : Fin 4) (i d : Fin 256) :
    val_main_v11 (F := Ideal) x1 (ix4 b i h d) = ((ctx 256 le1 K b h i d : ℝ) : EReal) := by
  pointwise [val_main_v11, val_main_v10, val_main_v1]; exact h1 _ _

include h2 in
theorem vX (b h : Fin 4) (i : Fin 2048) (e : Fin 128) :
    val_main_v13 (F := Ideal) x2 (ix4 b i h e) = ((seq 128 le2 V b h i e : ℝ) : EReal) := by
  pointwise [val_main_v13, val_main_v12, val_main_v2]; exact h2 _ _

include h2 in
theorem vC (b h : Fin 4) (i : Fin 256) (e : Fin 128) :
    val_main_v15 (F := Ideal) x2 (ix4 b i h e) = ((ctx 128 le2 V b h i e : ℝ) : EReal) := by
  pointwise [val_main_v15, val_main_v14, val_main_v2]; exact h2 _ _

include h1 in
theorem kJ (b h : Fin 4) (j : Fin 2304) (d : Fin 256) :
    val_main_v16 (F := Ideal) x1 (ix4 b j h d) = ((joined 256 le1 K b h j d : ℝ) : EReal) := by
  obtain ⟨s, rfl⟩ := (finSumFinEquiv (m := 2048) (n := 256)).surjective j
  pointwise [val_main_v16]
  rw [joined, Equiv.symm_apply_apply]
  cases s with
  | inl i => rw [dif_pos (by exact i.isLt)]; exact kX h1 b h i d
  | inr i =>
    have hv : ((finSumFinEquiv (m := 2048) (n := 256) (.inr i)).val) = 2048 + i.val := rfl
    rw [dif_neg (by omega)]
    refine Eq.trans (congrArg _ (congrArg (fun r => ix4 b r h d) (Fin.ext ?_))) (kC h1 b h i d)
    show (finSumFinEquiv (m := 2048) (n := 256) (.inr i)).val - 2048 = i.val; omega

include h2 in
theorem vJ (b h : Fin 4) (j : Fin 2304) (e : Fin 128) :
    val_main_v17 (F := Ideal) x2 (ix4 b j h e) = ((joined 128 le2 V b h j e : ℝ) : EReal) := by
  obtain ⟨s, rfl⟩ := (finSumFinEquiv (m := 2048) (n := 256)).surjective j
  pointwise [val_main_v17]
  rw [joined, Equiv.symm_apply_apply]
  cases s with
  | inl i => rw [dif_pos (by exact i.isLt)]; exact vX h2 b h i e
  | inr i =>
    have hv : ((finSumFinEquiv (m := 2048) (n := 256) (.inr i)).val) = 2048 + i.val := rfl
    rw [dif_neg (by omega)]
    refine Eq.trans (congrArg _ (congrArg (fun r => ix4 b r h e) (Fin.ext ?_))) (vC h2 b h i e)
    show (finSumFinEquiv (m := 2048) (n := 256) (.inr i)).val - 2048 = i.val; omega

include h3 in
theorem gX (b h : Fin 4) (i : Fin 2048) (e : Fin 128) :
    val_main_v104 (F := Ideal) x3 (ix4 b h e i) = ((seq 128 le3 G b h i e : ℝ) : EReal) := by
  pointwise [val_main_v104, val_main_v81, val_main_v80, val_main_v3]; exact h3 _ _

include h3 in
theorem gC (b h : Fin 4) (i : Fin 256) (e : Fin 128) :
    val_main_v84 (F := Ideal) x3 (ix4 b h e i) = ((ctx 128 le3 G b h i e : ℝ) : EReal) := by
  pointwise [val_main_v84, val_main_v83, val_main_v82, val_main_v3]; exact h3 _ _

/-! ## The attention of the sequences -/

section X

include h0 h1

theorem scoreX (b h : Fin 4) (i : Fin 2048) (j : Fin 2304) :
    val_main_v18 (F := Ideal) x0 x1 (ix4 b h i j) = ((score (seq 256 le1 Q b h i) (joined 256 le1 K b h) j : ℝ) : EReal) := by
  pointwise [val_main_v18]
  simp only [qX h0, kJ h1, ← EReal.coe_mul, coe_sum]; rfl

omit h0 h1 in
theorem foldX (b h : Fin 4) (i : Fin 2048) :
    val_main_v19 (F := Ideal) x0 x1 (ix3 b h i)
      = Finset.univ.fold max (⊥ : EReal) fun j => val_main_v18 (F := Ideal) x0 x1 (ix4 b h i j) := by
  unfold val_main_v19
  generalize val_main_v18 (F := Ideal) x0 x1 = y
  refine (rowMax y _ _ (by decide : S4x4x2048x2304.Reduces [3] S4x4x2048) _ _).trans ?_
  refine congrArg₂ (fun (a : EReal) f => Finset.univ.fold max a f) ofBits_bot (funext fun j => congrArg y ?_)
  funext a
  match a with
  | ⟨0, _⟩ => rfl
  | ⟨1, _⟩ => rfl
  | ⟨2, _⟩ => rfl
  | ⟨3, _⟩ => rfl

theorem topX (b h : Fin 4) (i : Fin 2048) :
    val_main_v19 (F := Ideal) x0 x1 (ix3 b h i) = ((top (score (seq 256 le1 Q b h i) (joined 256 le1 K b h)) : ℝ) : EReal) := by
  rw [foldX]
  simp only [scoreX h0 h1, fold_max_coe]

omit h0 h1 in
theorem floorX (b h : Fin 4) (i : Fin 2048) :
    val_main_v26 (F := Ideal) x0 x1 (ix3 b h i) = val_main_v19 (F := Ideal) x0 x1 (ix3 b h i) := by
  rw [val_main_v26_apply, val_main_v25_apply, val_main_cst_1_apply]
  generalize val_main_v19 (F := Ideal) x0 x1 (ix3 b h i) = y
  show max (Ideal.ofBits .f32 4286578688#32) y = y
  rw [ofBits_bot, max_eq_right bot_le]

theorem weightX (b h : Fin 4) (i : Fin 2048) (j : Fin 2304) :
    val_main_v39 (F := Ideal) x0 x1 (ix4 b h i j) = ((weight (seq 256 le1 Q b h i) (joined 256 le1 K b h) j : ℝ) : EReal) := by
  pointwise [val_main_v39, val_main_v38, val_main_v37, val_main_v36]
  rw [scoreX h0 h1, floorX, topX h0 h1, ← EReal.coe_sub]; rfl

theorem massX (b h : Fin 4) (i : Fin 2048) :
    val_main_v40 (F := Ideal) x0 x1 (ix3 b h i) = ((mass (seq 256 le1 Q b h i) (joined 256 le1 K b h) : ℝ) : EReal) := by
  pointwise [val_main_v40, val_main_cst_7]
  simp only [weightX h0 h1, coe_sum]; rfl

theorem probX (b h : Fin 4) (i : Fin 2048) (j : Fin 2304) :
    val_main_v43 (F := Ideal) x0 x1 (ix4 b h i j) = ((prob (seq 256 le1 Q b h i) (joined 256 le1 K b h) j : ℝ) : EReal) := by
  pointwise [val_main_v43, val_main_v42, val_main_v41]
  rw [weightX h0 h1, massX h0 h1, Ideal.div_coe (mass_ne _ _), ← EReal.coe_mul, mul_one_div]; rfl

theorem inv2X (b h : Fin 4) (i : Fin 2048) :
    val_main_v46 (F := Ideal) x0 x1 (ix4 b h i 0) = ((1 / (mass (seq 256 le1 Q b h i) (joined 256 le1 K b h) * mass (seq 256 le1 Q b h i) (joined 256 le1 K b h)) : ℝ) : EReal) := by
  pointwise [val_main_v46, val_main_v45, val_main_cst_8, val_main_v44, val_main_v41]
  rw [massX h0 h1, ← EReal.coe_mul, Ideal.div_coe (mul_ne_zero (mass_ne _ _) (mass_ne _ _)), one_mul]

include h3 in
theorem dvX (b h : Fin 4) (j : Fin 2304) (e : Fin 128) :
    val_main_v107 (F := Ideal) x0 x1 x3 (ix4 b j h e)
      = ((∑ i, prob (seq 256 le1 Q b h i) (joined 256 le1 K b h) j * seq 128 le3 G b h i e : ℝ) : EReal) := by
  pointwise [val_main_v107, val_main_v106]
  simp only [probX h0 h1, gX h3, ← EReal.coe_mul, coe_sum, mul_comm]

omit h0 h1 in
include h2 h3 in
theorem pullX (b h : Fin 4) (i : Fin 2048) (j : Fin 2304) :
    val_main_v105 (F := Ideal) x2 x3 (ix4 b h i j) = ((pull (seq 128 le3 G b h i) (joined 128 le2 V b h) j : ℝ) : EReal) := by
  pointwise [val_main_v105]
  simp only [gX h3, vJ h2, ← EReal.coe_mul, coe_sum]; rfl

include h2 h3

theorem dscoreX (b h : Fin 4) (i : Fin 2048) (j : Fin 2304) :
    val_main_v119 (F := Ideal) x0 x1 x2 x3 (ix4 b h i j)
      = ((dscore (seq 256 le1 Q b h i) (joined 256 le1 K b h) (joined 128 le2 V b h) (seq 128 le3 G b h i) j : ℝ) : EReal) := by
  pointwise [val_main_v119, val_main_v118, val_main_v117, val_main_v116, val_main_cst_22, val_main_v115, val_main_v114, val_main_v113, val_main_v112, val_main_v111, val_main_cst_21, val_main_v110, val_main_v109, val_main_v108, val_main_v41]
  simp only [Fin.sum_univ_one, Fin.isValue, pullX h2 h3, massX h0 h1, inv2X h0 h1, weightX h0 h1,
    Ideal.div_coe (mass_ne _ _), ← EReal.coe_mul, coe_sum, ← EReal.coe_neg, ← EReal.coe_add]
  rw [dscore, sub_eq_add_neg, mul_one_div]

theorem dkX (b h : Fin 4) (j : Fin 2304) (d : Fin 256) :
    val_main_v121 (F := Ideal) x0 x1 x2 x3 (ix4 b j h d)
      = ((∑ i, dscore (seq 256 le1 Q b h i) (joined 256 le1 K b h) (joined 128 le2 V b h) (seq 128 le3 G b h i) j * seq 256 le1 Q b h i d : ℝ) : EReal) := by
  pointwise [val_main_v121, val_main_v120]
  simp only [dscoreX h0 h1 h2 h3, qX h0, ← EReal.coe_mul, coe_sum]

theorem dqX (b h : Fin 4) (i : Fin 2048) (d : Fin 256) :
    val_main_v123 (F := Ideal) x0 x1 x2 x3 (ix4 b i h d)
      = ((∑ j, dscore (seq 256 le1 Q b h i) (joined 256 le1 K b h) (joined 128 le2 V b h) (seq 128 le3 G b h i) j * joined 256 le1 K b h j d : ℝ) : EReal) := by
  pointwise [val_main_v123, val_main_v122]
  simp only [dscoreX h0 h1 h2 h3, kJ h1, ← EReal.coe_mul, coe_sum]

end X

/-! ## The attention of the contexts -/

section C

include h0 h1

theorem scoreC (b h : Fin 4) (i : Fin 256) (j : Fin 256) :
    val_main_v49 (F := Ideal) x0 x1 (ix4 b h i j) = ((score (ctx 256 le1 Q b h i) (ctx 256 le1 K b h) j : ℝ) : EReal) := by
  pointwise [val_main_v49]
  simp only [qC h0, kC h1, ← EReal.coe_mul, coe_sum]; rfl

omit h0 h1 in
theorem foldC (b h : Fin 4) (i : Fin 256) :
    val_main_v50 (F := Ideal) x0 x1 (ix3 b h i)
      = Finset.univ.fold max (⊥ : EReal) fun j => val_main_v49 (F := Ideal) x0 x1 (ix4 b h i j) := by
  unfold val_main_v50
  generalize val_main_v49 (F := Ideal) x0 x1 = y
  refine (rowMax y _ _ (by decide : S4x4x256x256.Reduces [3] S4x4x256) _ _).trans ?_
  refine congrArg₂ (fun (a : EReal) f => Finset.univ.fold max a f) ofBits_bot (funext fun j => congrArg y ?_)
  funext a
  match a with
  | ⟨0, _⟩ => rfl
  | ⟨1, _⟩ => rfl
  | ⟨2, _⟩ => rfl
  | ⟨3, _⟩ => rfl

theorem topC (b h : Fin 4) (i : Fin 256) :
    val_main_v50 (F := Ideal) x0 x1 (ix3 b h i) = ((top (score (ctx 256 le1 Q b h i) (ctx 256 le1 K b h)) : ℝ) : EReal) := by
  rw [foldC]
  simp only [scoreC h0 h1, fold_max_coe]

omit h0 h1 in
theorem floorC (b h : Fin 4) (i : Fin 256) :
    val_main_v57 (F := Ideal) x0 x1 (ix3 b h i) = val_main_v50 (F := Ideal) x0 x1 (ix3 b h i) := by
  rw [val_main_v57_apply, val_main_v56_apply, val_main_cst_11_apply]
  generalize val_main_v50 (F := Ideal) x0 x1 (ix3 b h i) = y
  show max (Ideal.ofBits .f32 4286578688#32) y = y
  rw [ofBits_bot, max_eq_right bot_le]

theorem weightC (b h : Fin 4) (i : Fin 256) (j : Fin 256) :
    val_main_v70 (F := Ideal) x0 x1 (ix4 b h i j) = ((weight (ctx 256 le1 Q b h i) (ctx 256 le1 K b h) j : ℝ) : EReal) := by
  pointwise [val_main_v70, val_main_v69, val_main_v68, val_main_v67]
  rw [scoreC h0 h1, floorC, topC h0 h1, ← EReal.coe_sub]; rfl

theorem massC (b h : Fin 4) (i : Fin 256) :
    val_main_v71 (F := Ideal) x0 x1 (ix3 b h i) = ((mass (ctx 256 le1 Q b h i) (ctx 256 le1 K b h) : ℝ) : EReal) := by
  pointwise [val_main_v71, val_main_cst_17]
  simp only [weightC h0 h1, coe_sum]; rfl

theorem probC (b h : Fin 4) (i : Fin 256) (j : Fin 256) :
    val_main_v74 (F := Ideal) x0 x1 (ix4 b h i j) = ((prob (ctx 256 le1 Q b h i) (ctx 256 le1 K b h) j : ℝ) : EReal) := by
  pointwise [val_main_v74, val_main_v73, val_main_v72]
  rw [weightC h0 h1, massC h0 h1, Ideal.div_coe (mass_ne _ _), ← EReal.coe_mul, mul_one_div]; rfl

theorem inv2C (b h : Fin 4) (i : Fin 256) :
    val_main_v77 (F := Ideal) x0 x1 (ix4 b h i 0) = ((1 / (mass (ctx 256 le1 Q b h i) (ctx 256 le1 K b h) * mass (ctx 256 le1 Q b h i) (ctx 256 le1 K b h)) : ℝ) : EReal) := by
  pointwise [val_main_v77, val_main_v76, val_main_cst_18, val_main_v75, val_main_v72]
  rw [massC h0 h1, ← EReal.coe_mul, Ideal.div_coe (mul_ne_zero (mass_ne _ _) (mass_ne _ _)), one_mul]

include h3 in
theorem dvC (b h : Fin 4) (j : Fin 256) (e : Fin 128) :
    val_main_v87 (F := Ideal) x0 x1 x3 (ix4 b j h e)
      = ((∑ i, prob (ctx 256 le1 Q b h i) (ctx 256 le1 K b h) j * ctx 128 le3 G b h i e : ℝ) : EReal) := by
  pointwise [val_main_v87, val_main_v86]
  simp only [probC h0 h1, gC h3, ← EReal.coe_mul, coe_sum, mul_comm]

omit h0 h1 in
include h2 h3 in
theorem pullC (b h : Fin 4) (i : Fin 256) (j : Fin 256) :
    val_main_v85 (F := Ideal) x2 x3 (ix4 b h i j) = ((pull (ctx 128 le3 G b h i) (ctx 128 le2 V b h) j : ℝ) : EReal) := by
  pointwise [val_main_v85]
  simp only [gC h3, vC h2, ← EReal.coe_mul, coe_sum]; rfl

include h2 h3

theorem dscoreC (b h : Fin 4) (i : Fin 256) (j : Fin 256) :
    val_main_v99 (F := Ideal) x0 x1 x2 x3 (ix4 b h i j)
      = ((dscore (ctx 256 le1 Q b h i) (ctx 256 le1 K b h) (ctx 128 le2 V b h) (ctx 128 le3 G b h i) j : ℝ) : EReal) := by
  pointwise [val_main_v99, val_main_v98, val_main_v97, val_main_v96, val_main_cst_20, val_main_v95, val_main_v94, val_main_v93, val_main_v92, val_main_v91, val_main_cst_19, val_main_v90, val_main_v89, val_main_v88, val_main_v72]
  simp only [Fin.sum_univ_one, Fin.isValue, pullC h2 h3, massC h0 h1, inv2C h0 h1, weightC h0 h1,
    Ideal.div_coe (mass_ne _ _), ← EReal.coe_mul, coe_sum, ← EReal.coe_neg, ← EReal.coe_add]
  rw [dscore, sub_eq_add_neg, mul_one_div]

theorem dkC (b h : Fin 4) (j : Fin 256) (d : Fin 256) :
    val_main_v101 (F := Ideal) x0 x1 x2 x3 (ix4 b j h d)
      = ((∑ i, dscore (ctx 256 le1 Q b h i) (ctx 256 le1 K b h) (ctx 128 le2 V b h) (ctx 128 le3 G b h i) j * ctx 256 le1 Q b h i d : ℝ) : EReal) := by
  pointwise [val_main_v101, val_main_v100]
  simp only [dscoreC h0 h1 h2 h3, qC h0, ← EReal.coe_mul, coe_sum]

theorem dqC (b h : Fin 4) (i : Fin 256) (d : Fin 256) :
    val_main_v103 (F := Ideal) x0 x1 x2 x3 (ix4 b i h d)
      = ((∑ j, dscore (ctx 256 le1 Q b h i) (ctx 256 le1 K b h) (ctx 128 le2 V b h) (ctx 128 le3 G b h i) j * ctx 256 le1 K b h j d : ℝ) : EReal) := by
  pointwise [val_main_v103, val_main_v102]
  simp only [dscoreC h0 h1 h2 h3, kC h1, ← EReal.coe_mul, coe_sum]

end C

/-! ## The results -/

section Results

/-- Two indices with equal coordinates are equal. -/
theorem ix4_congr {n0 n1 n2 n3 : ℕ} {a a' : Fin n0} {b b' : Fin n1} {c c' : Fin n2} {d d' : Fin n3} (h0 : a.val = a'.val)
    (h1 : b.val = b'.val) (h2 : c.val = c'.val) (h3 : d.val = d'.val) : ix4 a b c d = ix4 a' b' c' d' := by
  rw [Fin.ext h0, Fin.ext h1, Fin.ext h2, Fin.ext h3]

include h0 h1 h2 h3

/-- The gradient of a sequence's query. -/
theorem query_seq (b h : Fin 4) (i : Fin 2048) (d : Fin 256) :
    val_main_v132 (F := Ideal) x0 x1 x2 x3 (ix2 (row b i) (col 256 1024 le1 h d))
      = ((∑ j, dscore (seq 256 le1 Q b h i) (both 256 le1 K b h) (both 128 le2 V b h) (seq 128 le3 G b h i) j
          * both 256 le1 K b h j d : ℝ) : EReal) := by
  have hr : (row b i).val = b.val * 2048 + i.val := rfl
  have hc : (col 256 1024 le1 h d).val = h.val * 256 + d.val := rfl
  pointwise [val_main_v132, val_main_v130]
  rw [dif_pos (by omega)]
  refine Eq.trans (congrArg _ (ix4_congr ?_ ?_ ?_ ?_)) ((dqX h0 h1 h2 h3 b h i d).trans (congrArg _ (dq_joined ..))) <;>
    simp only [hr, hc] <;> omega

/-- The gradient of a context's query. -/
theorem query_ctx (b h : Fin 4) (i d : Fin 256) :
    val_main_v132 (F := Ideal) x0 x1 x2 x3 (ix2 (rowC b i) (col 256 1024 le1 h d))
      = ((∑ j, dscore (ctx 256 le1 Q b h i) (ctx 256 le1 K b h) (ctx 128 le2 V b h) (ctx 128 le3 G b h i) j
          * ctx 256 le1 K b h j d : ℝ) : EReal) := by
  have hr : (rowC b i).val = 8192 + (b.val * 256 + i.val) := rfl
  have hc : (col 256 1024 le1 h d).val = h.val * 256 + d.val := rfl
  pointwise [val_main_v132, val_main_v131]
  rw [dif_neg (by omega)]
  refine Eq.trans (congrArg _ (ix4_congr ?_ ?_ ?_ ?_)) (dqC h0 h1 h2 h3 b h i d) <;>
    simp only [hr, hc] <;> omega

/-- The gradient of a sequence's key. -/
theorem key_seq (b h : Fin 4) (j : Fin 2048) (d : Fin 256) :
    val_main_v133 (F := Ideal) x0 x1 x2 x3 (ix2 (rowS b j) (col 256 1024 le1 h d))
      = ((∑ i, dscore (seq 256 le1 Q b h i) (both 256 le1 K b h) (both 128 le2 V b h) (seq 128 le3 G b h i) (.inl j)
          * seq 256 le1 Q b h i d : ℝ) : EReal) := by
  have hr : (rowS b j).val = b.val * 2048 + j.val := rfl
  have hc : (col 256 1024 le1 h d).val = h.val * 256 + d.val := rfl
  pointwise [val_main_v133, val_main_v127]
  refine Eq.trans (congrArg _ (ix4_congr (b' := (⟨j.val, by omega⟩ : Fin 2304)) ?_ ?_ ?_ ?_))
    ((dkX h0 h1 h2 h3 b h ⟨j.val, by omega⟩ d).trans ?_)
  · simp only [hr]; omega
  · simp only [hr]; omega
  · simp only [hc]; omega
  · simp only [hc]; omega
  · simp only [dscore_joined, numbers_seq ⟨j.val, by omega⟩ j rfl]

/-- The gradient of a context's key: from the context's queries and from the sequence's. -/
theorem key_ctx (b h : Fin 4) (j d : Fin 256) :
    val_main_v134 (F := Ideal) x0 x1 x2 x3 (ix2 (rowK b j) (col 256 1024 le1 h d))
      = ((∑ i, dscore (ctx 256 le1 Q b h i) (ctx 256 le1 K b h) (ctx 128 le2 V b h) (ctx 128 le3 G b h i) j
            * ctx 256 le1 Q b h i d
          + ∑ i, dscore (seq 256 le1 Q b h i) (both 256 le1 K b h) (both 128 le2 V b h) (seq 128 le3 G b h i) (.inr j)
            * seq 256 le1 Q b h i d : ℝ) : EReal) := by
  have hr : (rowK b j).val = b.val * 256 + j.val := rfl
  have hc : (col 256 1024 le1 h d).val = h.val * 256 + d.val := rfl
  pointwise [val_main_v134, val_main_v129, val_main_v128]
  rw [EReal.coe_add]
  refine congrArg₂ (fun (a b : EReal) => a + b) ?_ ?_
  · refine Eq.trans (congrArg _ (ix4_congr ?_ ?_ ?_ ?_)) (dkC h0 h1 h2 h3 b h j d) <;> simp only [hr, hc] <;> omega
  · refine Eq.trans (congrArg _ (ix4_congr (b' := (⟨2048 + j.val, by omega⟩ : Fin 2304)) ?_ ?_ ?_ ?_))
      ((dkX h0 h1 h2 h3 b h ⟨2048 + j.val, by omega⟩ d).trans ?_)
    · simp only [hr]; omega
    · simp only [hr]; omega
    · simp only [hc]; omega
    · simp only [hc]; omega
    · simp only [dscore_joined, numbers_ctx ⟨2048 + j.val, by omega⟩ j rfl]

omit h2 in
/-- The gradient of a sequence's value. -/
theorem value_seq (b h : Fin 4) (j : Fin 2048) (e : Fin 128) :
    val_main_v135 (F := Ideal) x0 x1 x3 (ix2 (rowS b j) (col 128 512 le2 h e))
      = ((∑ i, prob (seq 256 le1 Q b h i) (both 256 le1 K b h) (.inl j) * seq 128 le3 G b h i e : ℝ) : EReal) := by
  have hr : (rowS b j).val = b.val * 2048 + j.val := rfl
  have hc : (col 128 512 le2 h e).val = h.val * 128 + e.val := rfl
  pointwise [val_main_v135, val_main_v124]
  refine Eq.trans (congrArg _ (ix4_congr (b' := (⟨j.val, by omega⟩ : Fin 2304)) ?_ ?_ ?_ ?_))
    ((dvX h0 h1 h3 b h ⟨j.val, by omega⟩ e).trans ?_)
  · simp only [hr]; omega
  · simp only [hr]; omega
  · simp only [hc]; omega
  · simp only [hc]; omega
  · simp only [prob_joined, numbers_seq ⟨j.val, by omega⟩ j rfl]

omit h2 in
/-- The gradient of a context's value: from the context's queries and from the sequence's. -/
theorem value_ctx (b h : Fin 4) (j : Fin 256) (e : Fin 128) :
    val_main_v136 (F := Ideal) x0 x1 x3 (ix2 (rowK b j) (col 128 512 le2 h e))
      = ((∑ i, prob (ctx 256 le1 Q b h i) (ctx 256 le1 K b h) j * ctx 128 le3 G b h i e
          + ∑ i, prob (seq 256 le1 Q b h i) (both 256 le1 K b h) (.inr j) * seq 128 le3 G b h i e : ℝ) : EReal) := by
  have hr : (rowK b j).val = b.val * 256 + j.val := rfl
  have hc : (col 128 512 le2 h e).val = h.val * 128 + e.val := rfl
  pointwise [val_main_v136, val_main_v126, val_main_v125]
  rw [EReal.coe_add]
  refine congrArg₂ (fun (a b : EReal) => a + b) ?_ ?_
  · refine Eq.trans (congrArg _ (ix4_congr ?_ ?_ ?_ ?_)) (dvC h0 h1 h3 b h j e) <;> simp only [hr, hc] <;> omega
  · refine Eq.trans (congrArg _ (ix4_congr (b' := (⟨2048 + j.val, by omega⟩ : Fin 2304)) ?_ ?_ ?_ ?_))
      ((dvX h0 h1 h3 b h ⟨2048 + j.val, by omega⟩ e).trans ?_)
    · simp only [hr]; omega
    · simp only [hr]; omega
    · simp only [hc]; omega
    · simp only [hc]; omega
    · simp only [prob_joined, numbers_ctx ⟨2048 + j.val, by omega⟩ j rfl]

end Results

end Cert.Attention.Reference
-- ==== Proof.Attention.Equal.lean ====
/- The attention gradient's kernel and the gradient of plain attention agree on real arguments: a head's tiles add up
   to the sums over all its queries. -/
module

public import proofs.«01_k».proof.Proof.Attention.Final
public import proofs.«01_k».proof.Proof.Attention.Tile
public import proofs.«01_k».proof.Proof.Attention.Reference

@[expose] public section

set_option maxRecDepth 16384

noncomputable section

namespace Cert.Attention

open Cert.KernelIdeal Cert.KernelIdeal.Gen
open Idealize.ShloMosaic Idealize.ShloMosaic.TcCoe

variable (m : (ℓ : Loc nD τ sig) → Buf (Elt Ideal) ℓ) (c : Dev nD)

/-! ## Tiles and positions -/

/-- Position `r` of tile `k` of a sequence. -/
def pos (k : Fin 8) (r : Fin 256) : Fin 2048 := ⟨k.val * 256 + r.val, by omega⟩

/-- Summing over tiles and their rows is summing over positions. -/
theorem sum_pos (f : Fin 2048 → ℝ) : ∑ k, ∑ r, f (pos k r) = ∑ i, f i := by
  rw [← Fintype.sum_prod_type', ← Equiv.sum_comp (finProdFinEquiv (m := 8) (n := 256)) f]
  exact Finset.sum_congr rfl fun x _ => congrArg f (Fin.ext (by
    show x.1.val * 256 + x.2.val = x.2.val + 256 * x.1.val; omega))

theorem step_seq (b h : Fin 4) (k : Fin 8) (a : Grads Ideal) :
    step m c (tile b h k.castSucc) a = stepX (qB m c (tile b h k.castSucc)) (kxB m c (tile b h k.castSucc)) (vxB m c (tile b h k.castSucc))
      (khB m c (tile b h k.castSucc)) (vhB m c (tile b h k.castSucc)) (gB m c (tile b h k.castSucc)) a :=
  if_neg (by rw [tile_mod]; have := k.isLt; show ¬ k.val = 8; omega)

theorem step_ctx (b h : Fin 4) (a : Grads Ideal) :
    step m c (tile b h 8) a = stepH (qB m c (tile b h 8)) (khB m c (tile b h 8)) (vhB m c (tile b h 8)) (gB m c (tile b h 8)) a :=
  if_pos (tile_mod b h 8)

theorem dqAt_seq (b h : Fin 4) (k : Fin 8) :
    dqAt m c (tile b h k.castSucc) = dqX (qB m c (tile b h k.castSucc)) (kxB m c (tile b h k.castSucc)) (vxB m c (tile b h k.castSucc))
      (khB m c (tile b h k.castSucc)) (vhB m c (tile b h k.castSucc)) (gB m c (tile b h k.castSucc)) :=
  if_neg (by rw [tile_mod]; have := k.isLt; show ¬ k.val = 8; omega)

theorem dqAt_ctx (b h : Fin 4) :
    dqAt m c (tile b h 8) = dqH (qB m c (tile b h 8)) (khB m c (tile b h 8)) (vhB m c (tile b h 8)) (gB m c (tile b h 8)) :=
  if_pos (tile_mod b h 8)

/-- What an accumulated element holds after tile `n` of a head: the sum of what the tiles so far added. -/
theorem accum_upto (b h : Fin 4) (fld : Grads Ideal → EReal) (f : Fin 8 → ℝ) (hz : fld Grads.zero = 0)
    (hs : ∀ k a, fld (step m c (tile b h k.castSucc) a) = fld a + ((f k : ℝ) : EReal)) (n : ℕ) (hn : n < 8) :
    fld (stAt m c (tile b h ⟨n, by omega⟩).val (Fin.isLt _)) = ((∑ k : Fin (n + 1), f ⟨k.val, by omega⟩ : ℝ) : EReal) := by
  induction n with
  | zero =>
    rw [stAt_first m c _ (tile_mod b h _)]
    refine (hs ⟨0, by omega⟩ _).trans ?_
    rw [hz, zero_add, Fin.sum_univ_one]; rfl
  | succ n ih =>
    rw [stAt_later m c _ (by rw [tile_mod]; show ¬ n + 1 = 0; omega)]
    refine (hs ⟨n + 1, hn⟩ _).trans ?_
    rw [stAt_congr m c (n' := (tile b h ⟨n, by omega⟩).val) (by simp only [tile]; omega) _ (Fin.isLt _), ih (by omega),
      ← EReal.coe_add]
    exact congrArg _ (Fin.sum_univ_castSucc (n := n + 1) (fun k => f ⟨k.val, by omega⟩)).symm

/-- What an accumulated element holds before the context's tile. -/
theorem accum (b h : Fin 4) (fld : Grads Ideal → EReal) (f : Fin 8 → ℝ) (hz : fld Grads.zero = 0)
    (hs : ∀ k a, fld (step m c (tile b h k.castSucc) a) = fld a + ((f k : ℝ) : EReal)) :
    fld (stAt m c (tile b h 7).val (Fin.isLt _)) = ((∑ k, f k : ℝ) : EReal) :=
  accum_upto m c b h fld f hz hs 7 (by norm_num)

theorem stAt_last (b h : Fin 4) :
    stAt m c (tile b h 8).val (Fin.isLt _) = step m c (tile b h 8) (stAt m c (tile b h 7).val (Fin.isLt _)) := by
  rw [stAt_later m c _ (by rw [tile_mod]; show ¬ 8 = 0; omega)]
  exact congrArg _ (stAt_congr m c (by simp only [tile]; rfl) _ _)

/-! ## The blocks of real arguments -/

variable {Q K G : Fin 9216 → Fin 1024 → ℝ} {V : Fin 9216 → Fin 512 → ℝ}
  (hQ : ∀ r k, m ((c.tc : Thread nD τ).loc main_arg0) (ix2 r k) = ((Q r k : ℝ) : EReal))
  (hK : ∀ r k, m ((c.tc : Thread nD τ).loc main_arg1) (ix2 r k) = ((K r k : ℝ) : EReal))
  (hV : ∀ r k, m ((c.tc : Thread nD τ).loc main_arg2) (ix2 r k) = ((V r k : ℝ) : EReal))
  (hG : ∀ r k, m ((c.tc : Thread nD τ).loc main_arg3) (ix2 r k) = ((G r k : ℝ) : EReal))

theorem qrow_seq (b h : Fin 4) (k : Fin 8) : qrow (tile b h k.castSucc) = b.val * 8 + k.val := by
  unfold qrow; rw [tile_mod, tile_seq]; exact if_pos k.isLt

theorem qrow_ctx (b h : Fin 4) : qrow (tile b h 8) = 32 + b.val := by
  unfold qrow; rw [tile_mod, tile_seq]; rfl

include hQ in
theorem qB_seq (b h : Fin 4) (k : Fin 8) (r : Fin 256) (d : Fin 256) :
    qB m c (tile b h k.castSucc) (ix2 r d) = ((seq 256 le1 Q b h (pos k r) d : ℝ) : EReal) :=
  (qB_apply m c _ r d (ix2 (row b (pos k r)) (col 256 1024 le1 h d))
    (by rw [qrow_seq]; simp only [ix2, row, rowC, pos, Matrix.cons_val_zero]; try omega)
    (by rw [tile_head]; rfl)).trans (hQ _ _)

include hQ in
theorem qB_ctx (b h : Fin 4) (r : Fin 256) (d : Fin 256) :
    qB m c (tile b h 8) (ix2 r d) = ((ctx 256 le1 Q b h r d : ℝ) : EReal) :=
  (qB_apply m c _ r d (ix2 (rowC b r) (col 256 1024 le1 h d))
    (by rw [qrow_ctx]; simp only [ix2, row, rowC, pos, Matrix.cons_val_zero]; try omega)
    (by rw [tile_head]; rfl)).trans (hQ _ _)

include hG in
theorem gB_seq (b h : Fin 4) (k : Fin 8) (r : Fin 256) (d : Fin 128) :
    gB m c (tile b h k.castSucc) (ix2 r d) = ((seq 128 le3 G b h (pos k r) d : ℝ) : EReal) :=
  (gB_apply m c _ r d (ix2 (row b (pos k r)) (col 128 1024 le3 h d))
    (by rw [qrow_seq]; simp only [ix2, row, rowC, pos, Matrix.cons_val_zero]; try omega)
    (by rw [tile_head]; rfl)).trans (hG _ _)

include hG in
theorem gB_ctx (b h : Fin 4) (r : Fin 256) (d : Fin 128) :
    gB m c (tile b h 8) (ix2 r d) = ((ctx 128 le3 G b h r d : ℝ) : EReal) :=
  (gB_apply m c _ r d (ix2 (rowC b r) (col 128 1024 le3 h d))
    (by rw [qrow_ctx]; simp only [ix2, row, rowC, pos, Matrix.cons_val_zero]; try omega)
    (by rw [tile_head]; rfl)).trans (hG _ _)

include hK in
theorem kxB_all (b h : Fin 4) (k : Fin 9) (r : Fin 2048) (d : Fin 256) :
    kxB m c (tile b h k) (ix2 r d) = ((seq 256 le1 K b h r d : ℝ) : EReal) :=
  (kxB_apply m c _ r d (ix2 (row b r) (col 256 1024 le1 h d))
    (by rw [tile_seq]; simp only [ix2, row, rowC, pos, Matrix.cons_val_zero]; try omega)
    (by rw [tile_head]; rfl)).trans (hK _ _)

include hV in
theorem vxB_all (b h : Fin 4) (k : Fin 9) (r : Fin 2048) (d : Fin 128) :
    vxB m c (tile b h k) (ix2 r d) = ((seq 128 le2 V b h r d : ℝ) : EReal) :=
  (vxB_apply m c _ r d (ix2 (row b r) (col 128 512 le2 h d))
    (by rw [tile_seq]; simp only [ix2, row, rowC, pos, Matrix.cons_val_zero]; try omega)
    (by rw [tile_head]; rfl)).trans (hV _ _)

include hK in
theorem khB_all (b h : Fin 4) (k : Fin 9) (r : Fin 256) (d : Fin 256) :
    khB m c (tile b h k) (ix2 r d) = ((ctx 256 le1 K b h r d : ℝ) : EReal) :=
  (khB_apply m c _ r d (ix2 (rowC b r) (col 256 1024 le1 h d))
    (by rw [tile_seq]; simp only [ix2, row, rowC, pos, Matrix.cons_val_zero]; try omega)
    (by rw [tile_head]; rfl)).trans (hK _ _)

include hV in
theorem vhB_all (b h : Fin 4) (k : Fin 9) (r : Fin 256) (d : Fin 128) :
    vhB m c (tile b h k) (ix2 r d) = ((ctx 128 le2 V b h r d : ℝ) : EReal) :=
  (vhB_apply m c _ r d (ix2 (rowC b r) (col 128 512 le2 h d))
    (by rw [tile_seq]; simp only [ix2, row, rowC, pos, Matrix.cons_val_zero]; try omega)
    (by rw [tile_head]; rfl)).trans (hV _ _)

/-! ## The five gradients -/

section Real

include hQ hK hV hG

theorem queries_seq (b h : Fin 4) (i : Fin 2048) (d : Fin 256) :
    queries m c (ix2 (row b i) (col 256 1024 le1 h d))
      = ((∑ j, dscore (seq 256 le1 Q b h i) (both 256 le1 K b h) (both 128 le2 V b h) (seq 128 le3 G b h i) j
          * both 256 le1 K b h j d : ℝ) : EReal) := by
  obtain ⟨k, r, rfl⟩ : ∃ k r, i = pos k r :=
    ⟨⟨i.val / 256, by omega⟩, ⟨i.val % 256, by omega⟩, Fin.ext (Nat.div_add_mod' i.val 256).symm⟩
  refine (queriesAt_tile m c (tile b h k.castSucc) (ix2 r d) _ _ ?_ ?_).symm.trans ?_
  · rw [qrow_seq]; show b.val * 2048 + (k.val * 256 + r.val) = (b.val * 8 + k.val) * 256 + r.val; omega
  · rw [tile_head]; rfl
  rw [dqAt_seq]
  exact dqX_apply (qB_seq m c hQ b h k) (kxB_all m c hK b h _) (vxB_all m c hV b h _) (khB_all m c hK b h _)
    (vhB_all m c hV b h _) (gB_seq m c hG b h k) r d

theorem queries_ctx (b h : Fin 4) (i d : Fin 256) :
    queries m c (ix2 (rowC b i) (col 256 1024 le1 h d))
      = ((∑ j, dscore (ctx 256 le1 Q b h i) (ctx 256 le1 K b h) (ctx 128 le2 V b h) (ctx 128 le3 G b h i) j
          * ctx 256 le1 K b h j d : ℝ) : EReal) := by
  refine (queriesAt_tile m c (tile b h 8) (ix2 i d) _ _ ?_ ?_).symm.trans ?_
  · rw [qrow_ctx]; show 8192 + (b.val * 256 + i.val) = (32 + b.val) * 256 + i.val; omega
  · rw [tile_head]; rfl
  rw [dqAt_ctx]
  exact dqH_apply (qB_ctx m c hQ b h) (khB_all m c hK b h _) (vhB_all m c hV b h _) (gB_ctx m c hG b h) i d

theorem keysX_seq (b h : Fin 4) (j : Fin 2048) (d : Fin 256) :
    keysX m c (ix2 (rowS b j) (col 256 1024 le1 h d))
      = ((∑ i, dscore (seq 256 le1 Q b h i) (both 256 le1 K b h) (both 128 le2 V b h) (seq 128 le3 G b h i) (.inl j)
          * seq 256 le1 Q b h i d : ℝ) : EReal) := by
  refine (keysXAt_tile m c (tile b h 8) (tile_mod b h 8) (ix2 j d) _ _ ?_ ?_).symm.trans ?_
  · rw [tile_seq]; rfl
  · rw [tile_head]; rfl
  rw [stAt_last, step_ctx]
  refine (accum m c b h (fun a => a.kx (ix2 j d)) _ (zero_kx j d) fun k a => ?_).trans (congrArg _ (sum_pos _))
  rw [step_seq]
  exact stepX_kx (qB_seq m c hQ b h k) (kxB_all m c hK b h _) (vxB_all m c hV b h _) (khB_all m c hK b h _)
    (vhB_all m c hV b h _) (gB_seq m c hG b h k) a j d

theorem keysC_ctx (b h : Fin 4) (j d : Fin 256) :
    keysC m c (ix2 (rowK b j) (col 256 1024 le1 h d))
      = ((∑ i, dscore (ctx 256 le1 Q b h i) (ctx 256 le1 K b h) (ctx 128 le2 V b h) (ctx 128 le3 G b h i) j
          * ctx 256 le1 Q b h i d
        + ∑ i, dscore (seq 256 le1 Q b h i) (both 256 le1 K b h) (both 128 le2 V b h) (seq 128 le3 G b h i) (.inr j)
          * seq 256 le1 Q b h i d : ℝ) : EReal) := by
  refine (keysCAt_tile m c (tile b h 8) (tile_mod b h 8) (ix2 j d) _ _ ?_ ?_).symm.trans ?_
  · rw [tile_seq]; rfl
  · rw [tile_head]; rfl
  rw [stAt_last, step_ctx, stepH_kh (qB_ctx m c hQ b h) (khB_all m c hK b h _) (vhB_all m c hV b h _) (gB_ctx m c hG b h),
    add_comm, EReal.coe_add]
  refine congrArg _ ((accum m c b h (fun a => a.kh (ix2 j d)) _ (zero_kh j d) fun k a => ?_).trans (congrArg _ (sum_pos _)))
  rw [step_seq]
  exact stepX_kh (qB_seq m c hQ b h k) (kxB_all m c hK b h _) (vxB_all m c hV b h _) (khB_all m c hK b h _)
    (vhB_all m c hV b h _) (gB_seq m c hG b h k) a j d

omit hV in
theorem valuesX_seq (b h : Fin 4) (j : Fin 2048) (e : Fin 128) :
    valuesX m c (ix2 (rowS b j) (col 128 512 le2 h e))
      = ((∑ i, prob (seq 256 le1 Q b h i) (both 256 le1 K b h) (.inl j) * seq 128 le3 G b h i e : ℝ) : EReal) := by
  refine (valuesXAt_tile m c (tile b h 8) (tile_mod b h 8) (ix2 j e) _ _ ?_ ?_).symm.trans ?_
  · rw [tile_seq]; rfl
  · rw [tile_head]; rfl
  rw [stAt_last, step_ctx]
  refine (accum m c b h (fun a => a.vx (ix2 j e)) _ (zero_vx j e) fun k a => ?_).trans (congrArg _ (sum_pos _))
  rw [step_seq]
  exact stepX_vx (qB_seq m c hQ b h k) (kxB_all m c hK b h _) (khB_all m c hK b h _) (gB_seq m c hG b h k) a j e

omit hV in
theorem valuesC_ctx (b h : Fin 4) (j : Fin 256) (e : Fin 128) :
    valuesC m c (ix2 (rowK b j) (col 128 512 le2 h e))
      = ((∑ i, prob (ctx 256 le1 Q b h i) (ctx 256 le1 K b h) j * ctx 128 le3 G b h i e
        + ∑ i, prob (seq 256 le1 Q b h i) (both 256 le1 K b h) (.inr j) * seq 128 le3 G b h i e : ℝ) : EReal) := by
  refine (valuesCAt_tile m c (tile b h 8) (tile_mod b h 8) (ix2 j e) _ _ ?_ ?_).symm.trans ?_
  · rw [tile_seq]; rfl
  · rw [tile_head]; rfl
  rw [stAt_last, step_ctx, stepH_vh (qB_ctx m c hQ b h) (khB_all m c hK b h _) (gB_ctx m c hG b h),
    add_comm, EReal.coe_add]
  refine congrArg _ ((accum m c b h (fun a => a.vh (ix2 j e)) _ (zero_vh j e) fun k a => ?_).trans (congrArg _ (sum_pos _)))
  rw [step_seq]
  exact stepX_vh (qB_seq m c hQ b h k) (kxB_all m c hK b h _) (khB_all m c hK b h _) (gB_seq m c hG b h k) a j e

/-! ## The equation -/

omit hQ hK hV hG in
theorem rowS_surj (r : Fin 8192) : ∃ b i, r = rowS b i :=
  ⟨⟨r.val / 2048, by omega⟩, ⟨r.val % 2048, by omega⟩, Fin.ext (Nat.div_add_mod' r.val 2048).symm⟩

omit hQ hK hV hG in
theorem rowK_surj (r : Fin 1024) : ∃ b i, r = rowK b i :=
  ⟨⟨r.val / 256, by omega⟩, ⟨r.val % 256, by omega⟩, Fin.ext (Nat.div_add_mod' r.val 256).symm⟩

open Cert.ReferenceIdeal.Read in
/-- On real arguments the kernel's five gradients are those of plain attention. -/
theorem equal :
    queries m c = val_main_v132 (m ((c.tc : Thread nD τ).loc main_arg0)) (m ((c.tc : Thread nD τ).loc main_arg1))
        (m ((c.tc : Thread nD τ).loc main_arg2)) (m ((c.tc : Thread nD τ).loc main_arg3))
    ∧ keysX m c = val_main_v133 (m ((c.tc : Thread nD τ).loc main_arg0)) (m ((c.tc : Thread nD τ).loc main_arg1))
        (m ((c.tc : Thread nD τ).loc main_arg2)) (m ((c.tc : Thread nD τ).loc main_arg3))
    ∧ keysC m c = val_main_v134 (m ((c.tc : Thread nD τ).loc main_arg0)) (m ((c.tc : Thread nD τ).loc main_arg1))
        (m ((c.tc : Thread nD τ).loc main_arg2)) (m ((c.tc : Thread nD τ).loc main_arg3))
    ∧ valuesX m c = val_main_v135 (m ((c.tc : Thread nD τ).loc main_arg0)) (m ((c.tc : Thread nD τ).loc main_arg1)) (m ((c.tc : Thread nD τ).loc main_arg3))
    ∧ valuesC m c = val_main_v136 (m ((c.tc : Thread nD τ).loc main_arg0)) (m ((c.tc : Thread nD τ).loc main_arg1)) (m ((c.tc : Thread nD τ).loc main_arg3)) := by
  refine ⟨?_, ?_, ?_, ?_, ?_⟩
  · refine funext fun (i : (⟨2, ![9216, 1024]⟩ : Shape).Idx) => ?_
    rw [eq_ix2 i]
    obtain ⟨h, d, hk⟩ := col_surj le1 rfl (i 1)
    rcases row_cases (i 0) with ⟨b, r, hr⟩ | ⟨b, r, hr⟩
    · rw [hr, hk]; exact (queries_seq m c hQ hK hV hG b h r d).trans (Reference.query_seq hQ hK hV hG b h r d).symm
    · rw [hr, hk]; exact (queries_ctx m c hQ hK hV hG b h r d).trans (Reference.query_ctx hQ hK hV hG b h r d).symm
  · refine funext fun (i : (⟨2, ![8192, 1024]⟩ : Shape).Idx) => ?_
    rw [eq_ix2 i]
    obtain ⟨h, d, hk⟩ := col_surj le1 rfl (i 1)
    obtain ⟨b, r, hr⟩ := rowS_surj (i 0)
    rw [hr, hk]; exact (keysX_seq m c hQ hK hV hG b h r d).trans (Reference.key_seq hQ hK hV hG b h r d).symm
  · refine funext fun (i : (⟨2, ![1024, 1024]⟩ : Shape).Idx) => ?_
    rw [eq_ix2 i]
    obtain ⟨h, d, hk⟩ := col_surj le1 rfl (i 1)
    obtain ⟨b, r, hr⟩ := rowK_surj (i 0)
    rw [hr, hk]; exact (keysC_ctx m c hQ hK hV hG b h r d).trans (Reference.key_ctx hQ hK hV hG b h r d).symm
  · refine funext fun (i : (⟨2, ![8192, 512]⟩ : Shape).Idx) => ?_
    rw [eq_ix2 i]
    obtain ⟨h, d, hk⟩ := col_surj le2 rfl (i 1)
    obtain ⟨b, r, hr⟩ := rowS_surj (i 0)
    rw [hr, hk]; exact (valuesX_seq m c hQ hK hG b h r d).trans (Reference.value_seq hQ hK hG b h r d).symm
  · refine funext fun (i : (⟨2, ![1024, 512]⟩ : Shape).Idx) => ?_
    rw [eq_ix2 i]
    obtain ⟨h, d, hk⟩ := col_surj le2 rfl (i 1)
    obtain ⟨b, r, hr⟩ := rowK_surj (i 0)
    rw [hr, hk]; exact (valuesC_ctx m c hQ hK hG b h r d).trans (Reference.value_ctx hQ hK hG b h r d).symm

end Real

end Cert.Attention
-- ==== Proof.Attention.Claims.lean ====
/- The claims about the attention gradient's kernel and plain attention's gradient: the frames, and the five results
   equal on finite arguments. -/
module

public import proofs.«01_k».proof.Defs
public import proofs.«01_k».proof.Proof.Attention.Equal
public import proofs.«01_k».proof.Proof.Gen.Kernel
public import proofs.«01_k».proof.Proof.Gen.Pre_finite
public import proofs.«01_k».proof.Proof.Gen.ReferenceIdeal.Run

@[expose] public section

set_option maxRecDepth 16384

noncomputable section

namespace Cert.Attention

open Idealize.ShloMosaic Idealize.SL.Sem Cert.KernelIdeal Idealize.ShloMosaic.TcCoe

/-- A value whose absolute value is below infinity is a real number. -/
theorem real_of_lt {x y : EReal} (hy : y = ⊤) (h : BitVec.ofBool (decide (max x (-x) < y)) = 1#1) : ∃ r : ℝ, x = (r : EReal) := by
  subst hy
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- A matrix of real entries. -/
theorem real_matrix {n k : ℕ} {A : (⟨2, ![n, k]⟩ : Shape).Idx → EReal} (h : ∀ i, ∃ r : ℝ, A i = (r : EReal)) :
    ∃ B : Fin n → Fin k → ℝ, ∀ r d, A (ix2 r d) = ((B r d : ℝ) : EReal) :=
  ⟨fun r d => (h (ix2 r d)).choose, fun r d => (h (ix2 r d)).choose_spec⟩

/-- The bit pattern of the precondition's bound is infinity. -/
theorem ofBits_top : Ideal.ofBits .f32 0x7F800000#32 = ⊤ := by
  simp [Ideal.ofBits, Ideal.ieee]

/-- Finite arguments are real. -/
theorem real_args (m : (ℓ : Loc nD τ sig) → Buf (Elt Ideal) ℓ) (h : Pre_KernelIdeal_finite m) (c : Dev nD) :
    (∃ Q : Fin 9216 → Fin 1024 → ℝ, ∀ r k, m ((c.tc : Thread nD τ).loc main_arg0) (ix2 r k) = ((Q r k : ℝ) : EReal))
    ∧ (∃ K : Fin 9216 → Fin 1024 → ℝ, ∀ r k, m ((c.tc : Thread nD τ).loc main_arg1) (ix2 r k) = ((K r k : ℝ) : EReal))
    ∧ (∃ V : Fin 9216 → Fin 512 → ℝ, ∀ r k, m ((c.tc : Thread nD τ).loc main_arg2) (ix2 r k) = ((V r k : ℝ) : EReal))
    ∧ (∃ G : Fin 9216 → Fin 1024 → ℝ, ∀ r k, m ((c.tc : Thread nD τ).loc main_arg3) (ix2 r k) = ((G r k : ℝ) : EReal)) :=
  ⟨real_matrix fun i => real_of_lt ofBits_top (congrFun (h c).1 i), real_matrix fun i => real_of_lt ofBits_top (congrFun (h c).2.1 i),
    real_matrix fun i => real_of_lt ofBits_top (congrFun (h c).2.2.1 i), real_matrix fun i => real_of_lt ofBits_top (congrFun (h c).2.2.2 i)⟩

/-- The kernel as printed and its idealization have the same body table, -/
theorem body_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- so the same definitions. -/
theorem defs_eq : Cert.Kernel.defs (F := Bits) = Cert.KernelIdeal.defs (F := Bits) :=
  congrArg (Pipeline.defs Cert.KernelIdeal.pcfgs) body_eq

theorem frame_Kernel : quiescent_Kernel := fun m g _ => by
  rw [defs_eq]
  exact frame (F := Bits) m g

theorem frame_KernelIdeal : quiescent_KernelIdeal := fun m g _ => frame (F := Ideal) m g

theorem frame_ReferenceIdeal : quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem frame_KernelIdeal_pre : quiescent_KernelIdeal_pre_finite := fun m g _ => frame_KernelIdeal m g trivial

theorem frame_ReferenceIdeal_pre : quiescent_ReferenceIdeal_pre_finite := fun m g _ => frame_ReferenceIdeal m g trivial

/-- The kernel's five gradients are plain attention's, on finite arguments. -/
theorem algebraic : algebraic_KernelIdeal_ReferenceIdeal_pre_finite := by
  intro m g m' g' hp hm
  refine ⟨queries m, keysX m, keysC m, valuesX m, valuesC m, (θ_run _ _ _).mono (fun r h c => ?_) (run m g),
    (θ_run _ _ _).mono (fun r h c => ?_) (Cert.ReferenceIdeal.Value.run m' g')⟩
  · obtain ⟨⟨h0, h1, h2, h3, h4⟩, ha⟩ := h c
    exact ⟨h0, h1, h2, h3, h4, ha⟩
  · obtain ⟨h0, h1, h2, h3, h4, ha⟩ := h c
    obtain ⟨a0, a1, a2, a3⟩ := hm c
    obtain ⟨⟨Q, hQ⟩, ⟨K, hK⟩, ⟨V, hV⟩, ⟨G, hG⟩⟩ := real_args m hp c
    obtain ⟨e0, e1, e2, e3, e4⟩ := equal m c hQ hK hV hG
    refine ⟨h0.trans ?_, h1.trans ?_, h2.trans ?_, h3.trans ?_, h4.trans ?_, ha⟩
    · rw [Cert.ReferenceIdeal.Read.val_main_v132_eq, a0, a1, a2, a3]; exact e0.symm
    · rw [Cert.ReferenceIdeal.Read.val_main_v133_eq, a0, a1, a2, a3]; exact e1.symm
    · rw [Cert.ReferenceIdeal.Read.val_main_v134_eq, a0, a1, a2, a3]; exact e2.symm
    · rw [Cert.ReferenceIdeal.Read.val_main_v135_eq, a0, a1, a3]; exact e3.symm
    · rw [Cert.ReferenceIdeal.Read.val_main_v136_eq, a0, a1, a3]; exact e4.symm

end Cert.Attention
-- ==== Proof.Product.Sums.lean ====
/- Sums and indices that the matrix products share: a matrix index from its coordinates, a sum over rows cut into
   tiles of equal height, and a sum over joined ranges. -/
module

public import Idealize.ShloMosaic.Lib.Pointwise

@[expose] public section

noncomputable section

namespace Cert.Product

open Idealize.ShloMosaic

/-- Two indices of a matrix with equal coordinates are equal. -/
theorem ix2_of {n0 n1 : ℕ} {i : (⟨2, ![n0, n1]⟩ : Shape).Idx} {a : Fin n0} {b : Fin n1} (h0 : (i 0).val = a.val) (h1 : (i 1).val = b.val) :
    i = ix2 a b := (eq_ix2 i).trans (congrArg₂ ix2 (Fin.ext h0) (Fin.ext h1))

/-- A sum over `n` tiles of `l` rows each, of a function of the row's number, is the sum over the first `n * l` rows. -/
theorem sum_range_tiles {β : Type*} [AddCommMonoid β] (l : ℕ) (f : ℕ → β) :
    ∀ n : ℕ, ∑ s ∈ Finset.range n, ∑ r : Fin l, f (s * l + r.val) = ∑ k ∈ Finset.range (n * l), f k
  | 0 => by simp
  | n + 1 => by
    rw [Finset.sum_range_succ, sum_range_tiles l f n, Nat.succ_mul, Finset.sum_range_add, Finset.sum_range (fun r => f (n * l + r))]

/-- A sum over `N = n * l` rows is the sum over the tiles of the sums over each tile's rows. -/
theorem sum_tiles {β : Type*} [AddCommMonoid β] {N n l : ℕ} (hN : N = n * l) (f : Fin N → β) (g : ℕ → Fin l → β)
    (h : ∀ (s : ℕ) (r : Fin l) (hs : s < n) (hk : s * l + r.val < N), g s r = f ⟨s * l + r.val, hk⟩) :
    ∑ s ∈ Finset.range n, ∑ r : Fin l, g s r = ∑ k : Fin N, f k := by
  have e : ∀ k : Fin N, f k = (fun k : ℕ => if hk : k < N then f ⟨k, hk⟩ else 0) k.val := fun k => by simp [k.isLt]
  rw [Finset.sum_congr rfl fun k _ => e k, ← Finset.sum_range (fun k : ℕ => if hk : k < N then f ⟨k, hk⟩ else 0)]
  subst hN
  rw [← sum_range_tiles l (fun k : ℕ => if hk : k < n * l then f ⟨k, hk⟩ else 0) n]
  refine Finset.sum_congr rfl fun s hs => Finset.sum_congr rfl fun r _ => ?_
  have hs' := Finset.mem_range.1 hs
  have hk : s * l + r.val < n * l := by
    have h1 : s * l + r.val < (s + 1) * l := by rw [Nat.succ_mul]; have := r.isLt; omega
    exact lt_of_lt_of_le h1 (Nat.mul_le_mul_right l hs')
  show g s r = if hk : s * l + r.val < n * l then f ⟨s * l + r.val, hk⟩ else 0
  rw [dif_pos hk]
  exact h s r hs' hk

/-- An entry of the product `X W` of an `n` by `k` and a `k` by `l` matrix. -/
def mul {n k l : ℕ} (X : (⟨2, ![n, k]⟩ : Shape).Idx → EReal) (W : (⟨2, ![k, l]⟩ : Shape).Idx → EReal) (p : Fin n) (q : Fin l) : EReal :=
  ∑ j : Fin k, X (ix2 p j) * W (ix2 j q)

/-- An entry of `X Wᵀ`. -/
def mulT {n k l : ℕ} (X : (⟨2, ![n, k]⟩ : Shape).Idx → EReal) (W : (⟨2, ![l, k]⟩ : Shape).Idx → EReal) (p : Fin n) (q : Fin l) : EReal :=
  ∑ j : Fin k, X (ix2 p j) * W (ix2 q j)

/-- An entry of `Xᵀ W`. -/
def tmul {n k l : ℕ} (X : (⟨2, ![k, n]⟩ : Shape).Idx → EReal) (W : (⟨2, ![k, l]⟩ : Shape).Idx → EReal) (p : Fin n) (q : Fin l) : EReal :=
  ∑ j : Fin k, X (ix2 j p) * W (ix2 j q)

/-- Row `r` of tile `s`. -/
def row {N n l : ℕ} (hN : N = n * l) {s : ℕ} (hs : s < n) (r : Fin l) : Fin N :=
  ⟨s * l + r.val, by
    have h1 : s * l + r.val < (s + 1) * l := by rw [Nat.succ_mul]; have := r.isLt; omega
    rw [hN]
    exact lt_of_lt_of_le h1 (Nat.mul_le_mul_right l hs)⟩

/-- Tiles whose sums are products over their own rows add up to the product over all rows. -/
theorem tmul_tiles {N n l a b : ℕ} (hN : N = n * l) (X : (⟨2, ![N, a]⟩ : Shape).Idx → EReal) (W : (⟨2, ![N, b]⟩ : Shape).Idx → EReal)
    (p : Fin a) (q : Fin b) (T : ℕ → EReal)
    (h : ∀ (s : ℕ) (hs : s < n), T s = ∑ r : Fin l, X (ix2 (row hN hs r) p) * W (ix2 (row hN hs r) q)) :
    ∑ s ∈ Finset.range n, T s = tmul X W p q := by
  refine (Finset.sum_congr rfl fun s hs => ?_).trans (sum_tiles hN (fun j => X (ix2 j p) * W (ix2 j q))
    (fun s r => if hs : s < n then X (ix2 (row hN hs r) p) * W (ix2 (row hN hs r) q) else 0) fun s r hs hk => by rw [dif_pos hs]; rfl)
  rw [h s (Finset.mem_range.1 hs)]
  exact Finset.sum_congr rfl fun r _ => by rw [dif_pos (Finset.mem_range.1 hs)]

/-- Two products of entries, factor by factor. -/
theorem mul_congr {a a' b b' : EReal} (ha : a = a') (hb : b = b') : a * b = a' * b' := by rw [ha, hb]

end Cert.Product
-- ==== Proof.Product.FfnOutDx.lean ====
/- The gradient behind the feed-forward layer's second product: `d = dy · w₂ᵀ`, and from it the gradients of `a` and `b` in
   `a · σ(a) · b`. The kernel multiplies by the weights transposed beforehand, tile by tile. -/
module

public import proofs.«01_k».proof.Defs
public import proofs.«01_k».proof.Proof.Product.Sums
public import proofs.«01_k».proof.Proof.Gen.Kernel2
public import proofs.«01_k».proof.Proof.Gen.Kernel2Ideal.Value
public import proofs.«01_k».proof.Proof.Gen.Reference2Ideal.Read
public import proofs.«01_k».proof.Proof.Gen.Reference2Ideal.Run

@[expose] public section

set_option maxRecDepth 16384

noncomputable section

namespace Cert.FfnOutDx

open Cert.Kernel2Ideal Cert.Kernel2Ideal.Gen Cert.Product
open Idealize.ShloMosaic Idealize.ShloMosaic.TcCoe Idealize.SL.Sem

/-! ## The frames -/

/-- The kernel as printed and its idealization have the same definitions. -/
theorem defs_eq : Cert.Kernel2.defs (F := Bits) = Cert.Kernel2Ideal.defs (F := Bits) := by
  refine congrArg (Pipeline.defs Cert.Kernel2Ideal.pcfgs) ?_
  unfold Cert.Kernel2.defs₀ Cert.Kernel2Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel2 := fun m g _ => by
  rw [defs_eq]
  exact frame (F := Bits) m g

theorem frame_ideal : quiescent_Kernel2Ideal := fun m g _ => frame (F := Ideal) m g

theorem frame_reference : quiescent_Reference2Ideal := fun m g _ =>
  (θ_run Cert.Reference2Ideal.defs _ _).mono (fun r h => ⟨fun c => (h c).2.2, sem_eq_zero_of_no_sems (by decide) r.2⟩)
    (Cert.Reference2Ideal.Value.run (F := Ideal) m g)

/-! ## The value -/

variable (m : (ℓ : Loc nD τ sig) → Buf (Elt Ideal) ℓ)

/-- The block of each window at a grid point: the columns' half `t / 18`, the rows' tile `t % 18`. -/
theorem index : ∀ t : Fin cfg0.N,
    win0_0.index t = ![t.val % 18, 0] ∧ win0_1.index t = ![0, t.val / 18]
    ∧ win0_2.index t = ![t.val % 18, t.val / 18] ∧ win0_3.index t = ![t.val % 18, t.val / 18]
    ∧ win0_4.index t = ![t.val % 18, t.val / 18] ∧ win0_5.index t = ![t.val % 18, t.val / 18] :=
  (by decide +kernel : ∀ t : Fin grid0.N, _)

/-- The weights as the kernel finds them: transposed. -/
theorem weights (c : Dev nD) : V m c main_v0
    = transpose S1024x2816 [1, 0] (m ((c.tc : Thread nD τ).loc main_arg1)) transposes_S2816x1024_S1024x2816_1_0 := by
  unfold_abbrev_sides
  after_results

/-- The grid point that computes an entry, -/
def point (p : Fin 9216) (q : Fin 2816) : Fin cfg0.N :=
  ⟨q.val / 1408 * 18 + p.val / 512, by have := p.isLt; have := q.isLt; show _ < 36; omega⟩
/-- and the entry's row -/
def rowPlace (p : Fin 9216) : Fin 512 := ⟨p.val % 512, by omega⟩
/-- and column in that point's block. -/
def place (q : Fin 2816) : Fin 1408 := ⟨q.val % 1408, by omega⟩

theorem point_mod (p : Fin 9216) (q : Fin 2816) : (point p q).val % 18 = p.val / 512 := by
  show (q.val / 1408 * 18 + p.val / 512) % 18 = _
  have := p.isLt
  omega

theorem point_div (p : Fin 9216) (q : Fin 2816) : (point p q).val / 18 = q.val / 1408 := by
  show (q.val / 1408 * 18 + p.val / 512) / 18 = _
  have := p.isLt
  omega

/-- An entry lies in the block of its grid point. -/
theorem entry (p : Fin 9216) (q : Fin 2816) (i : S9216x2816.Idx) (e : Fin 2 → Nat)
    (he : e = ![(point p q).val % 18, (point p q).val / 18])
    (h0 : (i 0).val = e 0 * 512 + 1 * (rowPlace p).val) (h1 : (i 1).val = e 1 * 1408 + 1 * (place q).val) : i = ix2 p q := by
  subst he
  refine ix2_of (h0.trans ?_) (h1.trans ?_)
  · show (point p q).val % 18 * 512 + 1 * (p.val % 512) = p.val
    rw [point_mod]; omega
  · show (point p q).val / 18 * 1408 + 1 * (q.val % 1408) = q.val
    rw [point_div]; omega

theorem entry_dy (p : Fin 9216) (q : Fin 2816) (k : Fin 1024) (i : S9216x1024.Idx) (e : Fin 2 → Nat)
    (he : e = ![(point p q).val % 18, 0])
    (h0 : (i 0).val = e 0 * 512 + 1 * (rowPlace p).val) (h1 : (i 1).val = e 1 * 1024 + 1 * k.val) : i = ix2 p k := by
  subst he
  refine ix2_of (h0.trans ?_) (h1.trans ?_)
  · show (point p q).val % 18 * 512 + 1 * (p.val % 512) = p.val
    rw [point_mod]; omega
  · show 0 * 1024 + 1 * k.val = k.val
    omega

theorem entry_w (p : Fin 9216) (q : Fin 2816) (k : Fin 1024) (i : S1024x2816.Idx) (e : Fin 2 → Nat)
    (he : e = ![0, (point p q).val / 18])
    (h0 : (i 0).val = e 0 * 1024 + 1 * k.val) (h1 : (i 1).val = e 1 * 1408 + 1 * (place q).val) : i = ix2 k q := by
  subst he
  refine ix2_of (h0.trans ?_) (h1.trans ?_)
  · show 0 * 1024 + 1 * k.val = k.val
    omega
  · show (point p q).val / 18 * 1408 + 1 * (q.val % 1408) = q.val
    rw [point_div]; omega

/-- The blocks of a grid point, entry by entry. -/
theorem dy_apply (c : Dev nD) (p : Fin 9216) (q : Fin 2816) (k : Fin 1024) :
    iblk m c 0 (point p q) (ix2 (rowPlace p) k) = m ((c.tc : Thread nD τ).loc main_arg0) (ix2 p k) :=
  (congrArg (V m c main_arg0) (entry_dy p q k _ _ (index (point p q)).1 rfl rfl)).trans (congrFun (V_main_arg0 m c) _)

theorem w_apply (c : Dev nD) (p : Fin 9216) (q : Fin 2816) (k : Fin 1024) :
    iblk m c 1 (point p q) (ix2 k (place q)) = m ((c.tc : Thread nD τ).loc main_arg1) (ix2 q k) := by
  refine (congrArg (V m c main_v0) (entry_w p q k _ _ (index (point p q)).2.1 rfl rfl)).trans ((congrFun (weights m c) _).trans ?_)
  pointwise []

theorem a_apply (c : Dev nD) (p : Fin 9216) (q : Fin 2816) :
    iblk m c 2 (point p q) (ix2 (rowPlace p) (place q)) = m ((c.tc : Thread nD τ).loc main_arg2) (ix2 p q) :=
  (congrArg (V m c main_arg2) (entry p q _ _ (index (point p q)).2.2.1 rfl rfl)).trans (congrFun (V_main_arg2 m c) _)

theorem b_apply (c : Dev nD) (p : Fin 9216) (q : Fin 2816) :
    iblk m c 3 (point p q) (ix2 (rowPlace p) (place q)) = m ((c.tc : Thread nD τ).loc main_arg3) (ix2 p q) :=
  (congrArg (V m c main_arg3) (entry p q _ _ (index (point p q)).2.2.2.1 rfl rfl)).trans (congrFun (V_main_arg3 m c) _)

/-- The gradient of `a`, from that of the product, -/
def da (d a b : EReal) : EReal := d * b * Ideal.logistic a + a * (d * b) * (Ideal.logistic a * (1 - Ideal.logistic a))
/-- and of `b`. -/
def db (d a : EReal) : EReal := a * Ideal.logistic a * d

theorem pay4_apply (v0 : Vec Ideal S512x1024 .bf16) (v1 : Vec Ideal S1024x1408 .bf16) (v4 v6 : Vec Ideal S512x1408 .bf16) (p : Fin 512) (q : Fin 1408) :
    k0_pay4 (F := Ideal) v0 v1 v4 v6 (ix2 p q) = da (mul v0 v1 p q) (v4 (ix2 p q)) (v6 (ix2 p q)) := by
  pointwise [k0_pay4, k0_pay3, k0_pay2, k0_pay1, da, mul]

theorem pay5_apply (v0 : Vec Ideal S512x1024 .bf16) (v1 : Vec Ideal S1024x1408 .bf16) (v4 : Vec Ideal S512x1408 .bf16) (p : Fin 512) (q : Fin 1408) :
    k0_pay5 (F := Ideal) v0 v1 v4 (ix2 p q) = db (mul v0 v1 p q) (v4 (ix2 p q)) := by
  pointwise [k0_pay5, k0_pay3, k0_pay2, k0_pay1, db, mul]

/-- A block of each result. -/
theorem block_apply (x0 : Vec Ideal S512x1024 .bf16) (x1 : Vec Ideal S1024x1408 .bf16) (x2 x3 : Vec Ideal S512x1408 .bf16) (p : Fin 512) (q : Fin 1408) :
    out0_4 x0 x1 x2 x3 (ix2 p q) = da (mul x0 x1 p q) (x2 (ix2 p q)) (x3 (ix2 p q))
    ∧ out0_5 x0 x1 x2 x3 (ix2 p q) = db (mul x0 x1 p q) (x2 (ix2 p q)) := by
  have hz : (![0, 0] : Fin 2 → Nat) = fun _ => 0 := funext fun a => by fin_cases a <;> rfl
  unfold out0_4 out0_5
  rw [View.canon_unit_zero hz, View.canon_unit_zero hz]
  simp only [View.ld_unit_zero (S := S512x1024) hz, View.ld_unit_zero (S := S1024x1408) hz, View.ld_unit_zero (S := S512x1408) hz]
  exact ⟨pay4_apply _ _ _ _ p q, pay5_apply _ _ _ p q⟩

theorem product (c : Dev nD) (p : Fin 9216) (q : Fin 2816) :
    mul (iblk m c 0 (point p q)) (iblk m c 1 (point p q)) (rowPlace p) (place q)
      = mulT (m ((c.tc : Thread nD τ).loc main_arg0)) (m ((c.tc : Thread nD τ).loc main_arg1)) p q :=
  Finset.sum_congr rfl fun k _ => mul_congr (dy_apply m c p q k) (w_apply m c p q k)

/-- The results after the run. -/
theorem result_apply (c : Dev nD) (p : Fin 9216) (q : Fin 2816) :
    (dats m 0 c).arrAt 4 cfg0.N (ix2 p q)
      = da (mulT (m ((c.tc : Thread nD τ).loc main_arg0)) (m ((c.tc : Thread nD τ).loc main_arg1)) p q)
          (m ((c.tc : Thread nD τ).loc main_arg2) (ix2 p q)) (m ((c.tc : Thread nD τ).loc main_arg3) (ix2 p q))
    ∧ (dats m 0 c).arrAt 5 cfg0.N (ix2 p q)
      = db (mulT (m ((c.tc : Thread nD τ).loc main_arg0)) (m ((c.tc : Thread nD τ).loc main_arg1)) p q)
          (m ((c.tc : Thread nD τ).loc main_arg2) (ix2 p q)) := by
  refine ⟨?_, ?_⟩
  · have e := congrFun (Value.blocks4 m c (point p q) (flush0_4 _)) (ix2 (rowPlace p) (place q))
    rw [Value.flushed4] at e
    refine (congrArg ((dats m 0 c).arrAt 4 cfg0.N) (entry p q _ _ (index (point p q)).2.2.2.2.1 rfl rfl).symm).trans
      (e.trans ((block_apply _ _ _ _ _ _).1.trans ?_))
    rw [product, a_apply, b_apply]
  · have e := congrFun (Value.blocks5 m c (point p q) (flush0_5 _)) (ix2 (rowPlace p) (place q))
    rw [Value.flushed5] at e
    refine (congrArg ((dats m 0 c).arrAt 5 cfg0.N) (entry p q _ _ (index (point p q)).2.2.2.2.2 rfl rfl).symm).trans
      (e.trans ((block_apply _ _ _ _ _ _).2.trans ?_))
    rw [product, a_apply]

/-! ## The reference -/

theorem reference_product (x0 : (⟨S9216x1024, .bf16⟩ : BufTy).Contents (Elt Ideal)) (x1 : (⟨S2816x1024, .bf16⟩ : BufTy).Contents (Elt Ideal))
    (p : Fin 9216) (q : Fin 2816) : Cert.Reference2Ideal.Read.val_main_v7 (F := Ideal) x0 x1 (ix2 p q) = mulT x0 x1 p q := by
  pointwise [Cert.Reference2Ideal.Read.val_main_v7, Cert.Reference2Ideal.Read.val_main_v6, Cert.Reference2Ideal.Read.val_main_v2, mulT]

theorem reference_da (x0 : (⟨S9216x1024, .bf16⟩ : BufTy).Contents (Elt Ideal)) (x1 : (⟨S2816x1024, .bf16⟩ : BufTy).Contents (Elt Ideal))
    (x2 x3 : (⟨S9216x2816, .bf16⟩ : BufTy).Contents (Elt Ideal)) (p : Fin 9216) (q : Fin 2816) :
    Cert.Reference2Ideal.Read.val_main_v11 (F := Ideal) x0 x1 x2 x3 (ix2 p q) = da (mulT x0 x1 p q) (x2 (ix2 p q)) (x3 (ix2 p q)) := by
  rw [← reference_product]
  pointwise [Cert.Reference2Ideal.Read.val_main_v11, Cert.Reference2Ideal.Read.val_main_v10, Cert.Reference2Ideal.Read.val_main_call1_v2, Cert.Reference2Ideal.Read.val_main_call1_v1, Cert.Reference2Ideal.Read.val_main_call1_v0, Cert.Reference2Ideal.Read.val_main_v9, Cert.Reference2Ideal.Read.val_main_v3_0, Cert.Reference2Ideal.Read.val_main_v3_1, Cert.Reference2Ideal.Read.val_main_v3_2, Cert.Reference2Ideal.Read.val_main_v1, Cert.Reference2Ideal.Read.val_main_v0, Cert.Reference2Ideal.Read.val_main_call0_v7, Cert.Reference2Ideal.Read.val_main_call0_v6, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0, Cert.Reference2Ideal.Read.val_main_call0_cst_1, da]
  rfl

theorem reference_db (x0 : (⟨S9216x1024, .bf16⟩ : BufTy).Contents (Elt Ideal)) (x1 : (⟨S2816x1024, .bf16⟩ : BufTy).Contents (Elt Ideal))
    (x2 : (⟨S9216x2816, .bf16⟩ : BufTy).Contents (Elt Ideal)) (p : Fin 9216) (q : Fin 2816) :
    Cert.Reference2Ideal.Read.val_main_v12 (F := Ideal) x0 x1 x2 (ix2 p q) = db (mulT x0 x1 p q) (x2 (ix2 p q)) := by
  rw [← reference_product]
  pointwise [Cert.Reference2Ideal.Read.val_main_v12, Cert.Reference2Ideal.Read.val_main_v8, Cert.Reference2Ideal.Read.val_main_v3_0, Cert.Reference2Ideal.Read.val_main_v3_2, Cert.Reference2Ideal.Read.val_main_v0, Cert.Reference2Ideal.Read.val_main_call0_v4, Cert.Reference2Ideal.Read.val_main_call0_v3, Cert.Reference2Ideal.Read.val_main_call0_v2, Cert.Reference2Ideal.Read.val_main_call0_v1, Cert.Reference2Ideal.Read.val_main_call0_v0, Cert.Reference2Ideal.Read.val_main_call0_cst, Cert.Reference2Ideal.Read.val_main_call0_cst_0, db]
  rfl

theorem algebraic : algebraic_Kernel2Ideal_Reference2Ideal := by
  intro m g m' g' _ hm
  refine ⟨fun c => (dats m 0 c).arrAt 4 cfg0.N, fun c => (dats m 0 c).arrAt 5 cfg0.N, Value.run_blocks m g,
    (θ_run _ _ _).mono (fun r h c => ⟨(h c).1.trans ?_, (h c).2.1.trans ?_, (h c).2.2⟩) (Cert.Reference2Ideal.Value.run m' g')⟩
  all_goals
    obtain ⟨a0, a1, a2, a3⟩ := hm c
    have hi : ∀ i : S9216x2816.Idx, ∃ (p : Fin 9216) (q : Fin 2816), i = ix2 p q := fun i => ⟨i 0, i 1, eq_ix2 i⟩
  · rw [Cert.Reference2Ideal.Read.val_main_v11_eq, a0, a1, a2, a3]
    funext i
    obtain ⟨p, q, rfl⟩ := hi i
    exact (reference_da _ _ _ _ p q).trans (result_apply m c p q).1.symm
  · rw [Cert.Reference2Ideal.Read.val_main_v12_eq, a0, a1, a2]
    funext i
    obtain ⟨p, q, rfl⟩ := hi i
    exact (reference_db _ _ _ p q).trans (result_apply m c p q).2.symm

end Cert.FfnOutDx
-- ==== Proof.Product.FfnInDx.lean ====
/- The gradient of the feed-forward layer's input, `da · w₀ᵀ + db · w₁ᵀ`: the kernel adds the products of the four halves that
   the weights are kept in, the reference multiplies the halves joined. -/
module

public import proofs.«01_k».proof.Defs
public import proofs.«01_k».proof.Proof.Product.Sums
public import proofs.«01_k».proof.Proof.Gen.Kernel3
public import proofs.«01_k».proof.Proof.Gen.Kernel3Ideal.Value
public import proofs.«01_k».proof.Proof.Gen.Reference3Ideal.Read
public import proofs.«01_k».proof.Proof.Gen.Reference3Ideal.Run

@[expose] public section

set_option maxRecDepth 16384

noncomputable section

namespace Cert.FfnInDx

open Cert.Kernel3Ideal Cert.Kernel3Ideal.Gen Cert.Product
open Idealize.ShloMosaic Idealize.ShloMosaic.TcCoe Idealize.SL.Sem

/-! ## The frames -/

/-- The kernel as printed and its idealization have the same definitions. -/
theorem defs_eq : Cert.Kernel3.defs (F := Bits) = Cert.Kernel3Ideal.defs (F := Bits) := by
  refine congrArg (Pipeline.defs Cert.Kernel3Ideal.pcfgs) ?_
  unfold Cert.Kernel3.defs₀ Cert.Kernel3Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel3 := fun m g _ => by
  rw [defs_eq]
  exact frame (F := Bits) m g

theorem frame_ideal : quiescent_Kernel3Ideal := fun m g _ => frame (F := Ideal) m g

theorem frame_reference : quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-! ## The value -/

variable (m : (ℓ : Loc nD τ sig) → Buf (Elt Ideal) ℓ)

/-- The block of each window at a grid point. -/
theorem index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t = ![0, 0, 0, 0] ∧ win0_3.index t = ![1, 0, 0, 0] ∧ win0_4.index t = ![2, 0, 0, 0] ∧ win0_5.index t = ![3, 0, 0, 0])
    ∧ (win0_6.index t (0 : Fin 2) = t.val ∧ win0_6.index t (1 : Fin 2) = 0) :=
  (by decide +kernel : ∀ t : Fin grid0.N, _)

/-- A tile's rows of the first derivative. -/
theorem da_apply (c : Dev nD) (t : Fin cfg0.N) (a : Fin 512) (b : Fin 2816) (i : S9216x2816.Idx)
    (h0 : (i 0).val = t.val * 512 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 512 + 1 * a.val = (i 0).val; rw [e0, h0]; omega
  | ⟨1, _⟩ => show win0_0.index t (1 : Fin 2) * 2816 + 1 * b.val = (i 1).val; rw [e1, h1]; omega

/-- A tile's rows of the second. -/
theorem db_apply (c : Dev nD) (t : Fin cfg0.N) (a : Fin 512) (b : Fin 2816) (i : S9216x2816.Idx)
    (h0 : (i 0).val = t.val * 512 + a.val) (h1 : (i 1).val = b.val) :
    iblk m c 1 t (ix2 a b) = m ((c.tc : Thread nD τ).loc main_arg1) i := by
  have e0 : win0_1.index t (0 : Fin 2) = _ := (index t).2.1.1
  have e1 : win0_1.index t (1 : Fin 2) = _ := (index t).2.1.2
  refine congrArg (m ((c.tc : Thread nD τ).loc main_arg1)) (funext fun x => Fin.ext ?_)
  match x with
  | ⟨0, _⟩ => show win0_1.index t (0 : Fin 2) * 512 + 1 * a.val = (i 0).val; rw [e0, h0]; omega
  | ⟨1, _⟩ => show win0_1.index t (1 : Fin 2) * 2816 + 1 * b.val = (i 1).val; rw [e1, h1]; omega

/-- The block of weights that a window at a constant index reads. -/
theorem emb_apply (W : (⟨4, ![4, 4, 1024, 1408]⟩ : Shape).Idx → EReal) (j : Fin 4) (q : Fin 1024) (k : Fin 1408)
    (i : (⟨4, ![4, 4, 1024, 1408]⟩ : Shape).Idx) (e : Fin 4 → Nat) (he : e = ![j.val, 0, 0, 0])
    (h0 : (i 0).val = e 0 * 1 + 1 * 0) (h1 : (i 1).val = e 1 * 1 + 1 * 0) (h2 : (i 2).val = e 2 * 1024 + 1 * q.val)
    (h3 : (i 3).val = e 3 * 1408 + 1 * k.val) : W i = W (ix4 j 0 q k) := by
  subst he
  refine congrArg W (funext fun x => Fin.ext ?_)
  match x with
  | ⟨0, _⟩ => exact h0.trans (show j.val * 1 + 1 * 0 = j.val by omega)
  | ⟨1, _⟩ => exact h1.trans (show 0 * 1 + 1 * 0 = 0 by omega)
  | ⟨2, _⟩ => exact h2.trans (show 0 * 1024 + 1 * q.val = q.val by omega)
  | ⟨3, _⟩ => exact h3.trans (show 0 * 1408 + 1 * k.val = k.val by omega)

/-- The weights' halves: the windows 2 to 5 hold the halves 0 to 3 of the first layer's weights. -/
theorem w_apply (c : Dev nD) (t : Fin cfg0.N) (q : Fin 1024) (k : Fin 1408) :
    iblk m c 2 t (ix4 0 0 q k) = m ((c.tc : Thread nD τ).loc main_arg2) (ix4 0 0 q k)
    ∧ iblk m c 3 t (ix4 0 0 q k) = m ((c.tc : Thread nD τ).loc main_arg2) (ix4 1 0 q k)
    ∧ iblk m c 4 t (ix4 0 0 q k) = m ((c.tc : Thread nD τ).loc main_arg2) (ix4 2 0 q k)
    ∧ iblk m c 5 t (ix4 0 0 q k) = m ((c.tc : Thread nD τ).loc main_arg2) (ix4 3 0 q k) :=
  ⟨emb_apply _ 0 q k _ _ (index t).2.2.1.1 rfl rfl rfl rfl, emb_apply _ 1 q k _ _ (index t).2.2.1.2.1 rfl rfl rfl rfl,
    emb_apply _ 2 q k _ _ (index t).2.2.1.2.2.1 rfl rfl rfl rfl, emb_apply _ 3 q k _ _ (index t).2.2.1.2.2.2 rfl rfl rfl rfl⟩

/-- Column `k` of the left half, -/
def lo (k : Fin 1408) : Fin 2816 := ⟨k.val, by have := k.isLt; omega⟩
/-- and of the right half. -/
def hi (k : Fin 1408) : Fin 2816 := ⟨1408 + k.val, by have := k.isLt; omega⟩

/-- An entry of the gradient: the products of the four halves, added. -/
def grad (A B : (⟨2, ![9216, 2816]⟩ : Shape).Idx → EReal) (W : (⟨4, ![4, 4, 1024, 1408]⟩ : Shape).Idx → EReal) (p : Fin 9216) (q : Fin 1024) : EReal :=
  (∑ k : Fin 1408, A (ix2 p (lo k)) * W (ix4 0 0 q k) + ∑ k : Fin 1408, A (ix2 p (hi k)) * W (ix4 1 0 q k))
    + (∑ k : Fin 1408, B (ix2 p (lo k)) * W (ix4 2 0 q k) + ∑ k : Fin 1408, B (ix2 p (hi k)) * W (ix4 3 0 q k))

theorem ld_lo (x : Vec Ideal S512x2816 .bf16) (a : Fin 512) (k : Fin 1408) : View.ld x r0_0 (ix2 a k) = x (ix2 a (lo k)) :=
  congrArg x (ix2_of (by show 0 + 1 * a.val = a.val; omega) (by show 0 + 1 * k.val = k.val; omega))

theorem ld_hi (x : Vec Ideal S512x2816 .bf16) (a : Fin 512) (k : Fin 1408) : View.ld x r0_2 (ix2 a k) = x (ix2 a (hi k)) :=
  congrArg x (ix2_of (by show 0 + 1 * a.val = a.val; omega) (by show 1408 + 1 * k.val = 1408 + k.val; omega))

/-- A tile's product with one half of the weights. -/
def half (X : (⟨2, ![512, 1408]⟩ : Shape).Idx → EReal) (W : (⟨4, ![1, 1, 1024, 1408]⟩ : Shape).Idx → EReal) (p : Fin 512) (q : Fin 1024) : EReal :=
  ∑ k : Fin 1408, X (ix2 p k) * W (ix4 0 0 q k)

/-- What the kernel stores: four products, added. -/
theorem pay_apply (v0 v4 v9 v13 : Vec Ideal S512x1408 .bf16) (v1 v5 v10 v14 : Vec Ideal S1x1x1024x1408 .bf16) (p : Fin 512) (q : Fin 1024) :
    k0_pay1 (F := Ideal) v0 v1 v4 v5 v9 v10 v13 v14 (ix2 p q)
      = (half v0 v1 p q + half v4 v5 p q) + (half v9 v10 p q + half v13 v14 p q) := by
  pointwise [k0_pay1, half]

/-- A block of the gradient. -/
theorem block_apply (x0 x1 : Vec Ideal S512x2816 .bf16) (x2 x3 x4 x5 : Vec Ideal S1x1x1024x1408 .bf16) (p : Fin 512) (q : Fin 1024) :
    out0_6 x0 x1 x2 x3 x4 x5 (ix2 p q)
      = (half (fun i => x0 (ix2 (i 0) (lo (i 1)))) x2 p q + half (fun i => x0 (ix2 (i 0) (hi (i 1)))) x3 p q)
        + (half (fun i => x1 (ix2 (i 0) (lo (i 1)))) x4 p q + half (fun i => x1 (ix2 (i 0) (hi (i 1)))) x5 p q) := by
  have hz : (![0, 0] : Fin 2 → Nat) = fun _ => 0 := funext fun a => by fin_cases a <;> rfl
  have hz4 : (![0, 0, 0, 0] : Fin 4 → Nat) = fun _ => 0 := funext fun a => by fin_cases a <;> rfl
  unfold out0_6
  rw [View.canon_unit_zero hz]
  simp only [View.ld_unit_zero (S := S1x1x1024x1408) hz4]
  refine (pay_apply _ _ _ _ _ _ _ _ p q).trans ?_
  refine congrArg₂ (· + ·) (congrArg₂ (· + ·) ?_ ?_) (congrArg₂ (· + ·) ?_ ?_) <;> refine Finset.sum_congr rfl fun k _ => ?_
  · exact mul_congr (ld_lo x0 p k) rfl
  · exact mul_congr (ld_hi x0 p k) rfl
  · exact mul_congr (ld_lo x1 p k) rfl
  · exact mul_congr (ld_hi x1 p k) rfl

/-- The result after the run is the gradient. -/
theorem result_apply (c : Dev nD) (p : Fin 9216) (q : Fin 1024) :
    (dats m 0 c).arrAt 6 cfg0.N (ix2 p q)
      = grad (m ((c.tc : Thread nD τ).loc main_arg0)) (m ((c.tc : Thread nD τ).loc main_arg1)) (m ((c.tc : Thread nD τ).loc main_arg2)) p q := by
  have hp := p.isLt
  have hq := q.isLt
  have ht : p.val / 512 < cfg0.N := by show _ < 18; omega
  have e := congrFun (Value.blocks6 m c ⟨p.val / 512, ht⟩ (flush0_6 _)) (ix2 (⟨p.val % 512, by omega⟩ : Fin 512) q)
  rw [Value.flushed6] at e
  refine Eq.trans (congrArg ((dats m 0 c).arrAt 6 cfg0.N) (funext fun x => Fin.ext ?_)) (e.trans ((block_apply _ _ _ _ _ _ _ _).trans ?_))
  · have e0 := (index ⟨p.val / 512, ht⟩).2.2.2.1
    have e1 := (index ⟨p.val / 512, ht⟩).2.2.2.2
    match x with
    | ⟨0, _⟩ => show p.val = win0_6.index _ (0 : Fin 2) * 512 + 1 * (p.val % 512); rw [e0]; dsimp only; omega
    | ⟨1, _⟩ => show q.val = win0_6.index _ (1 : Fin 2) * 1024 + 1 * q.val; rw [e1]; omega
  · have hr : p.val = p.val / 512 * 512 + p.val % 512 := by omega
    refine congrArg₂ (· + ·) (congrArg₂ (· + ·) ?_ ?_) (congrArg₂ (· + ·) ?_ ?_) <;> refine Finset.sum_congr rfl fun k _ => ?_
    · exact mul_congr (da_apply m c _ _ _ _ hr rfl) (w_apply m c _ q k).1
    · exact mul_congr (da_apply m c _ _ _ _ hr rfl) (w_apply m c _ q k).2.1
    · exact mul_congr (db_apply m c _ _ _ _ hr rfl) (w_apply m c _ q k).2.2.1
    · exact mul_congr (db_apply m c _ _ _ _ hr rfl) (w_apply m c _ q k).2.2.2

/-- The reference's product of the joined halves. -/
theorem reference_apply (x0 x1 : (⟨S9216x2816, .bf16⟩ : BufTy).Contents (Elt Ideal)) (x2 : (⟨S4x4x1024x1408, .bf16⟩ : BufTy).Contents (Elt Ideal))
    (p : Fin 9216) (q : Fin 1024) :
    Cert.Reference3Ideal.Read.val_main_v14 (F := Ideal) x0 x1 x2 (ix2 p q) = grad x0 x1 x2 p q := by
  pointwise [Cert.Reference3Ideal.Read.val_main_v14, Cert.Reference3Ideal.Read.val_main_v13, Cert.Reference3Ideal.Read.val_main_v11,
    Cert.Reference3Ideal.Read.val_main_v9, Cert.Reference3Ideal.Read.val_main_v8, Cert.Reference3Ideal.Read.val_main_v7,
    Cert.Reference3Ideal.Read.val_main_v6, Cert.Reference3Ideal.Read.val_main_v5, Cert.Reference3Ideal.Read.val_main_v4,
    Cert.Reference3Ideal.Read.val_main_v3, Cert.Reference3Ideal.Read.val_main_v2, Cert.Reference3Ideal.Read.val_main_v1,
    Cert.Reference3Ideal.Read.val_main_v0]
  rw [Fin.sum_univ_two_halves 2816 2816 rfl, Fin.sum_univ_two_halves 1408 1408 rfl, Fin.sum_univ_two_halves 1408 1408 rfl]
  refine congrArg₂ (· + ·) (congrArg₂ (· + ·) ?_ ?_) (congrArg₂ (· + ·) ?_ ?_) <;> refine Finset.sum_congr rfl fun k _ => ?_
  · have hk := k.isLt
    rw [dif_pos (by dsimp only; omega), dif_pos (by dsimp only; omega)]
    rfl
  · have hk := k.isLt
    rw [dif_pos (by dsimp only; omega), dif_neg (by dsimp only; omega), dif_pos (by dsimp only; omega)]
    exact mul_congr rfl (congrArg (fun k => x2 (ix4 1 0 q k)) (Fin.ext (by dsimp only; omega)))
  · have hk := k.isLt
    rw [dif_neg (by dsimp only; omega), dif_neg (by dsimp only; omega), dif_neg (by dsimp only; omega), dif_pos (by dsimp only; omega)]
    exact mul_congr (congrArg (fun k => x1 (ix2 p k)) (Fin.ext (by show 2816 + k.val - 2816 = k.val; omega)))
      (congrArg (fun k => x2 (ix4 2 0 q k)) (Fin.ext (by dsimp only; omega)))
  · have hk := k.isLt
    rw [dif_neg (by dsimp only; omega), dif_neg (by dsimp only; omega), dif_neg (by dsimp only; omega), dif_neg (by dsimp only; omega)]
    exact mul_congr (congrArg (fun k => x1 (ix2 p k)) (Fin.ext (by show 2816 + (1408 + k.val) - 2816 = 1408 + k.val; omega)))
      (congrArg (fun k => x2 (ix4 3 0 q k)) (Fin.ext (by dsimp only; omega)))

theorem algebraic : algebraic_Kernel3Ideal_Reference3Ideal := by
  intro m g m' g' _ hm
  refine ⟨fun c => (dats m 0 c).arrAt 6 cfg0.N, Value.run_blocks m g,
    (θ_run _ _ _).mono (fun r h c => ⟨(h c).1.trans ?_, (h c).2⟩) (Cert.Reference3Ideal.Value.run m' g')⟩
  obtain ⟨a0, a1, a2⟩ := hm c
  rw [Cert.Reference3Ideal.Read.val_main_v14_eq, a0, a1, a2]
  funext i
  obtain ⟨p, q, rfl⟩ : ∃ (p : Fin 9216) (q : Fin 1024), i = ix2 p q := ⟨i 0, i 1, eq_ix2 i⟩
  exact (reference_apply _ _ _ p q).trans (result_apply m c p q).symm

end Cert.FfnInDx
-- ==== Proof.Product.FfnOutDw.lean ====
/- The gradient of the feed-forward layer's second weights, `actᵀ · df`: two halves of the activations' columns, and for each
   half nine tiles of rows. -/
module

public import proofs.«01_k».proof.Defs
public import proofs.«01_k».proof.Proof.Product.Sums
public import proofs.«01_k».proof.Proof.Gen.Kernel4
public import proofs.«01_k».proof.Proof.Gen.Kernel4Ideal.Value
public import proofs.«01_k».proof.Proof.Gen.Reference4Ideal.Read
public import proofs.«01_k».proof.Proof.Gen.Reference4Ideal.Run

@[expose] public section

set_option maxRecDepth 16384

noncomputable section

namespace Cert.FfnOutDw

open Cert.Kernel4Ideal Cert.Kernel4Ideal.Gen Cert.Product
open Idealize.ShloMosaic Idealize.ShloMosaic.TcCoe Idealize.SL.Sem

/-! ## The frames -/

/-- The kernel as printed and its idealization have the same definitions. -/
theorem defs_eq : Cert.Kernel4.defs (F := Bits) = Cert.Kernel4Ideal.defs (F := Bits) := by
  refine congrArg (Pipeline.defs Cert.Kernel4Ideal.pcfgs) ?_
  unfold Cert.Kernel4.defs₀ Cert.Kernel4Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel4 := fun m g _ => by
  rw [defs_eq]
  exact frame (F := Bits) m g

theorem frame_ideal : quiescent_Kernel4Ideal := fun m g _ => frame (F := Ideal) m g

theorem frame_reference : quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-! ## The value -/

variable (m : (ℓ : Loc nD τ sig) → Buf (Elt Ideal) ℓ)

/-- The block of each input window at a grid point. -/
theorem index : ∀ t : Fin cfg0.N,
    (win0_0.index t (0 : Fin 2) = t.val % 9 ∧ win0_0.index t (1 : Fin 2) = t.val / 9)
    ∧ (win0_1.index t (0 : Fin 2) = t.val % 9 ∧ win0_1.index t (1 : Fin 2) = 0) :=
  (by decide +kernel : ∀ t : Fin grid0.N, _)

/-- A tile's rows of the left operand. -/
theorem left_apply (c : Dev nD) (t : Fin cfg0.N) (a : Fin 1024) (b : Fin 1408) (i : S9216x2816.Idx)
    (h0 : (i 0).val = t.val % 9 * 1024 + a.val) (h1 : (i 1).val = t.val / 9 * 1408 + b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1024 + 1 * a.val = (i 0).val; rw [e0, h0]; omega
  | ⟨1, _⟩ => show win0_0.index t (1 : Fin 2) * 1408 + 1 * b.val = (i 1).val; rw [e1, h1]; omega

/-- A tile's rows of the right operand. -/
theorem right_apply (c : Dev nD) (t : Fin cfg0.N) (a : Fin 1024) (b : Fin 1024) (i : S9216x1024.Idx)
    (h0 : (i 0).val = t.val % 9 * 1024 + a.val) (h1 : (i 1).val = b.val) :
    iblk m c 1 t (ix2 a b) = m ((c.tc : Thread nD τ).loc main_arg1) i := by
  have e0 : win0_1.index t (0 : Fin 2) = _ := (index t).2.1
  have e1 : win0_1.index t (1 : Fin 2) = _ := (index t).2.2
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 1024 + 1 * b.val = (i 1).val; rw [e1, h1]; omega

/-- What a tile adds to an entry. -/
def tile (c : Dev nD) (n : ℕ) (i : S1408x1024.Idx) : EReal :=
  if h : n < cfg0.N then tmul (iblk m c 0 ⟨n, h⟩) (iblk m c 1 ⟨n, h⟩) (i 0) (i 1) else 0

theorem step_apply (x0 : Vec Ideal S1024x1408 .bf16) (x1 : Vec Ideal S1024x1024 .bf16) (acc : Vec Ideal S1408x1024 .f32) (i : S1408x1024.Idx) :
    k0_pay2 x0 x1 acc i = acc i + tmul x0 x1 (i 0) (i 1) := by
  obtain ⟨p, q, rfl⟩ : ∃ (p : Fin 1408) (q : Fin 1024), i = ix2 p q := ⟨i 0, i 1, eq_ix2 i⟩
  pointwise [k0_pay2]
  rfl

/-- The result after the run is the product. -/
theorem result_apply (c : Dev nD) (p : Fin 2816) (q : Fin 1024) :
    Value.G2 m c (ix2 p q) = tmul (m ((c.tc : Thread nD τ).loc main_arg0)) (m ((c.tc : Thread nD τ).loc main_arg1)) p q := by
  have hp := p.isLt
  have hq := q.isLt
  have hrun : Value.run2Of (ix2 p q) = p.val / 1408 := by show 1 * (p.val / 1408 - 0) + 1 * (q.val / 1024 - 0) = _; omega
  have hloc : Value.loc2Of (ix2 p q) = ix2 (⟨p.val % 1408, by omega⟩ : Fin 1408) q := ix2_of rfl (Nat.mod_eq_of_lt hq)
  unfold Value.G2
  rw [dif_pos (by rw [hrun]; show _ < 18; omega), hloc]
  refine (Pipeline.accAt_add_apply (β := EReal) (Value.reset2 m c) (Value.step2 m c) (fun _ => 0) (tile m c) _ 8 (fun h i => ?_) (fun n h acc i _ _ => ?_) 8 le_rfl _ _).trans ?_
  · unfold Value.reset2 tile
    rw [step_apply, dif_pos h]
    pointwise [k0_pay1]
  · unfold Value.step2 tile
    rw [step_apply, dif_pos h]
  · rw [zero_add, hrun]
    refine tmul_tiles (n := 9) (l := 1024) rfl _ _ p q _ fun s hs => ?_
    unfold tile
    rw [dif_pos (by show _ < 18; omega : 9 * (p.val / 1408) + s < cfg0.N)]
    exact Finset.sum_congr rfl fun r _ => mul_congr
      (left_apply m c _ _ _ _ (by show s * 1024 + r.val = (9 * (p.val / 1408) + s) % 9 * 1024 + r.val; omega)
        (by show p.val = (9 * (p.val / 1408) + s) / 9 * 1408 + p.val % 1408; omega))
      (right_apply m c _ _ _ _ (by show s * 1024 + r.val = (9 * (p.val / 1408) + s) % 9 * 1024 + r.val; omega) rfl)

/-- The reference's product. -/
theorem reference_apply (x0 : (⟨S9216x2816, .bf16⟩ : BufTy).Contents (Elt Ideal)) (x1 : (⟨S9216x1024, .bf16⟩ : BufTy).Contents (Elt Ideal))
    (p : Fin 2816) (q : Fin 1024) :
    Cert.Reference4Ideal.Read.val_main_v5 (F := Ideal) x0 x1 (ix2 p q) = tmul x0 x1 p q := by
  rw [Cert.Reference4Ideal.Read.val_main_v5_apply, Cert.Reference4Ideal.Read.val_main_v4_apply]
  refine Finset.sum_congr rfl fun k _ => (mul_comm _ _).trans (mul_congr (congrArg x0 (ix2_of rfl rfl)) (congrArg x1 (ix2_of rfl rfl)))

theorem algebraic : algebraic_Kernel4Ideal_Reference4Ideal := by
  intro m g m' g' _ hm
  refine ⟨fun c => Value.G2 m c, Value.run m g,
    (θ_run _ _ _).mono (fun r h c => ⟨(h c).1.trans ?_, (h c).2⟩) (Cert.Reference4Ideal.Value.run m' g')⟩
  obtain ⟨a0, a1⟩ := hm c
  rw [Cert.Reference4Ideal.Read.val_main_v5_eq, a0, a1]
  funext i
  obtain ⟨p, q, rfl⟩ : ∃ (p : Fin 2816) (q : Fin 1024), i = ix2 p q := ⟨i 0, i 1, eq_ix2 i⟩
  exact (reference_apply _ _ p q).trans (result_apply m c p q).symm

end Cert.FfnOutDw
-- ==== Proof.Product.FfnInDw.lean ====
/- The gradient of the feed-forward layer's first weights, `xᵀ · da`, kept as two halves of its columns: the kernel adds up the
   products of nine tiles of rows, each half on its own, the reference multiplies and then cuts the columns. -/
module

public import proofs.«01_k».proof.Defs
public import proofs.«01_k».proof.Proof.Product.Sums
public import proofs.«01_k».proof.Proof.Gen.Kernel5
public import proofs.«01_k».proof.Proof.Gen.Kernel5Ideal.Value
public import proofs.«01_k».proof.Proof.Gen.Reference5Ideal.Read
public import proofs.«01_k».proof.Proof.Gen.Reference5Ideal.Run

@[expose] public section

set_option maxRecDepth 16384

noncomputable section

namespace Cert.FfnInDw

open Cert.Kernel5Ideal Cert.Kernel5Ideal.Gen Cert.Product
open Idealize.ShloMosaic Idealize.ShloMosaic.TcCoe Idealize.SL.Sem

/-! ## The frames -/

/-- The kernel as printed and its idealization have the same definitions. -/
theorem defs_eq : Cert.Kernel5.defs (F := Bits) = Cert.Kernel5Ideal.defs (F := Bits) := by
  refine congrArg (Pipeline.defs Cert.Kernel5Ideal.pcfgs) ?_
  unfold Cert.Kernel5.defs₀ Cert.Kernel5Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel5 := fun m g _ => by
  rw [defs_eq]
  exact frame (F := Bits) m g

theorem frame_ideal : quiescent_Kernel5Ideal := fun m g _ => frame (F := Ideal) m g

theorem frame_reference : quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-! ## The value -/

variable (m : (ℓ : Loc nD τ sig) → Buf (Elt Ideal) ℓ)

/-- The block of each window at a grid point. -/
theorem index : ∀ t : Fin cfg0.N,
    win0_0.index t = ![t.val, 0] ∧ win0_1.index t = ![t.val, 0] ∧ win0_2.index t = ![0, 0, 0] :=
  (by decide +kernel : ∀ t : Fin grid0.N, _)

/-- A tile's rows of the layer's input. -/
theorem left_apply (c : Dev nD) (t : Fin cfg0.N) (a : Fin 1024) (b : Fin 1024) (i : S9216x1024.Idx)
    (h0 : (i 0).val = t.val * 1024 + a.val) (h1 : (i 1).val = b.val) :
    iblk m c 0 t (ix2 a b) = m ((c.tc : Thread nD τ).loc main_arg0) i := by
  have e0 : win0_0.index t (0 : Fin 2) = t.val := congrFun (index t).1 0
  have e1 : win0_0.index t (1 : Fin 2) = 0 := congrFun (index t).1 1
  refine congrArg (m ((c.tc : Thread nD τ).loc main_arg0)) (funext fun x => Fin.ext ?_)
  match x with
  | ⟨0, _⟩ => show win0_0.index t (0 : Fin 2) * 1024 + 1 * a.val = (i 0).val; rw [e0, h0]; omega
  | ⟨1, _⟩ => show win0_0.index t (1 : Fin 2) * 1024 + 1 * b.val = (i 1).val; rw [e1, h1]; omega

/-- A tile's rows of the derivative. -/
theorem right_apply (c : Dev nD) (t : Fin cfg0.N) (a : Fin 1024) (b : Fin 2816) (i : S9216x2816.Idx)
    (h0 : (i 0).val = t.val * 1024 + a.val) (h1 : (i 1).val = b.val) :
    iblk m c 1 t (ix2 a b) = m ((c.tc : Thread nD τ).loc main_arg1) i := by
  have e0 : win0_1.index t (0 : Fin 2) = t.val := congrFun (index t).2.1 0
  have e1 : win0_1.index t (1 : Fin 2) = 0 := congrFun (index t).2.1 1
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 2816 + 1 * b.val = (i 1).val; rw [e1, h1]; omega

/-! ## The two halves of the accumulator -/

/-- Column `q` of half `h`. -/
def col (h : Fin 2) (q : Fin 1408) : Fin 2816 := ⟨h.val * 1408 + q.val, by have := h.isLt; have := q.isLt; omega⟩

/-- The first half, -/
abbrev H0 : Rect S2x1024x1408 := Rect.unit (s := S2x1024x1408) ![0, 0, 0] S1x1024x1408.size inb_S2x1024x1408_S1x1024x1408_0_0_0
/-- and the second. -/
abbrev H1 : Rect S2x1024x1408 := Rect.unit (s := S2x1024x1408) ![1, 0, 0] S1x1024x1408.size inb_S2x1024x1408_S1x1024x1408_1_0_0

/-- Two indices of the halves with equal coordinates are equal. -/
theorem ix3_of {i : S2x1024x1408.Idx} {h : Fin 2} {p : Fin 1024} {q : Fin 1408} (e0 : (i 0).val = h.val) (e1 : (i 1).val = p.val)
    (e2 : (i 2).val = q.val) : i = ix3 h p q := by
  refine funext fun a => Fin.ext ?_
  match a with
  | ⟨0, _⟩ => exact e0
  | ⟨1, _⟩ => exact e1
  | ⟨2, _⟩ => exact e2

theorem emb_H0 (p : Fin 1024) (q : Fin 1408) : H0.emb (ix3 (0 : Fin 1) p q) = ix3 (0 : Fin 2) p q :=
  ix3_of rfl (show 0 + 1 * p.val = p.val by omega) (show 0 + 1 * q.val = q.val by omega)

theorem emb_H1 (p : Fin 1024) (q : Fin 1408) : H1.emb (ix3 (0 : Fin 1) p q) = ix3 (1 : Fin 2) p q :=
  ix3_of rfl (show 0 + 1 * p.val = p.val by omega) (show 0 + 1 * q.val = q.val by omega)

/-- A store to the second half, read there, -/
theorem canon_H1 (w : Vec Ideal S1x1024x1408 .f32) (L : List (View.Piece (Elt Ideal) S2x1024x1408 .f32)) (p : Fin 1024) (q : Fin 1408) :
    View.canon (⟨H1, w⟩ :: L) (ix3 (1 : Fin 2) p q) = w (ix3 (0 : Fin 1) p q) := by
  rw [← emb_H1]
  exact View.canon_cons_emb H1 w L _

/-- one to the first, -/
theorem canon_H0 (w : Vec Ideal S1x1024x1408 .f32) (L : List (View.Piece (Elt Ideal) S2x1024x1408 .f32)) (p : Fin 1024) (q : Fin 1408) :
    View.canon (⟨H0, w⟩ :: L) (ix3 (0 : Fin 2) p q) = w (ix3 (0 : Fin 1) p q) := by
  rw [← emb_H0]
  exact View.canon_cons_emb H0 w L _

/-- and the first half, which a store to the second leaves alone. -/
theorem canon_skip (w : Vec Ideal S1x1024x1408 .f32) (L : List (View.Piece (Elt Ideal) S2x1024x1408 .f32)) (p : Fin 1024) (q : Fin 1408) :
    View.canon (⟨H1, w⟩ :: L) (ix3 (0 : Fin 2) p q) = View.canon L (ix3 (0 : Fin 2) p q) := by
  refine View.canon_cons_of_not_mem _ _ fun hm => ?_
  obtain ⟨x, hx⟩ := H1.exists_idx_of_mem hm
  have h0 : 1 + 1 * (x 0).val = 0 := congrArg (fun i : S2x1024x1408.Idx => (i 0).val) hx
  omega

/-- What a tile adds to the first half, -/
theorem pay3_apply (x0 : Vec Ideal S1024x1024 .bf16) (x1 : Vec Ideal S1024x2816 .bf16) (acc : Vec Ideal S1x1024x1408 .f32) (p : Fin 1024) (q : Fin 1408) :
    k0_pay3 (F := Ideal) x0 x1 acc (ix3 (0 : Fin 1) p q) = acc (ix3 (0 : Fin 1) p q) + tmul x0 x1 p (col 0 q) := by
  pointwise [k0_pay3, k0_pay1]
  have e : ∀ h : q.val < 2816, (⟨q.val, h⟩ : Fin 2816) = col 0 q := fun h => Fin.ext (show q.val = 0 * 1408 + q.val by omega)
  simp only [e]
  rfl

/-- and to the second. -/
theorem pay5_apply (x0 : Vec Ideal S1024x1024 .bf16) (x1 : Vec Ideal S1024x2816 .bf16) (acc : Vec Ideal S1x1024x1408 .f32) (p : Fin 1024) (q : Fin 1408) :
    k0_pay5 (F := Ideal) x0 x1 acc (ix3 (0 : Fin 1) p q) = acc (ix3 (0 : Fin 1) p q) + tmul x0 x1 p (col 1 q) := by
  pointwise [k0_pay5, k0_pay1]
  have e : ∀ h : 1408 + q.val < 2816, (⟨1408 + q.val, h⟩ : Fin 2816) = col 1 q := fun h => Fin.ext (show 1408 + q.val = 1 * 1408 + q.val by omega)
  simp only [e]
  rfl

/-- The first tile leaves its own product, -/
theorem first_apply (c : Dev nD) (i : grid0.Coords) (arg3 : Memref sig .tc .vmem S1024x1024 .bf16) (harg3 : arg3.IsWhole)
    (arg4 : Memref sig .tc .vmem S1024x2816 .bf16) (harg4 : arg4.IsWhole) (arg5 : Memref sig .tc .vmem S2x1024x1408 .f32) (harg5 : arg5.IsWhole) (hc0 : cond0_0 i) (hc1 : cond0_1 i)
    (x0 : Vec Ideal S1024x1024 .bf16) (x1 : Vec Ideal S1024x2816 .bf16) (h : Fin 2) (p : Fin 1024) (q : Fin 1408) :
    out0_A_2 c i arg3 harg3 arg4 harg4 arg5 harg5 hc0 hc1 x0 x1 (ix3 h p q) = tmul x0 x1 p (col h q) := by
  have hz : (![0, 0] : Fin 2 → Nat) = fun _ => 0 := funext fun a => by fin_cases a <;> rfl
  unfold out0_A_2
  rw [View.read_writes_eq_canon _ _ _ (cover0_A_2 c i arg3 harg3 arg4 harg4 arg5 harg5 hc0 hc1 x0 x1)]
  unfold kernelRun0_A
  dsimp only
  sl_unfold_words
  simp only [View.readAt_eq_ld, harg3.read_unread, harg4.read_unread, View.ld_unit_zero (S := S1024x1024) hz, View.ld_unit_zero (S := S1024x2816) hz]
  match h with
  | ⟨0, _⟩ =>
    refine (canon_skip _ _ p q).trans ((canon_skip _ _ p q).trans ((canon_H0 _ _ p q).trans ((pay3_apply _ _ _ p q).trans ?_)))
    rw [View.readCov_cons_toLoadRect]
    refine Eq.trans (congrArg (· + tmul x0 x1 p (col 0 q)) ?_) (zero_add _)
    pointwise [k0_pay2]
  | ⟨1, _⟩ =>
    refine (canon_H1 _ _ p q).trans ((pay5_apply _ _ _ p q).trans ?_)
    rw [View.readCov_cons_toLoadRect]
    refine Eq.trans (congrArg (· + tmul x0 x1 p (col 1 q)) ?_) (zero_add _)
    pointwise [k0_pay4]

/-- and each later one adds its product to what it finds. -/
theorem next_apply (c : Dev nD) (i : grid0.Coords) (arg3 : Memref sig .tc .vmem S1024x1024 .bf16) (harg3 : arg3.IsWhole)
    (arg4 : Memref sig .tc .vmem S1024x2816 .bf16) (harg4 : arg4.IsWhole) (arg5 : Memref sig .tc .vmem S2x1024x1408 .f32) (harg5 : arg5.IsWhole) (hc0 : ¬cond0_0 i) (hc1 : ¬cond0_1 i)
    (x0 : Vec Ideal S1024x1024 .bf16) (x1 : Vec Ideal S1024x2816 .bf16) (acc : Vec Ideal S2x1024x1408 .f32) (h : Fin 2) (p : Fin 1024) (q : Fin 1408) :
    out0_B_2 c i arg3 harg3 arg4 harg4 arg5 harg5 hc0 hc1 x0 x1 acc (ix3 h p q) = acc (ix3 h p q) + tmul x0 x1 p (col h q) := by
  have hz : (![0, 0] : Fin 2 → Nat) = fun _ => 0 := funext fun a => by fin_cases a <;> rfl
  unfold out0_B_2
  rw [View.read_writes_eq_canon _ _ _ (cover0_B_2 c i arg3 harg3 arg4 harg4 arg5 harg5 hc0 hc1 x0 x1 acc)]
  unfold kernelRun0_B
  dsimp only
  sl_unfold_words
  simp only [View.readAt_eq_ld, harg3.read_unread, harg4.read_unread, harg5.read_unread, View.ld_unit_zero (S := S1024x1024) hz, View.ld_unit_zero (S := S1024x2816) hz]
  match h with
  | ⟨0, _⟩ =>
    refine (canon_skip _ _ p q).trans ((canon_H0 _ _ p q).trans ((pay3_apply _ _ _ p q).trans ?_))
    exact congrArg (fun j => acc j + tmul x0 x1 p (col 0 q)) (emb_H0 p q)
  | ⟨1, _⟩ =>
    refine (canon_H1 _ _ p q).trans ((pay5_apply _ _ _ p q).trans ?_)
    exact congrArg (fun j => acc j + tmul x0 x1 p (col 1 q)) (emb_H1 p q)

/-! ## The sum over the tiles -/

/-- What a tile adds to an entry. -/
def tile (c : Dev nD) (n : ℕ) (h : Fin 2) (p : Fin 1024) (q : Fin 1408) : EReal :=
  if hn : n < cfg0.N then tmul (iblk m c 0 ⟨n, hn⟩) (iblk m c 1 ⟨n, hn⟩) p (col h q) else 0

/-- After tile `n` the accumulator holds the sum of the tiles so far. -/
theorem sum_apply (c : Dev nD) (h : Fin 2) (p : Fin 1024) (q : Fin 1408) : ∀ (n : ℕ) (hn : n < cfg0.N),
    outsAt0 m c n hn (ix3 h p q) = ∑ s ∈ Finset.range (n + 1), tile m c s h p q
  | 0, hn => by
    rw [Finset.sum_range_one]
    refine (congrFun (outsAt0_A m c ⟨0, hn⟩ rfl rfl) _).trans ((first_apply _ _ _ _ _ _ _ _ _ _ _ _ h p q).trans ?_)
    unfold tile
    rw [dif_pos hn]
  | n + 1, hn => by
    have hN : n + 1 < 9 := hn
    have hm : ¬(n + 1) % 9 = 0 := by omega
    rw [Finset.sum_range_succ, ← sum_apply c h p q n (Nat.lt_of_succ_lt hn)]
    refine (congrFun (outsAt0_B m c ⟨n + 1, hn⟩ hm hm) _).trans ((next_apply _ _ _ _ _ _ _ _ _ _ _ _ _ h p q).trans ?_)
    unfold tile
    rw [dif_pos hn]
    rfl

/-- The gradient. -/
def grad (c : Dev nD) : (⟨3, ![2, 1024, 1408]⟩ : Shape).Idx → EReal := fun i =>
  tmul (m ((c.tc : Thread nD τ).loc main_arg0)) (m ((c.tc : Thread nD τ).loc main_arg1)) (i 1) (col (i 0) (i 2))

/-- After the last tile the accumulator holds the gradient. -/
theorem last_apply (c : Dev nD) (hn : 8 < cfg0.N) (h : Fin 2) (p : Fin 1024) (q : Fin 1408) :
    outsAt0 m c 8 hn (ix3 h p q) = grad m c (ix3 h p q) := by
  rw [sum_apply]
  refine tmul_tiles (n := 9) (l := 1024) rfl _ _ p (col h q) _ fun s hs => ?_
  unfold tile
  rw [dif_pos (show s < cfg0.N from hs)]
  exact Finset.sum_congr rfl fun r _ => mul_congr (left_apply m c _ _ _ _ rfl rfl) (right_apply m c _ _ _ _ rfl rfl)

/-- Every index of the result lies in the last point's block, at the same place. -/
theorem emb_block (t : Fin cfg0.N) (h : Fin 2) (p : Fin 1024) (q : Fin 1408) :
    ((cfg0.win 2).blk t).view.emb (ix3 h p q) = ix3 h p q := by
  have e := (index t).2.2
  refine ix3_of ?_ ?_ ?_
  · show win0_2.index t (0 : Fin 3) * 2 + 1 * h.val = h.val
    rw [e]; show 0 * 2 + 1 * h.val = h.val; omega
  · show win0_2.index t (1 : Fin 3) * 1024 + 1 * p.val = p.val
    rw [e]; show 0 * 1024 + 1 * p.val = p.val; omega
  · show win0_2.index t (2 : Fin 3) * 1408 + 1 * q.val = q.val
    rw [e]; show 0 * 1408 + 1 * q.val = q.val; omega

/-- The result after the run is the gradient. -/
theorem result_eq (c : Dev nD) : (dats m 0 c).arrAt 2 cfg0.N = grad m c := by
  refine (dats m 0 c).arrAt_eq_of_cover 2 _ (fun t hf => ?_) (fun i => ?_)
  · have ht : t.val < 9 := t.isLt
    have h8 : t.val % 9 = 8 := (flush0_2 t).mp hf
    obtain ⟨n, hn⟩ := t
    obtain rfl : n = 8 := by
      dsimp only at h8 ht
      omega
    rw [Value.flushed2]
    funext y
    obtain ⟨h, p, q, rfl⟩ : ∃ (h : Fin 2) (p : Fin 1024) (q : Fin 1408), y = ix3 h p q := ⟨y 0, y 1, y 2, ix3_of rfl rfl rfl⟩
    exact (last_apply m c _ h p q).trans (congrArg (grad m c) (emb_block _ h p q)).symm
  · refine ⟨⟨8, by show 8 < 9; omega⟩, (flush0_2 _).mpr rfl, ?_⟩
    obtain ⟨h, p, q, rfl⟩ : ∃ (h : Fin 2) (p : Fin 1024) (q : Fin 1408), i = ix3 h p q := ⟨i 0, i 1, i 2, ix3_of rfl rfl rfl⟩
    have e := ((cfg0.win 2).blk ⟨8, by show 8 < 9; omega⟩).view.emb_mem_set (ix3 h p q)
    rw [emb_block] at e
    exact e

/-- The reference's product, its columns cut. -/
theorem reference_apply (x0 : (⟨S9216x1024, .bf16⟩ : BufTy).Contents (Elt Ideal)) (x1 : (⟨S9216x2816, .bf16⟩ : BufTy).Contents (Elt Ideal))
    (h : Fin 2) (p : Fin 1024) (q : Fin 1408) :
    Cert.Reference5Ideal.Read.val_main_v7 (F := Ideal) x0 x1 (ix3 h p q) = tmul x0 x1 p (col h q) := by
  have hh := h.isLt
  have hp := p.isLt
  have hq := q.isLt
  rw [Cert.Reference5Ideal.Read.val_main_v7_apply, Cert.Reference5Ideal.Read.val_main_v6_apply, Cert.Reference5Ideal.Read.val_main_v5_apply,
    Cert.Reference5Ideal.Read.val_main_v4_apply]
  refine Finset.sum_congr rfl fun k _ => (mul_comm _ _).trans (mul_congr (congrArg x0 (ix2_of rfl ?_)) (congrArg x1 (ix2_of rfl ?_)))
  · show ((p.val * 2 + h.val) * 1408 + q.val) / 2816 = p.val; omega
  · show ((p.val * 2 + h.val) * 1408 + q.val) % 2816 = h.val * 1408 + q.val; omega

theorem algebraic : algebraic_Kernel5Ideal_Reference5Ideal := by
  intro m g m' g' _ hm
  refine ⟨fun c => (dats m 0 c).arrAt 2 cfg0.N, Value.run_blocks m g,
    (θ_run _ _ _).mono (fun r h c => ⟨(h c).1.trans ?_, (h c).2⟩) (Cert.Reference5Ideal.Value.run m' g')⟩
  obtain ⟨a0, a1⟩ := hm c
  rw [Cert.Reference5Ideal.Read.val_main_v7_eq, a0, a1]
  refine Eq.trans (funext fun i => ?_) (result_eq m c).symm
  obtain ⟨h, p, q, rfl⟩ : ∃ (h : Fin 2) (p : Fin 1024) (q : Fin 1408), i = ix3 h p q := ⟨i 0, i 1, i 2, ix3_of rfl rfl rfl⟩
  exact reference_apply _ _ h p q

end Cert.FfnInDw
-- ==== Proof.Product.FfnIn.lean ====
/- The feed-forward layer's forward half: the products `a` and `b` with the two weight matrices, and `a · σ(a) · b`.
   The kernel takes the columns half by half, as the weights are kept; the reference joins the halves first. -/
module

public import proofs.«01_k».proof.Defs
public import proofs.«01_k».proof.Proof.Product.Sums
public import proofs.«01_k».proof.Proof.Gen.Kernel6
public import proofs.«01_k».proof.Proof.Gen.Kernel6Ideal.Value
public import proofs.«01_k».proof.Proof.Gen.Reference6Ideal.Read
public import proofs.«01_k».proof.Proof.Gen.Reference6Ideal.Run

@[expose] public section

set_option maxRecDepth 16384

noncomputable section

namespace Cert.FfnIn

open Cert.Kernel6Ideal Cert.Kernel6Ideal.Gen Cert.Product
open Idealize.ShloMosaic Idealize.ShloMosaic.TcCoe Idealize.SL.Sem

/-! ## The frames -/

/-- The kernel as printed and its idealization have the same definitions. -/
theorem defs_eq : Cert.Kernel6.defs (F := Bits) = Cert.Kernel6Ideal.defs (F := Bits) := by
  refine congrArg (Pipeline.defs Cert.Kernel6Ideal.pcfgs) ?_
  unfold Cert.Kernel6.defs₀ Cert.Kernel6Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel6 := fun m g _ => by
  rw [defs_eq]
  exact frame (F := Bits) m g

theorem frame_ideal : quiescent_Kernel6Ideal := fun m g _ => frame (F := Ideal) m g

theorem frame_reference : quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

/-! ## The value -/

variable (m : (ℓ : Loc nD τ sig) → Buf (Elt Ideal) ℓ)

/-- The block of each window at a grid point: the columns' half `t / 18`, the rows' tile `t % 18`. -/
theorem index : ∀ t : Fin cfg0.N,
    (win0_0.index t (0 : Fin 2) = t.val % 18 ∧ win0_0.index t (1 : Fin 2) = 0)
    ∧ (win0_1.index t = ![t.val / 18, 0, 0, 0] ∧ win0_2.index t = ![t.val / 18 + 2, 0, 0, 0])
    ∧ (win0_3.index t = ![t.val % 18, t.val / 18] ∧ win0_4.index t = ![t.val % 18, t.val / 18] ∧ win0_5.index t = ![t.val % 18, t.val / 18]) :=
  (by decide +kernel : ∀ t : Fin grid0.N, _)

/-- A tile's rows of the layer's input. -/
theorem x_apply (c : Dev nD) (t : Fin cfg0.N) (a : Fin 512) (b : Fin 1024) (i : S9216x1024.Idx)
    (h0 : (i 0).val = t.val % 18 * 512 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 512 + 1 * a.val = (i 0).val; rw [e0, h0]; omega
  | ⟨1, _⟩ => show win0_0.index t (1 : Fin 2) * 1024 + 1 * b.val = (i 1).val; rw [e1, h1]; omega

/-- The block of weights at index `j`. -/
theorem emb_apply (W : (⟨4, ![4, 4, 1024, 1408]⟩ : Shape).Idx → EReal) (j : Fin 4) (k : Fin 1024) (q : Fin 1408)
    (i : (⟨4, ![4, 4, 1024, 1408]⟩ : Shape).Idx) (e : Fin 4 → Nat) (he : e = ![j.val, 0, 0, 0])
    (h0 : (i 0).val = e 0 * 1 + 1 * 0) (h1 : (i 1).val = e 1 * 1 + 1 * 0) (h2 : (i 2).val = e 2 * 1024 + 1 * k.val)
    (h3 : (i 3).val = e 3 * 1408 + 1 * q.val) : W i = W (ix4 j 0 k q) := by
  subst he
  refine congrArg W (funext fun x => Fin.ext ?_)
  match x with
  | ⟨0, _⟩ => exact h0.trans (show j.val * 1 + 1 * 0 = j.val by omega)
  | ⟨1, _⟩ => exact h1.trans (show 0 * 1 + 1 * 0 = 0 by omega)
  | ⟨2, _⟩ => exact h2.trans (show 0 * 1024 + 1 * k.val = k.val by omega)
  | ⟨3, _⟩ => exact h3.trans (show 0 * 1408 + 1 * q.val = q.val by omega)

/-- The number of the gate's weights that hold a column half, -/
def gateHalf (u : Fin 2) : Fin 4 := ⟨u.val, by have := u.isLt; omega⟩
/-- and of the second matrix's. -/
def upHalf (u : Fin 2) : Fin 4 := ⟨u.val + 2, by have := u.isLt; omega⟩

/-- The column half of a grid point. -/
def side (t : Fin cfg0.N) : Fin 2 := ⟨t.val / 18, by have h : t.val < 36 := t.isLt; omega⟩

theorem gate_block (c : Dev nD) (t : Fin cfg0.N) (k : Fin 1024) (q : Fin 1408) :
    iblk m c 1 t (ix4 0 0 k q) = m ((c.tc : Thread nD τ).loc main_arg1) (ix4 (gateHalf (side t)) 0 k q) :=
  emb_apply _ (gateHalf (side t)) k q _ _ (index t).2.1.1 rfl rfl rfl rfl

theorem up_block (c : Dev nD) (t : Fin cfg0.N) (k : Fin 1024) (q : Fin 1408) :
    iblk m c 2 t (ix4 0 0 k q) = m ((c.tc : Thread nD τ).loc main_arg1) (ix4 (upHalf (side t)) 0 k q) :=
  emb_apply _ (upHalf (side t)) k q _ _ (index t).2.1.2 rfl rfl rfl rfl

/-- A tile's product with one half of the weights. -/
def tile (X : (⟨2, ![512, 1024]⟩ : Shape).Idx → EReal) (W : (⟨4, ![1, 1, 1024, 1408]⟩ : Shape).Idx → EReal) (p : Fin 512) (q : Fin 1408) : EReal :=
  ∑ k : Fin 1024, X (ix2 p k) * W (ix4 0 0 k q)

/-- The product of all rows with half `j` of the weights. -/
def half (X : (⟨2, ![9216, 1024]⟩ : Shape).Idx → EReal) (W : (⟨4, ![4, 4, 1024, 1408]⟩ : Shape).Idx → EReal) (j : Fin 4) (p : Fin 9216) (q : Fin 1408) : EReal :=
  ∑ k : Fin 1024, X (ix2 p k) * W (ix4 j 0 k q)

/-- The column half that holds column `q`, -/
def sideOf (q : Fin 2816) : Fin 2 := ⟨q.val / 1408, by have := q.isLt; omega⟩
/-- and the column's place there. -/
def place (q : Fin 2816) : Fin 1408 := ⟨q.val % 1408, by omega⟩

/-- `a` -/
def gate (X : (⟨2, ![9216, 1024]⟩ : Shape).Idx → EReal) (W : (⟨4, ![4, 4, 1024, 1408]⟩ : Shape).Idx → EReal) (p : Fin 9216) (q : Fin 2816) : EReal :=
  half X W (gateHalf (sideOf q)) p (place q)
/-- `b` -/
def up (X : (⟨2, ![9216, 1024]⟩ : Shape).Idx → EReal) (W : (⟨4, ![4, 4, 1024, 1408]⟩ : Shape).Idx → EReal) (p : Fin 9216) (q : Fin 2816) : EReal :=
  half X W (upHalf (sideOf q)) p (place q)
/-- `a · σ(a) · b` -/
def act (a b : EReal) : EReal := a * Ideal.logistic a * b

theorem pay3_apply (v0 v4 : Vec Ideal S512x1024 .bf16) (v1 v5 : Vec Ideal S1x1x1024x1408 .bf16) (p : Fin 512) (q : Fin 1408) :
    k0_pay3 (F := Ideal) v0 v1 v4 v5 (ix2 p q) = act (tile v0 v1 p q) (tile v4 v5 p q) := by
  pointwise [k0_pay3, k0_pay2, k0_pay1, act, tile]

theorem pay4_apply (v0 : Vec Ideal S512x1024 .bf16) (v1 : Vec Ideal S1x1x1024x1408 .bf16) (p : Fin 512) (q : Fin 1408) :
    k0_pay4 (F := Ideal) v0 v1 (ix2 p q) = tile v0 v1 p q := by
  pointwise [k0_pay4, k0_pay1, tile]

theorem pay5_apply (v4 : Vec Ideal S512x1024 .bf16) (v5 : Vec Ideal S1x1x1024x1408 .bf16) (p : Fin 512) (q : Fin 1408) :
    k0_pay5 (F := Ideal) v4 v5 (ix2 p q) = tile v4 v5 p q := by
  pointwise [k0_pay5, k0_pay2, tile]

/-- A block of each result. -/
theorem block_apply (x0 : Vec Ideal S512x1024 .bf16) (x1 x2 : Vec Ideal S1x1x1024x1408 .bf16) (p : Fin 512) (q : Fin 1408) :
    out0_3 x0 x1 x2 (ix2 p q) = act (tile x0 x1 p q) (tile x0 x2 p q)
    ∧ out0_4 x0 x1 x2 (ix2 p q) = tile x0 x1 p q
    ∧ out0_5 x0 x1 x2 (ix2 p q) = tile x0 x2 p q := by
  have hz : (![0, 0] : Fin 2 → Nat) = fun _ => 0 := funext fun a => by fin_cases a <;> rfl
  have hz4 : (![0, 0, 0, 0] : Fin 4 → Nat) = fun _ => 0 := funext fun a => by fin_cases a <;> rfl
  unfold out0_3 out0_4 out0_5
  rw [View.canon_unit_zero hz, View.canon_unit_zero hz, View.canon_unit_zero hz]
  simp only [View.ld_unit_zero (S := S512x1024) hz, View.ld_unit_zero (S := S1x1x1024x1408) hz4]
  exact ⟨pay3_apply _ _ _ _ p q, pay4_apply _ _ p q, pay5_apply _ _ p q⟩

/-- The grid point that computes an entry. -/
def point (p : Fin 9216) (q : Fin 2816) : Fin cfg0.N :=
  ⟨q.val / 1408 * 18 + p.val / 512, by have := p.isLt; have := q.isLt; show _ < 36; omega⟩

/-- The row's place in its tile. -/
def rowPlace (p : Fin 9216) : Fin 512 := ⟨p.val % 512, by omega⟩

theorem point_mod (p : Fin 9216) (q : Fin 2816) : (point p q).val % 18 = p.val / 512 := by
  show (q.val / 1408 * 18 + p.val / 512) % 18 = _
  have := p.isLt
  omega

theorem point_div (p : Fin 9216) (q : Fin 2816) : (point p q).val / 18 = q.val / 1408 := by
  show (q.val / 1408 * 18 + p.val / 512) / 18 = _
  have := p.isLt
  omega

theorem side_point (p : Fin 9216) (q : Fin 2816) : side (point p q) = sideOf q := Fin.ext (point_div p q)

theorem gate_tile (c : Dev nD) (p : Fin 9216) (q : Fin 2816) :
    tile (iblk m c 0 (point p q)) (iblk m c 1 (point p q)) (rowPlace p) (place q)
      = gate (m ((c.tc : Thread nD τ).loc main_arg0)) (m ((c.tc : Thread nD τ).loc main_arg1)) p q := by
  unfold gate
  rw [← side_point p q]
  refine Finset.sum_congr rfl fun k _ => mul_congr (x_apply m c _ _ _ _ ?_ rfl) (gate_block m c _ k (place q))
  rw [point_mod]
  show p.val = p.val / 512 * 512 + p.val % 512
  omega

theorem up_tile (c : Dev nD) (p : Fin 9216) (q : Fin 2816) :
    tile (iblk m c 0 (point p q)) (iblk m c 2 (point p q)) (rowPlace p) (place q)
      = up (m ((c.tc : Thread nD τ).loc main_arg0)) (m ((c.tc : Thread nD τ).loc main_arg1)) p q := by
  unfold up
  rw [← side_point p q]
  refine Finset.sum_congr rfl fun k _ => mul_congr (x_apply m c _ _ _ _ ?_ rfl) (up_block m c _ k (place q))
  rw [point_mod]
  show p.val = p.val / 512 * 512 + p.val % 512
  omega

/-- An entry of a result lies in the block of its grid point. -/
theorem entry (p : Fin 9216) (q : Fin 2816) (i : S9216x2816.Idx) (e : Fin 2 → Nat)
    (he : e = ![(point p q).val % 18, (point p q).val / 18])
    (h0 : (i 0).val = e 0 * 512 + 1 * (rowPlace p).val) (h1 : (i 1).val = e 1 * 1408 + 1 * (place q).val) : ix2 p q = i := by
  subst he
  refine (ix2_of (h0.trans ?_) (h1.trans ?_)).symm
  · show (point p q).val % 18 * 512 + 1 * (p.val % 512) = p.val
    rw [point_mod]; omega
  · show (point p q).val / 18 * 1408 + 1 * (q.val % 1408) = q.val
    rw [point_div]; omega

/-- The results after the run. -/
theorem result_apply (c : Dev nD) (p : Fin 9216) (q : Fin 2816) :
    (dats m 0 c).arrAt 3 cfg0.N (ix2 p q)
      = act (gate (m ((c.tc : Thread nD τ).loc main_arg0)) (m ((c.tc : Thread nD τ).loc main_arg1)) p q)
          (up (m ((c.tc : Thread nD τ).loc main_arg0)) (m ((c.tc : Thread nD τ).loc main_arg1)) p q)
    ∧ (dats m 0 c).arrAt 4 cfg0.N (ix2 p q) = gate (m ((c.tc : Thread nD τ).loc main_arg0)) (m ((c.tc : Thread nD τ).loc main_arg1)) p q
    ∧ (dats m 0 c).arrAt 5 cfg0.N (ix2 p q) = up (m ((c.tc : Thread nD τ).loc main_arg0)) (m ((c.tc : Thread nD τ).loc main_arg1)) p q := by
  refine ⟨?_, ?_, ?_⟩
  · have e := congrFun (Value.blocks3 m c (point p q) (flush0_3 _)) (ix2 (rowPlace p) (place q))
    rw [Value.flushed3] at e
    exact (congrArg ((dats m 0 c).arrAt 3 cfg0.N) (entry p q _ _ (index (point p q)).2.2.1 rfl rfl)).trans
      (e.trans ((block_apply _ _ _ _ _).1.trans (congrArg₂ act (gate_tile m c p q) (up_tile m c p q))))
  · have e := congrFun (Value.blocks4 m c (point p q) (flush0_4 _)) (ix2 (rowPlace p) (place q))
    rw [Value.flushed4] at e
    exact (congrArg ((dats m 0 c).arrAt 4 cfg0.N) (entry p q _ _ (index (point p q)).2.2.2.1 rfl rfl)).trans
      (e.trans ((block_apply _ _ _ _ _).2.1.trans (gate_tile m c p q)))
  · have e := congrFun (Value.blocks5 m c (point p q) (flush0_5 _)) (ix2 (rowPlace p) (place q))
    rw [Value.flushed5] at e
    exact (congrArg ((dats m 0 c).arrAt 5 cfg0.N) (entry p q _ _ (index (point p q)).2.2.2.2 rfl rfl)).trans
      (e.trans ((block_apply _ _ _ _ _).2.2.trans (up_tile m c p q)))

/-! ## The reference -/

theorem reference_gate (x0 : (⟨S9216x1024, .bf16⟩ : BufTy).Contents (Elt Ideal)) (x1 : (⟨S4x4x1024x1408, .bf16⟩ : BufTy).Contents (Elt Ideal))
    (p : Fin 9216) (q : Fin 2816) : Cert.Reference6Ideal.Read.val_main_v7 (F := Ideal) x0 x1 (ix2 p q) = gate x0 x1 p q := by
  pointwise [Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0]
  unfold gate half
  have hq := q.isLt
  refine Finset.sum_congr rfl fun k _ => ?_
  refine mul_congr rfl ?_
  by_cases h : q.val < 1408
  · rw [dif_pos h]
    refine congrArg x1 (congrArg₂ (fun j r => ix4 j 0 k r) (Fin.ext ?_) (Fin.ext ?_))
    · show 0 = q.val / 1408; omega
    · show q.val = q.val % 1408; omega
  · rw [dif_neg h]
    refine congrArg x1 (congrArg₂ (fun j r => ix4 j 0 k r) (Fin.ext ?_) (Fin.ext ?_))
    · show 1 = q.val / 1408; omega
    · show q.val - 1408 = q.val % 1408; omega

theorem reference_up (x0 : (⟨S9216x1024, .bf16⟩ : BufTy).Contents (Elt Ideal)) (x1 : (⟨S4x4x1024x1408, .bf16⟩ : BufTy).Contents (Elt Ideal))
    (p : Fin 9216) (q : Fin 2816) : Cert.Reference6Ideal.Read.val_main_v15 (F := Ideal) x0 x1 (ix2 p q) = up x0 x1 p q := by
  pointwise [Cert.Reference6Ideal.Read.val_main_v15, Cert.Reference6Ideal.Read.val_main_v14, Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8]
  unfold up half
  have hq := q.isLt
  refine Finset.sum_congr rfl fun k _ => ?_
  refine mul_congr rfl ?_
  by_cases h : q.val < 1408
  · rw [dif_pos h]
    refine congrArg x1 (congrArg₂ (fun j r => ix4 j 0 k r) (Fin.ext ?_) (Fin.ext ?_))
    · show 2 = q.val / 1408 + 2; omega
    · show q.val = q.val % 1408; omega
  · rw [dif_neg h]
    refine congrArg x1 (congrArg₂ (fun j r => ix4 j 0 k r) (Fin.ext ?_) (Fin.ext ?_))
    · show 3 = q.val / 1408 + 2; omega
    · show q.val - 1408 = q.val % 1408; omega

theorem reference_act (x0 : (⟨S9216x1024, .bf16⟩ : BufTy).Contents (Elt Ideal)) (x1 : (⟨S4x4x1024x1408, .bf16⟩ : BufTy).Contents (Elt Ideal))
    (p : Fin 9216) (q : Fin 2816) : Cert.Reference6Ideal.Read.val_main_v18 (F := Ideal) x0 x1 (ix2 p q) = act (gate x0 x1 p q) (up x0 x1 p q) := by
  rw [← reference_gate, ← reference_up]
  pointwise [Cert.Reference6Ideal.Read.val_main_v18, Cert.Reference6Ideal.Read.val_main_v17, Cert.Reference6Ideal.Read.val_main_v16, Cert.Reference6Ideal.Read.val_main_call0_v5, Cert.Reference6Ideal.Read.val_main_call0_v4, Cert.Reference6Ideal.Read.val_main_call0_v3, Cert.Reference6Ideal.Read.val_main_call0_v2, Cert.Reference6Ideal.Read.val_main_call0_v1, Cert.Reference6Ideal.Read.val_main_call0_v0, Cert.Reference6Ideal.Read.val_main_call0_cst, Cert.Reference6Ideal.Read.val_main_call0_cst_0, act]
  rfl

theorem algebraic : algebraic_Kernel6Ideal_Reference6Ideal := by
  intro m g m' g' _ hm
  refine ⟨fun c => (dats m 0 c).arrAt 3 cfg0.N, fun c => (dats m 0 c).arrAt 4 cfg0.N, fun c => (dats m 0 c).arrAt 5 cfg0.N, Value.run_blocks m g,
    (θ_run _ _ _).mono (fun r h c => ⟨(h c).1.trans ?_, (h c).2.1.trans ?_, (h c).2.2.1.trans ?_, (h c).2.2.2⟩) (Cert.Reference6Ideal.Value.run m' g')⟩
  all_goals
    obtain ⟨a0, a1⟩ := hm c
    have hi : ∀ i : S9216x2816.Idx, ∃ (p : Fin 9216) (q : Fin 2816), i = ix2 p q := fun i => ⟨i 0, i 1, eq_ix2 i⟩
  · rw [Cert.Reference6Ideal.Read.val_main_v18_eq, a0, a1]
    funext i
    obtain ⟨p, q, rfl⟩ := hi i
    exact (reference_act _ _ p q).trans (result_apply m c p q).1.symm
  · rw [Cert.Reference6Ideal.Read.val_main_v19_eq, a0, a1]
    funext i
    obtain ⟨p, q, rfl⟩ := hi i
    refine Eq.trans ?_ ((reference_gate _ _ p q).trans (result_apply m c p q).2.1.symm)
    pointwise [Cert.Reference6Ideal.Read.val_main_v19]
  · rw [Cert.Reference6Ideal.Read.val_main_v20_eq, a0, a1]
    funext i
    obtain ⟨p, q, rfl⟩ := hi i
    refine Eq.trans ?_ ((reference_up _ _ p q).trans (result_apply m c p q).2.2.symm)
    pointwise [Cert.Reference6Ideal.Read.val_main_v20]

end Cert.FfnIn
-- ==== Proof.Product.MixOutDx.lean ====
/- The gradient of the mixing output's input, `dy · wᵀ`: the kernel's 1536 by 512 blocks are the product's. -/
module

public import proofs.«01_k».proof.Defs
public import proofs.«01_k».proof.Proof.Product.Sums
public import proofs.«01_k».proof.Proof.Gen.Kernel7
public import proofs.«01_k».proof.Proof.Gen.Kernel7Ideal.Value
public import proofs.«01_k».proof.Proof.Gen.Reference7Ideal.Read
public import proofs.«01_k».proof.Proof.Gen.Reference7Ideal.Run

@[expose] public section

set_option maxRecDepth 16384

noncomputable section

namespace Cert.MixOutDx

open Cert.Kernel7Ideal Cert.Kernel7Ideal.Gen Cert.Product
open Idealize.ShloMosaic Idealize.ShloMosaic.TcCoe Idealize.SL.Sem

/-! ## The frames -/

/-- The kernel as printed and its idealization have the same definitions. -/
theorem defs_eq : Cert.Kernel7.defs (F := Bits) = Cert.Kernel7Ideal.defs (F := Bits) := by
  refine congrArg (Pipeline.defs Cert.Kernel7Ideal.pcfgs) ?_
  unfold Cert.Kernel7.defs₀ Cert.Kernel7Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel7 := fun m g _ => by
  rw [defs_eq]
  exact frame (F := Bits) m g

theorem frame_ideal : quiescent_Kernel7Ideal := fun m g _ => frame (F := Ideal) m g

theorem frame_reference : quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-! ## The value -/

variable (m : (ℓ : Loc nD τ sig) → Buf (Elt Ideal) ℓ)

/-- The block of each window at a grid point. -/
theorem index : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- A tile's rows of the left operand. -/
theorem left_apply (c : Dev nD) (t : Fin cfg0.N) (a : Fin 1536) (b : Fin 1024) (i : S9216x1024.Idx)
    (h0 : (i 0).val = t.val / 2 * 1536 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1536 + 1 * a.val = (i 0).val; rw [e0, h0]; omega
  | ⟨1, _⟩ => show win0_0.index t (1 : Fin 2) * 1024 + 1 * b.val = (i 1).val; rw [e1, h1]; omega

/-- A tile's rows of the weights. -/
theorem right_apply (c : Dev nD) (t : Fin cfg0.N) (a : Fin 512) (b : Fin 1024) (i : S1024x1024.Idx)
    (h0 : (i 0).val = t.val % 2 * 512 + a.val) (h1 : (i 1).val = b.val) :
    iblk m c 1 t (ix2 a b) = m ((c.tc : Thread nD τ).loc main_arg1) i := by
  have e0 : win0_1.index t (0 : Fin 2) = _ := (index t).2.1.1
  have e1 : win0_1.index t (1 : Fin 2) = _ := (index t).2.1.2
  refine congrArg (m ((c.tc : Thread nD τ).loc main_arg1)) (funext fun x => Fin.ext ?_)
  match x with
  | ⟨0, _⟩ => show win0_1.index t (0 : Fin 2) * 512 + 1 * a.val = (i 0).val; rw [e0, h0]; omega
  | ⟨1, _⟩ => show win0_1.index t (1 : Fin 2) * 1024 + 1 * b.val = (i 1).val; rw [e1, h1]; omega

/-- A block of the product. -/
theorem block_apply (x0 : Vec Ideal S1536x1024 .bf16) (x1 : Vec Ideal S512x1024 .bf16) (p : Fin 1536) (q : Fin 512) :
    out0_2 x0 x1 (ix2 p q) = mulT x0 x1 p q := by
  have hz : (![0, 0] : Fin 2 → Nat) = fun _ => 0 := funext fun a => by fin_cases a <;> rfl
  unfold out0_2
  rw [View.canon_unit_zero hz]
  simp only [View.ld_unit_zero (S := S1536x1024) hz, View.ld_unit_zero (S := S512x1024) hz]
  pointwise [k0_pay1]
  rfl

/-- The result after the run is the product. -/
theorem result_apply (c : Dev nD) (p : Fin 9216) (q : Fin 1024) :
    (dats m 0 c).arrAt 2 cfg0.N (ix2 p q)
      = mulT (m ((c.tc : Thread nD τ).loc main_arg0)) (m ((c.tc : Thread nD τ).loc main_arg1)) p q := by
  have hp := p.isLt
  have hq := q.isLt
  have ht : p.val / 1536 * 2 + q.val / 512 < cfg0.N := by show _ < 12; omega
  have e := congrFun (Value.blocks2 m c ⟨p.val / 1536 * 2 + q.val / 512, ht⟩ (flush0_2 _))
    (ix2 (⟨p.val % 1536, by omega⟩ : Fin 1536) (⟨q.val % 512, by omega⟩ : Fin 512))
  rw [Value.flushed2] at e
  refine Eq.trans (congrArg ((dats m 0 c).arrAt 2 cfg0.N) (funext fun x => Fin.ext ?_)) (e.trans ((block_apply _ _ _ _).trans ?_))
  · have e0 := (index ⟨p.val / 1536 * 2 + q.val / 512, ht⟩).2.2.1
    have e1 := (index ⟨p.val / 1536 * 2 + q.val / 512, ht⟩).2.2.2
    match x with
    | ⟨0, _⟩ => show p.val = win0_2.index _ (0 : Fin 2) * 1536 + 1 * (p.val % 1536); rw [e0]; dsimp only; omega
    | ⟨1, _⟩ => show q.val = win0_2.index _ (1 : Fin 2) * 512 + 1 * (q.val % 512); rw [e1]; dsimp only; omega
  · refine Finset.sum_congr rfl fun k _ => mul_congr (left_apply m c _ _ _ _ ?_ rfl) (right_apply m c _ _ _ _ ?_ rfl)
    · show p.val = (p.val / 1536 * 2 + q.val / 512) / 2 * 1536 + p.val % 1536; omega
    · show q.val = (p.val / 1536 * 2 + q.val / 512) % 2 * 512 + q.val % 512; omega

/-- The reference's product. -/
theorem reference_apply (x0 : (⟨S9216x1024, .bf16⟩ : BufTy).Contents (Elt Ideal)) (x1 : (⟨S1024x1024, .bf16⟩ : BufTy).Contents (Elt Ideal))
    (p : Fin 9216) (q : Fin 1024) :
    Cert.Reference7Ideal.Read.val_main_v4 (F := Ideal) x0 x1 (ix2 p q) = mulT x0 x1 p q := by
  rw [Cert.Reference7Ideal.Read.val_main_v4_apply]
  exact Finset.sum_congr rfl fun k _ => mul_congr (congrArg x0 (ix2_of rfl rfl)) (congrArg x1 (ix2_of rfl rfl))

theorem algebraic : algebraic_Kernel7Ideal_Reference7Ideal := by
  intro m g m' g' _ hm
  refine ⟨fun c => (dats m 0 c).arrAt 2 cfg0.N, Value.run_blocks m g,
    (θ_run _ _ _).mono (fun r h c => ⟨(h c).1.trans ?_, (h c).2⟩) (Cert.Reference7Ideal.Value.run m' g')⟩
  obtain ⟨a0, a1⟩ := hm c
  rw [Cert.Reference7Ideal.Read.val_main_v4_eq, a0, a1]
  funext i
  obtain ⟨p, q, rfl⟩ : ∃ (p : Fin 9216) (q : Fin 1024), i = ix2 p q := ⟨i 0, i 1, eq_ix2 i⟩
  exact (reference_apply _ _ p q).trans (result_apply m c p q).symm

end Cert.MixOutDx
-- ==== Proof.Product.MixOutDw.lean ====
/- The gradient of the mixing output's weights, `mergedᵀ · dy`: nine tiles of rows, each tile's product added to what the
   tiles before it left. -/
module

public import proofs.«01_k».proof.Defs
public import proofs.«01_k».proof.Proof.Product.Sums
public import proofs.«01_k».proof.Proof.Gen.Kernel8
public import proofs.«01_k».proof.Proof.Gen.Kernel8Ideal.Value
public import proofs.«01_k».proof.Proof.Gen.Reference8Ideal.Read
public import proofs.«01_k».proof.Proof.Gen.Reference8Ideal.Run

@[expose] public section

set_option maxRecDepth 16384

noncomputable section

namespace Cert.MixOutDw

open Cert.Kernel8Ideal Cert.Kernel8Ideal.Gen Cert.Product
open Idealize.ShloMosaic Idealize.ShloMosaic.TcCoe Idealize.SL.Sem

/-! ## The frames -/

/-- The kernel as printed and its idealization have the same definitions. -/
theorem defs_eq : Cert.Kernel8.defs (F := Bits) = Cert.Kernel8Ideal.defs (F := Bits) := by
  refine congrArg (Pipeline.defs Cert.Kernel8Ideal.pcfgs) ?_
  unfold Cert.Kernel8.defs₀ Cert.Kernel8Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel8 := fun m g _ => by
  rw [defs_eq]
  exact frame (F := Bits) m g

theorem frame_ideal : quiescent_Kernel8Ideal := fun m g _ => frame (F := Ideal) m g

theorem frame_reference : quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-! ## The value -/

variable (m : (ℓ : Loc nD τ sig) → Buf (Elt Ideal) ℓ)

/-- The block of each input window at a grid point. -/
theorem index : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- A tile's rows of the left operand. -/
theorem left_apply (c : Dev nD) (t : Fin cfg0.N) (a : Fin 1024) (b : Fin 1024) (i : S9216x1024.Idx)
    (h0 : (i 0).val = t.val * 1024 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1024 + 1 * a.val = (i 0).val; rw [e0, h0]; omega
  | ⟨1, _⟩ => show win0_0.index t (1 : Fin 2) * 1024 + 1 * b.val = (i 1).val; rw [e1, h1]; omega

/-- A tile's rows of the right operand. -/
theorem right_apply (c : Dev nD) (t : Fin cfg0.N) (a : Fin 1024) (b : Fin 1024) (i : S9216x1024.Idx)
    (h0 : (i 0).val = t.val * 1024 + a.val) (h1 : (i 1).val = b.val) :
    iblk m c 1 t (ix2 a b) = m ((c.tc : Thread nD τ).loc main_arg1) i := by
  have e0 : win0_1.index t (0 : Fin 2) = _ := (index t).2.1
  have e1 : win0_1.index t (1 : Fin 2) = _ := (index t).2.2
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 1024 + 1 * b.val = (i 1).val; rw [e1, h1]; omega

/-- What a tile adds to an entry. -/
def tile (c : Dev nD) (n : ℕ) (i : S1024x1024.Idx) : EReal :=
  if h : n < cfg0.N then tmul (iblk m c 0 ⟨n, h⟩) (iblk m c 1 ⟨n, h⟩) (i 0) (i 1) else 0

theorem step_apply (x0 : Vec Ideal S1024x1024 .bf16) (x1 : Vec Ideal S1024x1024 .bf16) (acc : Vec Ideal S1024x1024 .f32) (i : S1024x1024.Idx) :
    k0_pay2 x0 x1 acc i = acc i + tmul x0 x1 (i 0) (i 1) := by
  obtain ⟨p, q, rfl⟩ : ∃ (p : Fin 1024) (q : Fin 1024), i = ix2 p q := ⟨i 0, i 1, eq_ix2 i⟩
  pointwise [k0_pay2]
  rfl

/-- The result after the run is the product. -/
theorem result_apply (c : Dev nD) (p : Fin 1024) (q : Fin 1024) :
    Value.G2 m c (ix2 p q) = tmul (m ((c.tc : Thread nD τ).loc main_arg0)) (m ((c.tc : Thread nD τ).loc main_arg1)) p q := by
  have hp := p.isLt
  have hq := q.isLt
  have hrun : Value.run2Of (ix2 p q) = 0 := by show 1 * (p.val / 1024 - 0) + 1 * (q.val / 1024 - 0) = _; omega
  have hloc : Value.loc2Of (ix2 p q) = ix2 p q := ix2_of (Nat.mod_eq_of_lt hp) (Nat.mod_eq_of_lt hq)
  unfold Value.G2
  rw [dif_pos (by rw [hrun]; show _ < 9; omega), hloc]
  refine (Pipeline.accAt_add_apply (β := EReal) (Value.reset2 m c) (Value.step2 m c) (fun _ => 0) (tile m c) _ 8 (fun h i => ?_) (fun n h acc i _ _ => ?_) 8 le_rfl _ _).trans ?_
  · unfold Value.reset2 tile
    rw [step_apply, dif_pos h]
    pointwise [k0_pay1]
  · unfold Value.step2 tile
    rw [step_apply, dif_pos h]
  · rw [zero_add, hrun]
    refine tmul_tiles (n := 9) (l := 1024) rfl _ _ p q _ fun s hs => ?_
    unfold tile
    rw [dif_pos (by show _ < 9; omega : 9 * 0 + s < cfg0.N)]
    exact Finset.sum_congr rfl fun r _ => mul_congr
      (left_apply m c _ _ _ _ (by show s * 1024 + r.val = (9 * 0 + s) * 1024 + r.val; omega) rfl)
      (right_apply m c _ _ _ _ (by show s * 1024 + r.val = (9 * 0 + s) * 1024 + r.val; omega) rfl)

/-- The reference's product. -/
theorem reference_apply (x0 : (⟨S9216x1024, .bf16⟩ : BufTy).Contents (Elt Ideal)) (x1 : (⟨S9216x1024, .bf16⟩ : BufTy).Contents (Elt Ideal))
    (p : Fin 1024) (q : Fin 1024) :
    Cert.Reference8Ideal.Read.val_main_v5 (F := Ideal) x0 x1 (ix2 p q) = tmul x0 x1 p q := by
  rw [Cert.Reference8Ideal.Read.val_main_v5_apply, Cert.Reference8Ideal.Read.val_main_v4_apply]
  refine Finset.sum_congr rfl fun k _ => (mul_comm _ _).trans (mul_congr (congrArg x0 (ix2_of rfl rfl)) (congrArg x1 (ix2_of rfl rfl)))

theorem algebraic : algebraic_Kernel8Ideal_Reference8Ideal := by
  intro m g m' g' _ hm
  refine ⟨fun c => Value.G2 m c, Value.run m g,
    (θ_run _ _ _).mono (fun r h c => ⟨(h c).1.trans ?_, (h c).2⟩) (Cert.Reference8Ideal.Value.run m' g')⟩
  obtain ⟨a0, a1⟩ := hm c
  rw [Cert.Reference8Ideal.Read.val_main_v5_eq, a0, a1]
  funext i
  obtain ⟨p, q, rfl⟩ : ∃ (p : Fin 1024) (q : Fin 1024), i = ix2 p q := ⟨i 0, i 1, eq_ix2 i⟩
  exact (reference_apply _ _ p q).trans (result_apply m c p q).symm

end Cert.MixOutDw
-- ==== Proof.Product.AbInDw.lean ====
/- The gradient of the weights that layers 0 and 2 multiply their input by, `xᵀ · dz`, 1664 columns: nine tiles of rows. -/
module

public import proofs.«01_k».proof.Defs
public import proofs.«01_k».proof.Proof.Product.Sums
public import proofs.«01_k».proof.Proof.Gen.Kernel9
public import proofs.«01_k».proof.Proof.Gen.Kernel9Ideal.Value
public import proofs.«01_k».proof.Proof.Gen.Reference9Ideal.Read
public import proofs.«01_k».proof.Proof.Gen.Reference9Ideal.Run

@[expose] public section

set_option maxRecDepth 16384

noncomputable section

namespace Cert.AbInDw

open Cert.Kernel9Ideal Cert.Kernel9Ideal.Gen Cert.Product
open Idealize.ShloMosaic Idealize.ShloMosaic.TcCoe Idealize.SL.Sem

/-! ## The frames -/

/-- The kernel as printed and its idealization have the same definitions. -/
theorem defs_eq : Cert.Kernel9.defs (F := Bits) = Cert.Kernel9Ideal.defs (F := Bits) := by
  refine congrArg (Pipeline.defs Cert.Kernel9Ideal.pcfgs) ?_
  unfold Cert.Kernel9.defs₀ Cert.Kernel9Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel9 := fun m g _ => by
  rw [defs_eq]
  exact frame (F := Bits) m g

theorem frame_ideal : quiescent_Kernel9Ideal := fun m g _ => frame (F := Ideal) m g

theorem frame_reference : quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-! ## The value -/

variable (m : (ℓ : Loc nD τ sig) → Buf (Elt Ideal) ℓ)

/-- The block of each input window at a grid point. -/
theorem index : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- A tile's rows of the left operand. -/
theorem left_apply (c : Dev nD) (t : Fin cfg0.N) (a : Fin 1024) (b : Fin 1024) (i : S9216x1024.Idx)
    (h0 : (i 0).val = t.val * 1024 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1024 + 1 * a.val = (i 0).val; rw [e0, h0]; omega
  | ⟨1, _⟩ => show win0_0.index t (1 : Fin 2) * 1024 + 1 * b.val = (i 1).val; rw [e1, h1]; omega

/-- A tile's rows of the right operand. -/
theorem right_apply (c : Dev nD) (t : Fin cfg0.N) (a : Fin 1024) (b : Fin 1664) (i : S9216x1664.Idx)
    (h0 : (i 0).val = t.val * 1024 + a.val) (h1 : (i 1).val = b.val) :
    iblk m c 1 t (ix2 a b) = m ((c.tc : Thread nD τ).loc main_arg1) i := by
  have e0 : win0_1.index t (0 : Fin 2) = _ := (index t).2.1
  have e1 : win0_1.index t (1 : Fin 2) = _ := (index t).2.2
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 1664 + 1 * b.val = (i 1).val; rw [e1, h1]; omega

/-- What a tile adds to an entry. -/
def tile (c : Dev nD) (n : ℕ) (i : S1024x1664.Idx) : EReal :=
  if h : n < cfg0.N then tmul (iblk m c 0 ⟨n, h⟩) (iblk m c 1 ⟨n, h⟩) (i 0) (i 1) else 0

theorem step_apply (x0 : Vec Ideal S1024x1024 .bf16) (x1 : Vec Ideal S1024x1664 .bf16) (acc : Vec Ideal S1024x1664 .f32) (i : S1024x1664.Idx) :
    k0_pay2 x0 x1 acc i = acc i + tmul x0 x1 (i 0) (i 1) := by
  obtain ⟨p, q, rfl⟩ : ∃ (p : Fin 1024) (q : Fin 1664), i = ix2 p q := ⟨i 0, i 1, eq_ix2 i⟩
  pointwise [k0_pay2]
  rfl

/-- The result after the run is the product. -/
theorem result_apply (c : Dev nD) (p : Fin 1024) (q : Fin 1664) :
    Value.G2 m c (ix2 p q) = tmul (m ((c.tc : Thread nD τ).loc main_arg0)) (m ((c.tc : Thread nD τ).loc main_arg1)) p q := by
  have hp := p.isLt
  have hq := q.isLt
  have hrun : Value.run2Of (ix2 p q) = 0 := by show 1 * (p.val / 1024 - 0) + 1 * (q.val / 1664 - 0) = _; omega
  have hloc : Value.loc2Of (ix2 p q) = ix2 p q := ix2_of (Nat.mod_eq_of_lt hp) (Nat.mod_eq_of_lt hq)
  unfold Value.G2
  rw [dif_pos (by rw [hrun]; show _ < 9; omega), hloc]
  refine (Pipeline.accAt_add_apply (β := EReal) (Value.reset2 m c) (Value.step2 m c) (fun _ => 0) (tile m c) _ 8 (fun h i => ?_) (fun n h acc i _ _ => ?_) 8 le_rfl _ _).trans ?_
  · unfold Value.reset2 tile
    rw [step_apply, dif_pos h]
    pointwise [k0_pay1]
  · unfold Value.step2 tile
    rw [step_apply, dif_pos h]
  · rw [zero_add, hrun]
    refine tmul_tiles (n := 9) (l := 1024) rfl _ _ p q _ fun s hs => ?_
    unfold tile
    rw [dif_pos (by show _ < 9; omega : 9 * 0 + s < cfg0.N)]
    exact Finset.sum_congr rfl fun r _ => mul_congr
      (left_apply m c _ _ _ _ (by show s * 1024 + r.val = (9 * 0 + s) * 1024 + r.val; omega) rfl)
      (right_apply m c _ _ _ _ (by show s * 1024 + r.val = (9 * 0 + s) * 1024 + r.val; omega) rfl)

/-- The reference's product. -/
theorem reference_apply (x0 : (⟨S9216x1024, .bf16⟩ : BufTy).Contents (Elt Ideal)) (x1 : (⟨S9216x1664, .bf16⟩ : BufTy).Contents (Elt Ideal))
    (p : Fin 1024) (q : Fin 1664) :
    Cert.Reference9Ideal.Read.val_main_v5 (F := Ideal) x0 x1 (ix2 p q) = tmul x0 x1 p q := by
  rw [Cert.Reference9Ideal.Read.val_main_v5_apply, Cert.Reference9Ideal.Read.val_main_v4_apply]
  refine Finset.sum_congr rfl fun k _ => (mul_comm _ _).trans (mul_congr (congrArg x0 (ix2_of rfl rfl)) (congrArg x1 (ix2_of rfl rfl)))

theorem algebraic : algebraic_Kernel9Ideal_Reference9Ideal := by
  intro m g m' g' _ hm
  refine ⟨fun c => Value.G2 m c, Value.run m g,
    (θ_run _ _ _).mono (fun r h c => ⟨(h c).1.trans ?_, (h c).2⟩) (Cert.Reference9Ideal.Value.run m' g')⟩
  obtain ⟨a0, a1⟩ := hm c
  rw [Cert.Reference9Ideal.Read.val_main_v5_eq, a0, a1]
  funext i
  obtain ⟨p, q, rfl⟩ : ∃ (p : Fin 1024) (q : Fin 1664), i = ix2 p q := ⟨i 0, i 1, eq_ix2 i⟩
  exact (reference_apply _ _ p q).trans (result_apply m c p q).symm

end Cert.AbInDw
-- ==== Proof.Product.CdInDw.lean ====
/- The gradient of the weights that layers 1 and 3 multiply their input by, `xᵀ · dz`, 2304 columns: nine tiles of rows. -/
module

public import proofs.«01_k».proof.Defs
public import proofs.«01_k».proof.Proof.Product.Sums
public import proofs.«01_k».proof.Proof.Gen.Kernel10
public import proofs.«01_k».proof.Proof.Gen.Kernel10Ideal.Value
public import proofs.«01_k».proof.Proof.Gen.Reference10Ideal.Read
public import proofs.«01_k».proof.Proof.Gen.Reference10Ideal.Run

@[expose] public section

set_option maxRecDepth 16384

noncomputable section

namespace Cert.CdInDw

open Cert.Kernel10Ideal Cert.Kernel10Ideal.Gen Cert.Product
open Idealize.ShloMosaic Idealize.ShloMosaic.TcCoe Idealize.SL.Sem

/-! ## The frames -/

/-- The kernel as printed and its idealization have the same definitions. -/
theorem defs_eq : Cert.Kernel10.defs (F := Bits) = Cert.Kernel10Ideal.defs (F := Bits) := by
  refine congrArg (Pipeline.defs Cert.Kernel10Ideal.pcfgs) ?_
  unfold Cert.Kernel10.defs₀ Cert.Kernel10Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel10 := fun m g _ => by
  rw [defs_eq]
  exact frame (F := Bits) m g

theorem frame_ideal : quiescent_Kernel10Ideal := fun m g _ => frame (F := Ideal) m g

theorem frame_reference : quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-! ## The value -/

variable (m : (ℓ : Loc nD τ sig) → Buf (Elt Ideal) ℓ)

/-- The block of each input window at a grid point. -/
theorem index : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- A tile's rows of the left operand. -/
theorem left_apply (c : Dev nD) (t : Fin cfg0.N) (a : Fin 1024) (b : Fin 1024) (i : S9216x1024.Idx)
    (h0 : (i 0).val = t.val * 1024 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1024 + 1 * a.val = (i 0).val; rw [e0, h0]; omega
  | ⟨1, _⟩ => show win0_0.index t (1 : Fin 2) * 1024 + 1 * b.val = (i 1).val; rw [e1, h1]; omega

/-- A tile's rows of the right operand. -/
theorem right_apply (c : Dev nD) (t : Fin cfg0.N) (a : Fin 1024) (b : Fin 2304) (i : S9216x2304.Idx)
    (h0 : (i 0).val = t.val * 1024 + a.val) (h1 : (i 1).val = b.val) :
    iblk m c 1 t (ix2 a b) = m ((c.tc : Thread nD τ).loc main_arg1) i := by
  have e0 : win0_1.index t (0 : Fin 2) = _ := (index t).2.1
  have e1 : win0_1.index t (1 : Fin 2) = _ := (index t).2.2
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 2304 + 1 * b.val = (i 1).val; rw [e1, h1]; omega

/-- What a tile adds to an entry. -/
def tile (c : Dev nD) (n : ℕ) (i : S1024x2304.Idx) : EReal :=
  if h : n < cfg0.N then tmul (iblk m c 0 ⟨n, h⟩) (iblk m c 1 ⟨n, h⟩) (i 0) (i 1) else 0

theorem step_apply (x0 : Vec Ideal S1024x1024 .bf16) (x1 : Vec Ideal S1024x2304 .bf16) (acc : Vec Ideal S1024x2304 .f32) (i : S1024x2304.Idx) :
    k0_pay2 x0 x1 acc i = acc i + tmul x0 x1 (i 0) (i 1) := by
  obtain ⟨p, q, rfl⟩ : ∃ (p : Fin 1024) (q : Fin 2304), i = ix2 p q := ⟨i 0, i 1, eq_ix2 i⟩
  pointwise [k0_pay2]
  rfl

/-- The result after the run is the product. -/
theorem result_apply (c : Dev nD) (p : Fin 1024) (q : Fin 2304) :
    Value.G2 m c (ix2 p q) = tmul (m ((c.tc : Thread nD τ).loc main_arg0)) (m ((c.tc : Thread nD τ).loc main_arg1)) p q := by
  have hp := p.isLt
  have hq := q.isLt
  have hrun : Value.run2Of (ix2 p q) = 0 := by show 1 * (p.val / 1024 - 0) + 1 * (q.val / 2304 - 0) = _; omega
  have hloc : Value.loc2Of (ix2 p q) = ix2 p q := ix2_of (Nat.mod_eq_of_lt hp) (Nat.mod_eq_of_lt hq)
  unfold Value.G2
  rw [dif_pos (by rw [hrun]; show _ < 9; omega), hloc]
  refine (Pipeline.accAt_add_apply (β := EReal) (Value.reset2 m c) (Value.step2 m c) (fun _ => 0) (tile m c) _ 8 (fun h i => ?_) (fun n h acc i _ _ => ?_) 8 le_rfl _ _).trans ?_
  · unfold Value.reset2 tile
    rw [step_apply, dif_pos h]
    pointwise [k0_pay1]
  · unfold Value.step2 tile
    rw [step_apply, dif_pos h]
  · rw [zero_add, hrun]
    refine tmul_tiles (n := 9) (l := 1024) rfl _ _ p q _ fun s hs => ?_
    unfold tile
    rw [dif_pos (by show _ < 9; omega : 9 * 0 + s < cfg0.N)]
    exact Finset.sum_congr rfl fun r _ => mul_congr
      (left_apply m c _ _ _ _ (by show s * 1024 + r.val = (9 * 0 + s) * 1024 + r.val; omega) rfl)
      (right_apply m c _ _ _ _ (by show s * 1024 + r.val = (9 * 0 + s) * 1024 + r.val; omega) rfl)

/-- The reference's product. -/
theorem reference_apply (x0 : (⟨S9216x1024, .bf16⟩ : BufTy).Contents (Elt Ideal)) (x1 : (⟨S9216x2304, .bf16⟩ : BufTy).Contents (Elt Ideal))
    (p : Fin 1024) (q : Fin 2304) :
    Cert.Reference10Ideal.Read.val_main_v5 (F := Ideal) x0 x1 (ix2 p q) = tmul x0 x1 p q := by
  rw [Cert.Reference10Ideal.Read.val_main_v5_apply, Cert.Reference10Ideal.Read.val_main_v4_apply]
  refine Finset.sum_congr rfl fun k _ => (mul_comm _ _).trans (mul_congr (congrArg x0 (ix2_of rfl rfl)) (congrArg x1 (ix2_of rfl rfl)))

theorem algebraic : algebraic_Kernel10Ideal_Reference10Ideal := by
  intro m g m' g' _ hm
  refine ⟨fun c => Value.G2 m c, Value.run m g,
    (θ_run _ _ _).mono (fun r h c => ⟨(h c).1.trans ?_, (h c).2⟩) (Cert.Reference10Ideal.Value.run m' g')⟩
  obtain ⟨a0, a1⟩ := hm c
  rw [Cert.Reference10Ideal.Read.val_main_v5_eq, a0, a1]
  funext i
  obtain ⟨p, q, rfl⟩ : ∃ (p : Fin 1024) (q : Fin 2304), i = ix2 p q := ⟨i 0, i 1, eq_ix2 i⟩
  exact (reference_apply _ _ p q).trans (result_apply m c p q).symm

end Cert.CdInDw
-- ==== Proof.Product.AbInDx.lean ====
/- The gradient of the input of layers 0 and 2, `dz · wᵀ` over 1664 columns: the kernel's 1536 by 512 blocks are the
   product's. -/
module

public import proofs.«01_k».proof.Defs
public import proofs.«01_k».proof.Proof.Product.Sums
public import proofs.«01_k».proof.Proof.Gen.Kernel11
public import proofs.«01_k».proof.Proof.Gen.Kernel11Ideal.Value
public import proofs.«01_k».proof.Proof.Gen.Reference11Ideal.Read
public import proofs.«01_k».proof.Proof.Gen.Reference11Ideal.Run

@[expose] public section

set_option maxRecDepth 16384

noncomputable section

namespace Cert.AbInDx

open Cert.Kernel11Ideal Cert.Kernel11Ideal.Gen Cert.Product
open Idealize.ShloMosaic Idealize.ShloMosaic.TcCoe Idealize.SL.Sem

/-! ## The frames -/

/-- The kernel as printed and its idealization have the same definitions. -/
theorem defs_eq : Cert.Kernel11.defs (F := Bits) = Cert.Kernel11Ideal.defs (F := Bits) := by
  refine congrArg (Pipeline.defs Cert.Kernel11Ideal.pcfgs) ?_
  unfold Cert.Kernel11.defs₀ Cert.Kernel11Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel11 := fun m g _ => by
  rw [defs_eq]
  exact frame (F := Bits) m g

theorem frame_ideal : quiescent_Kernel11Ideal := fun m g _ => frame (F := Ideal) m g

theorem frame_reference : quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-! ## The value -/

variable (m : (ℓ : Loc nD τ sig) → Buf (Elt Ideal) ℓ)

/-- The block of each window at a grid point. -/
theorem index : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- A tile's rows of the left operand. -/
theorem left_apply (c : Dev nD) (t : Fin cfg0.N) (a : Fin 1536) (b : Fin 1664) (i : S9216x1664.Idx)
    (h0 : (i 0).val = t.val / 2 * 1536 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1536 + 1 * a.val = (i 0).val; rw [e0, h0]; omega
  | ⟨1, _⟩ => show win0_0.index t (1 : Fin 2) * 1664 + 1 * b.val = (i 1).val; rw [e1, h1]; omega

/-- A tile's rows of the weights. -/
theorem right_apply (c : Dev nD) (t : Fin cfg0.N) (a : Fin 512) (b : Fin 1664) (i : S1024x1664.Idx)
    (h0 : (i 0).val = t.val % 2 * 512 + a.val) (h1 : (i 1).val = b.val) :
    iblk m c 1 t (ix2 a b) = m ((c.tc : Thread nD τ).loc main_arg1) i := by
  have e0 : win0_1.index t (0 : Fin 2) = _ := (index t).2.1.1
  have e1 : win0_1.index t (1 : Fin 2) = _ := (index t).2.1.2
  refine congrArg (m ((c.tc : Thread nD τ).loc main_arg1)) (funext fun x => Fin.ext ?_)
  match x with
  | ⟨0, _⟩ => show win0_1.index t (0 : Fin 2) * 512 + 1 * a.val = (i 0).val; rw [e0, h0]; omega
  | ⟨1, _⟩ => show win0_1.index t (1 : Fin 2) * 1664 + 1 * b.val = (i 1).val; rw [e1, h1]; omega

/-- A block of the product. -/
theorem block_apply (x0 : Vec Ideal S1536x1664 .bf16) (x1 : Vec Ideal S512x1664 .bf16) (p : Fin 1536) (q : Fin 512) :
    out0_2 x0 x1 (ix2 p q) = mulT x0 x1 p q := by
  have hz : (![0, 0] : Fin 2 → Nat) = fun _ => 0 := funext fun a => by fin_cases a <;> rfl
  unfold out0_2
  rw [View.canon_unit_zero hz]
  simp only [View.ld_unit_zero (S := S1536x1664) hz, View.ld_unit_zero (S := S512x1664) hz]
  pointwise [k0_pay1]
  rfl

/-- The result after the run is the product. -/
theorem result_apply (c : Dev nD) (p : Fin 9216) (q : Fin 1024) :
    (dats m 0 c).arrAt 2 cfg0.N (ix2 p q)
      = mulT (m ((c.tc : Thread nD τ).loc main_arg0)) (m ((c.tc : Thread nD τ).loc main_arg1)) p q := by
  have hp := p.isLt
  have hq := q.isLt
  have ht : p.val / 1536 * 2 + q.val / 512 < cfg0.N := by show _ < 12; omega
  have e := congrFun (Value.blocks2 m c ⟨p.val / 1536 * 2 + q.val / 512, ht⟩ (flush0_2 _))
    (ix2 (⟨p.val % 1536, by omega⟩ : Fin 1536) (⟨q.val % 512, by omega⟩ : Fin 512))
  rw [Value.flushed2] at e
  refine Eq.trans (congrArg ((dats m 0 c).arrAt 2 cfg0.N) (funext fun x => Fin.ext ?_)) (e.trans ((block_apply _ _ _ _).trans ?_))
  · have e0 := (index ⟨p.val / 1536 * 2 + q.val / 512, ht⟩).2.2.1
    have e1 := (index ⟨p.val / 1536 * 2 + q.val / 512, ht⟩).2.2.2
    match x with
    | ⟨0, _⟩ => show p.val = win0_2.index _ (0 : Fin 2) * 1536 + 1 * (p.val % 1536); rw [e0]; dsimp only; omega
    | ⟨1, _⟩ => show q.val = win0_2.index _ (1 : Fin 2) * 512 + 1 * (q.val % 512); rw [e1]; dsimp only; omega
  · refine Finset.sum_congr rfl fun k _ => mul_congr (left_apply m c _ _ _ _ ?_ rfl) (right_apply m c _ _ _ _ ?_ rfl)
    · show p.val = (p.val / 1536 * 2 + q.val / 512) / 2 * 1536 + p.val % 1536; omega
    · show q.val = (p.val / 1536 * 2 + q.val / 512) % 2 * 512 + q.val % 512; omega

/-- The reference's product. -/
theorem reference_apply (x0 : (⟨S9216x1664, .bf16⟩ : BufTy).Contents (Elt Ideal)) (x1 : (⟨S1024x1664, .bf16⟩ : BufTy).Contents (Elt Ideal))
    (p : Fin 9216) (q : Fin 1024) :
    Cert.Reference11Ideal.Read.val_main_v4 (F := Ideal) x0 x1 (ix2 p q) = mulT x0 x1 p q := by
  rw [Cert.Reference11Ideal.Read.val_main_v4_apply]
  exact Finset.sum_congr rfl fun k _ => mul_congr (congrArg x0 (ix2_of rfl rfl)) (congrArg x1 (ix2_of rfl rfl))

theorem algebraic : algebraic_Kernel11Ideal_Reference11Ideal := by
  intro m g m' g' _ hm
  refine ⟨fun c => (dats m 0 c).arrAt 2 cfg0.N, Value.run_blocks m g,
    (θ_run _ _ _).mono (fun r h c => ⟨(h c).1.trans ?_, (h c).2⟩) (Cert.Reference11Ideal.Value.run m' g')⟩
  obtain ⟨a0, a1⟩ := hm c
  rw [Cert.Reference11Ideal.Read.val_main_v4_eq, a0, a1]
  funext i
  obtain ⟨p, q, rfl⟩ : ∃ (p : Fin 9216) (q : Fin 1024), i = ix2 p q := ⟨i 0, i 1, eq_ix2 i⟩
  exact (reference_apply _ _ p q).trans (result_apply m c p q).symm

end Cert.AbInDx
-- ==== Proof.Product.CdInDx.lean ====
/- The gradient of the input of layers 1 and 3, `dz · wᵀ` over 2304 columns: the kernel's 1536 by 512 blocks are the
   product's. -/
module

public import proofs.«01_k».proof.Defs
public import proofs.«01_k».proof.Proof.Product.Sums
public import proofs.«01_k».proof.Proof.Gen.Kernel12
public import proofs.«01_k».proof.Proof.Gen.Kernel12Ideal.Value
public import proofs.«01_k».proof.Proof.Gen.Reference12Ideal.Read
public import proofs.«01_k».proof.Proof.Gen.Reference12Ideal.Run

@[expose] public section

set_option maxRecDepth 16384

noncomputable section

namespace Cert.CdInDx

open Cert.Kernel12Ideal Cert.Kernel12Ideal.Gen Cert.Product
open Idealize.ShloMosaic Idealize.ShloMosaic.TcCoe Idealize.SL.Sem

/-! ## The frames -/

/-- The kernel as printed and its idealization have the same definitions. -/
theorem defs_eq : Cert.Kernel12.defs (F := Bits) = Cert.Kernel12Ideal.defs (F := Bits) := by
  refine congrArg (Pipeline.defs Cert.Kernel12Ideal.pcfgs) ?_
  unfold Cert.Kernel12.defs₀ Cert.Kernel12Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel12 := fun m g _ => by
  rw [defs_eq]
  exact frame (F := Bits) m g

theorem frame_ideal : quiescent_Kernel12Ideal := fun m g _ => frame (F := Ideal) m g

theorem frame_reference : quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-! ## The value -/

variable (m : (ℓ : Loc nD τ sig) → Buf (Elt Ideal) ℓ)

/-- The block of each window at a grid point. -/
theorem index : ∀ t : Fin cfg0.N,
    (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2) :=
  (by decide +kernel : ∀ t : Fin grid0.N, _)

/-- A tile's rows of the left operand. -/
theorem left_apply (c : Dev nD) (t : Fin cfg0.N) (a : Fin 1536) (b : Fin 2304) (i : S9216x2304.Idx)
    (h0 : (i 0).val = t.val / 2 * 1536 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1536 + 1 * a.val = (i 0).val; rw [e0, h0]; omega
  | ⟨1, _⟩ => show win0_0.index t (1 : Fin 2) * 2304 + 1 * b.val = (i 1).val; rw [e1, h1]; omega

/-- A tile's rows of the weights. -/
theorem right_apply (c : Dev nD) (t : Fin cfg0.N) (a : Fin 512) (b : Fin 2304) (i : S1024x2304.Idx)
    (h0 : (i 0).val = t.val % 2 * 512 + a.val) (h1 : (i 1).val = b.val) :
    iblk m c 1 t (ix2 a b) = m ((c.tc : Thread nD τ).loc main_arg1) i := by
  have e0 : win0_1.index t (0 : Fin 2) = _ := (index t).2.1.1
  have e1 : win0_1.index t (1 : Fin 2) = _ := (index t).2.1.2
  refine congrArg (m ((c.tc : Thread nD τ).loc main_arg1)) (funext fun x => Fin.ext ?_)
  match x with
  | ⟨0, _⟩ => show win0_1.index t (0 : Fin 2) * 512 + 1 * a.val = (i 0).val; rw [e0, h0]; omega
  | ⟨1, _⟩ => show win0_1.index t (1 : Fin 2) * 2304 + 1 * b.val = (i 1).val; rw [e1, h1]; omega

/-- A block of the product. -/
theorem block_apply (x0 : Vec Ideal S1536x2304 .bf16) (x1 : Vec Ideal S512x2304 .bf16) (p : Fin 1536) (q : Fin 512) :
    out0_2 x0 x1 (ix2 p q) = mulT x0 x1 p q := by
  have hz : (![0, 0] : Fin 2 → Nat) = fun _ => 0 := funext fun a => by fin_cases a <;> rfl
  unfold out0_2
  rw [View.canon_unit_zero hz]
  simp only [View.ld_unit_zero (S := S1536x2304) hz, View.ld_unit_zero (S := S512x2304) hz]
  pointwise [k0_pay1]
  rfl

/-- The result after the run is the product. -/
theorem result_apply (c : Dev nD) (p : Fin 9216) (q : Fin 1024) :
    (dats m 0 c).arrAt 2 cfg0.N (ix2 p q)
      = mulT (m ((c.tc : Thread nD τ).loc main_arg0)) (m ((c.tc : Thread nD τ).loc main_arg1)) p q := by
  have hp := p.isLt
  have hq := q.isLt
  have ht : p.val / 1536 * 2 + q.val / 512 < cfg0.N := by show _ < 12; omega
  have e := congrFun (Value.blocks2 m c ⟨p.val / 1536 * 2 + q.val / 512, ht⟩ (flush0_2 _))
    (ix2 (⟨p.val % 1536, by omega⟩ : Fin 1536) (⟨q.val % 512, by omega⟩ : Fin 512))
  rw [Value.flushed2] at e
  refine Eq.trans (congrArg ((dats m 0 c).arrAt 2 cfg0.N) (funext fun x => Fin.ext ?_)) (e.trans ((block_apply _ _ _ _).trans ?_))
  · have e0 := (index ⟨p.val / 1536 * 2 + q.val / 512, ht⟩).2.2.1
    have e1 := (index ⟨p.val / 1536 * 2 + q.val / 512, ht⟩).2.2.2
    match x with
    | ⟨0, _⟩ => show p.val = win0_2.index _ (0 : Fin 2) * 1536 + 1 * (p.val % 1536); rw [e0]; dsimp only; omega
    | ⟨1, _⟩ => show q.val = win0_2.index _ (1 : Fin 2) * 512 + 1 * (q.val % 512); rw [e1]; dsimp only; omega
  · refine Finset.sum_congr rfl fun k _ => mul_congr (left_apply m c _ _ _ _ ?_ rfl) (right_apply m c _ _ _ _ ?_ rfl)
    · show p.val = (p.val / 1536 * 2 + q.val / 512) / 2 * 1536 + p.val % 1536; omega
    · show q.val = (p.val / 1536 * 2 + q.val / 512) % 2 * 512 + q.val % 512; omega

/-- The reference's product. -/
theorem reference_apply (x0 : (⟨S9216x2304, .bf16⟩ : BufTy).Contents (Elt Ideal)) (x1 : (⟨S1024x2304, .bf16⟩ : BufTy).Contents (Elt Ideal))
    (p : Fin 9216) (q : Fin 1024) :
    Cert.Reference12Ideal.Read.val_main_v4 (F := Ideal) x0 x1 (ix2 p q) = mulT x0 x1 p q := by
  rw [Cert.Reference12Ideal.Read.val_main_v4_apply]
  exact Finset.sum_congr rfl fun k _ => mul_congr (congrArg x0 (ix2_of rfl rfl)) (congrArg x1 (ix2_of rfl rfl))

theorem algebraic : algebraic_Kernel12Ideal_Reference12Ideal := by
  intro m g m' g' _ hm
  refine ⟨fun c => (dats m 0 c).arrAt 2 cfg0.N, Value.run_blocks m g,
    (θ_run _ _ _).mono (fun r h c => ⟨(h c).1.trans ?_, (h c).2⟩) (Cert.Reference12Ideal.Value.run m' g')⟩
  obtain ⟨a0, a1⟩ := hm c
  rw [Cert.Reference12Ideal.Read.val_main_v4_eq, a0, a1]
  funext i
  obtain ⟨p, q, rfl⟩ : ∃ (p : Fin 9216) (q : Fin 1024), i = ix2 p q := ⟨i 0, i 1, eq_ix2 i⟩
  exact (reference_apply _ _ p q).trans (result_apply m c p q).symm

end Cert.CdInDx
-- ==== Proof.Product.AbIn.lean ====
/- The product that layers 0 and 2 begin with, `x · w` of 1664 columns: the kernel's blocks of 512 whole rows are the
   product's. -/
module

public import proofs.«01_k».proof.Defs
public import proofs.«01_k».proof.Proof.Product.Sums
public import proofs.«01_k».proof.Proof.Gen.Kernel13
public import proofs.«01_k».proof.Proof.Gen.Kernel13Ideal.Value
public import proofs.«01_k».proof.Proof.Gen.Reference13Ideal.Read
public import proofs.«01_k».proof.Proof.Gen.Reference13Ideal.Run

@[expose] public section

set_option maxRecDepth 16384

noncomputable section

namespace Cert.AbIn

open Cert.Kernel13Ideal Cert.Kernel13Ideal.Gen Cert.Product
open Idealize.ShloMosaic Idealize.ShloMosaic.TcCoe Idealize.SL.Sem

/-! ## The frames -/

/-- The kernel as printed and its idealization have the same definitions. -/
theorem defs_eq : Cert.Kernel13.defs (F := Bits) = Cert.Kernel13Ideal.defs (F := Bits) := by
  refine congrArg (Pipeline.defs Cert.Kernel13Ideal.pcfgs) ?_
  unfold Cert.Kernel13.defs₀ Cert.Kernel13Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel13 := fun m g _ => by
  rw [defs_eq]
  exact frame (F := Bits) m g

theorem frame_ideal : quiescent_Kernel13Ideal := fun m g _ => frame (F := Ideal) m g

theorem frame_reference : quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-! ## The value -/

variable (m : (ℓ : Loc nD τ sig) → Buf (Elt Ideal) ℓ)

/-- The block of each window at a grid point. -/
theorem index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

/-- A tile's rows of the left operand. -/
theorem left_apply (c : Dev nD) (t : Fin cfg0.N) (a : Fin 512) (b : Fin 1024) (i : S9216x1024.Idx)
    (h0 : (i 0).val = t.val * 512 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 512 + 1 * a.val = (i 0).val; rw [e0, h0]; omega
  | ⟨1, _⟩ => show win0_0.index t (1 : Fin 2) * 1024 + 1 * b.val = (i 1).val; rw [e1, h1]; omega

/-- A tile's columns of the weights. -/
theorem right_apply (c : Dev nD) (t : Fin cfg0.N) (a : Fin 1024) (b : Fin 1664) (i : S1024x1664.Idx)
    (h0 : (i 0).val = a.val) (h1 : (i 1).val = b.val) :
    iblk m c 1 t (ix2 a b) = m ((c.tc : Thread nD τ).loc main_arg1) i := by
  have e0 : win0_1.index t (0 : Fin 2) = _ := (index t).2.1.1
  have e1 : win0_1.index t (1 : Fin 2) = _ := (index t).2.1.2
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 1664 + 1 * b.val = (i 1).val; rw [e1, h1]; omega

/-- A block of the product. -/
theorem block_apply (x0 : Vec Ideal S512x1024 .bf16) (x1 : Vec Ideal S1024x1664 .bf16) (p : Fin 512) (q : Fin 1664) :
    out0_2 x0 x1 (ix2 p q) = mul x0 x1 p q := by
  have hz : (![0, 0] : Fin 2 → Nat) = fun _ => 0 := funext fun a => by fin_cases a <;> rfl
  unfold out0_2
  rw [View.canon_unit_zero hz]
  simp only [View.ld_unit_zero (S := S512x1024) hz, View.ld_unit_zero (S := S1024x1664) hz]
  pointwise [k0_pay1]
  rfl

/-- The result after the run is the product. -/
theorem result_apply (c : Dev nD) (p : Fin 9216) (q : Fin 1664) :
    (dats m 0 c).arrAt 2 cfg0.N (ix2 p q)
      = mul (m ((c.tc : Thread nD τ).loc main_arg0)) (m ((c.tc : Thread nD τ).loc main_arg1)) p q := by
  have hp := p.isLt
  have hq := q.isLt
  have ht : p.val / 512 < cfg0.N := by show _ < 18; omega
  have e := congrFun (Value.blocks2 m c ⟨p.val / 512, ht⟩ (flush0_2 _))
    (ix2 (⟨p.val % 512, by omega⟩ : Fin 512) (⟨q.val % 1664, by omega⟩ : Fin 1664))
  rw [Value.flushed2] at e
  refine Eq.trans (congrArg ((dats m 0 c).arrAt 2 cfg0.N) (funext fun x => Fin.ext ?_)) (e.trans ((block_apply _ _ _ _).trans ?_))
  · have e0 := (index ⟨p.val / 512, ht⟩).2.2.1
    have e1 := (index ⟨p.val / 512, ht⟩).2.2.2
    match x with
    | ⟨0, _⟩ => show p.val = win0_2.index _ (0 : Fin 2) * 512 + 1 * (p.val % 512); rw [e0]; dsimp only; omega
    | ⟨1, _⟩ => show q.val = win0_2.index _ (1 : Fin 2) * 1664 + 1 * (q.val % 1664); rw [e1]; omega
  · refine Finset.sum_congr rfl fun k _ => mul_congr (left_apply m c _ _ _ _ ?_ rfl) (right_apply m c _ _ _ _ rfl ?_)
    · show p.val = p.val / 512 * 512 + p.val % 512; omega
    · show q.val = q.val % 1664; omega

/-- The reference's product. -/
theorem reference_apply (x0 : (⟨S9216x1024, .bf16⟩ : BufTy).Contents (Elt Ideal)) (x1 : (⟨S1024x1664, .bf16⟩ : BufTy).Contents (Elt Ideal))
    (p : Fin 9216) (q : Fin 1664) :
    Cert.Reference13Ideal.Read.val_main_v2 (F := Ideal) x0 x1 (ix2 p q) = mul x0 x1 p q := by
  rw [Cert.Reference13Ideal.Read.val_main_v2_apply]
  exact Finset.sum_congr rfl fun k _ => mul_congr (congrArg x0 (ix2_of rfl rfl)) (congrArg x1 (ix2_of rfl rfl))

theorem algebraic : algebraic_Kernel13Ideal_Reference13Ideal := by
  intro m g m' g' _ hm
  refine ⟨fun c => (dats m 0 c).arrAt 2 cfg0.N, Value.run_blocks m g,
    (θ_run _ _ _).mono (fun r h c => ⟨(h c).1.trans ?_, (h c).2⟩) (Cert.Reference13Ideal.Value.run m' g')⟩
  obtain ⟨a0, a1⟩ := hm c
  rw [Cert.Reference13Ideal.Read.val_main_v2_eq, a0, a1]
  funext i
  obtain ⟨p, q, rfl⟩ : ∃ (p : Fin 9216) (q : Fin 1664), i = ix2 p q := ⟨i 0, i 1, eq_ix2 i⟩
  exact (reference_apply _ _ p q).trans (result_apply m c p q).symm

end Cert.AbIn
-- ==== Proof.Product.CdIn.lean ====
/- The product that layers 1 and 3 begin with, `x · w` of 2304 columns: the kernel's 1152 by 768 blocks are the
   product's. -/
module

public import proofs.«01_k».proof.Defs
public import proofs.«01_k».proof.Proof.Product.Sums
public import proofs.«01_k».proof.Proof.Gen.Kernel14
public import proofs.«01_k».proof.Proof.Gen.Kernel14Ideal.Value
public import proofs.«01_k».proof.Proof.Gen.Reference14Ideal.Read
public import proofs.«01_k».proof.Proof.Gen.Reference14Ideal.Run

@[expose] public section

set_option maxRecDepth 16384

noncomputable section

namespace Cert.CdIn

open Cert.Kernel14Ideal Cert.Kernel14Ideal.Gen Cert.Product
open Idealize.ShloMosaic Idealize.ShloMosaic.TcCoe Idealize.SL.Sem

/-! ## The frames -/

/-- The kernel as printed and its idealization have the same definitions. -/
theorem defs_eq : Cert.Kernel14.defs (F := Bits) = Cert.Kernel14Ideal.defs (F := Bits) := by
  refine congrArg (Pipeline.defs Cert.Kernel14Ideal.pcfgs) ?_
  unfold Cert.Kernel14.defs₀ Cert.Kernel14Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel14 := fun m g _ => by
  rw [defs_eq]
  exact frame (F := Bits) m g

theorem frame_ideal : quiescent_Kernel14Ideal := fun m g _ => frame (F := Ideal) m g

theorem frame_reference : quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-! ## The value -/

variable (m : (ℓ : Loc nD τ sig) → Buf (Elt Ideal) ℓ)

/-- The block of each window at a grid point. -/
theorem index : ∀ t : Fin cfg0.N,
    (win0_0.index t (0 : Fin 2) = t.val / 3 ∧ win0_0.index t (1 : Fin 2) = 0)
    ∧ (win0_1.index t (0 : Fin 2) = 0 ∧ win0_1.index t (1 : Fin 2) = t.val % 3)
    ∧ (win0_2.index t (0 : Fin 2) = t.val / 3 ∧ win0_2.index t (1 : Fin 2) = t.val % 3) :=
  (by decide +kernel : ∀ t : Fin grid0.N, _)

/-- A tile's rows of the left operand. -/
theorem left_apply (c : Dev nD) (t : Fin cfg0.N) (a : Fin 1152) (b : Fin 1024) (i : S9216x1024.Idx)
    (h0 : (i 0).val = t.val / 3 * 1152 + a.val) (h1 : (i 1).val = b.val) :
    iblk m c 0 t (ix2 a b) = m ((c.tc : Thread nD τ).loc main_arg0) i := by
  have e0 : win0_0.index t (0 : Fin 2) = _ := (index t).1.1
  have e1 : win0_0.index t (1 : Fin 2) = _ := (index t).1.2
  refine congrArg (m ((c.tc : Thread nD τ).loc main_arg0)) (funext fun x => Fin.ext ?_)
  match x with
  | ⟨0, _⟩ => show win0_0.index t (0 : Fin 2) * 1152 + 1 * a.val = (i 0).val; rw [e0, h0]; omega
  | ⟨1, _⟩ => show win0_0.index t (1 : Fin 2) * 1024 + 1 * b.val = (i 1).val; rw [e1, h1]; omega

/-- A tile's columns of the weights. -/
theorem right_apply (c : Dev nD) (t : Fin cfg0.N) (a : Fin 1024) (b : Fin 768) (i : S1024x2304.Idx)
    (h0 : (i 0).val = a.val) (h1 : (i 1).val = t.val % 3 * 768 + b.val) :
    iblk m c 1 t (ix2 a b) = m ((c.tc : Thread nD τ).loc main_arg1) i := by
  have e0 : win0_1.index t (0 : Fin 2) = _ := (index t).2.1.1
  have e1 : win0_1.index t (1 : Fin 2) = _ := (index t).2.1.2
  refine congrArg (m ((c.tc : Thread nD τ).loc main_arg1)) (funext fun x => Fin.ext ?_)
  match x with
  | ⟨0, _⟩ => show win0_1.index t (0 : Fin 2) * 1024 + 1 * a.val = (i 0).val; rw [e0, h0]; omega
  | ⟨1, _⟩ => show win0_1.index t (1 : Fin 2) * 768 + 1 * b.val = (i 1).val; rw [e1, h1]; omega

/-- A block of the product. -/
theorem block_apply (x0 : Vec Ideal S1152x1024 .bf16) (x1 : Vec Ideal S1024x768 .bf16) (p : Fin 1152) (q : Fin 768) :
    out0_2 x0 x1 (ix2 p q) = mul x0 x1 p q := by
  have hz : (![0, 0] : Fin 2 → Nat) = fun _ => 0 := funext fun a => by fin_cases a <;> rfl
  unfold out0_2
  rw [View.canon_unit_zero hz]
  simp only [View.ld_unit_zero (S := S1152x1024) hz, View.ld_unit_zero (S := S1024x768) hz]
  pointwise [k0_pay1]
  rfl

/-- The result after the run is the product. -/
theorem result_apply (c : Dev nD) (p : Fin 9216) (q : Fin 2304) :
    (dats m 0 c).arrAt 2 cfg0.N (ix2 p q)
      = mul (m ((c.tc : Thread nD τ).loc main_arg0)) (m ((c.tc : Thread nD τ).loc main_arg1)) p q := by
  have hp := p.isLt
  have hq := q.isLt
  have ht : p.val / 1152 * 3 + q.val / 768 < cfg0.N := by show _ < 24; omega
  have e := congrFun (Value.blocks2 m c ⟨p.val / 1152 * 3 + q.val / 768, ht⟩ (flush0_2 _))
    (ix2 (⟨p.val % 1152, by omega⟩ : Fin 1152) (⟨q.val % 768, by omega⟩ : Fin 768))
  rw [Value.flushed2] at e
  refine Eq.trans (congrArg ((dats m 0 c).arrAt 2 cfg0.N) (funext fun x => Fin.ext ?_)) (e.trans ((block_apply _ _ _ _).trans ?_))
  · have e0 := (index ⟨p.val / 1152 * 3 + q.val / 768, ht⟩).2.2.1
    have e1 := (index ⟨p.val / 1152 * 3 + q.val / 768, ht⟩).2.2.2
    match x with
    | ⟨0, _⟩ => show p.val = win0_2.index _ (0 : Fin 2) * 1152 + 1 * (p.val % 1152); rw [e0]; dsimp only; omega
    | ⟨1, _⟩ => show q.val = win0_2.index _ (1 : Fin 2) * 768 + 1 * (q.val % 768); rw [e1]; dsimp only; omega
  · refine Finset.sum_congr rfl fun k _ => mul_congr (left_apply m c _ _ _ _ ?_ rfl) (right_apply m c _ _ _ _ rfl ?_)
    · show p.val = (p.val / 1152 * 3 + q.val / 768) / 3 * 1152 + p.val % 1152; omega
    · show q.val = (p.val / 1152 * 3 + q.val / 768) % 3 * 768 + q.val % 768; omega

/-- The reference's product. -/
theorem reference_apply (x0 : (⟨S9216x1024, .bf16⟩ : BufTy).Contents (Elt Ideal)) (x1 : (⟨S1024x2304, .bf16⟩ : BufTy).Contents (Elt Ideal))
    (p : Fin 9216) (q : Fin 2304) :
    Cert.Reference14Ideal.Read.val_main_v2 (F := Ideal) x0 x1 (ix2 p q) = mul x0 x1 p q := by
  rw [Cert.Reference14Ideal.Read.val_main_v2_apply]
  exact Finset.sum_congr rfl fun k _ => mul_congr (congrArg x0 (ix2_of rfl rfl)) (congrArg x1 (ix2_of rfl rfl))

theorem algebraic : algebraic_Kernel14Ideal_Reference14Ideal := by
  intro m g m' g' _ hm
  refine ⟨fun c => (dats m 0 c).arrAt 2 cfg0.N, Value.run_blocks m g,
    (θ_run _ _ _).mono (fun r h c => ⟨(h c).1.trans ?_, (h c).2⟩) (Cert.Reference14Ideal.Value.run m' g')⟩
  obtain ⟨a0, a1⟩ := hm c
  rw [Cert.Reference14Ideal.Read.val_main_v2_eq, a0, a1]
  funext i
  obtain ⟨p, q, rfl⟩ : ∃ (p : Fin 9216) (q : Fin 2304), i = ix2 p q := ⟨i 0, i 1, eq_ix2 i⟩
  exact (reference_apply _ _ p q).trans (result_apply m c p q).symm

end Cert.CdIn
-- ==== Proof.Product.Gated.lean ====
/- The steps after a product: each row belongs to one of five samples, whose modulation gates the product before it is added
   to the residual, and the new residual is normalised, scaled and shifted. -/
module

public import proofs.«01_k».proof.Proof.Product.Sums

@[expose] public section

noncomputable section

namespace Cert.Product

open Idealize.ShloMosaic

theorem ix3_of {n0 n1 n2 : ℕ} {i : (⟨3, ![n0, n1, n2]⟩ : Shape).Idx} {a : Fin n0} {b : Fin n1} {d : Fin n2} (h0 : (i 0).val = a.val)
    (h1 : (i 1).val = b.val) (h2 : (i 2).val = d.val) : i = ix3 a b d := by
  rw [eq_ix3 i, show i 0 = a from Fin.ext h0, show i 1 = b from Fin.ext h1, show i 2 = d from Fin.ext h2]

/-- The sample of a row: 2048 rows for each of the first four, the other 1024 rows for the fifth. -/
def sample (p : Fin 9216) : Fin 5 := ⟨if p.val < 8192 then p.val / 2048 else 4, by split <;> omega⟩

/-- Row `j` of the modulation of row `p`'s sample. -/
def modRow (M : (⟨3, ![5, 6, 1024]⟩ : Shape).Idx → EReal) (j : Fin 6) (p : Fin 9216) (q : Fin 1024) : EReal :=
  M (ix3 (sample p) j q)

theorem modRow_eq (M : (⟨3, ![5, 6, 1024]⟩ : Shape).Idx → EReal) (j : Fin 6) (p : Fin 9216) (q : Fin 1024) :
    (if h : p.val < 8192 then M (ix3 ⟨p.val / 2048, by omega⟩ j q) else M (ix3 4 j q)) = modRow M j p q := by
  unfold modRow
  split
  · next h => exact congrArg (fun s => M (ix3 s j q)) (Fin.ext (if_pos h).symm)
  · next h => exact congrArg (fun s => M (ix3 s j q)) (Fin.ext (if_neg h).symm)

/-- An entry of the new residual, from the old one, the gate and the product. -/
def step (x gate y : EReal) : EReal := x + gate * y

/-- An entry of the normalised, scaled and shifted row. -/
def normed (r : Fin 1024 → EReal) (g scale shift : EReal) (q : Fin 1024) : EReal :=
  r q * Ideal.rsqrt (Ideal.div (∑ k : Fin 1024, r k * r k) (Ideal.ofBits FTy.f32 1149239296#32) + Ideal.ofBits FTy.f32 897988541#32)
    * g * (1 + scale) + shift

end Cert.Product
-- ==== Proof.Product.FfnOut.lean ====
/- The feed-forward layer's second product, the gated residual and the norm before the next layer:
   `y = a · w`, `x + gate · y` and its normalised, scaled and shifted rows. -/
module

public import proofs.«01_k».proof.Defs
public import proofs.«01_k».proof.Proof.Product.Gated
public import proofs.«01_k».proof.Proof.Gen.Kernel15
public import proofs.«01_k».proof.Proof.Gen.Kernel15Ideal.Value
public import proofs.«01_k».proof.Proof.Gen.Reference15Ideal.Read
public import proofs.«01_k».proof.Proof.Gen.Reference15Ideal.Run

@[expose] public section

set_option maxRecDepth 16384

noncomputable section

namespace Cert.FfnOut

open Cert.Kernel15Ideal Cert.Kernel15Ideal.Gen Cert.Product
open Idealize.ShloMosaic Idealize.ShloMosaic.TcCoe Idealize.SL.Sem

/-! ## The frames -/

/-- The kernel as printed and its idealization have the same definitions. -/
theorem defs_eq : Cert.Kernel15.defs (F := Bits) = Cert.Kernel15Ideal.defs (F := Bits) := by
  refine congrArg (Pipeline.defs Cert.Kernel15Ideal.pcfgs) ?_
  unfold Cert.Kernel15.defs₀ Cert.Kernel15Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel15 := fun m g _ => by
  rw [defs_eq]
  exact frame (F := Bits) m g

theorem frame_ideal : quiescent_Kernel15Ideal := fun m g _ => frame (F := Ideal) m g

theorem frame_reference : quiescent_Reference15Ideal := fun m g _ =>
  (θ_run Cert.Reference15Ideal.defs _ _).mono (fun r h => ⟨fun c => (h c).2.2.2, sem_eq_zero_of_no_sems (by decide) r.2⟩)
    (Cert.Reference15Ideal.Value.run (F := Ideal) m g)

/-! ## The value -/

variable (m : (ℓ : Loc nD τ sig) → Buf (Elt Ideal) ℓ)

/-- The block of each window at a grid point: the rows' tile `t`, and the modulation of that tile's sample. -/
theorem index : ∀ t : Fin cfg0.N,
    win0_0.index t = ![t.val, 0] ∧ win0_1.index t = ![0, 0] ∧ win0_2.index t = ![t.val, 0]
    ∧ win0_3.index t = ![if t.val < 32 then t.val / 8 else 4, 0, 0] ∧ win0_4.index t = ![0, 0]
    ∧ win0_5.index t = ![if t.val < 32 then t.val / 8 else 4, 0, 0]
    ∧ win0_6.index t = ![t.val, 0] ∧ win0_7.index t = ![t.val, 0] ∧ win0_8.index t = ![t.val, 0] :=
  (by decide +kernel : ∀ t : Fin grid0.N, _)

/-- The norm's weights as the kernel finds them: as one row. -/
theorem weights (c : Dev nD) : V m c main_v0
    = shapeCast S1x1024 (m ((c.tc : Thread nD τ).loc main_arg4)) shapeCasts_S1024_S1x1024 := by
  unfold_abbrev_sides
  after_results
  rfl

/-- The grid point that computes a row, -/
def point (p : Fin 9216) : Fin cfg0.N := ⟨p.val / 256, by have := p.isLt; show _ < 36; omega⟩
/-- and the row's place in that point's block. -/
def place (p : Fin 9216) : Fin 256 := ⟨p.val % 256, by omega⟩

theorem point_sample (p : Fin 9216) : (if (point p).val < 32 then (point p).val / 8 else 4) = (sample p).val := by
  show (if p.val / 256 < 32 then p.val / 256 / 8 else 4) = if p.val < 8192 then p.val / 2048 else 4
  split <;> split <;> omega

/-- An entry lies in the block of its grid point. -/
theorem entry {n : ℕ} (p : Fin 9216) (k : Fin n) (i : (⟨2, ![9216, n]⟩ : Shape).Idx) (e : Fin 2 → Nat) (he : e = ![(point p).val, 0])
    (h0 : (i 0).val = e 0 * 256 + 1 * (place p).val) (h1 : (i 1).val = e 1 * n + 1 * k.val) : i = ix2 p k := by
  subst he
  refine ix2_of (h0.trans ?_) (h1.trans ?_)
  · show p.val / 256 * 256 + 1 * (p.val % 256) = p.val
    omega
  · show 0 * n + 1 * k.val = k.val
    omega

theorem entry_whole {n l : ℕ} (a : Fin n) (b : Fin l) (i : (⟨2, ![n, l]⟩ : Shape).Idx) (e : Fin 2 → Nat) (he : e = ![0, 0])
    (h0 : (i 0).val = e 0 * n + 1 * a.val) (h1 : (i 1).val = e 1 * l + 1 * b.val) : i = ix2 a b := by
  subst he
  refine ix2_of (h0.trans ?_) (h1.trans ?_)
  · show 0 * n + 1 * a.val = a.val
    omega
  · show 0 * l + 1 * b.val = b.val
    omega

theorem entry_mod (p : Fin 9216) (j : Fin 6) (q : Fin 1024) (i : S5x6x1024.Idx) (e : Fin 3 → Nat)
    (he : e = ![if (point p).val < 32 then (point p).val / 8 else 4, 0, 0])
    (h0 : (i 0).val = e 0 * 1 + 1 * 0) (h1 : (i 1).val = e 1 * 6 + 1 * j.val) (h2 : (i 2).val = e 2 * 1024 + 1 * q.val) :
    i = ix3 (sample p) j q := by
  subst he
  refine ix3_of (h0.trans ?_) (h1.trans ?_) (h2.trans ?_)
  · refine Eq.trans ?_ (point_sample p)
    show (if (point p).val < 32 then (point p).val / 8 else 4) * 1 + 1 * 0 = _
    omega
  · show 0 * 6 + 1 * j.val = j.val
    omega
  · show 0 * 1024 + 1 * q.val = q.val
    omega

/-- The blocks of a grid point, entry by entry. -/
theorem a_apply (c : Dev nD) (p : Fin 9216) (k : Fin 2816) :
    iblk m c 0 (point p) (ix2 (place p) k) = m ((c.tc : Thread nD τ).loc main_arg0) (ix2 p k) :=
  (congrArg (V m c main_arg0) (entry p k _ _ (index (point p)).1 rfl rfl)).trans (congrFun (V_main_arg0 m c) _)

theorem w_apply (c : Dev nD) (p : Fin 9216) (k : Fin 2816) (q : Fin 1024) :
    iblk m c 1 (point p) (ix2 k q) = m ((c.tc : Thread nD τ).loc main_arg1) (ix2 k q) :=
  (congrArg (V m c main_arg1) (entry_whole k q _ _ (index (point p)).2.1 rfl rfl)).trans (congrFun (V_main_arg1 m c) _)

theorem x_apply (c : Dev nD) (p : Fin 9216) (q : Fin 1024) :
    iblk m c 2 (point p) (ix2 (place p) q) = m ((c.tc : Thread nD τ).loc main_arg2) (ix2 p q) :=
  (congrArg (V m c main_arg2) (entry p q _ _ (index (point p)).2.2.1 rfl rfl)).trans (congrFun (V_main_arg2 m c) _)

theorem gate_apply (c : Dev nD) (p : Fin 9216) (j : Fin 6) (q : Fin 1024) :
    iblk m c 3 (point p) (ix3 0 j q) = modRow (m ((c.tc : Thread nD τ).loc main_arg3)) j p q :=
  (congrArg (V m c main_arg3) (entry_mod p j q _ _ (index (point p)).2.2.2.1 rfl rfl rfl)).trans (congrFun (V_main_arg3 m c) _)

theorem g_apply (c : Dev nD) (p : Fin 9216) (q : Fin 1024) :
    iblk m c 4 (point p) (ix2 0 q) = m ((c.tc : Thread nD τ).loc main_arg4) (ix1 q) := by
  refine (congrArg (V m c main_v0) (entry_whole 0 q _ _ (index (point p)).2.2.2.2.1 rfl rfl)).trans ((congrFun (weights m c) _).trans ?_)
  pointwise []

theorem mod_apply (c : Dev nD) (p : Fin 9216) (j : Fin 6) (q : Fin 1024) :
    iblk m c 5 (point p) (ix3 0 j q) = modRow (m ((c.tc : Thread nD τ).loc main_arg5)) j p q :=
  (congrArg (V m c main_arg5) (entry_mod p j q _ _ (index (point p)).2.2.2.2.2.1 rfl rfl rfl)).trans (congrFun (V_main_arg5 m c) _)

/-- What the body stores, entry by entry. -/
theorem pay1_apply (v0 : Vec Ideal S256x2816 .bf16) (v1 : Vec Ideal S2816x1024 .bf16) (p : Fin 256) (q : Fin 1024) :
    k0_pay1 (F := Ideal) (k0_pay2 v0 v1) (ix2 p q) = mul v0 v1 p q := by
  pointwise [k0_pay1, k0_pay2, mul]

theorem pay3_apply (v0 : Vec Ideal S256x2816 .bf16) (v1 : Vec Ideal S2816x1024 .bf16) (v3 : Vec Ideal S256x1024 .f32) (v4 : Vec Ideal S1x1x1024 .f32)
    (p : Fin 256) (q : Fin 1024) :
    k0_pay3 (F := Ideal) v0 v1 v3 v4 (ix2 p q) = step (v3 (ix2 p q)) (v4 (ix3 0 0 q)) (mul v0 v1 p q) := by
  pointwise [k0_pay3, k0_pay2, mul, step]

theorem pay4_apply (v0 : Vec Ideal S256x2816 .bf16) (v1 : Vec Ideal S2816x1024 .bf16) (v3 : Vec Ideal S256x1024 .f32) (v4 v11 v13 : Vec Ideal S1x1x1024 .f32)
    (v9 : Vec Ideal S1x1024 .f32) (p : Fin 256) (q : Fin 1024) :
    k0_pay4 (F := Ideal) v0 v1 v3 v4 v9 v11 v13 (ix2 p q)
      = normed (fun k => k0_pay3 (F := Ideal) v0 v1 v3 v4 (ix2 p k)) (v9 (ix2 0 q)) (v13 (ix3 0 0 q)) (v11 (ix3 0 0 q)) q := by
  pointwise [k0_pay4, normed]

/-- A row of the modulation, as loaded. -/
theorem ld_gate (x : Vec Ideal S1x6x1024 .f32) (q : Fin 1024) : View.ld x r0_3 (ix3 0 0 q) = x (ix3 0 5 q) :=
  congrArg x (ix3_of rfl rfl (by show 0 + 1 * q.val = q.val; omega))

theorem ld_shift (x : Vec Ideal S1x6x1024 .f32) (q : Fin 1024) : View.ld x r0_5 (ix3 0 0 q) = x (ix3 0 0 q) :=
  congrArg x (ix3_of rfl rfl (by show 0 + 1 * q.val = q.val; omega))

theorem ld_scale (x : Vec Ideal S1x6x1024 .f32) (q : Fin 1024) : View.ld x r0_6 (ix3 0 0 q) = x (ix3 0 1 q) :=
  congrArg x (ix3_of rfl rfl (by show 0 + 1 * q.val = q.val; omega))

section Blocks

variable (x0 : Vec Ideal S256x2816 .bf16) (x1 : Vec Ideal S2816x1024 .bf16) (x2 : Vec Ideal S256x1024 .f32) (x3 : Vec Ideal S1x6x1024 .f32)
  (x4 : Vec Ideal S1x1024 .f32) (x5 : Vec Ideal S1x6x1024 .f32)

theorem zero2 : (![0, 0] : Fin 2 → Nat) = fun _ => 0 := funext fun a => by fin_cases a <;> rfl

/-- A block of each result. -/
theorem block_y (p : Fin 256) (q : Fin 1024) : out0_6 x0 x1 x2 x3 x4 x5 (ix2 p q) = mul x0 x1 p q := by
  have hz := zero2
  unfold out0_6
  rw [View.canon_unit_zero hz]
  simp only [View.ld_unit_zero (S := S256x2816) hz, View.ld_unit_zero (S := S2816x1024) hz]
  exact pay1_apply _ _ p q

theorem block_new (p : Fin 256) (q : Fin 1024) :
    out0_7 x0 x1 x2 x3 x4 x5 (ix2 p q) = step (x2 (ix2 p q)) (x3 (ix3 0 5 q)) (mul x0 x1 p q) := by
  have hz := zero2
  unfold out0_7
  rw [View.canon_unit_zero hz]
  simp only [View.ld_unit_zero (S := S256x2816) hz, View.ld_unit_zero (S := S2816x1024) hz, View.ld_unit_zero (S := S256x1024) hz]
  exact (pay3_apply _ _ _ _ p q).trans (by rw [ld_gate])

theorem block_xn (p : Fin 256) (q : Fin 1024) :
    out0_8 x0 x1 x2 x3 x4 x5 (ix2 p q)
      = normed (fun k => step (x2 (ix2 p k)) (x3 (ix3 0 5 k)) (mul x0 x1 p k)) (x4 (ix2 0 q)) (x5 (ix3 0 1 q)) (x5 (ix3 0 0 q)) q := by
  have hz := zero2
  unfold out0_8
  rw [View.canon_unit_zero hz]
  simp only [View.ld_unit_zero (S := S256x2816) hz, View.ld_unit_zero (S := S2816x1024) hz, View.ld_unit_zero (S := S256x1024) hz, View.ld_unit_zero (S := S1x1024) hz]
  rw [pay4_apply, ld_shift, ld_scale]
  exact congrArg (fun r => normed r _ _ _ q) (funext fun k => (pay3_apply _ _ _ _ p k).trans (by rw [ld_gate]))

end Blocks

theorem product (c : Dev nD) (p : Fin 9216) (q : Fin 1024) :
    mul (iblk m c 0 (point p)) (iblk m c 1 (point p)) (place p) q = mul (m ((c.tc : Thread nD τ).loc main_arg0)) (m ((c.tc : Thread nD τ).loc main_arg1)) p q :=
  Finset.sum_congr rfl fun k _ => mul_congr (a_apply m c p k) (w_apply m c p k q)

/-- An entry of the new residual. -/
def new (c : Dev nD) (p : Fin 9216) (q : Fin 1024) : EReal :=
  step (m ((c.tc : Thread nD τ).loc main_arg2) (ix2 p q)) (modRow (m ((c.tc : Thread nD τ).loc main_arg3)) 5 p q) (mul (m ((c.tc : Thread nD τ).loc main_arg0)) (m ((c.tc : Thread nD τ).loc main_arg1)) p q)

/-- The results after the run. -/
theorem result_y (c : Dev nD) (p : Fin 9216) (q : Fin 1024) :
    (dats m 0 c).arrAt 6 cfg0.N (ix2 p q) = mul (m ((c.tc : Thread nD τ).loc main_arg0)) (m ((c.tc : Thread nD τ).loc main_arg1)) p q := by
  have e := congrFun (Value.blocks6 m c (point p) (flush0_6 _)) (ix2 (place p) q)
  rw [Value.flushed6] at e
  exact (congrArg ((dats m 0 c).arrAt 6 cfg0.N) (entry p q _ _ (index (point p)).2.2.2.2.2.2.1 rfl rfl).symm).trans
    (e.trans ((block_y _ _ _ _ _ _ _ _).trans (product m c p q)))

theorem new_eq (c : Dev nD) (p : Fin 9216) (q : Fin 1024) :
    step (iblk m c 2 (point p) (ix2 (place p) q)) (iblk m c 3 (point p) (ix3 0 5 q)) (mul (iblk m c 0 (point p)) (iblk m c 1 (point p)) (place p) q)
      = new m c p q := by
  rw [product, x_apply, gate_apply]; rfl

theorem result_new (c : Dev nD) (p : Fin 9216) (q : Fin 1024) : (dats m 0 c).arrAt 7 cfg0.N (ix2 p q) = new m c p q := by
  have e := congrFun (Value.blocks7 m c (point p) (flush0_7 _)) (ix2 (place p) q)
  rw [Value.flushed7] at e
  exact (congrArg ((dats m 0 c).arrAt 7 cfg0.N) (entry p q _ _ (index (point p)).2.2.2.2.2.2.2.1 rfl rfl).symm).trans
    (e.trans ((block_new _ _ _ _ _ _ _ _).trans (new_eq m c p q)))

theorem result_xn (c : Dev nD) (p : Fin 9216) (q : Fin 1024) :
    (dats m 0 c).arrAt 8 cfg0.N (ix2 p q)
      = normed (new m c p) (m ((c.tc : Thread nD τ).loc main_arg4) (ix1 q)) (modRow (m ((c.tc : Thread nD τ).loc main_arg5)) 1 p q) (modRow (m ((c.tc : Thread nD τ).loc main_arg5)) 0 p q) q := by
  have e := congrFun (Value.blocks8 m c (point p) (flush0_8 _)) (ix2 (place p) q)
  rw [Value.flushed8] at e
  refine (congrArg ((dats m 0 c).arrAt 8 cfg0.N) (entry p q _ _ (index (point p)).2.2.2.2.2.2.2.2 rfl rfl).symm).trans
    (e.trans ((block_xn _ _ _ _ _ _ _ _).trans ?_))
  rw [g_apply, mod_apply, mod_apply]
  exact congrArg (fun r => normed r _ _ _ q) (funext fun k => new_eq m c p k)

/-! ## The reference -/

section Reference

variable (x0 : (⟨S9216x2816, .bf16⟩ : BufTy).Contents (Elt Ideal)) (x1 : (⟨S2816x1024, .bf16⟩ : BufTy).Contents (Elt Ideal)) (x2 : (⟨S9216x1024, .f32⟩ : BufTy).Contents (Elt Ideal))
  (x3 : (⟨S5x6x1024, .f32⟩ : BufTy).Contents (Elt Ideal)) (x4 : (⟨S1024, .f32⟩ : BufTy).Contents (Elt Ideal)) (x5 : (⟨S5x6x1024, .f32⟩ : BufTy).Contents (Elt Ideal))

theorem reference_y (p : Fin 9216) (q : Fin 1024) : Cert.Reference15Ideal.Read.val_main_v8 (F := Ideal) x0 x1 (ix2 p q) = mul x0 x1 p q := by
  pointwise [Cert.Reference15Ideal.Read.val_main_v8, Cert.Reference15Ideal.Read.val_main_v7, Cert.Reference15Ideal.Read.val_main_v6, mul]

theorem reference_gate (p : Fin 9216) (q : Fin 1024) : Cert.Reference15Ideal.Read.val_main_v15 (F := Ideal) x3 (ix2 p q) = modRow x3 5 p q := by
  rw [← modRow_eq]
  pointwise [Cert.Reference15Ideal.Read.val_main_v15, Cert.Reference15Ideal.Read.val_main_v14, Cert.Reference15Ideal.Read.val_main_v13, Cert.Reference15Ideal.Read.val_main_v12, Cert.Reference15Ideal.Read.val_main_v11, Cert.Reference15Ideal.Read.val_main_v10, Cert.Reference15Ideal.Read.val_main_v9, Cert.Reference15Ideal.Read.val_main_v1, Cert.Reference15Ideal.Read.val_main_v0]

theorem reference_scale (p : Fin 9216) (q : Fin 1024) : Cert.Reference15Ideal.Read.val_main_v37 (F := Ideal) x5 (ix2 p q) = modRow x5 1 p q := by
  rw [← modRow_eq]
  pointwise [Cert.Reference15Ideal.Read.val_main_v37, Cert.Reference15Ideal.Read.val_main_v36, Cert.Reference15Ideal.Read.val_main_v35, Cert.Reference15Ideal.Read.val_main_v34, Cert.Reference15Ideal.Read.val_main_v33, Cert.Reference15Ideal.Read.val_main_v32, Cert.Reference15Ideal.Read.val_main_v31, Cert.Reference15Ideal.Read.val_main_v5, Cert.Reference15Ideal.Read.val_main_v4]

theorem reference_shift (p : Fin 9216) (q : Fin 1024) : Cert.Reference15Ideal.Read.val_main_v47 (F := Ideal) x5 (ix2 p q) = modRow x5 0 p q := by
  rw [← modRow_eq]
  pointwise [Cert.Reference15Ideal.Read.val_main_v47, Cert.Reference15Ideal.Read.val_main_v46, Cert.Reference15Ideal.Read.val_main_v45, Cert.Reference15Ideal.Read.val_main_v44, Cert.Reference15Ideal.Read.val_main_v43, Cert.Reference15Ideal.Read.val_main_v42, Cert.Reference15Ideal.Read.val_main_v41, Cert.Reference15Ideal.Read.val_main_v3, Cert.Reference15Ideal.Read.val_main_v2]

theorem reference_new (p : Fin 9216) (q : Fin 1024) :
    Cert.Reference15Ideal.Read.val_main_v17 (F := Ideal) x0 x1 x2 x3 (ix2 p q) = step (x2 (ix2 p q)) (modRow x3 5 p q) (mul x0 x1 p q) := by
  rw [← reference_gate, ← reference_y]
  pointwise [Cert.Reference15Ideal.Read.val_main_v17, Cert.Reference15Ideal.Read.val_main_v16, step]

theorem reference_xn (p : Fin 9216) (q : Fin 1024) :
    Cert.Reference15Ideal.Read.val_main_v50 (F := Ideal) x0 x1 x2 x3 x4 x5 (ix2 p q)
      = normed (fun k => step (x2 (ix2 p k)) (modRow x3 5 p k) (mul x0 x1 p k)) (x4 (ix1 q)) (modRow x5 1 p q) (modRow x5 0 p q) q := by
  rw [← reference_scale, ← reference_shift]
  refine Eq.trans ?_ (congrArg (fun r => normed r _ _ _ q) (funext fun k => reference_new x0 x1 x2 x3 p k))
  pointwise [Cert.Reference15Ideal.Read.val_main_v50, Cert.Reference15Ideal.Read.val_main_v48, Cert.Reference15Ideal.Read.val_main_v40, Cert.Reference15Ideal.Read.val_main_v39, Cert.Reference15Ideal.Read.val_main_v38, Cert.Reference15Ideal.Read.val_main_cst_2, Cert.Reference15Ideal.Read.val_main_v30, Cert.Reference15Ideal.Read.val_main_v29, Cert.Reference15Ideal.Read.val_main_v28, Cert.Reference15Ideal.Read.val_main_v27, Cert.Reference15Ideal.Read.val_main_v26, Cert.Reference15Ideal.Read.val_main_v25, Cert.Reference15Ideal.Read.val_main_v24, Cert.Reference15Ideal.Read.val_main_v23, Cert.Reference15Ideal.Read.val_main_cst_1, Cert.Reference15Ideal.Read.val_main_v22, Cert.Reference15Ideal.Read.val_main_v21, Cert.Reference15Ideal.Read.val_main_cst_0, Cert.Reference15Ideal.Read.val_main_v20, Cert.Reference15Ideal.Read.val_main_v19, Cert.Reference15Ideal.Read.val_main_cst, Cert.Reference15Ideal.Read.val_main_v18, normed]

end Reference

theorem algebraic : algebraic_Kernel15Ideal_Reference15Ideal := by
  intro m g m' g' _ hm
  refine ⟨fun c => (dats m 0 c).arrAt 6 cfg0.N, fun c => (dats m 0 c).arrAt 7 cfg0.N, fun c => (dats m 0 c).arrAt 8 cfg0.N, Value.run_blocks m g,
    (θ_run _ _ _).mono (fun r h c => ⟨(h c).1.trans ?_, (h c).2.1.trans ?_, (h c).2.2.1.trans ?_, (h c).2.2.2⟩) (Cert.Reference15Ideal.Value.run m' g')⟩
  all_goals
    obtain ⟨a0, a1, a2, a3, a4, a5⟩ := hm c
    have hi : ∀ i : S9216x1024.Idx, ∃ (p : Fin 9216) (q : Fin 1024), i = ix2 p q := fun i => ⟨i 0, i 1, eq_ix2 i⟩
  · rw [Cert.Reference15Ideal.Read.val_main_v49_eq, a0, a1]
    funext i
    obtain ⟨p, q, rfl⟩ := hi i
    exact (reference_y _ _ p q).trans (result_y m c p q).symm
  · rw [Cert.Reference15Ideal.Read.val_main_v17_eq, a0, a1, a2, a3]
    funext i
    obtain ⟨p, q, rfl⟩ := hi i
    exact (reference_new _ _ _ _ p q).trans (result_new m c p q).symm
  · rw [Cert.Reference15Ideal.Read.val_main_v50_eq, a0, a1, a2, a3, a4, a5]
    funext i
    obtain ⟨p, q, rfl⟩ := hi i
    exact (reference_xn _ _ _ _ _ _ p q).trans (result_xn m c p q).symm

end Cert.FfnOut
-- ==== Proof.Product.MixOut.lean ====
/- A mixer's output product, the gated residual and the norm before the feed-forward layer:
   `y = a · w`, `x + gate · y` and its normalised, scaled and shifted rows. -/
module

public import proofs.«01_k».proof.Defs
public import proofs.«01_k».proof.Proof.Product.Gated
public import proofs.«01_k».proof.Proof.Gen.Kernel16
public import proofs.«01_k».proof.Proof.Gen.Kernel16Ideal.Value
public import proofs.«01_k».proof.Proof.Gen.Reference16Ideal.Read
public import proofs.«01_k».proof.Proof.Gen.Reference16Ideal.Run

@[expose] public section

set_option maxRecDepth 16384

noncomputable section

namespace Cert.MixOut

open Cert.Kernel16Ideal Cert.Kernel16Ideal.Gen Cert.Product
open Idealize.ShloMosaic Idealize.ShloMosaic.TcCoe Idealize.SL.Sem

/-! ## The frames -/

/-- The kernel as printed and its idealization have the same definitions. -/
theorem defs_eq : Cert.Kernel16.defs (F := Bits) = Cert.Kernel16Ideal.defs (F := Bits) := by
  refine congrArg (Pipeline.defs Cert.Kernel16Ideal.pcfgs) ?_
  unfold Cert.Kernel16.defs₀ Cert.Kernel16Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel16 := fun m g _ => by
  rw [defs_eq]
  exact frame (F := Bits) m g

theorem frame_ideal : quiescent_Kernel16Ideal := fun m g _ => frame (F := Ideal) m g

theorem frame_reference : quiescent_Reference16Ideal := fun m g _ =>
  (θ_run Cert.Reference16Ideal.defs _ _).mono (fun r h => ⟨fun c => (h c).2.2.2, sem_eq_zero_of_no_sems (by decide) r.2⟩)
    (Cert.Reference16Ideal.Value.run (F := Ideal) m g)

/-! ## The value -/

variable (m : (ℓ : Loc nD τ sig) → Buf (Elt Ideal) ℓ)

/-- The block of each window at a grid point: the rows' tile `t`, and the modulation of that tile's sample. -/
theorem index : ∀ t : Fin cfg0.N,
    win0_0.index t = ![t.val, 0] ∧ win0_1.index t = ![0, 0] ∧ win0_2.index t = ![t.val, 0]
    ∧ win0_3.index t = ![if t.val < 32 then t.val / 8 else 4, 0, 0] ∧ win0_4.index t = ![0, 0]
    ∧ win0_5.index t = ![if t.val < 32 then t.val / 8 else 4, 0, 0]
    ∧ win0_6.index t = ![t.val, 0] ∧ win0_7.index t = ![t.val, 0] ∧ win0_8.index t = ![t.val, 0] :=
  (by decide +kernel : ∀ t : Fin grid0.N, _)

/-- The norm's weights as the kernel finds them: as one row. -/
theorem weights (c : Dev nD) : V m c main_v0
    = shapeCast S1x1024 (m ((c.tc : Thread nD τ).loc main_arg4)) shapeCasts_S1024_S1x1024 := by
  unfold_abbrev_sides
  after_results
  rfl

/-- The grid point that computes a row, -/
def point (p : Fin 9216) : Fin cfg0.N := ⟨p.val / 256, by have := p.isLt; show _ < 36; omega⟩
/-- and the row's place in that point's block. -/
def place (p : Fin 9216) : Fin 256 := ⟨p.val % 256, by omega⟩

theorem point_sample (p : Fin 9216) : (if (point p).val < 32 then (point p).val / 8 else 4) = (sample p).val := by
  show (if p.val / 256 < 32 then p.val / 256 / 8 else 4) = if p.val < 8192 then p.val / 2048 else 4
  split <;> split <;> omega

/-- An entry lies in the block of its grid point. -/
theorem entry {n : ℕ} (p : Fin 9216) (k : Fin n) (i : (⟨2, ![9216, n]⟩ : Shape).Idx) (e : Fin 2 → Nat) (he : e = ![(point p).val, 0])
    (h0 : (i 0).val = e 0 * 256 + 1 * (place p).val) (h1 : (i 1).val = e 1 * n + 1 * k.val) : i = ix2 p k := by
  subst he
  refine ix2_of (h0.trans ?_) (h1.trans ?_)
  · show p.val / 256 * 256 + 1 * (p.val % 256) = p.val
    omega
  · show 0 * n + 1 * k.val = k.val
    omega

theorem entry_whole {n l : ℕ} (a : Fin n) (b : Fin l) (i : (⟨2, ![n, l]⟩ : Shape).Idx) (e : Fin 2 → Nat) (he : e = ![0, 0])
    (h0 : (i 0).val = e 0 * n + 1 * a.val) (h1 : (i 1).val = e 1 * l + 1 * b.val) : i = ix2 a b := by
  subst he
  refine ix2_of (h0.trans ?_) (h1.trans ?_)
  · show 0 * n + 1 * a.val = a.val
    omega
  · show 0 * l + 1 * b.val = b.val
    omega

theorem entry_mod (p : Fin 9216) (j : Fin 6) (q : Fin 1024) (i : S5x6x1024.Idx) (e : Fin 3 → Nat)
    (he : e = ![if (point p).val < 32 then (point p).val / 8 else 4, 0, 0])
    (h0 : (i 0).val = e 0 * 1 + 1 * 0) (h1 : (i 1).val = e 1 * 6 + 1 * j.val) (h2 : (i 2).val = e 2 * 1024 + 1 * q.val) :
    i = ix3 (sample p) j q := by
  subst he
  refine ix3_of (h0.trans ?_) (h1.trans ?_) (h2.trans ?_)
  · refine Eq.trans ?_ (point_sample p)
    show (if (point p).val < 32 then (point p).val / 8 else 4) * 1 + 1 * 0 = _
    omega
  · show 0 * 6 + 1 * j.val = j.val
    omega
  · show 0 * 1024 + 1 * q.val = q.val
    omega

/-- The blocks of a grid point, entry by entry. -/
theorem a_apply (c : Dev nD) (p : Fin 9216) (k : Fin 1024) :
    iblk m c 0 (point p) (ix2 (place p) k) = m ((c.tc : Thread nD τ).loc main_arg0) (ix2 p k) :=
  (congrArg (V m c main_arg0) (entry p k _ _ (index (point p)).1 rfl rfl)).trans (congrFun (V_main_arg0 m c) _)

theorem w_apply (c : Dev nD) (p : Fin 9216) (k : Fin 1024) (q : Fin 1024) :
    iblk m c 1 (point p) (ix2 k q) = m ((c.tc : Thread nD τ).loc main_arg1) (ix2 k q) :=
  (congrArg (V m c main_arg1) (entry_whole k q _ _ (index (point p)).2.1 rfl rfl)).trans (congrFun (V_main_arg1 m c) _)

theorem x_apply (c : Dev nD) (p : Fin 9216) (q : Fin 1024) :
    iblk m c 2 (point p) (ix2 (place p) q) = m ((c.tc : Thread nD τ).loc main_arg2) (ix2 p q) :=
  (congrArg (V m c main_arg2) (entry p q _ _ (index (point p)).2.2.1 rfl rfl)).trans (congrFun (V_main_arg2 m c) _)

theorem gate_apply (c : Dev nD) (p : Fin 9216) (j : Fin 6) (q : Fin 1024) :
    iblk m c 3 (point p) (ix3 0 j q) = modRow (m ((c.tc : Thread nD τ).loc main_arg3)) j p q :=
  (congrArg (V m c main_arg3) (entry_mod p j q _ _ (index (point p)).2.2.2.1 rfl rfl rfl)).trans (congrFun (V_main_arg3 m c) _)

theorem g_apply (c : Dev nD) (p : Fin 9216) (q : Fin 1024) :
    iblk m c 4 (point p) (ix2 0 q) = m ((c.tc : Thread nD τ).loc main_arg4) (ix1 q) := by
  refine (congrArg (V m c main_v0) (entry_whole 0 q _ _ (index (point p)).2.2.2.2.1 rfl rfl)).trans ((congrFun (weights m c) _).trans ?_)
  pointwise []

theorem mod_apply (c : Dev nD) (p : Fin 9216) (j : Fin 6) (q : Fin 1024) :
    iblk m c 5 (point p) (ix3 0 j q) = modRow (m ((c.tc : Thread nD τ).loc main_arg3)) j p q :=
  (congrArg (V m c main_arg3) (entry_mod p j q _ _ (index (point p)).2.2.2.2.2.1 rfl rfl rfl)).trans (congrFun (V_main_arg3 m c) _)

/-- What the body stores, entry by entry. -/
theorem pay1_apply (v0 : Vec Ideal S256x1024 .bf16) (v1 : Vec Ideal S1024x1024 .bf16) (p : Fin 256) (q : Fin 1024) :
    k0_pay1 (F := Ideal) (k0_pay2 v0 v1) (ix2 p q) = mul v0 v1 p q := by
  pointwise [k0_pay1, k0_pay2, mul]

theorem pay3_apply (v0 : Vec Ideal S256x1024 .bf16) (v1 : Vec Ideal S1024x1024 .bf16) (v3 : Vec Ideal S256x1024 .f32) (v4 : Vec Ideal S1x1x1024 .f32)
    (p : Fin 256) (q : Fin 1024) :
    k0_pay3 (F := Ideal) v0 v1 v3 v4 (ix2 p q) = step (v3 (ix2 p q)) (v4 (ix3 0 0 q)) (mul v0 v1 p q) := by
  pointwise [k0_pay3, k0_pay2, mul, step]

theorem pay4_apply (v0 : Vec Ideal S256x1024 .bf16) (v1 : Vec Ideal S1024x1024 .bf16) (v3 : Vec Ideal S256x1024 .f32) (v4 v11 v13 : Vec Ideal S1x1x1024 .f32)
    (v9 : Vec Ideal S1x1024 .f32) (p : Fin 256) (q : Fin 1024) :
    k0_pay4 (F := Ideal) v0 v1 v3 v4 v9 v11 v13 (ix2 p q)
      = normed (fun k => k0_pay3 (F := Ideal) v0 v1 v3 v4 (ix2 p k)) (v9 (ix2 0 q)) (v13 (ix3 0 0 q)) (v11 (ix3 0 0 q)) q := by
  pointwise [k0_pay4, normed]

/-- A row of the modulation, as loaded. -/
theorem ld_gate (x : Vec Ideal S1x6x1024 .f32) (q : Fin 1024) : View.ld x r0_2 (ix3 0 0 q) = x (ix3 0 2 q) :=
  congrArg x (ix3_of rfl rfl (by show 0 + 1 * q.val = q.val; omega))

theorem ld_shift (x : Vec Ideal S1x6x1024 .f32) (q : Fin 1024) : View.ld x r0_4 (ix3 0 0 q) = x (ix3 0 3 q) :=
  congrArg x (ix3_of rfl rfl (by show 0 + 1 * q.val = q.val; omega))

theorem ld_scale (x : Vec Ideal S1x6x1024 .f32) (q : Fin 1024) : View.ld x r0_5 (ix3 0 0 q) = x (ix3 0 4 q) :=
  congrArg x (ix3_of rfl rfl (by show 0 + 1 * q.val = q.val; omega))

section Blocks

variable (x0 : Vec Ideal S256x1024 .bf16) (x1 : Vec Ideal S1024x1024 .bf16) (x2 : Vec Ideal S256x1024 .f32) (x3 : Vec Ideal S1x6x1024 .f32)
  (x4 : Vec Ideal S1x1024 .f32) (x5 : Vec Ideal S1x6x1024 .f32)

theorem zero2 : (![0, 0] : Fin 2 → Nat) = fun _ => 0 := funext fun a => by fin_cases a <;> rfl

/-- A block of each result. -/
theorem block_y (p : Fin 256) (q : Fin 1024) : out0_6 x0 x1 x2 x3 x4 x5 (ix2 p q) = mul x0 x1 p q := by
  have hz := zero2
  unfold out0_6
  rw [View.canon_unit_zero hz]
  simp only [View.ld_unit_zero (S := S256x1024) hz, View.ld_unit_zero (S := S1024x1024) hz]
  exact pay1_apply _ _ p q

theorem block_new (p : Fin 256) (q : Fin 1024) :
    out0_7 x0 x1 x2 x3 x4 x5 (ix2 p q) = step (x2 (ix2 p q)) (x3 (ix3 0 2 q)) (mul x0 x1 p q) := by
  have hz := zero2
  unfold out0_7
  rw [View.canon_unit_zero hz]
  simp only [View.ld_unit_zero (S := S256x1024) hz, View.ld_unit_zero (S := S1024x1024) hz]
  exact (pay3_apply _ _ _ _ p q).trans (by rw [ld_gate])

theorem block_xn (p : Fin 256) (q : Fin 1024) :
    out0_8 x0 x1 x2 x3 x4 x5 (ix2 p q)
      = normed (fun k => step (x2 (ix2 p k)) (x3 (ix3 0 2 k)) (mul x0 x1 p k)) (x4 (ix2 0 q)) (x5 (ix3 0 4 q)) (x5 (ix3 0 3 q)) q := by
  have hz := zero2
  unfold out0_8
  rw [View.canon_unit_zero hz]
  simp only [View.ld_unit_zero (S := S256x1024) hz, View.ld_unit_zero (S := S1024x1024) hz, View.ld_unit_zero (S := S1x1024) hz]
  rw [pay4_apply, ld_shift, ld_scale]
  exact congrArg (fun r => normed r _ _ _ q) (funext fun k => (pay3_apply _ _ _ _ p k).trans (by rw [ld_gate]))

end Blocks

theorem product (c : Dev nD) (p : Fin 9216) (q : Fin 1024) :
    mul (iblk m c 0 (point p)) (iblk m c 1 (point p)) (place p) q = mul (m ((c.tc : Thread nD τ).loc main_arg0)) (m ((c.tc : Thread nD τ).loc main_arg1)) p q :=
  Finset.sum_congr rfl fun k _ => mul_congr (a_apply m c p k) (w_apply m c p k q)

/-- An entry of the new residual. -/
def new (c : Dev nD) (p : Fin 9216) (q : Fin 1024) : EReal :=
  step (m ((c.tc : Thread nD τ).loc main_arg2) (ix2 p q)) (modRow (m ((c.tc : Thread nD τ).loc main_arg3)) 2 p q) (mul (m ((c.tc : Thread nD τ).loc main_arg0)) (m ((c.tc : Thread nD τ).loc main_arg1)) p q)

/-- The results after the run. -/
theorem result_y (c : Dev nD) (p : Fin 9216) (q : Fin 1024) :
    (dats m 0 c).arrAt 6 cfg0.N (ix2 p q) = mul (m ((c.tc : Thread nD τ).loc main_arg0)) (m ((c.tc : Thread nD τ).loc main_arg1)) p q := by
  have e := congrFun (Value.blocks6 m c (point p) (flush0_6 _)) (ix2 (place p) q)
  rw [Value.flushed6] at e
  exact (congrArg ((dats m 0 c).arrAt 6 cfg0.N) (entry p q _ _ (index (point p)).2.2.2.2.2.2.1 rfl rfl).symm).trans
    (e.trans ((block_y _ _ _ _ _ _ _ _).trans (product m c p q)))

theorem new_eq (c : Dev nD) (p : Fin 9216) (q : Fin 1024) :
    step (iblk m c 2 (point p) (ix2 (place p) q)) (iblk m c 3 (point p) (ix3 0 2 q)) (mul (iblk m c 0 (point p)) (iblk m c 1 (point p)) (place p) q)
      = new m c p q := by
  rw [product, x_apply, gate_apply]; rfl

theorem result_new (c : Dev nD) (p : Fin 9216) (q : Fin 1024) : (dats m 0 c).arrAt 7 cfg0.N (ix2 p q) = new m c p q := by
  have e := congrFun (Value.blocks7 m c (point p) (flush0_7 _)) (ix2 (place p) q)
  rw [Value.flushed7] at e
  exact (congrArg ((dats m 0 c).arrAt 7 cfg0.N) (entry p q _ _ (index (point p)).2.2.2.2.2.2.2.1 rfl rfl).symm).trans
    (e.trans ((block_new _ _ _ _ _ _ _ _).trans (new_eq m c p q)))

theorem result_xn (c : Dev nD) (p : Fin 9216) (q : Fin 1024) :
    (dats m 0 c).arrAt 8 cfg0.N (ix2 p q)
      = normed (new m c p) (m ((c.tc : Thread nD τ).loc main_arg4) (ix1 q)) (modRow (m ((c.tc : Thread nD τ).loc main_arg3)) 4 p q) (modRow (m ((c.tc : Thread nD τ).loc main_arg3)) 3 p q) q := by
  have e := congrFun (Value.blocks8 m c (point p) (flush0_8 _)) (ix2 (place p) q)
  rw [Value.flushed8] at e
  refine (congrArg ((dats m 0 c).arrAt 8 cfg0.N) (entry p q _ _ (index (point p)).2.2.2.2.2.2.2.2 rfl rfl).symm).trans
    (e.trans ((block_xn _ _ _ _ _ _ _ _).trans ?_))
  rw [g_apply, mod_apply, mod_apply]
  exact congrArg (fun r => normed r _ _ _ q) (funext fun k => new_eq m c p k)

/-! ## The reference -/

section Reference

variable (x0 : (⟨S9216x1024, .bf16⟩ : BufTy).Contents (Elt Ideal)) (x1 : (⟨S1024x1024, .bf16⟩ : BufTy).Contents (Elt Ideal)) (x2 : (⟨S9216x1024, .f32⟩ : BufTy).Contents (Elt Ideal))
  (x3 : (⟨S5x6x1024, .f32⟩ : BufTy).Contents (Elt Ideal)) (x4 : (⟨S1024, .f32⟩ : BufTy).Contents (Elt Ideal))

theorem reference_y (p : Fin 9216) (q : Fin 1024) : Cert.Reference16Ideal.Read.val_main_v8 (F := Ideal) x0 x1 (ix2 p q) = mul x0 x1 p q := by
  pointwise [Cert.Reference16Ideal.Read.val_main_v8, Cert.Reference16Ideal.Read.val_main_v7, Cert.Reference16Ideal.Read.val_main_v6, mul]

theorem reference_gate (p : Fin 9216) (q : Fin 1024) : Cert.Reference16Ideal.Read.val_main_v15 (F := Ideal) x3 (ix2 p q) = modRow x3 2 p q := by
  rw [← modRow_eq]
  pointwise [Cert.Reference16Ideal.Read.val_main_v15, Cert.Reference16Ideal.Read.val_main_v14, Cert.Reference16Ideal.Read.val_main_v13, Cert.Reference16Ideal.Read.val_main_v12, Cert.Reference16Ideal.Read.val_main_v11, Cert.Reference16Ideal.Read.val_main_v10, Cert.Reference16Ideal.Read.val_main_v9, Cert.Reference16Ideal.Read.val_main_v1, Cert.Reference16Ideal.Read.val_main_v0]

theorem reference_scale (p : Fin 9216) (q : Fin 1024) : Cert.Reference16Ideal.Read.val_main_v37 (F := Ideal) x3 (ix2 p q) = modRow x3 4 p q := by
  rw [← modRow_eq]
  pointwise [Cert.Reference16Ideal.Read.val_main_v37, Cert.Reference16Ideal.Read.val_main_v36, Cert.Reference16Ideal.Read.val_main_v35, Cert.Reference16Ideal.Read.val_main_v34, Cert.Reference16Ideal.Read.val_main_v33, Cert.Reference16Ideal.Read.val_main_v32, Cert.Reference16Ideal.Read.val_main_v31, Cert.Reference16Ideal.Read.val_main_v5, Cert.Reference16Ideal.Read.val_main_v4]

theorem reference_shift (p : Fin 9216) (q : Fin 1024) : Cert.Reference16Ideal.Read.val_main_v47 (F := Ideal) x3 (ix2 p q) = modRow x3 3 p q := by
  rw [← modRow_eq]
  pointwise [Cert.Reference16Ideal.Read.val_main_v47, Cert.Reference16Ideal.Read.val_main_v46, Cert.Reference16Ideal.Read.val_main_v45, Cert.Reference16Ideal.Read.val_main_v44, Cert.Reference16Ideal.Read.val_main_v43, Cert.Reference16Ideal.Read.val_main_v42, Cert.Reference16Ideal.Read.val_main_v41, Cert.Reference16Ideal.Read.val_main_v3, Cert.Reference16Ideal.Read.val_main_v2]

theorem reference_new (p : Fin 9216) (q : Fin 1024) :
    Cert.Reference16Ideal.Read.val_main_v17 (F := Ideal) x0 x1 x2 x3 (ix2 p q) = step (x2 (ix2 p q)) (modRow x3 2 p q) (mul x0 x1 p q) := by
  rw [← reference_gate, ← reference_y]
  pointwise [Cert.Reference16Ideal.Read.val_main_v17, Cert.Reference16Ideal.Read.val_main_v16, step]

theorem reference_xn (p : Fin 9216) (q : Fin 1024) :
    Cert.Reference16Ideal.Read.val_main_v50 (F := Ideal) x0 x1 x2 x3 x4 (ix2 p q)
      = normed (fun k => step (x2 (ix2 p k)) (modRow x3 2 p k) (mul x0 x1 p k)) (x4 (ix1 q)) (modRow x3 4 p q) (modRow x3 3 p q) q := by
  rw [← reference_scale, ← reference_shift]
  refine Eq.trans ?_ (congrArg (fun r => normed r _ _ _ q) (funext fun k => reference_new x0 x1 x2 x3 p k))
  pointwise [Cert.Reference16Ideal.Read.val_main_v50, Cert.Reference16Ideal.Read.val_main_v48, Cert.Reference16Ideal.Read.val_main_v40, Cert.Reference16Ideal.Read.val_main_v39, Cert.Reference16Ideal.Read.val_main_v38, Cert.Reference16Ideal.Read.val_main_cst_2, Cert.Reference16Ideal.Read.val_main_v30, Cert.Reference16Ideal.Read.val_main_v29, Cert.Reference16Ideal.Read.val_main_v28, Cert.Reference16Ideal.Read.val_main_v27, Cert.Reference16Ideal.Read.val_main_v26, Cert.Reference16Ideal.Read.val_main_v25, Cert.Reference16Ideal.Read.val_main_v24, Cert.Reference16Ideal.Read.val_main_v23, Cert.Reference16Ideal.Read.val_main_cst_1, Cert.Reference16Ideal.Read.val_main_v22, Cert.Reference16Ideal.Read.val_main_v21, Cert.Reference16Ideal.Read.val_main_cst_0, Cert.Reference16Ideal.Read.val_main_v20, Cert.Reference16Ideal.Read.val_main_v19, Cert.Reference16Ideal.Read.val_main_cst, Cert.Reference16Ideal.Read.val_main_v18, normed]

end Reference

theorem algebraic : algebraic_Kernel16Ideal_Reference16Ideal := by
  intro m g m' g' _ hm
  refine ⟨fun c => (dats m 0 c).arrAt 6 cfg0.N, fun c => (dats m 0 c).arrAt 7 cfg0.N, fun c => (dats m 0 c).arrAt 8 cfg0.N, Value.run_blocks m g,
    (θ_run _ _ _).mono (fun r h c => ⟨(h c).1.trans ?_, (h c).2.1.trans ?_, (h c).2.2.1.trans ?_, (h c).2.2.2⟩) (Cert.Reference16Ideal.Value.run m' g')⟩
  all_goals
    obtain ⟨a0, a1, a2, a3, a4⟩ := hm c
    have hi : ∀ i : S9216x1024.Idx, ∃ (p : Fin 9216) (q : Fin 1024), i = ix2 p q := fun i => ⟨i 0, i 1, eq_ix2 i⟩
  · rw [Cert.Reference16Ideal.Read.val_main_v49_eq, a0, a1]
    funext i
    obtain ⟨p, q, rfl⟩ := hi i
    exact (reference_y _ _ p q).trans (result_y m c p q).symm
  · rw [Cert.Reference16Ideal.Read.val_main_v17_eq, a0, a1, a2, a3]
    funext i
    obtain ⟨p, q, rfl⟩ := hi i
    exact (reference_new _ _ _ _ p q).trans (result_new m c p q).symm
  · rw [Cert.Reference16Ideal.Read.val_main_v50_eq, a0, a1, a2, a3, a4]
    funext i
    obtain ⟨p, q, rfl⟩ := hi i
    exact (reference_xn _ _ _ _ _ p q).trans (result_xn m c p q).symm

end Cert.MixOut
-- ==== Proof.Product.FfnOutLast.lean ====
/- The last feed-forward layer's second product and the gated residual: `y = a · w` and `x + gate · y`. -/
module

public import proofs.«01_k».proof.Defs
public import proofs.«01_k».proof.Proof.Product.Gated
public import proofs.«01_k».proof.Proof.Gen.Kernel17
public import proofs.«01_k».proof.Proof.Gen.Kernel17Ideal.Value
public import proofs.«01_k».proof.Proof.Gen.Reference17Ideal.Read
public import proofs.«01_k».proof.Proof.Gen.Reference17Ideal.Run

@[expose] public section

set_option maxRecDepth 16384

noncomputable section

namespace Cert.FfnOutLast

open Cert.Kernel17Ideal Cert.Kernel17Ideal.Gen Cert.Product
open Idealize.ShloMosaic Idealize.ShloMosaic.TcCoe Idealize.SL.Sem

/-! ## The frames -/

/-- The kernel as printed and its idealization have the same definitions. -/
theorem defs_eq : Cert.Kernel17.defs (F := Bits) = Cert.Kernel17Ideal.defs (F := Bits) := by
  refine congrArg (Pipeline.defs Cert.Kernel17Ideal.pcfgs) ?_
  unfold Cert.Kernel17.defs₀ Cert.Kernel17Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel17 := fun m g _ => by
  rw [defs_eq]
  exact frame (F := Bits) m g

theorem frame_ideal : quiescent_Kernel17Ideal := fun m g _ => frame (F := Ideal) m g

theorem frame_reference : quiescent_Reference17Ideal := fun m g _ =>
  (θ_run Cert.Reference17Ideal.defs _ _).mono (fun r h => ⟨fun c => (h c).2.2, sem_eq_zero_of_no_sems (by decide) r.2⟩)
    (Cert.Reference17Ideal.Value.run (F := Ideal) m g)

/-! ## The value -/

variable (m : (ℓ : Loc nD τ sig) → Buf (Elt Ideal) ℓ)

/-- The block of each window at a grid point: the rows' tile `t`, and the modulation of that tile's sample. -/
theorem index : ∀ t : Fin cfg0.N,
    win0_0.index t = ![t.val, 0] ∧ win0_1.index t = ![0, 0] ∧ win0_2.index t = ![t.val, 0]
    ∧ win0_3.index t = ![if t.val < 32 then t.val / 8 else 4, 0, 0]
    ∧ win0_4.index t = ![t.val, 0] ∧ win0_5.index t = ![t.val, 0] :=
  (by decide +kernel : ∀ t : Fin grid0.N, _)

/-- The grid point that computes a row, -/
def point (p : Fin 9216) : Fin cfg0.N := ⟨p.val / 256, by have := p.isLt; show _ < 36; omega⟩
/-- and the row's place in that point's block. -/
def place (p : Fin 9216) : Fin 256 := ⟨p.val % 256, by omega⟩

theorem point_sample (p : Fin 9216) : (if (point p).val < 32 then (point p).val / 8 else 4) = (sample p).val := by
  show (if p.val / 256 < 32 then p.val / 256 / 8 else 4) = if p.val < 8192 then p.val / 2048 else 4
  split <;> split <;> omega

/-- An entry lies in the block of its grid point. -/
theorem entry {n : ℕ} (p : Fin 9216) (k : Fin n) (i : (⟨2, ![9216, n]⟩ : Shape).Idx) (e : Fin 2 → Nat) (he : e = ![(point p).val, 0])
    (h0 : (i 0).val = e 0 * 256 + 1 * (place p).val) (h1 : (i 1).val = e 1 * n + 1 * k.val) : i = ix2 p k := by
  subst he
  refine ix2_of (h0.trans ?_) (h1.trans ?_)
  · show p.val / 256 * 256 + 1 * (p.val % 256) = p.val
    omega
  · show 0 * n + 1 * k.val = k.val
    omega

theorem entry_whole {n l : ℕ} (a : Fin n) (b : Fin l) (i : (⟨2, ![n, l]⟩ : Shape).Idx) (e : Fin 2 → Nat) (he : e = ![0, 0])
    (h0 : (i 0).val = e 0 * n + 1 * a.val) (h1 : (i 1).val = e 1 * l + 1 * b.val) : i = ix2 a b := by
  subst he
  refine ix2_of (h0.trans ?_) (h1.trans ?_)
  · show 0 * n + 1 * a.val = a.val
    omega
  · show 0 * l + 1 * b.val = b.val
    omega

theorem entry_mod (p : Fin 9216) (j : Fin 6) (q : Fin 1024) (i : S5x6x1024.Idx) (e : Fin 3 → Nat)
    (he : e = ![if (point p).val < 32 then (point p).val / 8 else 4, 0, 0])
    (h0 : (i 0).val = e 0 * 1 + 1 * 0) (h1 : (i 1).val = e 1 * 6 + 1 * j.val) (h2 : (i 2).val = e 2 * 1024 + 1 * q.val) :
    i = ix3 (sample p) j q := by
  subst he
  refine ix3_of (h0.trans ?_) (h1.trans ?_) (h2.trans ?_)
  · refine Eq.trans ?_ (point_sample p)
    show (if (point p).val < 32 then (point p).val / 8 else 4) * 1 + 1 * 0 = _
    omega
  · show 0 * 6 + 1 * j.val = j.val
    omega
  · show 0 * 1024 + 1 * q.val = q.val
    omega

/-- The blocks of a grid point, entry by entry. -/
theorem a_apply (c : Dev nD) (p : Fin 9216) (k : Fin 2816) :
    iblk m c 0 (point p) (ix2 (place p) k) = m ((c.tc : Thread nD τ).loc main_arg0) (ix2 p k) :=
  (congrArg (V m c main_arg0) (entry p k _ _ (index (point p)).1 rfl rfl)).trans (congrFun (V_main_arg0 m c) _)

theorem w_apply (c : Dev nD) (p : Fin 9216) (k : Fin 2816) (q : Fin 1024) :
    iblk m c 1 (point p) (ix2 k q) = m ((c.tc : Thread nD τ).loc main_arg1) (ix2 k q) :=
  (congrArg (V m c main_arg1) (entry_whole k q _ _ (index (point p)).2.1 rfl rfl)).trans (congrFun (V_main_arg1 m c) _)

theorem x_apply (c : Dev nD) (p : Fin 9216) (q : Fin 1024) :
    iblk m c 2 (point p) (ix2 (place p) q) = m ((c.tc : Thread nD τ).loc main_arg2) (ix2 p q) :=
  (congrArg (V m c main_arg2) (entry p q _ _ (index (point p)).2.2.1 rfl rfl)).trans (congrFun (V_main_arg2 m c) _)

theorem gate_apply (c : Dev nD) (p : Fin 9216) (j : Fin 6) (q : Fin 1024) :
    iblk m c 3 (point p) (ix3 0 j q) = modRow (m ((c.tc : Thread nD τ).loc main_arg3)) j p q :=
  (congrArg (V m c main_arg3) (entry_mod p j q _ _ (index (point p)).2.2.2.1 rfl rfl rfl)).trans (congrFun (V_main_arg3 m c) _)

/-- What the body stores, entry by entry. -/
theorem pay_y (v0 : Vec Ideal S256x2816 .bf16) (v1 : Vec Ideal S2816x1024 .bf16) (p : Fin 256) (q : Fin 1024) :
    k0_pay3 (F := Ideal) v0 v1 (ix2 p q) = mul v0 v1 p q := by
  pointwise [k0_pay3, k0_pay1, mul]

theorem pay_new (v0 : Vec Ideal S256x2816 .bf16) (v1 : Vec Ideal S2816x1024 .bf16) (v3 : Vec Ideal S256x1024 .f32) (v4 : Vec Ideal S1x1x1024 .f32)
    (p : Fin 256) (q : Fin 1024) :
    k0_pay2 (F := Ideal) v0 v1 v3 v4 (ix2 p q) = step (v3 (ix2 p q)) (v4 (ix3 0 0 q)) (mul v0 v1 p q) := by
  pointwise [k0_pay2, k0_pay1, mul, step]

/-- A row of the modulation, as loaded. -/
theorem ld_gate (x : Vec Ideal S1x6x1024 .f32) (q : Fin 1024) : View.ld x r0_3 (ix3 0 0 q) = x (ix3 0 5 q) :=
  congrArg x (ix3_of rfl rfl (by show 0 + 1 * q.val = q.val; omega))

section Blocks

variable (x0 : Vec Ideal S256x2816 .bf16) (x1 : Vec Ideal S2816x1024 .bf16) (x2 : Vec Ideal S256x1024 .f32) (x3 : Vec Ideal S1x6x1024 .f32)

theorem zero2 : (![0, 0] : Fin 2 → Nat) = fun _ => 0 := funext fun a => by fin_cases a <;> rfl

/-- A block of each result. -/
theorem block_y (p : Fin 256) (q : Fin 1024) : out0_4 x0 x1 x2 x3 (ix2 p q) = mul x0 x1 p q := by
  have hz := zero2
  unfold out0_4
  rw [View.canon_unit_zero hz]
  simp only [View.ld_unit_zero (S := S256x2816) hz, View.ld_unit_zero (S := S2816x1024) hz]
  exact pay_y _ _ p q

theorem block_new (p : Fin 256) (q : Fin 1024) :
    out0_5 x0 x1 x2 x3 (ix2 p q) = step (x2 (ix2 p q)) (x3 (ix3 0 5 q)) (mul x0 x1 p q) := by
  have hz := zero2
  unfold out0_5
  rw [View.canon_unit_zero hz]
  simp only [View.ld_unit_zero (S := S256x2816) hz, View.ld_unit_zero (S := S2816x1024) hz, View.ld_unit_zero (S := S256x1024) hz]
  exact (pay_new _ _ _ _ p q).trans (by rw [ld_gate])

end Blocks

theorem product (c : Dev nD) (p : Fin 9216) (q : Fin 1024) :
    mul (iblk m c 0 (point p)) (iblk m c 1 (point p)) (place p) q = mul (m ((c.tc : Thread nD τ).loc main_arg0)) (m ((c.tc : Thread nD τ).loc main_arg1)) p q :=
  Finset.sum_congr rfl fun k _ => mul_congr (a_apply m c p k) (w_apply m c p k q)

/-- An entry of the new residual. -/
def new (c : Dev nD) (p : Fin 9216) (q : Fin 1024) : EReal :=
  step (m ((c.tc : Thread nD τ).loc main_arg2) (ix2 p q)) (modRow (m ((c.tc : Thread nD τ).loc main_arg3)) 5 p q) (mul (m ((c.tc : Thread nD τ).loc main_arg0)) (m ((c.tc : Thread nD τ).loc main_arg1)) p q)

/-- The results after the run. -/
theorem result_y (c : Dev nD) (p : Fin 9216) (q : Fin 1024) :
    (dats m 0 c).arrAt 4 cfg0.N (ix2 p q) = mul (m ((c.tc : Thread nD τ).loc main_arg0)) (m ((c.tc : Thread nD τ).loc main_arg1)) p q := by
  have e := congrFun (Value.blocks4 m c (point p) (flush0_4 _)) (ix2 (place p) q)
  rw [Value.flushed4] at e
  exact (congrArg ((dats m 0 c).arrAt 4 cfg0.N) (entry p q _ _ (index (point p)).2.2.2.2.1 rfl rfl).symm).trans
    (e.trans ((block_y _ _ _ _ _ _).trans (product m c p q)))

theorem new_eq (c : Dev nD) (p : Fin 9216) (q : Fin 1024) :
    step (iblk m c 2 (point p) (ix2 (place p) q)) (iblk m c 3 (point p) (ix3 0 5 q)) (mul (iblk m c 0 (point p)) (iblk m c 1 (point p)) (place p) q)
      = new m c p q := by
  rw [product, x_apply, gate_apply]; rfl

theorem result_new (c : Dev nD) (p : Fin 9216) (q : Fin 1024) : (dats m 0 c).arrAt 5 cfg0.N (ix2 p q) = new m c p q := by
  have e := congrFun (Value.blocks5 m c (point p) (flush0_5 _)) (ix2 (place p) q)
  rw [Value.flushed5] at e
  exact (congrArg ((dats m 0 c).arrAt 5 cfg0.N) (entry p q _ _ (index (point p)).2.2.2.2.2 rfl rfl).symm).trans
    (e.trans ((block_new _ _ _ _ _ _).trans (new_eq m c p q)))

/-! ## The reference -/

section Reference

variable (x0 : (⟨S9216x2816, .bf16⟩ : BufTy).Contents (Elt Ideal)) (x1 : (⟨S2816x1024, .bf16⟩ : BufTy).Contents (Elt Ideal)) (x2 : (⟨S9216x1024, .f32⟩ : BufTy).Contents (Elt Ideal))
  (x3 : (⟨S5x6x1024, .f32⟩ : BufTy).Contents (Elt Ideal))

theorem reference_y (p : Fin 9216) (q : Fin 1024) : Cert.Reference17Ideal.Read.val_main_v2 (F := Ideal) x0 x1 (ix2 p q) = mul x0 x1 p q := by
  pointwise [Cert.Reference17Ideal.Read.val_main_v2, Cert.Reference17Ideal.Read.val_main_v1, Cert.Reference17Ideal.Read.val_main_v0, mul]

theorem reference_gate (p : Fin 9216) (q : Fin 1024) : Cert.Reference17Ideal.Read.val_main_v12 (F := Ideal) x3 (ix2 p q) = modRow x3 5 p q := by
  rw [← modRow_eq]
  pointwise [Cert.Reference17Ideal.Read.val_main_v12, Cert.Reference17Ideal.Read.val_main_v11, Cert.Reference17Ideal.Read.val_main_v10, Cert.Reference17Ideal.Read.val_main_v9, Cert.Reference17Ideal.Read.val_main_v8, Cert.Reference17Ideal.Read.val_main_v7, Cert.Reference17Ideal.Read.val_main_v6, Cert.Reference17Ideal.Read.val_main_v5, Cert.Reference17Ideal.Read.val_main_v4]

theorem reference_new (p : Fin 9216) (q : Fin 1024) :
    Cert.Reference17Ideal.Read.val_main_v14 (F := Ideal) x0 x1 x2 x3 (ix2 p q) = step (x2 (ix2 p q)) (modRow x3 5 p q) (mul x0 x1 p q) := by
  rw [← reference_gate, ← reference_y]
  pointwise [Cert.Reference17Ideal.Read.val_main_v14, Cert.Reference17Ideal.Read.val_main_v13, step]

end Reference

theorem algebraic : algebraic_Kernel17Ideal_Reference17Ideal := by
  intro m g m' g' _ hm
  refine ⟨fun c => (dats m 0 c).arrAt 4 cfg0.N, fun c => (dats m 0 c).arrAt 5 cfg0.N, Value.run_blocks m g,
    (θ_run _ _ _).mono (fun r h c => ⟨(h c).1.trans ?_, (h c).2.1.trans ?_, (h c).2.2⟩) (Cert.Reference17Ideal.Value.run m' g')⟩
  all_goals
    obtain ⟨a0, a1, a2, a3⟩ := hm c
    have hi : ∀ i : S9216x1024.Idx, ∃ (p : Fin 9216) (q : Fin 1024), i = ix2 p q := fun i => ⟨i 0, i 1, eq_ix2 i⟩
  · rw [Cert.Reference17Ideal.Read.val_main_v3_eq, a0, a1]
    funext i
    obtain ⟨p, q, rfl⟩ := hi i
    exact (reference_y _ _ p q).trans (result_y m c p q).symm
  · rw [Cert.Reference17Ideal.Read.val_main_v14_eq, a0, a1, a2, a3]
    funext i
    obtain ⟨p, q, rfl⟩ := hi i
    exact (reference_new _ _ _ _ p q).trans (result_new m c p q).symm

end Cert.FfnOutLast
-- ==== Proof.Product.NormFwd.lean ====
/- The norm before the first layer: the rows normalised, scaled and shifted. -/
module

public import proofs.«01_k».proof.Defs
public import proofs.«01_k».proof.Proof.Product.Gated
public import proofs.«01_k».proof.Proof.Gen.Kernel18
public import proofs.«01_k».proof.Proof.Gen.Kernel18Ideal.Value
public import proofs.«01_k».proof.Proof.Gen.Reference18Ideal.Read
public import proofs.«01_k».proof.Proof.Gen.Reference18Ideal.Run

@[expose] public section

set_option maxRecDepth 16384

noncomputable section

namespace Cert.NormFwd

open Cert.Kernel18Ideal Cert.Kernel18Ideal.Gen Cert.Product
open Idealize.ShloMosaic Idealize.ShloMosaic.TcCoe Idealize.SL.Sem

/-! ## The frames -/

/-- The kernel as printed and its idealization have the same definitions. -/
theorem defs_eq : Cert.Kernel18.defs (F := Bits) = Cert.Kernel18Ideal.defs (F := Bits) := by
  refine congrArg (Pipeline.defs Cert.Kernel18Ideal.pcfgs) ?_
  unfold Cert.Kernel18.defs₀ Cert.Kernel18Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel18 := fun m g _ => by
  rw [defs_eq]
  exact frame (F := Bits) m g

theorem frame_ideal : quiescent_Kernel18Ideal := fun m g _ => frame (F := Ideal) m g

theorem frame_reference : quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

/-! ## The value -/

variable (m : (ℓ : Loc nD τ sig) → Buf (Elt Ideal) ℓ)

/-- The block of each window at a grid point: the rows' tile `t`, and the modulation of that tile's sample. -/
theorem index : ∀ t : Fin cfg0.N,
    win0_0.index t = ![t.val, 0] ∧ win0_1.index t = ![0, 0] ∧ win0_2.index t = ![if t.val < 32 then t.val / 8 else 4, 0, 0]
    ∧ win0_3.index t = ![t.val, 0] :=
  (by decide +kernel : ∀ t : Fin grid0.N, _)

/-- The norm's weights as the kernel finds them: as one row. -/
theorem weights (c : Dev nD) : V m c main_v0
    = shapeCast S1x1024 (m ((c.tc : Thread nD τ).loc main_arg1)) shapeCasts_S1024_S1x1024 := by
  unfold_abbrev_sides
  after_results
  rfl

/-- The grid point that computes a row, -/
def point (p : Fin 9216) : Fin cfg0.N := ⟨p.val / 256, by have := p.isLt; show _ < 36; omega⟩
/-- and the row's place in that point's block. -/
def place (p : Fin 9216) : Fin 256 := ⟨p.val % 256, by omega⟩

theorem point_sample (p : Fin 9216) : (if (point p).val < 32 then (point p).val / 8 else 4) = (sample p).val := by
  show (if p.val / 256 < 32 then p.val / 256 / 8 else 4) = if p.val < 8192 then p.val / 2048 else 4
  split <;> split <;> omega

/-- An entry lies in the block of its grid point. -/
theorem entry {n : ℕ} (p : Fin 9216) (k : Fin n) (i : (⟨2, ![9216, n]⟩ : Shape).Idx) (e : Fin 2 → Nat) (he : e = ![(point p).val, 0])
    (h0 : (i 0).val = e 0 * 256 + 1 * (place p).val) (h1 : (i 1).val = e 1 * n + 1 * k.val) : i = ix2 p k := by
  subst he
  refine ix2_of (h0.trans ?_) (h1.trans ?_)
  · show p.val / 256 * 256 + 1 * (p.val % 256) = p.val
    omega
  · show 0 * n + 1 * k.val = k.val
    omega

theorem entry_whole {n l : ℕ} (a : Fin n) (b : Fin l) (i : (⟨2, ![n, l]⟩ : Shape).Idx) (e : Fin 2 → Nat) (he : e = ![0, 0])
    (h0 : (i 0).val = e 0 * n + 1 * a.val) (h1 : (i 1).val = e 1 * l + 1 * b.val) : i = ix2 a b := by
  subst he
  refine ix2_of (h0.trans ?_) (h1.trans ?_)
  · show 0 * n + 1 * a.val = a.val
    omega
  · show 0 * l + 1 * b.val = b.val
    omega

theorem entry_mod (p : Fin 9216) (j : Fin 6) (q : Fin 1024) (i : S5x6x1024.Idx) (e : Fin 3 → Nat)
    (he : e = ![if (point p).val < 32 then (point p).val / 8 else 4, 0, 0])
    (h0 : (i 0).val = e 0 * 1 + 1 * 0) (h1 : (i 1).val = e 1 * 6 + 1 * j.val) (h2 : (i 2).val = e 2 * 1024 + 1 * q.val) :
    i = ix3 (sample p) j q := by
  subst he
  refine ix3_of (h0.trans ?_) (h1.trans ?_) (h2.trans ?_)
  · refine Eq.trans ?_ (point_sample p)
    show (if (point p).val < 32 then (point p).val / 8 else 4) * 1 + 1 * 0 = _
    omega
  · show 0 * 6 + 1 * j.val = j.val
    omega
  · show 0 * 1024 + 1 * q.val = q.val
    omega

/-- The blocks of a grid point, entry by entry. -/
theorem x_apply (c : Dev nD) (p : Fin 9216) (q : Fin 1024) :
    iblk m c 0 (point p) (ix2 (place p) q) = m ((c.tc : Thread nD τ).loc main_arg0) (ix2 p q) :=
  (congrArg (V m c main_arg0) (entry p q _ _ (index (point p)).1 rfl rfl)).trans (congrFun (V_main_arg0 m c) _)

theorem g_apply (c : Dev nD) (p : Fin 9216) (q : Fin 1024) :
    iblk m c 1 (point p) (ix2 0 q) = m ((c.tc : Thread nD τ).loc main_arg1) (ix1 q) := by
  refine (congrArg (V m c main_v0) (entry_whole 0 q _ _ (index (point p)).2.1 rfl rfl)).trans ((congrFun (weights m c) _).trans ?_)
  pointwise []

theorem mod_apply (c : Dev nD) (p : Fin 9216) (j : Fin 6) (q : Fin 1024) :
    iblk m c 2 (point p) (ix3 0 j q) = modRow (m ((c.tc : Thread nD τ).loc main_arg2)) j p q :=
  (congrArg (V m c main_arg2) (entry_mod p j q _ _ (index (point p)).2.2.1 rfl rfl rfl)).trans (congrFun (V_main_arg2 m c) _)

/-- What the body stores, entry by entry. -/
theorem pay_apply (v0 : Vec Ideal S256x1024 .f32) (v1 : Vec Ideal S1x1024 .f32) (v3 v5 : Vec Ideal S1x1x1024 .f32) (p : Fin 256) (q : Fin 1024) :
    k0_pay1 (F := Ideal) v0 v1 v3 v5 (ix2 p q)
      = normed (fun k => v0 (ix2 p k)) (v1 (ix2 0 q)) (v5 (ix3 0 0 q)) (v3 (ix3 0 0 q)) q := by
  pointwise [k0_pay1, normed]

/-- A row of the modulation, as loaded. -/
theorem ld_shift (x : Vec Ideal S1x6x1024 .f32) (q : Fin 1024) : View.ld x r0_2 (ix3 0 0 q) = x (ix3 0 0 q) :=
  congrArg x (ix3_of rfl rfl (by show 0 + 1 * q.val = q.val; omega))

theorem ld_scale (x : Vec Ideal S1x6x1024 .f32) (q : Fin 1024) : View.ld x r0_3 (ix3 0 0 q) = x (ix3 0 1 q) :=
  congrArg x (ix3_of rfl rfl (by show 0 + 1 * q.val = q.val; omega))

theorem zero2 : (![0, 0] : Fin 2 → Nat) = fun _ => 0 := funext fun a => by fin_cases a <;> rfl

/-- A block of the result. -/
theorem block_apply (x0 : Vec Ideal S256x1024 .f32) (x1 : Vec Ideal S1x1024 .f32) (x2 : Vec Ideal S1x6x1024 .f32) (p : Fin 256) (q : Fin 1024) :
    out0_3 x0 x1 x2 (ix2 p q)
      = normed (fun k => x0 (ix2 p k)) (x1 (ix2 0 q)) (x2 (ix3 0 1 q)) (x2 (ix3 0 0 q)) q := by
  have hz := zero2
  unfold out0_3
  rw [View.canon_unit_zero hz]
  simp only [View.ld_unit_zero (S := S256x1024) hz, View.ld_unit_zero (S := S1x1024) hz]
  rw [pay_apply, ld_shift, ld_scale]

/-- The result after the run. -/
theorem result_apply (c : Dev nD) (p : Fin 9216) (q : Fin 1024) :
    (dats m 0 c).arrAt 3 cfg0.N (ix2 p q)
      = normed (fun k => m ((c.tc : Thread nD τ).loc main_arg0) (ix2 p k)) (m ((c.tc : Thread nD τ).loc main_arg1) (ix1 q))
          (modRow (m ((c.tc : Thread nD τ).loc main_arg2)) 1 p q) (modRow (m ((c.tc : Thread nD τ).loc main_arg2)) 0 p q) q := by
  have e := congrFun (Value.blocks3 m c (point p) (flush0_3 _)) (ix2 (place p) q)
  rw [Value.flushed3] at e
  refine (congrArg ((dats m 0 c).arrAt 3 cfg0.N) (entry p q _ _ (index (point p)).2.2.2 rfl rfl).symm).trans
    (e.trans ((block_apply _ _ _ _ _).trans ?_))
  rw [g_apply, mod_apply, mod_apply]
  exact congrArg (fun r => normed r _ _ _ q) (funext fun k => x_apply m c p k)

/-! ## The reference -/

section Reference

variable (x0 : (⟨S9216x1024, .f32⟩ : BufTy).Contents (Elt Ideal)) (x1 : (⟨S1024, .f32⟩ : BufTy).Contents (Elt Ideal))
  (x2 : (⟨S5x6x1024, .f32⟩ : BufTy).Contents (Elt Ideal))

theorem reference_scale (p : Fin 9216) (q : Fin 1024) : Cert.Reference18Ideal.Read.val_main_v21 (F := Ideal) x2 (ix2 p q) = modRow x2 1 p q := by
  rw [← modRow_eq]
  pointwise [Cert.Reference18Ideal.Read.val_main_v21, Cert.Reference18Ideal.Read.val_main_v20, Cert.Reference18Ideal.Read.val_main_v19, Cert.Reference18Ideal.Read.val_main_v18, Cert.Reference18Ideal.Read.val_main_v17, Cert.Reference18Ideal.Read.val_main_v16, Cert.Reference18Ideal.Read.val_main_v15, Cert.Reference18Ideal.Read.val_main_v14, Cert.Reference18Ideal.Read.val_main_v13]

theorem reference_shift (p : Fin 9216) (q : Fin 1024) : Cert.Reference18Ideal.Read.val_main_v33 (F := Ideal) x2 (ix2 p q) = modRow x2 0 p q := by
  rw [← modRow_eq]
  pointwise [Cert.Reference18Ideal.Read.val_main_v33, Cert.Reference18Ideal.Read.val_main_v32, Cert.Reference18Ideal.Read.val_main_v31, Cert.Reference18Ideal.Read.val_main_v30, Cert.Reference18Ideal.Read.val_main_v29, Cert.Reference18Ideal.Read.val_main_v28, Cert.Reference18Ideal.Read.val_main_v27, Cert.Reference18Ideal.Read.val_main_v26, Cert.Reference18Ideal.Read.val_main_v25]

theorem reference_apply (p : Fin 9216) (q : Fin 1024) :
    Cert.Reference18Ideal.Read.val_main_v35 (F := Ideal) x0 x1 x2 (ix2 p q)
      = normed (fun k => x0 (ix2 p k)) (x1 (ix1 q)) (modRow x2 1 p q) (modRow x2 0 p q) q := by
  rw [← reference_scale, ← reference_shift]
  pointwise [Cert.Reference18Ideal.Read.val_main_v35, Cert.Reference18Ideal.Read.val_main_v34, Cert.Reference18Ideal.Read.val_main_v24, Cert.Reference18Ideal.Read.val_main_v23, Cert.Reference18Ideal.Read.val_main_v22, Cert.Reference18Ideal.Read.val_main_cst_2, Cert.Reference18Ideal.Read.val_main_v12, Cert.Reference18Ideal.Read.val_main_v11, Cert.Reference18Ideal.Read.val_main_v10, Cert.Reference18Ideal.Read.val_main_v9, Cert.Reference18Ideal.Read.val_main_v8, Cert.Reference18Ideal.Read.val_main_v7, Cert.Reference18Ideal.Read.val_main_v6, Cert.Reference18Ideal.Read.val_main_v5, Cert.Reference18Ideal.Read.val_main_cst_1, Cert.Reference18Ideal.Read.val_main_v4, Cert.Reference18Ideal.Read.val_main_v3, Cert.Reference18Ideal.Read.val_main_cst_0, Cert.Reference18Ideal.Read.val_main_v2, Cert.Reference18Ideal.Read.val_main_v1, Cert.Reference18Ideal.Read.val_main_cst, Cert.Reference18Ideal.Read.val_main_v0, normed]

end Reference

theorem algebraic : algebraic_Kernel18Ideal_Reference18Ideal := by
  intro m g m' g' _ hm
  refine ⟨fun c => (dats m 0 c).arrAt 3 cfg0.N, Value.run_blocks m g,
    (θ_run _ _ _).mono (fun r h c => ⟨(h c).1.trans ?_, (h c).2⟩) (Cert.Reference18Ideal.Value.run m' g')⟩
  obtain ⟨a0, a1, a2⟩ := hm c
  rw [Cert.Reference18Ideal.Read.val_main_v35_eq, a0, a1, a2]
  funext i
  obtain ⟨p, q, rfl⟩ : ∃ (p : Fin 9216) (q : Fin 1024), i = ix2 p q := ⟨i 0, i 1, eq_ix2 i⟩
  exact (reference_apply _ _ _ p q).trans (result_apply m c p q).symm

end Cert.NormFwd
-- ==== Proof.Attention.ForwardTile.lean ====
/- What one grid point of the attention forward kernel computes, read at an index: for real queries and keys, the
   values averaged by the probabilities of Row.lean. -/
module

public import proofs.«01_k».proof.Proof.Gen.Kernel19Ideal.Skeleton
public import proofs.«01_k».proof.Proof.Attention.Row
public import Idealize.ShloMosaic.Lib.Pointwise

@[expose] public section

set_option maxRecDepth 16384

noncomputable section

namespace Cert.Attention

open Idealize.ShloMosaic

/-- A query's output: the values, real or infinite, averaged by the keys' probabilities. -/
def average {κ : Type} [Fintype κ] [Nonempty κ] {n m : ℕ} (q : Fin n → ℝ) (k : κ → Fin n → ℝ) (v : κ → Fin m → EReal) (e : Fin m) : EReal :=
  ∑ j, ((prob q k j : ℝ) : EReal) * v j e

/-- A nonnegative real factor goes into a sum of extended reals. -/
theorem sum_mul_coe {ι : Type} (s : Finset ι) (f : ι → EReal) {x : ℝ} (hx : 0 ≤ x) :
    (∑ i ∈ s, f i) * ((x : ℝ) : EReal) = ∑ i ∈ s, f i * ((x : ℝ) : EReal) := by
  classical
  induction s using Finset.induction_on with
  | empty => simp
  | insert a s ha ih =>
    rw [Finset.sum_insert ha, Finset.sum_insert ha,
      EReal.right_distrib_of_nonneg_of_ne_top (EReal.coe_nonneg.2 hx) (EReal.coe_ne_top x), ih]

/-- The same where the weighted values are summed first and then multiplied by the inverse of the weights' sum. -/
theorem average_eq {κ : Type} [Fintype κ] [Nonempty κ] {n m : ℕ} (q : Fin n → ℝ) (k : κ → Fin n → ℝ) (v : κ → Fin m → EReal) (e : Fin m) :
    (∑ j, ((weight q k j : ℝ) : EReal) * v j e) * ((1 / mass q k : ℝ) : EReal) = average q k v e := by
  unfold average prob
  rw [sum_mul_coe _ _ (one_div_nonneg.2 (mass_pos q k).le)]
  exact Finset.sum_congr rfl fun j _ => by rw [mul_right_comm, ← EReal.coe_mul, mul_one_div]

/-- The numbering of the keys does not change a query's output. -/
theorem average_equiv {κ μ : Type} [Fintype κ] [Fintype μ] [Nonempty κ] [Nonempty μ] {n m : ℕ} (σ : κ ≃ μ) (q : Fin n → ℝ)
    (k : μ → Fin n → ℝ) (v : μ → Fin m → EReal) (e : Fin m) :
    average q (fun j => k (σ j)) (fun j => v (σ j)) e = average q k v e := by
  unfold average
  rw [← Equiv.sum_comp σ]
  exact Finset.sum_congr rfl fun j _ => by rw [prob_equiv]

/-- The exponential of a real number. -/
theorem exp_coe (x : ℝ) : Ideal.exp ((x : ℝ) : EReal) = ((Real.exp x : ℝ) : EReal) := rfl
/-- The greater of two real numbers. -/
theorem max_coe (x y : ℝ) : max ((x : ℝ) : EReal) ((y : ℝ) : EReal) = ((max x y : ℝ) : EReal) :=
  (EReal.coe_strictMono.monotone.map_max).symm

open Cert.Kernel19Ideal Cert.Kernel19Ideal.Gen

variable {x0 x3 : Vec Ideal S256x256 .bf16} {x1 : Vec Ideal S2048x256 .bf16} {x2 : Vec Ideal S2048x128 .bf16}
  {x4 : Vec Ideal S256x128 .bf16} {q kh : Fin 256 → Fin 256 → ℝ} {kx : Fin 2048 → Fin 256 → ℝ} {vx : Fin 2048 → Fin 128 → EReal}
  {vh : Fin 256 → Fin 128 → EReal}

/-- The output of a tile of sequence queries. -/
theorem sequence_apply (h0 : ∀ r d, x0 (ix2 r d) = ((q r d : ℝ) : EReal)) (h1 : ∀ j d, x1 (ix2 j d) = ((kx j d : ℝ) : EReal))
    (h2 : ∀ j e, x2 (ix2 j e) = vx j e) (h3 : ∀ j d, x3 (ix2 j d) = ((kh j d : ℝ) : EReal))
    (h4 : ∀ j e, x4 (ix2 j e) = vh j e) (r : Fin 256) (e : Fin 128) :
    k0_pay1 x0 x1 x2 x3 x4 (ix2 r e) = average (q r) (Sum.elim kx kh) (Sum.elim vx vh) e := by
  pointwise [k0_pay1]
  simp only [h0, h1, h2, h3, h4, ← EReal.coe_mul, coe_sum, ofBits_bot, fold_max_coe, max_coe, ← EReal.coe_sub, exp_coe, ← EReal.coe_add]
  have T : max (top fun j => ∑ d, q r d * kx j d) (top fun j => ∑ d, q r d * kh j d) = top (score (q r) (Sum.elim kx kh)) :=
    (top_sum (score (q r) (Sum.elim kx kh))).symm
  have M : (∑ j, Real.exp (∑ d, q r d * kx j d - top (score (q r) (Sum.elim kx kh))))
      + ∑ j, Real.exp (∑ d, q r d * kh j d - top (score (q r) (Sum.elim kx kh))) = mass (q r) (Sum.elim kx kh) :=
    (Fintype.sum_sum_type (weight (q r) (Sum.elim kx kh))).symm
  simp only [T, M, Ideal.div_coe (mass_ne _ _), one_mul, ← EReal.coe_mul]
  rw [← average_eq, Fintype.sum_sum_type]; rfl

/-- The output of a tile of context queries. -/
theorem context_apply (h0 : ∀ r d, x0 (ix2 r d) = ((q r d : ℝ) : EReal)) (h3 : ∀ j d, x3 (ix2 j d) = ((kh j d : ℝ) : EReal))
    (h4 : ∀ j e, x4 (ix2 j e) = vh j e) (r : Fin 256) (e : Fin 128) :
    k0_pay2 x0 x3 x4 (ix2 r e) = average (q r) kh vh e := by
  pointwise [k0_pay2]
  simp only [h0, h3, h4, ← EReal.coe_mul, coe_sum, ofBits_bot, fold_max_coe, ← EReal.coe_sub, exp_coe]
  have T : (top fun j => ∑ d, q r d * kh j d) = top (score (q r) kh) := rfl
  have M : (∑ j, Real.exp (∑ d, q r d * kh j d - top (score (q r) kh))) = mass (q r) kh := rfl
  simp only [T, M, Ideal.div_coe (mass_ne _ _), one_mul, ← EReal.coe_mul]
  rw [← average_eq]; rfl

end Cert.Attention
-- ==== Proof.Attention.ForwardReference.lean ====
/- What plain attention computes, read at an index: for real queries and keys, the values averaged by the probabilities of
   Row.lean over the rows of Layout.lean. -/
module

public import proofs.«01_k».proof.Proof.Attention.Layout
public import proofs.«01_k».proof.Proof.Attention.ForwardTile
public import proofs.«01_k».proof.Proof.Gen.Reference19Ideal.Read
public import Idealize.ShloMosaic.Lib.Pointwise

@[expose] public section

set_option maxRecDepth 16384

noncomputable section

namespace Cert.Attention.Forward

open Idealize.ShloMosaic Cert.Reference19Ideal Cert.Reference19Ideal.Gen Cert.Reference19Ideal.Read

/-- A row's maximum, folded from minus infinity. -/
theorem rowMax {s t u : Shape} {a : Fin s.rank} (x : s.Idx → EReal) (init : u.Idx → EReal) (h' : s.ReducesTo [a] t)
    (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (x ∘ h.lift j) :=
  Host.reduce_eq_fold_single (max : EReal → EReal → EReal) x init h' h hu j

variable {x0 x1 : Vec Ideal S9216x1024 .bf16} {x2 : Vec Ideal S9216x512 .bf16}
  {Q K : Fin 9216 → Fin 1024 → ℝ} {V : Fin 9216 → Fin 512 → EReal}
  (h0 : ∀ r c, x0 (ix2 r c) = ((Q r c : ℝ) : EReal)) (h1 : ∀ r c, x1 (ix2 r c) = ((K r c : ℝ) : EReal))
  (h2 : ∀ r c, x2 (ix2 r c) = V r c)

/-! ## The arguments, by sequence, position and head -/

include h0 in
theorem qX (b h : Fin 4) (i : Fin 2048) (d : Fin 256) :
    val_main_v4 (F := Ideal) x0 (ix4 b i h d) = ((seq 256 le1 Q b h i d : ℝ) : EReal) := by
  pointwise [val_main_v4, val_main_v3, val_main_v0]; exact h0 _ _

include h0 in
theorem qC (b h : Fin 4) (i d : Fin 256) :
    val_main_v6 (F := Ideal) x0 (ix4 b i h d) = ((ctx 256 le1 Q b h i d : ℝ) : EReal) := by
  pointwise [val_main_v6, val_main_v5, val_main_v0]; exact h0 _ _

include h1 in
theorem kX (b h : Fin 4) (i : Fin 2048) (d : Fin 256) :
    val_main_v8 (F := Ideal) x1 (ix4 b i h d) = ((seq 256 le1 K b h i d : ℝ) : EReal) := by
  pointwise [val_main_v8, val_main_v7, val_main_v1]; exact h1 _ _

include h1 in
theorem kC (b h : Fin 4) (i d : Fin 256) :
    val_main_v10 (F := Ideal) x1 (ix4 b i h d) = ((ctx 256 le1 K b h i d : ℝ) : EReal) := by
  pointwise [val_main_v10, val_main_v9, val_main_v1]; exact h1 _ _

include h2 in
theorem vX (b h : Fin 4) (i : Fin 2048) (e : Fin 128) :
    val_main_v12 (F := Ideal) x2 (ix4 b i h e) = seq 128 le2 V b h i e := by
  pointwise [val_main_v12, val_main_v11, val_main_v2]; exact h2 _ _

include h2 in
theorem vC (b h : Fin 4) (i : Fin 256) (e : Fin 128) :
    val_main_v14 (F := Ideal) x2 (ix4 b i h e) = ctx 128 le2 V b h i e := by
  pointwise [val_main_v14, val_main_v13, val_main_v2]; exact h2 _ _

include h1 in
theorem kJ (b h : Fin 4) (j : Fin 2304) (d : Fin 256) :
    val_main_v15 (F := Ideal) x1 (ix4 b j h d) = ((joined 256 le1 K b h j d : ℝ) : EReal) := by
  obtain ⟨s, rfl⟩ := (finSumFinEquiv (m := 2048) (n := 256)).surjective j
  pointwise [val_main_v15]
  rw [joined, Equiv.symm_apply_apply]
  cases s with
  | inl i => rw [dif_pos (by exact i.isLt)]; exact kX h1 b h i d
  | inr i =>
    have hv : ((finSumFinEquiv (m := 2048) (n := 256) (.inr i)).val) = 2048 + i.val := rfl
    rw [dif_neg (by omega)]
    refine Eq.trans (congrArg _ (congrArg (fun r => ix4 b r h d) (Fin.ext ?_))) (kC h1 b h i d)
    show (finSumFinEquiv (m := 2048) (n := 256) (.inr i)).val - 2048 = i.val; omega

include h2 in
theorem vJ (b h : Fin 4) (j : Fin 2304) (e : Fin 128) :
    val_main_v16 (F := Ideal) x2 (ix4 b j h e) = joined 128 le2 V b h j e := by
  obtain ⟨s, rfl⟩ := (finSumFinEquiv (m := 2048) (n := 256)).surjective j
  pointwise [val_main_v16]
  rw [joined, Equiv.symm_apply_apply]
  cases s with
  | inl i => rw [dif_pos (by exact i.isLt)]; exact vX h2 b h i e
  | inr i =>
    have hv : ((finSumFinEquiv (m := 2048) (n := 256) (.inr i)).val) = 2048 + i.val := rfl
    rw [dif_neg (by omega)]
    refine Eq.trans (congrArg _ (congrArg (fun r => ix4 b r h e) (Fin.ext ?_))) (vC h2 b h i e)
    show (finSumFinEquiv (m := 2048) (n := 256) (.inr i)).val - 2048 = i.val; omega

/-! ## The attention of the sequences -/

section X

include h0 h1

theorem scoreX (b h : Fin 4) (i : Fin 2048) (j : Fin 2304) :
    val_main_v17 (F := Ideal) x0 x1 (ix4 b h i j) = ((score (seq 256 le1 Q b h i) (joined 256 le1 K b h) j : ℝ) : EReal) := by
  pointwise [val_main_v17]
  simp only [qX h0, kJ h1, ← EReal.coe_mul, coe_sum]; rfl

omit h0 h1 in
theorem foldX (b h : Fin 4) (i : Fin 2048) :
    val_main_v18 (F := Ideal) x0 x1 (ix3 b h i)
      = Finset.univ.fold max (⊥ : EReal) fun j => val_main_v17 (F := Ideal) x0 x1 (ix4 b h i j) := by
  unfold val_main_v18
  generalize val_main_v17 (F := Ideal) x0 x1 = y
  refine (rowMax y _ _ (by decide : S4x4x2048x2304.Reduces [3] S4x4x2048) _ _).trans ?_
  refine congrArg₂ (fun (a : EReal) f => Finset.univ.fold max a f) ofBits_bot (funext fun j => congrArg y ?_)
  funext a
  match a with
  | ⟨0, _⟩ => rfl
  | ⟨1, _⟩ => rfl
  | ⟨2, _⟩ => rfl
  | ⟨3, _⟩ => rfl

theorem topX (b h : Fin 4) (i : Fin 2048) :
    val_main_v18 (F := Ideal) x0 x1 (ix3 b h i) = ((top (score (seq 256 le1 Q b h i) (joined 256 le1 K b h)) : ℝ) : EReal) := by
  rw [foldX]
  simp only [scoreX h0 h1, fold_max_coe]

omit h0 h1 in
theorem floorX (b h : Fin 4) (i : Fin 2048) :
    val_main_v20 (F := Ideal) x0 x1 (ix3 b h i) = val_main_v18 (F := Ideal) x0 x1 (ix3 b h i) := by
  rw [val_main_v20_apply, val_main_v19_apply, val_main_cst_0_apply]
  generalize val_main_v18 (F := Ideal) x0 x1 (ix3 b h i) = y
  show max (Ideal.ofBits .f32 4286578688#32) y = y
  rw [ofBits_bot, max_eq_right bot_le]

theorem weightX (b h : Fin 4) (i : Fin 2048) (j : Fin 2304) :
    val_main_v24 (F := Ideal) x0 x1 (ix4 b h i j) = ((weight (seq 256 le1 Q b h i) (joined 256 le1 K b h) j : ℝ) : EReal) := by
  pointwise [val_main_v24, val_main_v23, val_main_v22, val_main_v21]
  rw [scoreX h0 h1, floorX, topX h0 h1, ← EReal.coe_sub]; rfl

theorem massX (b h : Fin 4) (i : Fin 2048) :
    val_main_v25 (F := Ideal) x0 x1 (ix3 b h i) = ((mass (seq 256 le1 Q b h i) (joined 256 le1 K b h) : ℝ) : EReal) := by
  pointwise [val_main_v25, val_main_cst_1]
  simp only [weightX h0 h1, coe_sum]; rfl

theorem probX (b h : Fin 4) (i : Fin 2048) (j : Fin 2304) :
    val_main_v28 (F := Ideal) x0 x1 (ix4 b h i j) = ((prob (seq 256 le1 Q b h i) (joined 256 le1 K b h) j : ℝ) : EReal) := by
  pointwise [val_main_v28, val_main_v27, val_main_v26]
  rw [weightX h0 h1, massX h0 h1, Ideal.div_coe (mass_ne _ _), ← EReal.coe_mul, mul_one_div]; rfl

include h2 in
theorem outX (b h : Fin 4) (i : Fin 2048) (e : Fin 128) :
    val_main_v30 (F := Ideal) x0 x1 x2 (ix4 b i h e)
      = average (seq 256 le1 Q b h i) (joined 256 le1 K b h) (joined 128 le2 V b h) e := by
  pointwise [val_main_v30, val_main_v29]
  simp only [probX h0 h1, vJ h2]
  exact Finset.sum_congr rfl fun j _ => mul_comm _ _

end X

/-! ## The attention of the contexts -/

section C

include h0 h1

theorem scoreC (b h : Fin 4) (i : Fin 256) (j : Fin 256) :
    val_main_v31 (F := Ideal) x0 x1 (ix4 b h i j) = ((score (ctx 256 le1 Q b h i) (ctx 256 le1 K b h) j : ℝ) : EReal) := by
  pointwise [val_main_v31]
  simp only [qC h0, kC h1, ← EReal.coe_mul, coe_sum]; rfl

omit h0 h1 in
theorem foldC (b h : Fin 4) (i : Fin 256) :
    val_main_v32 (F := Ideal) x0 x1 (ix3 b h i)
      = Finset.univ.fold max (⊥ : EReal) fun j => val_main_v31 (F := Ideal) x0 x1 (ix4 b h i j) := by
  unfold val_main_v32
  generalize val_main_v31 (F := Ideal) x0 x1 = y
  refine (rowMax y _ _ (by decide : S4x4x256x256.Reduces [3] S4x4x256) _ _).trans ?_
  refine congrArg₂ (fun (a : EReal) f => Finset.univ.fold max a f) ofBits_bot (funext fun j => congrArg y ?_)
  funext a
  match a with
  | ⟨0, _⟩ => rfl
  | ⟨1, _⟩ => rfl
  | ⟨2, _⟩ => rfl
  | ⟨3, _⟩ => rfl

theorem topC (b h : Fin 4) (i : Fin 256) :
    val_main_v32 (F := Ideal) x0 x1 (ix3 b h i) = ((top (score (ctx 256 le1 Q b h i) (ctx 256 le1 K b h)) : ℝ) : EReal) := by
  rw [foldC]
  simp only [scoreC h0 h1, fold_max_coe]

omit h0 h1 in
theorem floorC (b h : Fin 4) (i : Fin 256) :
    val_main_v34 (F := Ideal) x0 x1 (ix3 b h i) = val_main_v32 (F := Ideal) x0 x1 (ix3 b h i) := by
  rw [val_main_v34_apply, val_main_v33_apply, val_main_cst_3_apply]
  generalize val_main_v32 (F := Ideal) x0 x1 (ix3 b h i) = y
  show max (Ideal.ofBits .f32 4286578688#32) y = y
  rw [ofBits_bot, max_eq_right bot_le]

theorem weightC (b h : Fin 4) (i : Fin 256) (j : Fin 256) :
    val_main_v38 (F := Ideal) x0 x1 (ix4 b h i j) = ((weight (ctx 256 le1 Q b h i) (ctx 256 le1 K b h) j : ℝ) : EReal) := by
  pointwise [val_main_v38, val_main_v37, val_main_v36, val_main_v35]
  rw [scoreC h0 h1, floorC, topC h0 h1, ← EReal.coe_sub]; rfl

theorem massC (b h : Fin 4) (i : Fin 256) :
    val_main_v39 (F := Ideal) x0 x1 (ix3 b h i) = ((mass (ctx 256 le1 Q b h i) (ctx 256 le1 K b h) : ℝ) : EReal) := by
  pointwise [val_main_v39, val_main_cst_4]
  simp only [weightC h0 h1, coe_sum]; rfl

theorem probC (b h : Fin 4) (i : Fin 256) (j : Fin 256) :
    val_main_v42 (F := Ideal) x0 x1 (ix4 b h i j) = ((prob (ctx 256 le1 Q b h i) (ctx 256 le1 K b h) j : ℝ) : EReal) := by
  pointwise [val_main_v42, val_main_v41, val_main_v40]
  rw [weightC h0 h1, massC h0 h1, Ideal.div_coe (mass_ne _ _), ← EReal.coe_mul, mul_one_div]; rfl

include h2 in
theorem outC (b h : Fin 4) (i : Fin 256) (e : Fin 128) :
    val_main_v44 (F := Ideal) x0 x1 x2 (ix4 b i h e)
      = average (ctx 256 le1 Q b h i) (ctx 256 le1 K b h) (ctx 128 le2 V b h) e := by
  pointwise [val_main_v44, val_main_v43]
  simp only [probC h0 h1, vC h2]
  exact Finset.sum_congr rfl fun j _ => mul_comm _ _

end C

/-! ## The result -/

section Results

/-- Two indices with equal coordinates are equal. -/
theorem ix4_congr {n0 n1 n2 n3 : ℕ} {a a' : Fin n0} {b b' : Fin n1} {c c' : Fin n2} {d d' : Fin n3} (h0 : a.val = a'.val)
    (h1 : b.val = b'.val) (h2 : c.val = c'.val) (h3 : d.val = d'.val) : ix4 a b c d = ix4 a' b' c' d' := by
  rw [Fin.ext h0, Fin.ext h1, Fin.ext h2, Fin.ext h3]

include h0 h1 h2

/-- The output of a sequence's query. -/
theorem result_seq (b h : Fin 4) (i : Fin 2048) (e : Fin 128) :
    val_main_v48 (F := Ideal) x0 x1 x2 (ix2 (row b i) (col 128 512 le2 h e))
      = average (seq 256 le1 Q b h i) (both 256 le1 K b h) (both 128 le2 V b h) e := by
  have hr : (row b i).val = b.val * 2048 + i.val := rfl
  have hc : (col 128 512 le2 h e).val = h.val * 128 + e.val := rfl
  pointwise [val_main_v48, val_main_v47, val_main_v45]
  rw [dif_pos (by omega)]
  refine Eq.trans (congrArg _ (ix4_congr ?_ ?_ ?_ ?_)) ((outX h0 h1 h2 b h i e).trans
    (average_equiv numbers _ (both 256 le1 K b h) (both 128 le2 V b h) e)) <;>
    simp only [hr, hc] <;> omega

/-- The output of a context's query. -/
theorem result_ctx (b h : Fin 4) (i : Fin 256) (e : Fin 128) :
    val_main_v48 (F := Ideal) x0 x1 x2 (ix2 (rowC b i) (col 128 512 le2 h e))
      = average (ctx 256 le1 Q b h i) (ctx 256 le1 K b h) (ctx 128 le2 V b h) e := by
  have hr : (rowC b i).val = 8192 + (b.val * 256 + i.val) := rfl
  have hc : (col 128 512 le2 h e).val = h.val * 128 + e.val := rfl
  pointwise [val_main_v48, val_main_v47, val_main_v46]
  rw [dif_neg (by omega)]
  refine Eq.trans (congrArg _ (ix4_congr ?_ ?_ ?_ ?_)) (outC h0 h1 h2 b h i e) <;>
    simp only [hr, hc] <;> omega

end Results

end Cert.Attention.Forward
-- ==== Proof.Attention.Forward.lean ====
/- The attention forward kernel and plain attention agree on real arguments: every tile's rows are those of Row.lean's
   queries, averaged over the keys of their sequence and context. -/
module

public import proofs.«01_k».proof.Defs
public import proofs.«01_k».proof.Proof.Attention.Claims
public import proofs.«01_k».proof.Proof.Attention.ForwardReference
public import proofs.«01_k».proof.Proof.Product.Sums
public import proofs.«01_k».proof.Proof.Gen.Kernel19
public import proofs.«01_k».proof.Proof.Gen.Kernel19Ideal.Value
public import proofs.«01_k».proof.Proof.Gen.Pre_finite_inputs
public import proofs.«01_k».proof.Proof.Gen.Reference19Ideal.Run

@[expose] public section

set_option maxRecDepth 16384

noncomputable section

namespace Cert.MlaFwd

open Cert.Kernel19Ideal Cert.Kernel19Ideal.Gen
open Cert.Attention (row rowC col seq ctx both average pos le1 le2)
open Idealize.ShloMosaic Idealize.ShloMosaic.TcCoe Idealize.SL.Sem

/-! ## The frames -/

/-- The kernel as printed and its idealization have the same definitions. -/
theorem defs_eq : Cert.Kernel19.defs (F := Bits) = Cert.Kernel19Ideal.defs (F := Bits) := by
  refine congrArg (Pipeline.defs Cert.Kernel19Ideal.pcfgs) ?_
  unfold Cert.Kernel19.defs₀ Cert.Kernel19Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel19 := fun m g _ => by
  rw [defs_eq]
  exact frame (F := Bits) m g

theorem frame_ideal : quiescent_Kernel19Ideal := fun m g _ => frame (F := Ideal) m g

theorem frame_ideal_pre : quiescent_Kernel19Ideal_pre_finite_inputs := fun m g _ => frame_ideal m g trivial

theorem frame_reference : quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem frame_reference_pre : quiescent_Reference19Ideal_pre_finite_inputs := fun m g _ => frame_reference m g trivial

/-! ## The grid -/

/-- The grid point of tile `k` of head `h` of sequence `b`. -/
def tile (b h : Fin 4) (k : Fin 9) : Fin cfg0.N :=
  ⟨b.val * 36 + h.val * 9 + k.val, by have := b.isLt; have := h.isLt; have := k.isLt; show _ < 144; omega⟩

theorem tile_mod (b h : Fin 4) (k : Fin 9) : (tile b h k).val % 9 = k.val := by
  have := k.isLt; simp only [tile]; omega
theorem tile_head (b h : Fin 4) (k : Fin 9) : (tile b h k).val / 9 % 4 = h.val := by
  have := k.isLt; have := h.isLt; simp only [tile]; omega
theorem tile_seq (b h : Fin 4) (k : Fin 9) : (tile b h k).val / 36 = b.val := by
  have := k.isLt; have := h.isLt; simp only [tile]; omega

/-- The block row of a tile's queries: eight tiles of a sequence, or the tile of its context. -/
def qrow (t : Fin cfg0.N) : ℕ := if t.val % 9 < 8 then t.val / 36 * 8 + t.val % 9 else 32 + t.val / 36

theorem qrow_seq (b h : Fin 4) (k : Fin 8) : qrow (tile b h k.castSucc) = b.val * 8 + k.val := by
  unfold qrow; rw [tile_mod, tile_seq]; exact if_pos k.isLt

theorem qrow_ctx (b h : Fin 4) : qrow (tile b h 8) = 32 + b.val := by
  unfold qrow; rw [tile_mod, tile_seq]; rfl

/-- The block of each window at a grid point. -/
theorem index : ∀ t : Fin cfg0.N,
    (win0_0.index t (0 : Fin 2) = qrow t ∧ win0_0.index t (1 : Fin 2) = t.val / 9 % 4)
    ∧ (win0_1.index t (0 : Fin 2) = t.val / 36 ∧ win0_1.index t (1 : Fin 2) = t.val / 9 % 4)
    ∧ (win0_2.index t (0 : Fin 2) = t.val / 36 ∧ win0_2.index t (1 : Fin 2) = t.val / 9 % 4)
    ∧ (win0_3.index t (0 : Fin 2) = 32 + t.val / 36 ∧ win0_3.index t (1 : Fin 2) = t.val / 9 % 4)
    ∧ (win0_4.index t (0 : Fin 2) = 32 + t.val / 36 ∧ win0_4.index t (1 : Fin 2) = t.val / 9 % 4)
    ∧ (win0_5.index t (0 : Fin 2) = qrow t ∧ win0_5.index t (1 : Fin 2) = t.val / 9 % 4) :=
  (by decide +kernel : ∀ t : Fin grid0.N, _)

/-! ## What the body stores -/

/-- At a tile of sequence queries, -/
theorem block_A (c : Dev nD) (i : grid0.Coords) (arg3 : Memref sig .tc .vmem S256x256 .bf16) (harg3 : arg3.IsWhole) (arg4 : Memref sig .tc .vmem S2048x256 .bf16) (harg4 : arg4.IsWhole)
    (arg5 : Memref sig .tc .vmem S2048x128 .bf16) (harg5 : arg5.IsWhole) (arg6 : Memref sig .tc .vmem S256x256 .bf16) (harg6 : arg6.IsWhole)
    (arg7 : Memref sig .tc .vmem S256x128 .bf16) (harg7 : arg7.IsWhole) (arg8 : Memref sig .tc .vmem S256x128 .bf16) (harg8 : arg8.IsWhole) (hc0 : cond0_0 i) (hc1 : ¬cond0_1 i)
    (x0 : Vec Ideal S256x256 .bf16) (x1 : Vec Ideal S2048x256 .bf16) (x2 : Vec Ideal S2048x128 .bf16) (x3 : Vec Ideal S256x256 .bf16) (x4 : Vec Ideal S256x128 .bf16) :
    out0_A_5 c i arg3 harg3 arg4 harg4 arg5 harg5 arg6 harg6 arg7 harg7 arg8 harg8 hc0 hc1 x0 x1 x2 x3 x4 = k0_pay1 x0 x1 x2 x3 x4 := by
  have hz : (![0, 0] : Fin 2 → Nat) = fun _ => 0 := funext fun a => by fin_cases a <;> rfl
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A
  dsimp only
  sl_unfold_words
  simp only [View.canon_unit_zero (S := S256x128) hz, View.readAt_eq_ld, harg3.read_unread, harg4.read_unread, harg5.read_unread, harg6.read_unread,
    harg7.read_unread, View.ld_unit_zero (S := S256x256) hz, View.ld_unit_zero (S := S2048x256) hz, View.ld_unit_zero (S := S2048x128) hz,
    View.ld_unit_zero (S := S256x128) hz]

/-- and at a tile of context queries. -/
theorem block_B (c : Dev nD) (i : grid0.Coords) (arg3 : Memref sig .tc .vmem S256x256 .bf16) (harg3 : arg3.IsWhole) (arg4 : Memref sig .tc .vmem S2048x256 .bf16) (harg4 : arg4.IsWhole)
    (arg5 : Memref sig .tc .vmem S2048x128 .bf16) (harg5 : arg5.IsWhole) (arg6 : Memref sig .tc .vmem S256x256 .bf16) (harg6 : arg6.IsWhole)
    (arg7 : Memref sig .tc .vmem S256x128 .bf16) (harg7 : arg7.IsWhole) (arg8 : Memref sig .tc .vmem S256x128 .bf16) (harg8 : arg8.IsWhole) (hc0 : ¬cond0_0 i) (hc1 : cond0_1 i)
    (x0 : Vec Ideal S256x256 .bf16) (x1 : Vec Ideal S2048x256 .bf16) (x2 : Vec Ideal S2048x128 .bf16) (x3 : Vec Ideal S256x256 .bf16) (x4 : Vec Ideal S256x128 .bf16) :
    out0_B_5 c i arg3 harg3 arg4 harg4 arg5 harg5 arg6 harg6 arg7 harg7 arg8 harg8 hc0 hc1 x0 x1 x2 x3 x4 = k0_pay2 x0 x3 x4 := by
  have hz : (![0, 0] : Fin 2 → Nat) = fun _ => 0 := funext fun a => by fin_cases a <;> rfl
  unfold out0_B_5
  rw [View.read_writes_eq_canon _ _ _ (cover0_B_5 c i arg3 harg3 arg4 harg4 arg5 harg5 arg6 harg6 arg7 harg7 arg8 harg8 hc0 hc1 x0 x1 x2 x3 x4)]
  unfold kernelRun0_B
  dsimp only
  sl_unfold_words
  simp only [View.canon_unit_zero (S := S256x128) hz, View.readAt_eq_ld, harg3.read_unread, harg4.read_unread, harg5.read_unread, harg6.read_unread,
    harg7.read_unread, View.ld_unit_zero (S := S256x256) hz, View.ld_unit_zero (S := S2048x256) hz, View.ld_unit_zero (S := S2048x128) hz,
    View.ld_unit_zero (S := S256x128) hz]

/-! ## The blocks of real arguments -/

variable (m : (ℓ : Loc nD τ sig) → Buf (Elt Ideal) ℓ)

/-- A tile's queries. -/
theorem q_apply (c : Dev nD) (t : Fin cfg0.N) (r : Fin 256) (d : Fin 256) (i : S9216x1024.Idx)
    (h0 : (i 0).val = qrow t * 256 + r.val) (h1 : (i 1).val = t.val / 9 % 4 * 256 + d.val) :
    iblk m c 0 t (ix2 r d) = m ((c.tc : Thread nD τ).loc main_arg0) i := by
  obtain ⟨e0, e1⟩ := (index t).1
  refine congrArg (m ((c.tc : Thread nD τ).loc main_arg0)) (funext fun a => Fin.ext ?_)
  match a with
  | ⟨0, _⟩ => show win0_0.index t (0 : Fin 2) * 256 + 1 * r.val = (i 0).val; rw [e0, h0]; omega
  | ⟨1, _⟩ => show win0_0.index t (1 : Fin 2) * 256 + 1 * d.val = (i 1).val; rw [e1, h1]; omega

/-- A sequence's keys. -/
theorem kx_apply (c : Dev nD) (t : Fin cfg0.N) (r : Fin 2048) (d : Fin 256) (i : S9216x1024.Idx)
    (h0 : (i 0).val = (t.val / 36) * 2048 + r.val) (h1 : (i 1).val = t.val / 9 % 4 * 256 + d.val) :
    X0_1 m c t (ix2 r d) = m ((c.tc : Thread nD τ).loc main_arg1) i := by
  obtain ⟨e0, e1⟩ := (index t).2.1
  unfold X0_1 Pipeline.Window.fill
  rw [dif_pos (moved0_1 t _)]
  refine congrArg (m ((c.tc : Thread nD τ).loc main_arg1)) (funext fun a => Fin.ext ?_)
  match a with
  | ⟨0, _⟩ => show win0_1.index t (0 : Fin 2) * 2048 + 1 * r.val = (i 0).val; rw [e0, h0]; omega
  | ⟨1, _⟩ => show win0_1.index t (1 : Fin 2) * 256 + 1 * d.val = (i 1).val; rw [e1, h1]; omega

/-- A sequence's values. -/
theorem vx_apply (c : Dev nD) (t : Fin cfg0.N) (r : Fin 2048) (d : Fin 128) (i : S9216x512.Idx)
    (h0 : (i 0).val = (t.val / 36) * 2048 + r.val) (h1 : (i 1).val = t.val / 9 % 4 * 128 + d.val) :
    X0_2 m c t (ix2 r d) = m ((c.tc : Thread nD τ).loc main_arg2) i := by
  obtain ⟨e0, e1⟩ := (index t).2.2.1
  unfold X0_2 Pipeline.Window.fill
  rw [dif_pos (moved0_2 t _)]
  refine congrArg (m ((c.tc : Thread nD τ).loc main_arg2)) (funext fun a => Fin.ext ?_)
  match a with
  | ⟨0, _⟩ => show win0_2.index t (0 : Fin 2) * 2048 + 1 * r.val = (i 0).val; rw [e0, h0]; omega
  | ⟨1, _⟩ => show win0_2.index t (1 : Fin 2) * 128 + 1 * d.val = (i 1).val; rw [e1, h1]; omega

/-- A context's keys. -/
theorem kh_apply (c : Dev nD) (t : Fin cfg0.N) (r : Fin 256) (d : Fin 256) (i : S9216x1024.Idx)
    (h0 : (i 0).val = (32 + t.val / 36) * 256 + r.val) (h1 : (i 1).val = t.val / 9 % 4 * 256 + d.val) :
    iblk m c 3 t (ix2 r d) = m ((c.tc : Thread nD τ).loc main_arg1) i := by
  obtain ⟨e0, e1⟩ := (index t).2.2.2.1
  refine congrArg (m ((c.tc : Thread nD τ).loc main_arg1)) (funext fun a => Fin.ext ?_)
  match a with
  | ⟨0, _⟩ => show win0_3.index t (0 : Fin 2) * 256 + 1 * r.val = (i 0).val; rw [e0, h0]; omega
  | ⟨1, _⟩ => show win0_3.index t (1 : Fin 2) * 256 + 1 * d.val = (i 1).val; rw [e1, h1]; omega

/-- A context's values. -/
theorem vh_apply (c : Dev nD) (t : Fin cfg0.N) (r : Fin 256) (d : Fin 128) (i : S9216x512.Idx)
    (h0 : (i 0).val = (32 + t.val / 36) * 256 + r.val) (h1 : (i 1).val = t.val / 9 % 4 * 128 + d.val) :
    iblk m c 4 t (ix2 r d) = m ((c.tc : Thread nD τ).loc main_arg2) i := by
  obtain ⟨e0, e1⟩ := (index t).2.2.2.2.1
  refine congrArg (m ((c.tc : Thread nD τ).loc main_arg2)) (funext fun a => Fin.ext ?_)
  match a with
  | ⟨0, _⟩ => show win0_4.index t (0 : Fin 2) * 256 + 1 * r.val = (i 0).val; rw [e0, h0]; omega
  | ⟨1, _⟩ => show win0_4.index t (1 : Fin 2) * 128 + 1 * d.val = (i 1).val; rw [e1, h1]; omega

variable (c : Dev nD) {Q K : Fin 9216 → Fin 1024 → ℝ} {V : Fin 9216 → Fin 512 → EReal}
  (hQ : ∀ r k, m ((c.tc : Thread nD τ).loc main_arg0) (ix2 r k) = ((Q r k : ℝ) : EReal))
  (hK : ∀ r k, m ((c.tc : Thread nD τ).loc main_arg1) (ix2 r k) = ((K r k : ℝ) : EReal))
  (hV : ∀ r k, m ((c.tc : Thread nD τ).loc main_arg2) (ix2 r k) = V r k)

include hQ in
theorem q_seq (b h : Fin 4) (k : Fin 8) (r : Fin 256) (d : Fin 256) :
    iblk m c 0 (tile b h k.castSucc) (ix2 r d) = ((seq 256 le1 Q b h (pos k r) d : ℝ) : EReal) :=
  (q_apply m c _ r d (ix2 (row b (pos k r)) (col 256 1024 le1 h d))
    (by rw [qrow_seq]; simp only [ix2, row, rowC, pos, Matrix.cons_val_zero]; try omega)
    (by rw [tile_head]; rfl)).trans (hQ _ _)

include hQ in
theorem q_ctx (b h : Fin 4) (r : Fin 256) (d : Fin 256) :
    iblk m c 0 (tile b h 8) (ix2 r d) = ((ctx 256 le1 Q b h r d : ℝ) : EReal) :=
  (q_apply m c _ r d (ix2 (rowC b r) (col 256 1024 le1 h d))
    (by rw [qrow_ctx]; simp only [ix2, row, rowC, pos, Matrix.cons_val_zero]; try omega)
    (by rw [tile_head]; rfl)).trans (hQ _ _)

include hK in
theorem kx_all (b h : Fin 4) (k : Fin 9) (r : Fin 2048) (d : Fin 256) :
    X0_1 m c (tile b h k) (ix2 r d) = ((seq 256 le1 K b h r d : ℝ) : EReal) :=
  (kx_apply m c _ r d (ix2 (row b r) (col 256 1024 le1 h d))
    (by rw [tile_seq]; simp only [ix2, row, rowC, pos, Matrix.cons_val_zero]; try omega)
    (by rw [tile_head]; rfl)).trans (hK _ _)

include hV in
theorem vx_all (b h : Fin 4) (k : Fin 9) (r : Fin 2048) (d : Fin 128) :
    X0_2 m c (tile b h k) (ix2 r d) = seq 128 le2 V b h r d :=
  (vx_apply m c _ r d (ix2 (row b r) (col 128 512 le2 h d))
    (by rw [tile_seq]; simp only [ix2, row, rowC, pos, Matrix.cons_val_zero]; try omega)
    (by rw [tile_head]; rfl)).trans (hV _ _)

include hK in
theorem kh_all (b h : Fin 4) (k : Fin 9) (r : Fin 256) (d : Fin 256) :
    iblk m c 3 (tile b h k) (ix2 r d) = ((ctx 256 le1 K b h r d : ℝ) : EReal) :=
  (kh_apply m c _ r d (ix2 (rowC b r) (col 256 1024 le1 h d))
    (by rw [tile_seq]; simp only [ix2, row, rowC, pos, Matrix.cons_val_zero]; try omega)
    (by rw [tile_head]; rfl)).trans (hK _ _)

include hV in
theorem vh_all (b h : Fin 4) (k : Fin 9) (r : Fin 256) (d : Fin 128) :
    iblk m c 4 (tile b h k) (ix2 r d) = ctx 128 le2 V b h r d :=
  (vh_apply m c _ r d (ix2 (rowC b r) (col 128 512 le2 h d))
    (by rw [tile_seq]; simp only [ix2, row, rowC, pos, Matrix.cons_val_zero]; try omega)
    (by rw [tile_head]; rfl)).trans (hV _ _)

/-! ## The result after the run -/

/-- An element of the result lies in its tile's block. -/
theorem place (t : Fin cfg0.N) (r : Fin 256) (d : Fin 128) (R : Fin 9216) (C : Fin 512) (h0 : R.val = qrow t * 256 + r.val)
    (h1 : C.val = t.val / 9 % 4 * 128 + d.val) : ((cfg0.win 5).blk t).view.emb (ix2 r d) = ix2 R C := by
  obtain ⟨e0, e1⟩ := (index t).2.2.2.2.2
  refine Cert.Product.ix2_of ?_ ?_
  · show win0_5.index t (0 : Fin 2) * 256 + 1 * r.val = R.val; rw [e0, h0]; omega
  · show win0_5.index t (1 : Fin 2) * 128 + 1 * d.val = C.val; rw [e1, h1]; omega

include hQ hK hV

theorem result_seq (b h : Fin 4) (k : Fin 8) (r : Fin 256) (e : Fin 128) :
    (dats m 0 c).arrAt 5 cfg0.N (ix2 (row b (pos k r)) (col 128 512 le2 h e))
      = average (seq 256 le1 Q b h (pos k r)) (both 256 le1 K b h) (both 128 le2 V b h) e := by
  have hm := tile_mod b h k.castSucc
  have hk : k.castSucc.val = k.val := rfl
  have hlt := k.isLt
  have E := congrFun (Value.blocks5 m c (tile b h k.castSucc) (flush0_5 _)) (ix2 r e)
  rw [Value.flushed5_A m c _ (by omega) (by omega), block_A] at E
  refine (congrArg ((dats m 0 c).arrAt 5 cfg0.N) (place _ r e _ _ ?_ ?_).symm).trans (E.trans
    (Cert.Attention.sequence_apply (q_seq m c hQ b h k) (kx_all m c hK b h _) (vx_all m c hV b h _) (kh_all m c hK b h _) (vh_all m c hV b h _) r e))
  · rw [qrow_seq]; simp only [row, pos]; omega
  · rw [tile_head]; rfl

theorem result_ctx (b h : Fin 4) (r : Fin 256) (e : Fin 128) :
    (dats m 0 c).arrAt 5 cfg0.N (ix2 (rowC b r) (col 128 512 le2 h e))
      = average (ctx 256 le1 Q b h r) (ctx 256 le1 K b h) (ctx 128 le2 V b h) e := by
  have hm := tile_mod b h 8
  have hk : (8 : Fin 9).val = 8 := rfl
  have E := congrFun (Value.blocks5 m c (tile b h 8) (flush0_5 _)) (ix2 r e)
  rw [Value.flushed5_B m c _ (by omega) (by omega), block_B] at E
  refine (congrArg ((dats m 0 c).arrAt 5 cfg0.N) (place _ r e _ _ ?_ ?_).symm).trans (E.trans
    (Cert.Attention.context_apply (q_ctx m c hQ b h) (kh_all m c hK b h _) (vh_all m c hV b h _) r e))
  · rw [qrow_ctx]; simp only [rowC]; omega
  · rw [tile_head]; rfl

omit hQ hK hV

/-- Every position of a sequence is a row of a tile. -/
theorem pos_surj (i : Fin 2048) : ∃ k r, i = pos k r :=
  ⟨⟨i.val / 256, by omega⟩, ⟨i.val % 256, by omega⟩, Fin.ext (by simp only [pos]; omega)⟩

/-- Finite queries and keys are real. -/
theorem real_args (h : Pre_Kernel19Ideal_finite_inputs m) (c : Dev nD) :
    (∃ Q : Fin 9216 → Fin 1024 → ℝ, ∀ r k, m ((c.tc : Thread nD τ).loc main_arg0) (ix2 r k) = ((Q r k : ℝ) : EReal))
    ∧ (∃ K : Fin 9216 → Fin 1024 → ℝ, ∀ r k, m ((c.tc : Thread nD τ).loc main_arg1) (ix2 r k) = ((K r k : ℝ) : EReal)) :=
  ⟨Cert.Attention.real_matrix fun i => Cert.Attention.real_of_lt Cert.Attention.ofBits_top (congrFun (h c).1 i),
    Cert.Attention.real_matrix fun i => Cert.Attention.real_of_lt Cert.Attention.ofBits_top (congrFun (h c).2 i)⟩

/-- The kernel's result is plain attention's, where queries and keys are finite. -/
theorem algebraic : algebraic_Kernel19Ideal_Reference19Ideal_pre_finite_inputs := by
  intro m g m' g' hp hm
  refine ⟨fun c => (dats m 0 c).arrAt 5 cfg0.N, Value.run_blocks m g,
    (θ_run _ _ _).mono (fun r h c => ⟨(h c).1.trans ?_, (h c).2⟩) (Cert.Reference19Ideal.Value.run m' g')⟩
  obtain ⟨a0, a1, a2⟩ := hm c
  obtain ⟨⟨Q, hQ⟩, ⟨K, hK⟩⟩ := real_args m hp c
  have hV : ∀ r k, m ((c.tc : Thread nD τ).loc main_arg2) (ix2 r k) = (fun r k => m ((c.tc : Thread nD τ).loc main_arg2) (ix2 r k) : Fin 9216 → Fin 512 → EReal) r k :=
    fun _ _ => rfl
  rw [Cert.Reference19Ideal.Read.val_main_v48_eq, a0, a1, a2]
  funext i
  obtain ⟨p, q, rfl⟩ : ∃ (p : Fin 9216) (q : Fin 512), i = ix2 p q := ⟨i 0, i 1, eq_ix2 i⟩
  obtain ⟨h, e, rfl⟩ := Cert.Attention.col_surj le2 rfl q
  obtain ⟨b, j, rfl⟩ | ⟨b, j, rfl⟩ := Cert.Attention.row_cases p
  · obtain ⟨k, s, rfl⟩ := pos_surj j
    exact (Cert.Attention.Forward.result_seq hQ hK hV b h (pos k s) e).trans (result_seq m c hQ hK hV b h k s e).symm
  · exact (Cert.Attention.Forward.result_ctx hQ hK hV b h j e).trans (result_ctx m c hQ hK hV b h j e).symm

end Cert.MlaFwd
-- ==== Proof.Product.AdaBwd.lean ====
/- The gradient of the modulation's linear map: of its weights, `silu(c)ᵀ · d`, of its bias, the column sums of `d`, and of the
   activated conditioning, `d · wᵀ` summed over the layers. The kernel goes over the layers and three tiles of columns each,
   and adds up the last of these over all twelve. -/
module

public import proofs.«01_k».proof.Defs
public import proofs.«01_k».proof.Proof.Product.Gated
public import proofs.«01_k».proof.Proof.Gen.Kernel20
public import proofs.«01_k».proof.Proof.Gen.Kernel20Ideal.Value
public import proofs.«01_k».proof.Proof.Gen.Reference20Ideal.Read
public import proofs.«01_k».proof.Proof.Gen.Reference20Ideal.Run
public import Idealize.ShloMosaic.Lib.TwoAxisContraction

@[expose] public section

set_option maxRecDepth 16384

noncomputable section

namespace Cert.AdaBwd

open Cert.Kernel20Ideal Cert.Kernel20Ideal.Gen Cert.Product
open Idealize.ShloMosaic Idealize.ShloMosaic.TcCoe Idealize.SL.Sem

/-! ## The frames -/

/-- The kernel as printed and its idealization have the same definitions. -/
theorem defs_eq : Cert.Kernel20.defs (F := Bits) = Cert.Kernel20Ideal.defs (F := Bits) := by
  refine congrArg (Pipeline.defs Cert.Kernel20Ideal.pcfgs) ?_
  unfold Cert.Kernel20.defs₀ Cert.Kernel20Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel20 := fun m g _ => by
  rw [defs_eq]
  exact frame (F := Bits) m g

theorem frame_ideal : quiescent_Kernel20Ideal := fun m g _ => frame (F := Ideal) m g

theorem frame_reference : quiescent_Reference20Ideal := fun m g _ =>
  (θ_run Cert.Reference20Ideal.defs _ _).mono (fun r h => ⟨fun c => (h c).2.2.2, sem_eq_zero_of_no_sems (by decide) r.2⟩)
    (Cert.Reference20Ideal.Value.run (F := Ideal) m g)

/-! ## The value -/

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block of each window at a grid point. -/
theorem index : ∀ t : Fin cfg0.N,
    win0_0.index t = ![0, 0] ∧ win0_1.index t = ![t.val / 3, 0, t.val % 3] ∧ win0_2.index t = ![t.val / 3, 0, t.val % 3]
    ∧ win0_3.index t = ![t.val / 3, 0, t.val % 3] ∧ win0_4.index t = ![t.val / 3, 0, t.val % 3] ∧ win0_5.index t = ![0, 0] :=
  (by decide +kernel : ∀ t : Fin grid0.N, _)

/-- The layer of a grid point, -/
def layer (t : Fin cfg0.N) : Fin 4 := ⟨t.val / 3, by have : t.val < 12 := t.isLt; omega⟩
/-- and a column of its tile. -/
def col (t : Fin cfg0.N) (r : Fin 512) : Fin 1536 := ⟨t.val % 3 * 512 + r.val, by have := r.isLt; omega⟩

/-- The grid point of a column of a layer, -/
def point (l : Fin 4) (q : Fin 1536) : Fin cfg0.N := ⟨l.val * 3 + q.val / 512, by have := l.isLt; have := q.isLt; show _ < 12; omega⟩
/-- and the column's place in its tile. -/
def place (q : Fin 1536) : Fin 512 := ⟨q.val % 512, by omega⟩

theorem layer_point (l : Fin 4) (q : Fin 1536) : layer (point l q) = l := Fin.ext (by
  show (l.val * 3 + q.val / 512) / 3 = l.val
  have := q.isLt; omega)

theorem col_point (l : Fin 4) (q : Fin 1536) : col (point l q) (place q) = q := Fin.ext (by
  show (l.val * 3 + q.val / 512) % 3 * 512 + q.val % 512 = q.val
  have := q.isLt; omega)

/-- The conditioning, whole, -/
theorem c_apply (c : Dev nD) (t : Fin cfg0.N) (s : Fin 48) (d : Fin 1024) :
    iblk m c 0 t (ix2 s d) = m ((c.tc : Thread nD τ).loc main_arg0) (ix2 s d) := by
  have e0 : win0_0.index t (0 : Fin 2) = 0 := congrFun (index t).1 0
  have e1 : win0_0.index t (1 : Fin 2) = 0 := congrFun (index t).1 1
  refine congrArg (m ((c.tc : Thread nD τ).loc main_arg0)) (ix2_of ?_ ?_)
  · show win0_0.index t (0 : Fin 2) * 48 + 1 * s.val = s.val; rw [e0]; omega
  · show win0_0.index t (1 : Fin 2) * 1024 + 1 * d.val = d.val; rw [e1]; omega

/-- a tile of a layer's weights, -/
theorem w_apply (c : Dev nD) (t : Fin cfg0.N) (d : Fin 1024) (r : Fin 512) :
    iblk m c 1 t (ix3 0 d r) = m ((c.tc : Thread nD τ).loc main_arg1) (ix3 (layer t) d (col t r)) := by
  have e0 : win0_1.index t (0 : Fin 3) = t.val / 3 := congrFun (index t).2.1 0
  have e1 : win0_1.index t (1 : Fin 3) = 0 := congrFun (index t).2.1 1
  have e2 : win0_1.index t (2 : Fin 3) = t.val % 3 := congrFun (index t).2.1 2
  refine congrArg (m ((c.tc : Thread nD τ).loc main_arg1)) (ix3_of ?_ ?_ ?_)
  · show win0_1.index t (0 : Fin 3) * 1 + 1 * 0 = t.val / 3; rw [e0]; omega
  · show win0_1.index t (1 : Fin 3) * 1024 + 1 * d.val = d.val; rw [e1]; omega
  · show win0_1.index t (2 : Fin 3) * 512 + 1 * r.val = t.val % 3 * 512 + r.val; rw [e2]; omega

/-- and one of the gradient of the layer's modulation. -/
theorem d_apply (c : Dev nD) (t : Fin cfg0.N) (s : Fin 48) (r : Fin 512) :
    iblk m c 2 t (ix3 0 s r) = m ((c.tc : Thread nD τ).loc main_arg2) (ix3 (layer t) s (col t r)) := by
  have e0 : win0_2.index t (0 : Fin 3) = t.val / 3 := congrFun (index t).2.2.1 0
  have e1 : win0_2.index t (1 : Fin 3) = 0 := congrFun (index t).2.2.1 1
  have e2 : win0_2.index t (2 : Fin 3) = t.val % 3 := congrFun (index t).2.2.1 2
  refine congrArg (m ((c.tc : Thread nD τ).loc main_arg2)) (ix3_of ?_ ?_ ?_)
  · show win0_2.index t (0 : Fin 3) * 1 + 1 * 0 = t.val / 3; rw [e0]; omega
  · show win0_2.index t (1 : Fin 3) * 48 + 1 * s.val = s.val; rw [e1]; omega
  · show win0_2.index t (2 : Fin 3) * 512 + 1 * r.val = t.val % 3 * 512 + r.val; rw [e2]; omega

/-! ## What the body stores -/

/-- `x · σ(x)` -/
def silu (x : EReal) : EReal := x * Ideal.logistic x

theorem pay_weights (x0 : Vec Ideal S48x1024 .f32) (x2 : Vec Ideal S1x48x512 .f32) (d : Fin 1024) (r : Fin 512) :
    k0_pay4 (F := Ideal) x0 x2 (ix3 0 d r) = ∑ s : Fin 48, silu (x0 (ix2 s d)) * x2 (ix3 0 s r) := by
  pointwise [k0_pay4, k0_pay2, silu]

theorem pay_bias (x2 : Vec Ideal S1x48x512 .f32) (r : Fin 512) :
    k0_pay5 (F := Ideal) x2 (ix3 0 0 r) = ∑ s : Fin 48, x2 (ix3 0 s r) := by
  pointwise [k0_pay5]

theorem pay_first (x1 : Vec Ideal S1x1024x512 .f32) (x2 : Vec Ideal S1x48x512 .f32) (s : Fin 48) (d : Fin 1024) :
    k0_pay1 (F := Ideal) (k0_pay3 x1 x2) (k0_pay7 (k0_pay6 (F := Ideal))) (ix2 s d) = ∑ r : Fin 512, x2 (ix3 0 s r) * x1 (ix3 0 d r) := by
  pointwise [k0_pay1, k0_pay3, k0_pay2, k0_pay7, k0_pay6]

theorem pay_next (x1 : Vec Ideal S1x1024x512 .f32) (x2 : Vec Ideal S1x48x512 .f32) (acc : Vec Ideal S48x1024 .f32) (s : Fin 48) (d : Fin 1024) :
    k0_pay1 (F := Ideal) (k0_pay3 x1 x2) (k0_pay7 acc) (ix2 s d) = acc (ix2 s d) + ∑ r : Fin 512, x2 (ix3 0 s r) * x1 (ix3 0 d r) := by
  pointwise [k0_pay1, k0_pay3, k0_pay2, k0_pay7]

/-- At the first tile: the weights' gradient, -/
theorem first_3 (c : Dev nD) (i : grid0.Coords) (arg2 : Memref sig .tc .vmem S48x1024 .f32) (harg2 : arg2.IsWhole) (arg3 : Memref sig .tc .vmem S1x1024x512 .f32) (harg3 : arg3.IsWhole) (arg4 : Memref sig .tc .vmem S1x48x512 .f32) (harg4 : arg4.IsWhole) (arg5 : Memref sig .tc .vmem S1x1024x512 .f32) (harg5 : arg5.IsWhole) (arg6 : Memref sig .tc .vmem S1x1x512 .f32) (harg6 : arg6.IsWhole) (arg7 : Memref sig .tc .vmem S48x1024 .f32) (harg7 : arg7.IsWhole)
    (hc0 : cond0_0 i) (x0 : Vec Ideal S48x1024 .f32) (x1 : Vec Ideal S1x1024x512 .f32) (x2 : Vec Ideal S1x48x512 .f32) :
    out0_A_3 c i arg2 harg2 arg3 harg3 arg4 harg4 arg5 harg5 arg6 harg6 arg7 harg7 hc0 x0 x1 x2 = k0_pay4 (F := Ideal) x0 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  simp only [View.canon_cons_unit_zero (S := S48x1024) zero2, View.canon_cons_unit_zero (S := S1x1024x512) zero3,
    View.canon_cons_unit_zero (S := S1x1x512) zero3, View.readAt_eq_ld, View.readCov_unit_zero (S := S48x1024) _ zero2,
    harg2.read_unread, harg3.read_unread, harg4.read_unread, harg7.read_unread,
    View.ld_unit_zero (S := S48x1024) zero2, View.ld_unit_zero (S := S1x1024x512) zero3, View.ld_unit_zero (S := S1x48x512) zero3]

/-- the bias' gradient, -/
theorem first_4 (c : Dev nD) (i : grid0.Coords) (arg2 : Memref sig .tc .vmem S48x1024 .f32) (harg2 : arg2.IsWhole) (arg3 : Memref sig .tc .vmem S1x1024x512 .f32) (harg3 : arg3.IsWhole) (arg4 : Memref sig .tc .vmem S1x48x512 .f32) (harg4 : arg4.IsWhole) (arg5 : Memref sig .tc .vmem S1x1024x512 .f32) (harg5 : arg5.IsWhole) (arg6 : Memref sig .tc .vmem S1x1x512 .f32) (harg6 : arg6.IsWhole) (arg7 : Memref sig .tc .vmem S48x1024 .f32) (harg7 : arg7.IsWhole)
    (hc0 : cond0_0 i) (x0 : Vec Ideal S48x1024 .f32) (x1 : Vec Ideal S1x1024x512 .f32) (x2 : Vec Ideal S1x48x512 .f32) :
    out0_A_4 c i arg2 harg2 arg3 harg3 arg4 harg4 arg5 harg5 arg6 harg6 arg7 harg7 hc0 x0 x1 x2 = k0_pay5 (F := Ideal) x2 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  simp only [View.canon_cons_unit_zero (S := S48x1024) zero2, View.canon_cons_unit_zero (S := S1x1024x512) zero3,
    View.canon_cons_unit_zero (S := S1x1x512) zero3, View.readAt_eq_ld, View.readCov_unit_zero (S := S48x1024) _ zero2,
    harg2.read_unread, harg3.read_unread, harg4.read_unread, harg7.read_unread,
    View.ld_unit_zero (S := S48x1024) zero2, View.ld_unit_zero (S := S1x1024x512) zero3, View.ld_unit_zero (S := S1x48x512) zero3]

/-- and the first term of the conditioning's. -/
theorem first_5 (c : Dev nD) (i : grid0.Coords) (arg2 : Memref sig .tc .vmem S48x1024 .f32) (harg2 : arg2.IsWhole) (arg3 : Memref sig .tc .vmem S1x1024x512 .f32) (harg3 : arg3.IsWhole) (arg4 : Memref sig .tc .vmem S1x48x512 .f32) (harg4 : arg4.IsWhole) (arg5 : Memref sig .tc .vmem S1x1024x512 .f32) (harg5 : arg5.IsWhole) (arg6 : Memref sig .tc .vmem S1x1x512 .f32) (harg6 : arg6.IsWhole) (arg7 : Memref sig .tc .vmem S48x1024 .f32) (harg7 : arg7.IsWhole)
    (hc0 : cond0_0 i) (x0 : Vec Ideal S48x1024 .f32) (x1 : Vec Ideal S1x1024x512 .f32) (x2 : Vec Ideal S1x48x512 .f32) :
    out0_A_5 c i arg2 harg2 arg3 harg3 arg4 harg4 arg5 harg5 arg6 harg6 arg7 harg7 hc0 x0 x1 x2 = k0_pay1 (F := Ideal) (k0_pay3 x1 x2) (k0_pay7 (k0_pay6 (F := Ideal))) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  simp only [View.canon_cons_unit_zero (S := S48x1024) zero2, View.canon_cons_unit_zero (S := S1x1024x512) zero3,
    View.canon_cons_unit_zero (S := S1x1x512) zero3, View.readAt_eq_ld, View.readCov_unit_zero (S := S48x1024) _ zero2,
    harg2.read_unread, harg3.read_unread, harg4.read_unread, harg7.read_unread,
    View.ld_unit_zero (S := S48x1024) zero2, View.ld_unit_zero (S := S1x1024x512) zero3, View.ld_unit_zero (S := S1x48x512) zero3]

/-- At a later tile: the weights' gradient, -/
theorem next_3 (c : Dev nD) (i : grid0.Coords) (arg2 : Memref sig .tc .vmem S48x1024 .f32) (harg2 : arg2.IsWhole) (arg3 : Memref sig .tc .vmem S1x1024x512 .f32) (harg3 : arg3.IsWhole) (arg4 : Memref sig .tc .vmem S1x48x512 .f32) (harg4 : arg4.IsWhole) (arg5 : Memref sig .tc .vmem S1x1024x512 .f32) (harg5 : arg5.IsWhole) (arg6 : Memref sig .tc .vmem S1x1x512 .f32) (harg6 : arg6.IsWhole) (arg7 : Memref sig .tc .vmem S48x1024 .f32) (harg7 : arg7.IsWhole)
    (hc0 : ¬cond0_0 i) (x0 : Vec Ideal S48x1024 .f32) (x1 : Vec Ideal S1x1024x512 .f32) (x2 : Vec Ideal S1x48x512 .f32) (acc : Vec Ideal S48x1024 .f32) :
    out0_B_3 c i arg2 harg2 arg3 harg3 arg4 harg4 arg5 harg5 arg6 harg6 arg7 harg7 hc0 x0 x1 x2 acc = k0_pay4 (F := Ideal) x0 x2 := by
  unfold out0_B_3
  rw [View.read_writes_eq_canon _ _ _ (cover0_B_3 c i arg2 harg2 arg3 harg3 arg4 harg4 arg5 harg5 arg6 harg6 arg7 harg7 hc0 x0 x1 x2 acc)]
  unfold kernelRun0_B
  dsimp only
  sl_unfold_words
  simp only [View.canon_cons_unit_zero (S := S48x1024) zero2, View.canon_cons_unit_zero (S := S1x1024x512) zero3,
    View.canon_cons_unit_zero (S := S1x1x512) zero3, View.readAt_eq_ld, View.readCov_unit_zero (S := S48x1024) _ zero2,
    harg2.read_unread, harg3.read_unread, harg4.read_unread, harg7.read_unread,
    View.ld_unit_zero (S := S48x1024) zero2, View.ld_unit_zero (S := S1x1024x512) zero3, View.ld_unit_zero (S := S1x48x512) zero3]

/-- the bias' gradient, -/
theorem next_4 (c : Dev nD) (i : grid0.Coords) (arg2 : Memref sig .tc .vmem S48x1024 .f32) (harg2 : arg2.IsWhole) (arg3 : Memref sig .tc .vmem S1x1024x512 .f32) (harg3 : arg3.IsWhole) (arg4 : Memref sig .tc .vmem S1x48x512 .f32) (harg4 : arg4.IsWhole) (arg5 : Memref sig .tc .vmem S1x1024x512 .f32) (harg5 : arg5.IsWhole) (arg6 : Memref sig .tc .vmem S1x1x512 .f32) (harg6 : arg6.IsWhole) (arg7 : Memref sig .tc .vmem S48x1024 .f32) (harg7 : arg7.IsWhole)
    (hc0 : ¬cond0_0 i) (x0 : Vec Ideal S48x1024 .f32) (x1 : Vec Ideal S1x1024x512 .f32) (x2 : Vec Ideal S1x48x512 .f32) (acc : Vec Ideal S48x1024 .f32) :
    out0_B_4 c i arg2 harg2 arg3 harg3 arg4 harg4 arg5 harg5 arg6 harg6 arg7 harg7 hc0 x0 x1 x2 acc = k0_pay5 (F := Ideal) x2 := by
  unfold out0_B_4
  rw [View.read_writes_eq_canon _ _ _ (cover0_B_4 c i arg2 harg2 arg3 harg3 arg4 harg4 arg5 harg5 arg6 harg6 arg7 harg7 hc0 x0 x1 x2 acc)]
  unfold kernelRun0_B
  dsimp only
  sl_unfold_words
  simp only [View.canon_cons_unit_zero (S := S48x1024) zero2, View.canon_cons_unit_zero (S := S1x1024x512) zero3,
    View.canon_cons_unit_zero (S := S1x1x512) zero3, View.readAt_eq_ld, View.readCov_unit_zero (S := S48x1024) _ zero2,
    harg2.read_unread, harg3.read_unread, harg4.read_unread, harg7.read_unread,
    View.ld_unit_zero (S := S48x1024) zero2, View.ld_unit_zero (S := S1x1024x512) zero3, View.ld_unit_zero (S := S1x48x512) zero3]

/-- and a further term of the conditioning's. -/
theorem next_5 (c : Dev nD) (i : grid0.Coords) (arg2 : Memref sig .tc .vmem S48x1024 .f32) (harg2 : arg2.IsWhole) (arg3 : Memref sig .tc .vmem S1x1024x512 .f32) (harg3 : arg3.IsWhole) (arg4 : Memref sig .tc .vmem S1x48x512 .f32) (harg4 : arg4.IsWhole) (arg5 : Memref sig .tc .vmem S1x1024x512 .f32) (harg5 : arg5.IsWhole) (arg6 : Memref sig .tc .vmem S1x1x512 .f32) (harg6 : arg6.IsWhole) (arg7 : Memref sig .tc .vmem S48x1024 .f32) (harg7 : arg7.IsWhole)
    (hc0 : ¬cond0_0 i) (x0 : Vec Ideal S48x1024 .f32) (x1 : Vec Ideal S1x1024x512 .f32) (x2 : Vec Ideal S1x48x512 .f32) (acc : Vec Ideal S48x1024 .f32) :
    out0_B_5 c i arg2 harg2 arg3 harg3 arg4 harg4 arg5 harg5 arg6 harg6 arg7 harg7 hc0 x0 x1 x2 acc = k0_pay1 (F := Ideal) (k0_pay3 x1 x2) (k0_pay7 acc) := by
  unfold out0_B_5
  rw [View.read_writes_eq_canon _ _ _ (cover0_B_5 c i arg2 harg2 arg3 harg3 arg4 harg4 arg5 harg5 arg6 harg6 arg7 harg7 hc0 x0 x1 x2 acc)]
  unfold kernelRun0_B
  dsimp only
  sl_unfold_words
  simp only [View.canon_cons_unit_zero (S := S48x1024) zero2, View.canon_cons_unit_zero (S := S1x1024x512) zero3,
    View.canon_cons_unit_zero (S := S1x1x512) zero3, View.readAt_eq_ld, View.readCov_unit_zero (S := S48x1024) _ zero2,
    harg2.read_unread, harg3.read_unread, harg4.read_unread, harg7.read_unread,
    View.ld_unit_zero (S := S48x1024) zero2, View.ld_unit_zero (S := S1x1024x512) zero3, View.ld_unit_zero (S := S1x48x512) zero3]

/-! ## The gradients of the weights and the bias -/

/-- The weights' gradient, -/
def weights (C : (⟨2, ![48, 1024]⟩ : Shape).Idx → EReal) (G : (⟨3, ![4, 48, 1536]⟩ : Shape).Idx → EReal) (l : Fin 4) (d : Fin 1024) (q : Fin 1536) : EReal :=
  ∑ s : Fin 48, silu (C (ix2 s d)) * G (ix3 l s q)
/-- the bias', -/
def bias (G : (⟨3, ![4, 48, 1536]⟩ : Shape).Idx → EReal) (l : Fin 4) (q : Fin 1536) : EReal := ∑ s : Fin 48, G (ix3 l s q)
/-- and that of the activated conditioning. -/
def cond (W : (⟨3, ![4, 1024, 1536]⟩ : Shape).Idx → EReal) (G : (⟨3, ![4, 48, 1536]⟩ : Shape).Idx → EReal) (s : Fin 48) (d : Fin 1024) : EReal :=
  ∑ l : Fin 4, ∑ q : Fin 1536, G (ix3 l s q) * W (ix3 l d q)

theorem flushed_weights (c : Dev nD) (t : Fin cfg0.N) (d : Fin 1024) (r : Fin 512) :
    (dats m 0 c).flushed 3 t (ix3 0 d r)
      = weights (m ((c.tc : Thread nD τ).loc main_arg0)) (m ((c.tc : Thread nD τ).loc main_arg2)) (layer t) d (col t r) := by
  have e : k0_pay4 (F := Ideal) (iblk m c 0 t) (iblk m c 2 t) (ix3 0 d r)
      = weights (m ((c.tc : Thread nD τ).loc main_arg0)) (m ((c.tc : Thread nD τ).loc main_arg2)) (layer t) d (col t r) :=
    (pay_weights _ _ d r).trans (Finset.sum_congr rfl fun s _ => mul_congr (congrArg silu (c_apply m c t s d)) (d_apply m c t s r))
  by_cases h0 : t.val % 12 = 0
  · rw [Value.flushed3_A m c t h0]
    exact (congrFun (first_3 c _ _ _ _ _ _ _ _ _ _ _ _ _ _ _ _ _) (ix3 0 d r)).trans e
  · rw [Value.flushed3_B m c t h0]
    exact (congrFun (next_3 c _ _ _ _ _ _ _ _ _ _ _ _ _ _ _ _ _ _) (ix3 0 d r)).trans e

theorem flushed_bias (c : Dev nD) (t : Fin cfg0.N) (r : Fin 512) :
    (dats m 0 c).flushed 4 t (ix3 0 0 r) = bias (m ((c.tc : Thread nD τ).loc main_arg2)) (layer t) (col t r) := by
  have e : k0_pay5 (F := Ideal) (iblk m c 2 t) (ix3 0 0 r) = bias (m ((c.tc : Thread nD τ).loc main_arg2)) (layer t) (col t r) :=
    (pay_bias _ r).trans (Finset.sum_congr rfl fun s _ => d_apply m c t s r)
  by_cases h0 : t.val % 12 = 0
  · rw [Value.flushed4_A m c t h0]
    exact (congrFun (first_4 c _ _ _ _ _ _ _ _ _ _ _ _ _ _ _ _ _) (ix3 0 0 r)).trans e
  · rw [Value.flushed4_B m c t h0]
    exact (congrFun (next_4 c _ _ _ _ _ _ _ _ _ _ _ _ _ _ _ _ _ _) (ix3 0 0 r)).trans e

theorem result_weights (c : Dev nD) (l : Fin 4) (d : Fin 1024) (q : Fin 1536) :
    (dats m 0 c).arrAt 3 cfg0.N (ix3 l d q)
      = weights (m ((c.tc : Thread nD τ).loc main_arg0)) (m ((c.tc : Thread nD τ).loc main_arg2)) l d q := by
  have e := (congrFun (Value.blocks3 m c (point l q) (flush0_3 _)) (ix3 0 d (place q))).trans (flushed_weights m c (point l q) d (place q))
  rw [layer_point, col_point] at e
  refine Eq.trans (congrArg ((dats m 0 c).arrAt 3 cfg0.N) (ix3_of ?_ ?_ ?_).symm) e
  · show win0_3.index (point l q) (0 : Fin 3) * 1 + 1 * 0 = l.val
    rw [(index (point l q)).2.2.2.1]
    exact (by omega : ∀ k : ℕ, k * 1 + 1 * 0 = k) _ |>.trans (congrArg Fin.val (layer_point l q))
  · show win0_3.index (point l q) (1 : Fin 3) * 1024 + 1 * d.val = d.val
    rw [(index (point l q)).2.2.2.1]
    show 0 * 1024 + 1 * d.val = d.val
    omega
  · show win0_3.index (point l q) (2 : Fin 3) * 512 + 1 * (place q).val = q.val
    rw [(index (point l q)).2.2.2.1, Nat.one_mul]
    exact congrArg Fin.val (col_point l q)

theorem result_bias (c : Dev nD) (l : Fin 4) (q : Fin 1536) :
    (dats m 0 c).arrAt 4 cfg0.N (ix3 l 0 q) = bias (m ((c.tc : Thread nD τ).loc main_arg2)) l q := by
  have e := (congrFun (Value.blocks4 m c (point l q) (flush0_4 _)) (ix3 0 0 (place q))).trans (flushed_bias m c (point l q) (place q))
  rw [layer_point, col_point] at e
  refine Eq.trans (congrArg ((dats m 0 c).arrAt 4 cfg0.N) (ix3_of ?_ ?_ ?_).symm) e
  · show win0_4.index (point l q) (0 : Fin 3) * 1 + 1 * 0 = l.val
    rw [(index (point l q)).2.2.2.2.1]
    exact (by omega : ∀ k : ℕ, k * 1 + 1 * 0 = k) _ |>.trans (congrArg Fin.val (layer_point l q))
  · show win0_4.index (point l q) (1 : Fin 3) * 1 + 1 * 0 = 0
    rw [(index (point l q)).2.2.2.2.1]
    rfl
  · show win0_4.index (point l q) (2 : Fin 3) * 512 + 1 * (place q).val = q.val
    rw [(index (point l q)).2.2.2.2.1, Nat.one_mul]
    exact congrArg Fin.val (col_point l q)

/-! ## The gradient of the conditioning -/

/-- Twelve tiles of 512 columns are four layers of 1536. -/
theorem sum_layers (f : Fin 4 → Fin 1536 → EReal) (T : ℕ → EReal)
    (h : ∀ (n : ℕ) (hn : n < cfg0.N), T n = ∑ r : Fin 512, f (layer ⟨n, hn⟩) (col ⟨n, hn⟩ r)) :
    ∑ n ∈ Finset.range 12, T n = ∑ l : Fin 4, ∑ q : Fin 1536, f l q := by
  let g : Fin 6144 → EReal := fun k => f ⟨k.val / 1536, by have := k.isLt; omega⟩ ⟨k.val % 1536, by omega⟩
  have h1 : ∑ n ∈ Finset.range 12, T n = ∑ k : Fin 6144, g k := by
    refine (Finset.sum_congr rfl fun n hn => ?_).trans (sum_tiles (n := 12) (l := 512) rfl g
      (fun n r => if hk : n * 512 + r.val < 6144 then g ⟨n * 512 + r.val, hk⟩ else 0) fun n r hn hk => dif_pos hk)
    have hn' : n < 12 := Finset.mem_range.1 hn
    rw [h n hn']
    refine Finset.sum_congr rfl fun r _ => ?_
    have hr := r.isLt
    have hk : n * 512 + r.val < 6144 := by omega
    rw [dif_pos hk]
    refine congrArg₂ f (Fin.ext ?_) (Fin.ext ?_)
    · show n / 3 = (n * 512 + r.val) / 1536; omega
    · show n % 3 * 512 + r.val = (n * 512 + r.val) % 1536; omega
  rw [h1, ← sum_tiles (n := 4) (l := 1536) rfl g (fun n r => if hk : n * 1536 + r.val < 6144 then g ⟨n * 1536 + r.val, hk⟩ else 0)
    fun n r hn hk => dif_pos hk, Finset.sum_range]
  refine Finset.sum_congr rfl fun l _ => Finset.sum_congr rfl fun q _ => ?_
  have hl := l.isLt
  have hq := q.isLt
  have hk : l.val * 1536 + q.val < 6144 := by omega
  rw [dif_pos hk]
  refine congrArg₂ f (Fin.ext ?_) (Fin.ext ?_)
  · show (l.val * 1536 + q.val) / 1536 = l.val; omega
  · show (l.val * 1536 + q.val) % 1536 = q.val; omega

/-- What a tile adds to an entry. -/
def part (W : (⟨3, ![4, 1024, 1536]⟩ : Shape).Idx → EReal) (G : (⟨3, ![4, 48, 1536]⟩ : Shape).Idx → EReal) (n : ℕ) (s : Fin 48) (d : Fin 1024) : EReal :=
  if hn : n < cfg0.N then ∑ r : Fin 512, G (ix3 (layer ⟨n, hn⟩) s (col ⟨n, hn⟩ r)) * W (ix3 (layer ⟨n, hn⟩) d (col ⟨n, hn⟩ r)) else 0

/-- The same, of the arguments. -/
def tile (c : Dev nD) (n : ℕ) (s : Fin 48) (d : Fin 1024) : EReal :=
  part (m ((c.tc : Thread nD τ).loc main_arg1)) (m ((c.tc : Thread nD τ).loc main_arg2)) n s d

theorem tile_eq (c : Dev nD) (t : Fin cfg0.N) (s : Fin 48) (d : Fin 1024) (X1 : Vec Ideal S1x1024x512 .f32) (X2 : Vec Ideal S1x48x512 .f32)
    (h1 : X1 = iblk m c 1 t) (h2 : X2 = iblk m c 2 t) :
    ∑ r : Fin 512, (X2 (ix3 0 s r) : EReal) * X1 (ix3 0 d r) = tile m c t.val s d := by
  unfold tile part
  rw [dif_pos t.isLt, h1, h2]
  exact Finset.sum_congr rfl fun r _ => mul_congr (d_apply m c t s r) (w_apply m c t d r)

/-- The accumulator after the first tile, -/
theorem acc_first (c : Dev nD) (t : Fin cfg0.N) (h0 : t.val % 12 = 0) :
    (outsAt0 m c t.val t.isLt).2.2 = k0_pay1 (F := Ideal) (k0_pay3 (iblk m c 1 t) (iblk m c 2 t)) (k0_pay7 (k0_pay6 (F := Ideal))) := by
  rw [outsAt0_A m c t h0]
  dsimp only
  exact first_5 c _ _ _ _ _ _ _ _ _ _ _ _ _ _ _ _ _

/-- and after each further one. -/
theorem acc_next (c : Dev nD) (n : ℕ) (hn : n + 1 < cfg0.N) :
    (outsAt0 m c (n + 1) hn).2.2 = k0_pay1 (F := Ideal) (k0_pay3 (iblk m c 1 ⟨n + 1, hn⟩) (iblk m c 2 ⟨n + 1, hn⟩))
      (k0_pay7 (outsAt0 m c n (Nat.lt_of_succ_lt hn)).2.2) := by
  have hN : n + 1 < 12 := hn
  have hm : ¬(n + 1) % 12 = 0 := by omega
  have e := outsAt0_B m c ⟨n + 1, hn⟩ hm
  dsimp only at e
  rw [e]
  dsimp only
  exact next_5 c _ _ _ _ _ _ _ _ _ _ _ _ _ _ _ _ _ _

/-- After tile `n` the accumulator holds the sum of the tiles so far. -/
theorem sum_apply (c : Dev nD) (s : Fin 48) (d : Fin 1024) (n : ℕ) : ∀ hn : n < cfg0.N,
    (outsAt0 m c n hn).2.2 (ix2 s d) = ∑ k ∈ Finset.range (n + 1), tile m c k s d := by
  induction n with
  | zero =>
    intro hn
    rw [Finset.sum_range_one, acc_first m c ⟨0, hn⟩ rfl, pay_first]
    exact tile_eq m c ⟨0, hn⟩ s d _ _ rfl rfl
  | succ n ih =>
    intro hn
    rw [Finset.sum_range_succ, ← ih (Nat.lt_of_succ_lt hn), acc_next, pay_next]
    exact congrArg₂ (· + ·) rfl (tile_eq m c ⟨n + 1, hn⟩ s d _ _ rfl rfl)

/-- The gradient as an array. -/
def grad (c : Dev nD) : (⟨2, ![48, 1024]⟩ : Shape).Idx → EReal := fun i =>
  cond (m ((c.tc : Thread nD τ).loc main_arg1)) (m ((c.tc : Thread nD τ).loc main_arg2)) (i 0) (i 1)

theorem grad_apply (c : Dev nD) (s : Fin 48) (d : Fin 1024) :
    grad m c (ix2 s d) = cond (m ((c.tc : Thread nD τ).loc main_arg1)) (m ((c.tc : Thread nD τ).loc main_arg2)) s d := rfl

/-- After the last tile the accumulator holds the gradient. -/
theorem last_apply (c : Dev nD) (hn : 11 < cfg0.N) (s : Fin 48) (d : Fin 1024) :
    (outsAt0 m c 11 hn).2.2 (ix2 s d) = grad m c (ix2 s d) := by
  rw [sum_apply, grad_apply]
  refine sum_layers _ _ fun n hn => ?_
  unfold tile part
  rw [dif_pos hn]

/-- Every index of the result lies in the last point's block, at the same place. -/
theorem emb_block (t : Fin cfg0.N) (s : Fin 48) (d : Fin 1024) : ((cfg0.win 5).blk t).view.emb (ix2 s d) = ix2 s d := by
  have e := (index t).2.2.2.2.2
  refine ix2_of ?_ ?_
  · show win0_5.index t (0 : Fin 2) * 48 + 1 * s.val = s.val
    rw [e]; show 0 * 48 + 1 * s.val = s.val; omega
  · show win0_5.index t (1 : Fin 2) * 1024 + 1 * d.val = d.val
    rw [e]; show 0 * 1024 + 1 * d.val = d.val; omega

theorem result_cond (c : Dev nD) : (dats m 0 c).arrAt 5 cfg0.N = grad m c := by
  refine (dats m 0 c).arrAt_eq_of_cover 5 _ (fun t hf => ?_) (fun i => ?_)
  · have ht : t.val < 12 := t.isLt
    have h8 : t.val % 12 = 11 := (flush0_5 t).mp hf
    obtain ⟨n, hn⟩ := t
    obtain rfl : n = 11 := by
      dsimp only at h8 ht
      omega
    rw [Value.flushed5]
    funext y
    obtain ⟨s, d, rfl⟩ : ∃ (s : Fin 48) (d : Fin 1024), y = ix2 s d := ⟨y 0, y 1, ix2_of rfl rfl⟩
    exact (last_apply m c _ s d).trans (congrArg (grad m c) (emb_block _ s d)).symm
  · refine ⟨⟨11, by show 11 < 12; omega⟩, (flush0_5 _).mpr rfl, ?_⟩
    obtain ⟨s, d, rfl⟩ : ∃ (s : Fin 48) (d : Fin 1024), i = ix2 s d := ⟨i 0, i 1, ix2_of rfl rfl⟩
    have e := ((cfg0.win 5).blk ⟨11, by show 11 < 12; omega⟩).view.emb_mem_set (ix2 s d)
    rw [emb_block] at e
    exact e

/-! ## The reference -/

theorem reference_silu (x0 : (⟨S48x1024, .f32⟩ : BufTy).Contents (Elt Ideal)) (s : Fin 48) (d : Fin 1024) :
    Cert.Reference20Ideal.Read.val_main_v0 (F := Ideal) x0 (ix2 s d) = silu (x0 (ix2 s d)) := by
  pointwise [Cert.Reference20Ideal.Read.val_main_v0, Cert.Reference20Ideal.Read.val_main_call0_v5, Cert.Reference20Ideal.Read.val_main_call0_v4, Cert.Reference20Ideal.Read.val_main_call0_v3, Cert.Reference20Ideal.Read.val_main_call0_v2, Cert.Reference20Ideal.Read.val_main_call0_v1, Cert.Reference20Ideal.Read.val_main_call0_v0, Cert.Reference20Ideal.Read.val_main_call0_cst, Cert.Reference20Ideal.Read.val_main_call0_cst_0, silu]
  rfl

theorem reference_incoming (x2 : (⟨S4x48x1536, .f32⟩ : BufTy).Contents (Elt Ideal)) (l : Fin 4) (q : Fin 1536) (s : Fin 48) :
    Cert.Reference20Ideal.Read.val_main_v9 (F := Ideal) x2 (ix3 l q s) = x2 (ix3 l s q) := by
  pointwise [Cert.Reference20Ideal.Read.val_main_v9, Cert.Reference20Ideal.Read.val_main_v6]

theorem reference_weights (x0 : (⟨S48x1024, .f32⟩ : BufTy).Contents (Elt Ideal)) (x2 : (⟨S4x48x1536, .f32⟩ : BufTy).Contents (Elt Ideal))
    (l : Fin 4) (d : Fin 1024) (q : Fin 1536) : Cert.Reference20Ideal.Read.val_main_v12 (F := Ideal) x0 x2 (ix3 l d q) = weights x0 x2 l d q := by
  rw [Cert.Reference20Ideal.Read.val_main_v12_apply, Cert.Reference20Ideal.Read.val_main_v11_apply]
  refine Finset.sum_congr rfl fun s _ => (mul_comm _ _).trans (mul_congr ?_ ?_)
  · exact (congrArg (Cert.Reference20Ideal.Read.val_main_v0 (F := Ideal) x0) (ix2_of rfl rfl)).trans (reference_silu x0 s d)
  · exact (congrArg (Cert.Reference20Ideal.Read.val_main_v9 (F := Ideal) x2) (ix3_of rfl rfl rfl)).trans (reference_incoming x2 l q s)

theorem reference_bias (x2 : (⟨S4x48x1536, .f32⟩ : BufTy).Contents (Elt Ideal))
    (l : Fin 4) (q : Fin 1536) : Cert.Reference20Ideal.Read.val_main_v8 (F := Ideal) x2 (ix3 l 0 q) = bias x2 l q := by
  pointwise [Cert.Reference20Ideal.Read.val_main_v8, Cert.Reference20Ideal.Read.val_main_v7, Cert.Reference20Ideal.Read.val_main_cst_0, bias]

theorem reference_cond (x1 : (⟨S4x1024x1536, .f32⟩ : BufTy).Contents (Elt Ideal)) (x2 : (⟨S4x48x1536, .f32⟩ : BufTy).Contents (Elt Ideal))
    (s : Fin 48) (d : Fin 1024) : Cert.Reference20Ideal.Read.val_main_v10 (F := Ideal) x1 x2 (ix2 s d) = cond x1 x2 s d := by
  unfold Cert.Reference20Ideal.Read.val_main_v10
  simp only [Host.dotGeneral]
  rw [Ideal.dotGeneral_apply, ValueIdx.sum_contr2 _ 4 1536 rfl rfl rfl]
  refine Finset.sum_congr rfl fun l _ => Finset.sum_congr rfl fun q _ => mul_congr ?_ ?_
  · refine (congrArg (Cert.Reference20Ideal.Read.val_main_v9 (F := Ideal) x2) (ix3_of ?_ ?_ ?_)).trans (reference_incoming x2 l q s)
    · exact ValueIdx.contrEquiv2_symm_val0 Cert.Reference20Ideal.dot_S4x1536x48_S4x1024x1536_S48x1024_01_02_2_1_n_n 4 1536 rfl rfl rfl (l, q)
    · exact ValueIdx.contrEquiv2_symm_val1 Cert.Reference20Ideal.dot_S4x1536x48_S4x1024x1536_S48x1024_01_02_2_1_n_n 4 1536 rfl rfl rfl (l, q)
    · rfl
  · refine congrArg x1 (ix3_of ?_ ?_ ?_)
    · exact ValueIdx.contrEquiv2_symm_val0 Cert.Reference20Ideal.dot_S4x1536x48_S4x1024x1536_S48x1024_01_02_2_1_n_n 4 1536 rfl rfl rfl (l, q)
    · rfl
    · exact ValueIdx.contrEquiv2_symm_val1 Cert.Reference20Ideal.dot_S4x1536x48_S4x1024x1536_S48x1024_01_02_2_1_n_n 4 1536 rfl rfl rfl (l, q)

theorem algebraic : algebraic_Kernel20Ideal_Reference20Ideal := by
  intro m g m' g' _ hm
  refine ⟨fun c => (dats m 0 c).arrAt 3 cfg0.N, fun c => (dats m 0 c).arrAt 4 cfg0.N, fun c => (dats m 0 c).arrAt 5 cfg0.N, Value.run_blocks m g,
    (θ_run _ _ _).mono (fun r h c => ⟨(h c).1.trans ?_, (h c).2.1.trans ?_, (h c).2.2.1.trans ?_, (h c).2.2.2⟩) (Cert.Reference20Ideal.Value.run m' g')⟩
  all_goals obtain ⟨a0, a1, a2⟩ := hm c
  · rw [Cert.Reference20Ideal.Read.val_main_v12_eq, a0, a2]
    funext i
    obtain ⟨l, d, q, rfl⟩ : ∃ (l : Fin 4) (d : Fin 1024) (q : Fin 1536), i = ix3 l d q := ⟨i 0, i 1, i 2, ix3_of rfl rfl rfl⟩
    exact (reference_weights _ _ l d q).trans (result_weights m c l d q).symm
  · rw [Cert.Reference20Ideal.Read.val_main_v8_eq, a2]
    funext i
    obtain ⟨l, q, rfl⟩ : ∃ (l : Fin 4) (q : Fin 1536), i = ix3 l (0 : Fin 1) q := ⟨i 0, i 2, ix3_of rfl (by have : (i 1).val < 1 := (i 1).isLt; show (i 1).val = 0; omega) rfl⟩
    exact (reference_bias _ l q).trans (result_bias m c l q).symm
  · rw [Cert.Reference20Ideal.Read.val_main_v10_eq, a1, a2]
    refine Eq.trans (funext fun i => ?_) (result_cond m c).symm
    obtain ⟨s, d, rfl⟩ : ∃ (s : Fin 48) (d : Fin 1024), i = ix2 s d := ⟨i 0, i 1, ix2_of rfl rfl⟩
    exact reference_cond _ _ s d

end Cert.AdaBwd
-- ==== Proof.Update.Step.lean ====
/- One step of the update of a weight: the new averages of its gradient and of the gradient's square, and the change of the
   weight, entry by entry. -/
module

public import proofs.«01_k».proof.Proof.Product.Sums

@[expose] public section

noncomputable section

namespace Cert.Update

open Idealize.ShloMosaic Cert.Product

/-- The new average of the gradient `g`, from the old one, `m`. -/
def mean (g m : EReal) : EReal := Ideal.ofBits FTy.f32 0x3F666666#32 * m + Ideal.ofBits FTy.f32 0x3DCCCCCD#32 * g

/-- The new average of the gradient's square, from the old one, `v`. -/
def square (g v : EReal) : EReal := Ideal.ofBits FTy.f32 0x3F7FBE77#32 * v + Ideal.ofBits FTy.f32 0x3A83126F#32 * (g * g)

/-- The change of the weight `w`. -/
def delta (w g m v : EReal) : EReal :=
  Ideal.ofBits FTy.f32 0xBA83126F#32
    * (Ideal.div (Ideal.div (mean g m) (Ideal.ofBits FTy.f32 0x3F26BD02#32))
        (Ideal.sqrt (Ideal.div (square g v) (Ideal.ofBits FTy.f32 0x3C231ACC#32)) + Ideal.ofBits FTy.f32 0x322BCC77#32)
      + Ideal.ofBits FTy.f32 0x3C23D70A#32 * w)

theorem zero2 : (![0, 0] : Fin 2 → Nat) = fun _ => 0 := funext fun a => by fin_cases a <;> rfl

/-- An entry of an array lies in the block that its row's tile starts. -/
theorem entry {R b n t : ℕ} (p : Fin R) (k : Fin n) (r : Fin b) (hp : t * b + r.val = p.val) (i : (⟨2, ![R, n]⟩ : Shape).Idx)
    (e : Fin 2 → Nat) (he : e = ![t, 0]) (h0 : (i 0).val = e 0 * b + 1 * r.val) (h1 : (i 1).val = e 1 * n + 1 * k.val) :
    i = ix2 p k := by
  subst he
  refine ix2_of (h0.trans ?_) (h1.trans ?_)
  · show t * b + 1 * r.val = p.val
    omega
  · show 0 * n + 1 * k.val = k.val
    omega

end Cert.Update
-- ==== Proof.Update.FfnIn.lean ====
/- The update of the feed-forward layers' first weights: [4096, 1408], 16 tiles of 256 rows. -/
module

public import proofs.«01_k».proof.Defs
public import proofs.«01_k».proof.Proof.Update.Step
public import proofs.«01_k».proof.Proof.Gen.Kernel21
public import proofs.«01_k».proof.Proof.Gen.Kernel21Ideal.Value
public import proofs.«01_k».proof.Proof.Gen.Reference21Ideal.Read
public import proofs.«01_k».proof.Proof.Gen.Reference21Ideal.Run

@[expose] public section

set_option maxRecDepth 16384

noncomputable section

namespace Cert.Update.FfnIn

open Cert.Kernel21Ideal Cert.Kernel21Ideal.Gen Cert.Product
open Idealize.ShloMosaic Idealize.ShloMosaic.TcCoe Idealize.SL.Sem

/-! ## The frames -/

/-- The kernel as printed and its idealization have the same definitions. -/
theorem defs_eq : Cert.Kernel21.defs (F := Bits) = Cert.Kernel21Ideal.defs (F := Bits) := by
  refine congrArg (Pipeline.defs Cert.Kernel21Ideal.pcfgs) ?_
  unfold Cert.Kernel21.defs₀ Cert.Kernel21Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel21 := fun m g _ => by
  rw [defs_eq]
  exact frame (F := Bits) m g

theorem frame_ideal : quiescent_Kernel21Ideal := fun m g _ => frame (F := Ideal) m g

theorem frame_reference : quiescent_Reference21Ideal := fun m g _ =>
  (θ_run Cert.Reference21Ideal.defs _ _).mono (fun r h => ⟨fun c => (h c).2.2.2.2, sem_eq_zero_of_no_sems (by decide) r.2⟩)
    (Cert.Reference21Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 4096) : Fin cfg0.N := ⟨p.val / 256, by have := p.isLt; show _ < 16; omega⟩
/-- and the row's place in that point's block. -/
def place (p : Fin 4096) : Fin 256 := ⟨p.val % 256, by omega⟩

theorem tile (p : Fin 4096) : (point p).val * 256 + (place p).val = p.val := by
  show p.val / 256 * 256 + p.val % 256 = p.val
  omega

/-- The blocks of a grid point, entry by entry. -/
theorem w_apply (c : Dev nD) (p : Fin 4096) (q : Fin 1408) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 4096) (q : Fin 1408) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 4096) (q : Fin 1408) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 4096) (q : Fin 1408) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S256x1408 .f32) (p : Fin 256) (q : Fin 1408) :
    k0_pay1 (F := Ideal) g m (ix2 p q) = mean (g (ix2 p q)) (m (ix2 p q)) := by
  pointwise [k0_pay1, mean]

theorem pay_square (g v : Vec Ideal S256x1408 .f32) (p : Fin 256) (q : Fin 1408) :
    k0_pay2 (F := Ideal) g v (ix2 p q) = square (g (ix2 p q)) (v (ix2 p q)) := by
  pointwise [k0_pay2, square]

theorem pay_delta (w g m v : Vec Ideal S256x1408 .f32) (p : Fin 256) (q : Fin 1408) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S256x1408 .f32) (p : Fin 256) (q : Fin 1408)

theorem block_gradient : out0_4 x0 x1 x2 x3 (ix2 p q) = x1 (ix2 p q) := by
  unfold out0_4
  rw [View.canon_unit_zero zero2]
  exact congrFun (View.ld_unit_zero (S := S256x1408) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S256x1408) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S256x1408) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S256x1408) zero2]
  exact pay_square _ _ p q

end Blocks

/-- The results after the run, entry by entry. -/
theorem result_gradient (c : Dev nD) (p : Fin 4096) (q : Fin 1408) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 4096) (q : Fin 1408) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 4096) (q : Fin 1408) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 4096) (q : Fin 1408) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S4096x1408, .f32⟩ : BufTy).Contents (Elt Ideal)) (p : Fin 4096) (q : Fin 1408)

theorem reference_mean : Cert.Reference21Ideal.Read.val_main_v4 (F := Ideal) g m (ix2 p q) = mean (g (ix2 p q)) (m (ix2 p q)) := by
  pointwise [Cert.Reference21Ideal.Read.val_main_v4, Cert.Reference21Ideal.Read.val_main_v3, Cert.Reference21Ideal.Read.val_main_v2, Cert.Reference21Ideal.Read.val_main_cst_0, Cert.Reference21Ideal.Read.val_main_v1, Cert.Reference21Ideal.Read.val_main_v0, Cert.Reference21Ideal.Read.val_main_cst, mean]

theorem reference_square : Cert.Reference21Ideal.Read.val_main_v10 (F := Ideal) g v (ix2 p q) = square (g (ix2 p q)) (v (ix2 p q)) := by
  pointwise [Cert.Reference21Ideal.Read.val_main_v10, Cert.Reference21Ideal.Read.val_main_v9, Cert.Reference21Ideal.Read.val_main_v8, Cert.Reference21Ideal.Read.val_main_cst_2, Cert.Reference21Ideal.Read.val_main_v7, Cert.Reference21Ideal.Read.val_main_v6, Cert.Reference21Ideal.Read.val_main_v5, Cert.Reference21Ideal.Read.val_main_cst_1, square]

theorem reference_delta :
    Cert.Reference21Ideal.Read.val_main_v23 (F := Ideal) w g m v (ix2 p q) = delta (w (ix2 p q)) (g (ix2 p q)) (m (ix2 p q)) (v (ix2 p q)) := by
  unfold delta
  rw [← reference_mean, ← reference_square]
  pointwise [Cert.Reference21Ideal.Read.val_main_v23, Cert.Reference21Ideal.Read.val_main_v22, Cert.Reference21Ideal.Read.val_main_cst_7, Cert.Reference21Ideal.Read.val_main_v21, Cert.Reference21Ideal.Read.val_main_v20, Cert.Reference21Ideal.Read.val_main_v19, Cert.Reference21Ideal.Read.val_main_cst_6, Cert.Reference21Ideal.Read.val_main_v18, Cert.Reference21Ideal.Read.val_main_v17, Cert.Reference21Ideal.Read.val_main_v16, Cert.Reference21Ideal.Read.val_main_cst_5, Cert.Reference21Ideal.Read.val_main_v15, Cert.Reference21Ideal.Read.val_main_v14, Cert.Reference21Ideal.Read.val_main_v13, Cert.Reference21Ideal.Read.val_main_cst_4, Cert.Reference21Ideal.Read.val_main_v12, Cert.Reference21Ideal.Read.val_main_v11, Cert.Reference21Ideal.Read.val_main_cst_3]

end Reference

theorem algebraic : algebraic_Kernel21Ideal_Reference21Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference21Ideal.Value.run m' g')⟩
  all_goals
    obtain ⟨a0, a1, a2, a3⟩ := hm c
    have hi : ∀ i : S4096x1408.Idx, ∃ (p : Fin 4096) (q : Fin 1408), i = ix2 p q := fun i => ⟨i 0, i 1, eq_ix2 i⟩
  · rw [a1]
    funext i
    obtain ⟨p, q, rfl⟩ := hi i
    exact (result_gradient m c p q).symm
  · rw [Cert.Reference21Ideal.Read.val_main_v23_eq, a0, a1, a2, a3]
    funext i
    obtain ⟨p, q, rfl⟩ := hi i
    exact (reference_delta _ _ _ _ p q).trans (result_delta m c p q).symm
  · rw [Cert.Reference21Ideal.Read.val_main_v4_eq, a1, a2]
    funext i
    obtain ⟨p, q, rfl⟩ := hi i
    exact (reference_mean _ _ p q).trans (result_mean m c p q).symm
  · rw [Cert.Reference21Ideal.Read.val_main_v10_eq, a1, a3]
    funext i
    obtain ⟨p, q, rfl⟩ := hi i
    exact (reference_square _ _ p q).trans (result_square m c p q).symm

end Cert.Update.FfnIn
-- ==== Proof.Update.FfnOutWeights.lean ====
/- The update of the feed-forward layers' second weights: [2816, 1024], 8 tiles of 352 rows. -/
module

public import proofs.«01_k».proof.Defs
public import proofs.«01_k».proof.Proof.Update.Step
public import proofs.«01_k».proof.Proof.Gen.Kernel22
public import proofs.«01_k».proof.Proof.Gen.Kernel22Ideal.Value
public import proofs.«01_k».proof.Proof.Gen.Reference22Ideal.Read
public import proofs.«01_k».proof.Proof.Gen.Reference22Ideal.Run

@[expose] public section

set_option maxRecDepth 16384

noncomputable section

namespace Cert.Update.FfnOutWeights

open Cert.Kernel22Ideal Cert.Kernel22Ideal.Gen Cert.Product
open Idealize.ShloMosaic Idealize.ShloMosaic.TcCoe Idealize.SL.Sem

/-! ## The frames -/

/-- The kernel as printed and its idealization have the same definitions. -/
theorem defs_eq : Cert.Kernel22.defs (F := Bits) = Cert.Kernel22Ideal.defs (F := Bits) := by
  refine congrArg (Pipeline.defs Cert.Kernel22Ideal.pcfgs) ?_
  unfold Cert.Kernel22.defs₀ Cert.Kernel22Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel22 := fun m g _ => by
  rw [defs_eq]
  exact frame (F := Bits) m g

theorem frame_ideal : quiescent_Kernel22Ideal := fun m g _ => frame (F := Ideal) m g

theorem frame_reference : quiescent_Reference22Ideal := fun m g _ =>
  (θ_run Cert.Reference22Ideal.defs _ _).mono (fun r h => ⟨fun c => (h c).2.2.2.2, sem_eq_zero_of_no_sems (by decide) r.2⟩)
    (Cert.Reference22Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 2816) : Fin cfg0.N := ⟨p.val / 352, by have := p.isLt; show _ < 8; omega⟩
/-- and the row's place in that point's block. -/
def place (p : Fin 2816) : Fin 352 := ⟨p.val % 352, by omega⟩

theorem tile (p : Fin 2816) : (point p).val * 352 + (place p).val = p.val := by
  show p.val / 352 * 352 + p.val % 352 = p.val
  omega

/-- The blocks of a grid point, entry by entry. -/
theorem w_apply (c : Dev nD) (p : Fin 2816) (q : Fin 1024) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 2816) (q : Fin 1024) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 2816) (q : Fin 1024) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 2816) (q : Fin 1024) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S352x1024 .f32) (p : Fin 352) (q : Fin 1024) :
    k0_pay1 (F := Ideal) g m (ix2 p q) = mean (g (ix2 p q)) (m (ix2 p q)) := by
  pointwise [k0_pay1, mean]

theorem pay_square (g v : Vec Ideal S352x1024 .f32) (p : Fin 352) (q : Fin 1024) :
    k0_pay2 (F := Ideal) g v (ix2 p q) = square (g (ix2 p q)) (v (ix2 p q)) := by
  pointwise [k0_pay2, square]

theorem pay_delta (w g m v : Vec Ideal S352x1024 .f32) (p : Fin 352) (q : Fin 1024) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S352x1024 .f32) (p : Fin 352) (q : Fin 1024)

theorem block_gradient : out0_4 x0 x1 x2 x3 (ix2 p q) = x1 (ix2 p q) := by
  unfold out0_4
  rw [View.canon_unit_zero zero2]
  exact congrFun (View.ld_unit_zero (S := S352x1024) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S352x1024) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S352x1024) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S352x1024) zero2]
  exact pay_square _ _ p q

end Blocks

/-- The results after the run, entry by entry. -/
theorem result_gradient (c : Dev nD) (p : Fin 2816) (q : Fin 1024) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 2816) (q : Fin 1024) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 2816) (q : Fin 1024) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 2816) (q : Fin 1024) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S2816x1024, .f32⟩ : BufTy).Contents (Elt Ideal)) (p : Fin 2816) (q : Fin 1024)

theorem reference_mean : Cert.Reference22Ideal.Read.val_main_v4 (F := Ideal) g m (ix2 p q) = mean (g (ix2 p q)) (m (ix2 p q)) := by
  pointwise [Cert.Reference22Ideal.Read.val_main_v4, Cert.Reference22Ideal.Read.val_main_v3, Cert.Reference22Ideal.Read.val_main_v2, Cert.Reference22Ideal.Read.val_main_cst_0, Cert.Reference22Ideal.Read.val_main_v1, Cert.Reference22Ideal.Read.val_main_v0, Cert.Reference22Ideal.Read.val_main_cst, mean]

theorem reference_square : Cert.Reference22Ideal.Read.val_main_v10 (F := Ideal) g v (ix2 p q) = square (g (ix2 p q)) (v (ix2 p q)) := by
  pointwise [Cert.Reference22Ideal.Read.val_main_v10, Cert.Reference22Ideal.Read.val_main_v9, Cert.Reference22Ideal.Read.val_main_v8, Cert.Reference22Ideal.Read.val_main_cst_2, Cert.Reference22Ideal.Read.val_main_v7, Cert.Reference22Ideal.Read.val_main_v6, Cert.Reference22Ideal.Read.val_main_v5, Cert.Reference22Ideal.Read.val_main_cst_1, square]

theorem reference_delta :
    Cert.Reference22Ideal.Read.val_main_v23 (F := Ideal) w g m v (ix2 p q) = delta (w (ix2 p q)) (g (ix2 p q)) (m (ix2 p q)) (v (ix2 p q)) := by
  unfold delta
  rw [← reference_mean, ← reference_square]
  pointwise [Cert.Reference22Ideal.Read.val_main_v23, Cert.Reference22Ideal.Read.val_main_v22, Cert.Reference22Ideal.Read.val_main_cst_7, Cert.Reference22Ideal.Read.val_main_v21, Cert.Reference22Ideal.Read.val_main_v20, Cert.Reference22Ideal.Read.val_main_v19, Cert.Reference22Ideal.Read.val_main_cst_6, Cert.Reference22Ideal.Read.val_main_v18, Cert.Reference22Ideal.Read.val_main_v17, Cert.Reference22Ideal.Read.val_main_v16, Cert.Reference22Ideal.Read.val_main_cst_5, Cert.Reference22Ideal.Read.val_main_v15, Cert.Reference22Ideal.Read.val_main_v14, Cert.Reference22Ideal.Read.val_main_v13, Cert.Reference22Ideal.Read.val_main_cst_4, Cert.Reference22Ideal.Read.val_main_v12, Cert.Reference22Ideal.Read.val_main_v11, Cert.Reference22Ideal.Read.val_main_cst_3]

end Reference

theorem algebraic : algebraic_Kernel22Ideal_Reference22Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference22Ideal.Value.run m' g')⟩
  all_goals
    obtain ⟨a0, a1, a2, a3⟩ := hm c
    have hi : ∀ i : S2816x1024.Idx, ∃ (p : Fin 2816) (q : Fin 1024), i = ix2 p q := fun i => ⟨i 0, i 1, eq_ix2 i⟩
  · rw [a1]
    funext i
    obtain ⟨p, q, rfl⟩ := hi i
    exact (result_gradient m c p q).symm
  · rw [Cert.Reference22Ideal.Read.val_main_v23_eq, a0, a1, a2, a3]
    funext i
    obtain ⟨p, q, rfl⟩ := hi i
    exact (reference_delta _ _ _ _ p q).trans (result_delta m c p q).symm
  · rw [Cert.Reference22Ideal.Read.val_main_v4_eq, a1, a2]
    funext i
    obtain ⟨p, q, rfl⟩ := hi i
    exact (reference_mean _ _ p q).trans (result_mean m c p q).symm
  · rw [Cert.Reference22Ideal.Read.val_main_v10_eq, a1, a3]
    funext i
    obtain ⟨p, q, rfl⟩ := hi i
    exact (reference_square _ _ p q).trans (result_square m c p q).symm

end Cert.Update.FfnOutWeights
-- ==== Proof.Update.AbIn.lean ====
/- The update of the input projections of the first kind of mixing layer: [2048, 400], 2 tiles of 1024 rows. -/
module

public import proofs.«01_k».proof.Defs
public import proofs.«01_k».proof.Proof.Update.Step
public import proofs.«01_k».proof.Proof.Gen.Kernel23
public import proofs.«01_k».proof.Proof.Gen.Kernel23Ideal.Value
public import proofs.«01_k».proof.Proof.Gen.Reference23Ideal.Read
public import proofs.«01_k».proof.Proof.Gen.Reference23Ideal.Run

@[expose] public section

set_option maxRecDepth 16384

noncomputable section

namespace Cert.Update.AbIn

open Cert.Kernel23Ideal Cert.Kernel23Ideal.Gen Cert.Product
open Idealize.ShloMosaic Idealize.ShloMosaic.TcCoe Idealize.SL.Sem

/-! ## The frames -/

/-- The kernel as printed and its idealization have the same definitions. -/
theorem defs_eq : Cert.Kernel23.defs (F := Bits) = Cert.Kernel23Ideal.defs (F := Bits) := by
  refine congrArg (Pipeline.defs Cert.Kernel23Ideal.pcfgs) ?_
  unfold Cert.Kernel23.defs₀ Cert.Kernel23Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel23 := fun m g _ => by
  rw [defs_eq]
  exact frame (F := Bits) m g

theorem frame_ideal : quiescent_Kernel23Ideal := fun m g _ => frame (F := Ideal) m g

theorem frame_reference : quiescent_Reference23Ideal := fun m g _ =>
  (θ_run Cert.Reference23Ideal.defs _ _).mono (fun r h => ⟨fun c => (h c).2.2.2.2, sem_eq_zero_of_no_sems (by decide) r.2⟩)
    (Cert.Reference23Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 2048) : Fin cfg0.N := ⟨p.val / 1024, by have := p.isLt; show _ < 2; omega⟩
/-- and the row's place in that point's block. -/
def place (p : Fin 2048) : Fin 1024 := ⟨p.val % 1024, by omega⟩

theorem tile (p : Fin 2048) : (point p).val * 1024 + (place p).val = p.val := by
  show p.val / 1024 * 1024 + p.val % 1024 = p.val
  omega

/-- The blocks of a grid point, entry by entry. -/
theorem w_apply (c : Dev nD) (p : Fin 2048) (q : Fin 400) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 2048) (q : Fin 400) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 2048) (q : Fin 400) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 2048) (q : Fin 400) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S1024x400 .f32) (p : Fin 1024) (q : Fin 400) :
    k0_pay1 (F := Ideal) g m (ix2 p q) = mean (g (ix2 p q)) (m (ix2 p q)) := by
  pointwise [k0_pay1, mean]

theorem pay_square (g v : Vec Ideal S1024x400 .f32) (p : Fin 1024) (q : Fin 400) :
    k0_pay2 (F := Ideal) g v (ix2 p q) = square (g (ix2 p q)) (v (ix2 p q)) := by
  pointwise [k0_pay2, square]

theorem pay_delta (w g m v : Vec Ideal S1024x400 .f32) (p : Fin 1024) (q : Fin 400) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S1024x400 .f32) (p : Fin 1024) (q : Fin 400)

theorem block_gradient : out0_4 x0 x1 x2 x3 (ix2 p q) = x1 (ix2 p q) := by
  unfold out0_4
  rw [View.canon_unit_zero zero2]
  exact congrFun (View.ld_unit_zero (S := S1024x400) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S1024x400) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S1024x400) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S1024x400) zero2]
  exact pay_square _ _ p q

end Blocks

/-- The results after the run, entry by entry. -/
theorem result_gradient (c : Dev nD) (p : Fin 2048) (q : Fin 400) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 2048) (q : Fin 400) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 2048) (q : Fin 400) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 2048) (q : Fin 400) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S2048x400, .f32⟩ : BufTy).Contents (Elt Ideal)) (p : Fin 2048) (q : Fin 400)

theorem reference_mean : Cert.Reference23Ideal.Read.val_main_v4 (F := Ideal) g m (ix2 p q) = mean (g (ix2 p q)) (m (ix2 p q)) := by
  pointwise [Cert.Reference23Ideal.Read.val_main_v4, Cert.Reference23Ideal.Read.val_main_v3, Cert.Reference23Ideal.Read.val_main_v2, Cert.Reference23Ideal.Read.val_main_cst_0, Cert.Reference23Ideal.Read.val_main_v1, Cert.Reference23Ideal.Read.val_main_v0, Cert.Reference23Ideal.Read.val_main_cst, mean]

theorem reference_square : Cert.Reference23Ideal.Read.val_main_v10 (F := Ideal) g v (ix2 p q) = square (g (ix2 p q)) (v (ix2 p q)) := by
  pointwise [Cert.Reference23Ideal.Read.val_main_v10, Cert.Reference23Ideal.Read.val_main_v9, Cert.Reference23Ideal.Read.val_main_v8, Cert.Reference23Ideal.Read.val_main_cst_2, Cert.Reference23Ideal.Read.val_main_v7, Cert.Reference23Ideal.Read.val_main_v6, Cert.Reference23Ideal.Read.val_main_v5, Cert.Reference23Ideal.Read.val_main_cst_1, square]

theorem reference_delta :
    Cert.Reference23Ideal.Read.val_main_v23 (F := Ideal) w g m v (ix2 p q) = delta (w (ix2 p q)) (g (ix2 p q)) (m (ix2 p q)) (v (ix2 p q)) := by
  unfold delta
  rw [← reference_mean, ← reference_square]
  pointwise [Cert.Reference23Ideal.Read.val_main_v23, Cert.Reference23Ideal.Read.val_main_v22, Cert.Reference23Ideal.Read.val_main_cst_7, Cert.Reference23Ideal.Read.val_main_v21, Cert.Reference23Ideal.Read.val_main_v20, Cert.Reference23Ideal.Read.val_main_v19, Cert.Reference23Ideal.Read.val_main_cst_6, Cert.Reference23Ideal.Read.val_main_v18, Cert.Reference23Ideal.Read.val_main_v17, Cert.Reference23Ideal.Read.val_main_v16, Cert.Reference23Ideal.Read.val_main_cst_5, Cert.Reference23Ideal.Read.val_main_v15, Cert.Reference23Ideal.Read.val_main_v14, Cert.Reference23Ideal.Read.val_main_v13, Cert.Reference23Ideal.Read.val_main_cst_4, Cert.Reference23Ideal.Read.val_main_v12, Cert.Reference23Ideal.Read.val_main_v11, Cert.Reference23Ideal.Read.val_main_cst_3]

end Reference

theorem algebraic : algebraic_Kernel23Ideal_Reference23Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference23Ideal.Value.run m' g')⟩
  all_goals
    obtain ⟨a0, a1, a2, a3⟩ := hm c
    have hi : ∀ i : S2048x400.Idx, ∃ (p : Fin 2048) (q : Fin 400), i = ix2 p q := fun i => ⟨i 0, i 1, eq_ix2 i⟩
  · rw [a1]
    funext i
    obtain ⟨p, q, rfl⟩ := hi i
    exact (result_gradient m c p q).symm
  · rw [Cert.Reference23Ideal.Read.val_main_v23_eq, a0, a1, a2, a3]
    funext i
    obtain ⟨p, q, rfl⟩ := hi i
    exact (reference_delta _ _ _ _ p q).trans (result_delta m c p q).symm
  · rw [Cert.Reference23Ideal.Read.val_main_v4_eq, a1, a2]
    funext i
    obtain ⟨p, q, rfl⟩ := hi i
    exact (reference_mean _ _ p q).trans (result_mean m c p q).symm
  · rw [Cert.Reference23Ideal.Read.val_main_v10_eq, a1, a3]
    funext i
    obtain ⟨p, q, rfl⟩ := hi i
    exact (reference_square _ _ p q).trans (result_square m c p q).symm

end Cert.Update.AbIn
-- ==== Proof.Update.MixOutWeights.lean ====
/- The update of the mixing layers' output projections: [512, 1024], 1 tile of 512 rows. -/
module

public import proofs.«01_k».proof.Defs
public import proofs.«01_k».proof.Proof.Update.Step
public import proofs.«01_k».proof.Proof.Gen.Kernel24
public import proofs.«01_k».proof.Proof.Gen.Kernel24Ideal.Value
public import proofs.«01_k».proof.Proof.Gen.Reference24Ideal.Read
public import proofs.«01_k».proof.Proof.Gen.Reference24Ideal.Run

@[expose] public section

set_option maxRecDepth 16384

noncomputable section

namespace Cert.Update.MixOutWeights

open Cert.Kernel24Ideal Cert.Kernel24Ideal.Gen Cert.Product
open Idealize.ShloMosaic Idealize.ShloMosaic.TcCoe Idealize.SL.Sem

/-! ## The frames -/

/-- The kernel as printed and its idealization have the same definitions. -/
theorem defs_eq : Cert.Kernel24.defs (F := Bits) = Cert.Kernel24Ideal.defs (F := Bits) := by
  refine congrArg (Pipeline.defs Cert.Kernel24Ideal.pcfgs) ?_
  unfold Cert.Kernel24.defs₀ Cert.Kernel24Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel24 := fun m g _ => by
  rw [defs_eq]
  exact frame (F := Bits) m g

theorem frame_ideal : quiescent_Kernel24Ideal := fun m g _ => frame (F := Ideal) m g

theorem frame_reference : quiescent_Reference24Ideal := fun m g _ =>
  (θ_run Cert.Reference24Ideal.defs _ _).mono (fun r h => ⟨fun c => (h c).2.2.2.2, sem_eq_zero_of_no_sems (by decide) r.2⟩)
    (Cert.Reference24Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 512) : Fin cfg0.N := ⟨p.val / 512, by have := p.isLt; show _ < 1; omega⟩
/-- and the row's place in that point's block. -/
def place (p : Fin 512) : Fin 512 := ⟨p.val % 512, by omega⟩

theorem tile (p : Fin 512) : (point p).val * 512 + (place p).val = p.val := by
  show p.val / 512 * 512 + p.val % 512 = p.val
  omega

/-- The blocks of a grid point, entry by entry. -/
theorem w_apply (c : Dev nD) (p : Fin 512) (q : Fin 1024) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 512) (q : Fin 1024) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 512) (q : Fin 1024) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 512) (q : Fin 1024) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S512x1024 .f32) (p : Fin 512) (q : Fin 1024) :
    k0_pay1 (F := Ideal) g m (ix2 p q) = mean (g (ix2 p q)) (m (ix2 p q)) := by
  pointwise [k0_pay1, mean]

theorem pay_square (g v : Vec Ideal S512x1024 .f32) (p : Fin 512) (q : Fin 1024) :
    k0_pay2 (F := Ideal) g v (ix2 p q) = square (g (ix2 p q)) (v (ix2 p q)) := by
  pointwise [k0_pay2, square]

theorem pay_delta (w g m v : Vec Ideal S512x1024 .f32) (p : Fin 512) (q : Fin 1024) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S512x1024 .f32) (p : Fin 512) (q : Fin 1024)

theorem block_gradient : out0_4 x0 x1 x2 x3 (ix2 p q) = x1 (ix2 p q) := by
  unfold out0_4
  rw [View.canon_unit_zero zero2]
  exact congrFun (View.ld_unit_zero (S := S512x1024) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S512x1024) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S512x1024) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S512x1024) zero2]
  exact pay_square _ _ p q

end Blocks

/-- The results after the run, entry by entry. -/
theorem result_gradient (c : Dev nD) (p : Fin 512) (q : Fin 1024) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 512) (q : Fin 1024) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 512) (q : Fin 1024) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 512) (q : Fin 1024) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S512x1024, .f32⟩ : BufTy).Contents (Elt Ideal)) (p : Fin 512) (q : Fin 1024)

theorem reference_mean : Cert.Reference24Ideal.Read.val_main_v4 (F := Ideal) g m (ix2 p q) = mean (g (ix2 p q)) (m (ix2 p q)) := by
  pointwise [Cert.Reference24Ideal.Read.val_main_v4, Cert.Reference24Ideal.Read.val_main_v3, Cert.Reference24Ideal.Read.val_main_v2, Cert.Reference24Ideal.Read.val_main_cst_0, Cert.Reference24Ideal.Read.val_main_v1, Cert.Reference24Ideal.Read.val_main_v0, Cert.Reference24Ideal.Read.val_main_cst, mean]

theorem reference_square : Cert.Reference24Ideal.Read.val_main_v10 (F := Ideal) g v (ix2 p q) = square (g (ix2 p q)) (v (ix2 p q)) := by
  pointwise [Cert.Reference24Ideal.Read.val_main_v10, Cert.Reference24Ideal.Read.val_main_v9, Cert.Reference24Ideal.Read.val_main_v8, Cert.Reference24Ideal.Read.val_main_cst_2, Cert.Reference24Ideal.Read.val_main_v7, Cert.Reference24Ideal.Read.val_main_v6, Cert.Reference24Ideal.Read.val_main_v5, Cert.Reference24Ideal.Read.val_main_cst_1, square]

theorem reference_delta :
    Cert.Reference24Ideal.Read.val_main_v23 (F := Ideal) w g m v (ix2 p q) = delta (w (ix2 p q)) (g (ix2 p q)) (m (ix2 p q)) (v (ix2 p q)) := by
  unfold delta
  rw [← reference_mean, ← reference_square]
  pointwise [Cert.Reference24Ideal.Read.val_main_v23, Cert.Reference24Ideal.Read.val_main_v22, Cert.Reference24Ideal.Read.val_main_cst_7, Cert.Reference24Ideal.Read.val_main_v21, Cert.Reference24Ideal.Read.val_main_v20, Cert.Reference24Ideal.Read.val_main_v19, Cert.Reference24Ideal.Read.val_main_cst_6, Cert.Reference24Ideal.Read.val_main_v18, Cert.Reference24Ideal.Read.val_main_v17, Cert.Reference24Ideal.Read.val_main_v16, Cert.Reference24Ideal.Read.val_main_cst_5, Cert.Reference24Ideal.Read.val_main_v15, Cert.Reference24Ideal.Read.val_main_v14, Cert.Reference24Ideal.Read.val_main_v13, Cert.Reference24Ideal.Read.val_main_cst_4, Cert.Reference24Ideal.Read.val_main_v12, Cert.Reference24Ideal.Read.val_main_v11, Cert.Reference24Ideal.Read.val_main_cst_3]

end Reference

theorem algebraic : algebraic_Kernel24Ideal_Reference24Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference24Ideal.Value.run m' g')⟩
  all_goals
    obtain ⟨a0, a1, a2, a3⟩ := hm c
    have hi : ∀ i : S512x1024.Idx, ∃ (p : Fin 512) (q : Fin 1024), i = ix2 p q := fun i => ⟨i 0, i 1, eq_ix2 i⟩
  · rw [a1]
    funext i
    obtain ⟨p, q, rfl⟩ := hi i
    exact (result_gradient m c p q).symm
  · rw [Cert.Reference24Ideal.Read.val_main_v23_eq, a0, a1, a2, a3]
    funext i
    obtain ⟨p, q, rfl⟩ := hi i
    exact (reference_delta _ _ _ _ p q).trans (result_delta m c p q).symm
  · rw [Cert.Reference24Ideal.Read.val_main_v4_eq, a1, a2]
    funext i
    obtain ⟨p, q, rfl⟩ := hi i
    exact (reference_mean _ _ p q).trans (result_mean m c p q).symm
  · rw [Cert.Reference24Ideal.Read.val_main_v10_eq, a1, a3]
    funext i
    obtain ⟨p, q, rfl⟩ := hi i
    exact (reference_square _ _ p q).trans (result_square m c p q).symm

end Cert.Update.MixOutWeights
-- ==== Proof.Update.QueryB.lean ====
/- The update of the second projection of the queries: [512, 192], 1 tile of 512 rows. -/
module

public import proofs.«01_k».proof.Defs
public import proofs.«01_k».proof.Proof.Update.Step
public import proofs.«01_k».proof.Proof.Gen.Kernel25
public import proofs.«01_k».proof.Proof.Gen.Kernel25Ideal.Value
public import proofs.«01_k».proof.Proof.Gen.Reference25Ideal.Read
public import proofs.«01_k».proof.Proof.Gen.Reference25Ideal.Run

@[expose] public section

set_option maxRecDepth 16384

noncomputable section

namespace Cert.Update.QueryB

open Cert.Kernel25Ideal Cert.Kernel25Ideal.Gen Cert.Product
open Idealize.ShloMosaic Idealize.ShloMosaic.TcCoe Idealize.SL.Sem

/-! ## The frames -/

/-- The kernel as printed and its idealization have the same definitions. -/
theorem defs_eq : Cert.Kernel25.defs (F := Bits) = Cert.Kernel25Ideal.defs (F := Bits) := by
  refine congrArg (Pipeline.defs Cert.Kernel25Ideal.pcfgs) ?_
  unfold Cert.Kernel25.defs₀ Cert.Kernel25Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel25 := fun m g _ => by
  rw [defs_eq]
  exact frame (F := Bits) m g

theorem frame_ideal : quiescent_Kernel25Ideal := fun m g _ => frame (F := Ideal) m g

theorem frame_reference : quiescent_Reference25Ideal := fun m g _ =>
  (θ_run Cert.Reference25Ideal.defs _ _).mono (fun r h => ⟨fun c => (h c).2.2.2.2, sem_eq_zero_of_no_sems (by decide) r.2⟩)
    (Cert.Reference25Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 512) : Fin cfg0.N := ⟨p.val / 512, by have := p.isLt; show _ < 1; omega⟩
/-- and the row's place in that point's block. -/
def place (p : Fin 512) : Fin 512 := ⟨p.val % 512, by omega⟩

theorem tile (p : Fin 512) : (point p).val * 512 + (place p).val = p.val := by
  show p.val / 512 * 512 + p.val % 512 = p.val
  omega

/-- The blocks of a grid point, entry by entry. -/
theorem w_apply (c : Dev nD) (p : Fin 512) (q : Fin 192) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 512) (q : Fin 192) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 512) (q : Fin 192) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 512) (q : Fin 192) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S512x192 .f32) (p : Fin 512) (q : Fin 192) :
    k0_pay1 (F := Ideal) g m (ix2 p q) = mean (g (ix2 p q)) (m (ix2 p q)) := by
  pointwise [k0_pay1, mean]

theorem pay_square (g v : Vec Ideal S512x192 .f32) (p : Fin 512) (q : Fin 192) :
    k0_pay2 (F := Ideal) g v (ix2 p q) = square (g (ix2 p q)) (v (ix2 p q)) := by
  pointwise [k0_pay2, square]

theorem pay_delta (w g m v : Vec Ideal S512x192 .f32) (p : Fin 512) (q : Fin 192) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S512x192 .f32) (p : Fin 512) (q : Fin 192)

theorem block_gradient : out0_4 x0 x1 x2 x3 (ix2 p q) = x1 (ix2 p q) := by
  unfold out0_4
  rw [View.canon_unit_zero zero2]
  exact congrFun (View.ld_unit_zero (S := S512x192) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S512x192) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S512x192) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S512x192) zero2]
  exact pay_square _ _ p q

end Blocks

/-- The results after the run, entry by entry. -/
theorem result_gradient (c : Dev nD) (p : Fin 512) (q : Fin 192) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 512) (q : Fin 192) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 512) (q : Fin 192) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 512) (q : Fin 192) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S512x192, .f32⟩ : BufTy).Contents (Elt Ideal)) (p : Fin 512) (q : Fin 192)

theorem reference_mean : Cert.Reference25Ideal.Read.val_main_v4 (F := Ideal) g m (ix2 p q) = mean (g (ix2 p q)) (m (ix2 p q)) := by
  pointwise [Cert.Reference25Ideal.Read.val_main_v4, Cert.Reference25Ideal.Read.val_main_v3, Cert.Reference25Ideal.Read.val_main_v2, Cert.Reference25Ideal.Read.val_main_cst_0, Cert.Reference25Ideal.Read.val_main_v1, Cert.Reference25Ideal.Read.val_main_v0, Cert.Reference25Ideal.Read.val_main_cst, mean]

theorem reference_square : Cert.Reference25Ideal.Read.val_main_v10 (F := Ideal) g v (ix2 p q) = square (g (ix2 p q)) (v (ix2 p q)) := by
  pointwise [Cert.Reference25Ideal.Read.val_main_v10, Cert.Reference25Ideal.Read.val_main_v9, Cert.Reference25Ideal.Read.val_main_v8, Cert.Reference25Ideal.Read.val_main_cst_2, Cert.Reference25Ideal.Read.val_main_v7, Cert.Reference25Ideal.Read.val_main_v6, Cert.Reference25Ideal.Read.val_main_v5, Cert.Reference25Ideal.Read.val_main_cst_1, square]

theorem reference_delta :
    Cert.Reference25Ideal.Read.val_main_v23 (F := Ideal) w g m v (ix2 p q) = delta (w (ix2 p q)) (g (ix2 p q)) (m (ix2 p q)) (v (ix2 p q)) := by
  unfold delta
  rw [← reference_mean, ← reference_square]
  pointwise [Cert.Reference25Ideal.Read.val_main_v23, Cert.Reference25Ideal.Read.val_main_v22, Cert.Reference25Ideal.Read.val_main_cst_7, Cert.Reference25Ideal.Read.val_main_v21, Cert.Reference25Ideal.Read.val_main_v20, Cert.Reference25Ideal.Read.val_main_v19, Cert.Reference25Ideal.Read.val_main_cst_6, Cert.Reference25Ideal.Read.val_main_v18, Cert.Reference25Ideal.Read.val_main_v17, Cert.Reference25Ideal.Read.val_main_v16, Cert.Reference25Ideal.Read.val_main_cst_5, Cert.Reference25Ideal.Read.val_main_v15, Cert.Reference25Ideal.Read.val_main_v14, Cert.Reference25Ideal.Read.val_main_v13, Cert.Reference25Ideal.Read.val_main_cst_4, Cert.Reference25Ideal.Read.val_main_v12, Cert.Reference25Ideal.Read.val_main_v11, Cert.Reference25Ideal.Read.val_main_cst_3]

end Reference

theorem algebraic : algebraic_Kernel25Ideal_Reference25Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference25Ideal.Value.run m' g')⟩
  all_goals
    obtain ⟨a0, a1, a2, a3⟩ := hm c
    have hi : ∀ i : S512x192.Idx, ∃ (p : Fin 512) (q : Fin 192), i = ix2 p q := fun i => ⟨i 0, i 1, eq_ix2 i⟩
  · rw [a1]
    funext i
    obtain ⟨p, q, rfl⟩ := hi i
    exact (result_gradient m c p q).symm
  · rw [Cert.Reference25Ideal.Read.val_main_v23_eq, a0, a1, a2, a3]
    funext i
    obtain ⟨p, q, rfl⟩ := hi i
    exact (reference_delta _ _ _ _ p q).trans (result_delta m c p q).symm
  · rw [Cert.Reference25Ideal.Read.val_main_v4_eq, a1, a2]
    funext i
    obtain ⟨p, q, rfl⟩ := hi i
    exact (reference_mean _ _ p q).trans (result_mean m c p q).symm
  · rw [Cert.Reference25Ideal.Read.val_main_v10_eq, a1, a3]
    funext i
    obtain ⟨p, q, rfl⟩ := hi i
    exact (reference_square _ _ p q).trans (result_square m c p q).symm

end Cert.Update.QueryB
-- ==== Proof.Update.KeyValueB.lean ====
/- The update of the second projection of the keys and values: [512, 256], 1 tile of 512 rows. -/
module

public import proofs.«01_k».proof.Defs
public import proofs.«01_k».proof.Proof.Update.Step
public import proofs.«01_k».proof.Proof.Gen.Kernel26
public import proofs.«01_k».proof.Proof.Gen.Kernel26Ideal.Value
public import proofs.«01_k».proof.Proof.Gen.Reference26Ideal.Read
public import proofs.«01_k».proof.Proof.Gen.Reference26Ideal.Run

@[expose] public section

set_option maxRecDepth 16384

noncomputable section

namespace Cert.Update.KeyValueB

open Cert.Kernel26Ideal Cert.Kernel26Ideal.Gen Cert.Product
open Idealize.ShloMosaic Idealize.ShloMosaic.TcCoe Idealize.SL.Sem

/-! ## The frames -/

/-- The kernel as printed and its idealization have the same definitions. -/
theorem defs_eq : Cert.Kernel26.defs (F := Bits) = Cert.Kernel26Ideal.defs (F := Bits) := by
  refine congrArg (Pipeline.defs Cert.Kernel26Ideal.pcfgs) ?_
  unfold Cert.Kernel26.defs₀ Cert.Kernel26Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel26 := fun m g _ => by
  rw [defs_eq]
  exact frame (F := Bits) m g

theorem frame_ideal : quiescent_Kernel26Ideal := fun m g _ => frame (F := Ideal) m g

theorem frame_reference : quiescent_Reference26Ideal := fun m g _ =>
  (θ_run Cert.Reference26Ideal.defs _ _).mono (fun r h => ⟨fun c => (h c).2.2.2.2, sem_eq_zero_of_no_sems (by decide) r.2⟩)
    (Cert.Reference26Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 512) : Fin cfg0.N := ⟨p.val / 512, by have := p.isLt; show _ < 1; omega⟩
/-- and the row's place in that point's block. -/
def place (p : Fin 512) : Fin 512 := ⟨p.val % 512, by omega⟩

theorem tile (p : Fin 512) : (point p).val * 512 + (place p).val = p.val := by
  show p.val / 512 * 512 + p.val % 512 = p.val
  omega

/-- The blocks of a grid point, entry by entry. -/
theorem w_apply (c : Dev nD) (p : Fin 512) (q : Fin 256) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 512) (q : Fin 256) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 512) (q : Fin 256) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 512) (q : Fin 256) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S512x256 .f32) (p : Fin 512) (q : Fin 256) :
    k0_pay1 (F := Ideal) g m (ix2 p q) = mean (g (ix2 p q)) (m (ix2 p q)) := by
  pointwise [k0_pay1, mean]

theorem pay_square (g v : Vec Ideal S512x256 .f32) (p : Fin 512) (q : Fin 256) :
    k0_pay2 (F := Ideal) g v (ix2 p q) = square (g (ix2 p q)) (v (ix2 p q)) := by
  pointwise [k0_pay2, square]

theorem pay_delta (w g m v : Vec Ideal S512x256 .f32) (p : Fin 512) (q : Fin 256) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S512x256 .f32) (p : Fin 512) (q : Fin 256)

theorem block_gradient : out0_4 x0 x1 x2 x3 (ix2 p q) = x1 (ix2 p q) := by
  unfold out0_4
  rw [View.canon_unit_zero zero2]
  exact congrFun (View.ld_unit_zero (S := S512x256) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S512x256) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S512x256) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S512x256) zero2]
  exact pay_square _ _ p q

end Blocks

/-- The results after the run, entry by entry. -/
theorem result_gradient (c : Dev nD) (p : Fin 512) (q : Fin 256) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 512) (q : Fin 256) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 512) (q : Fin 256) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 512) (q : Fin 256) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S512x256, .f32⟩ : BufTy).Contents (Elt Ideal)) (p : Fin 512) (q : Fin 256)

theorem reference_mean : Cert.Reference26Ideal.Read.val_main_v4 (F := Ideal) g m (ix2 p q) = mean (g (ix2 p q)) (m (ix2 p q)) := by
  pointwise [Cert.Reference26Ideal.Read.val_main_v4, Cert.Reference26Ideal.Read.val_main_v3, Cert.Reference26Ideal.Read.val_main_v2, Cert.Reference26Ideal.Read.val_main_cst_0, Cert.Reference26Ideal.Read.val_main_v1, Cert.Reference26Ideal.Read.val_main_v0, Cert.Reference26Ideal.Read.val_main_cst, mean]

theorem reference_square : Cert.Reference26Ideal.Read.val_main_v10 (F := Ideal) g v (ix2 p q) = square (g (ix2 p q)) (v (ix2 p q)) := by
  pointwise [Cert.Reference26Ideal.Read.val_main_v10, Cert.Reference26Ideal.Read.val_main_v9, Cert.Reference26Ideal.Read.val_main_v8, Cert.Reference26Ideal.Read.val_main_cst_2, Cert.Reference26Ideal.Read.val_main_v7, Cert.Reference26Ideal.Read.val_main_v6, Cert.Reference26Ideal.Read.val_main_v5, Cert.Reference26Ideal.Read.val_main_cst_1, square]

theorem reference_delta :
    Cert.Reference26Ideal.Read.val_main_v23 (F := Ideal) w g m v (ix2 p q) = delta (w (ix2 p q)) (g (ix2 p q)) (m (ix2 p q)) (v (ix2 p q)) := by
  unfold delta
  rw [← reference_mean, ← reference_square]
  pointwise [Cert.Reference26Ideal.Read.val_main_v23, Cert.Reference26Ideal.Read.val_main_v22, Cert.Reference26Ideal.Read.val_main_cst_7, Cert.Reference26Ideal.Read.val_main_v21, Cert.Reference26Ideal.Read.val_main_v20, Cert.Reference26Ideal.Read.val_main_v19, Cert.Reference26Ideal.Read.val_main_cst_6, Cert.Reference26Ideal.Read.val_main_v18, Cert.Reference26Ideal.Read.val_main_v17, Cert.Reference26Ideal.Read.val_main_v16, Cert.Reference26Ideal.Read.val_main_cst_5, Cert.Reference26Ideal.Read.val_main_v15, Cert.Reference26Ideal.Read.val_main_v14, Cert.Reference26Ideal.Read.val_main_v13, Cert.Reference26Ideal.Read.val_main_cst_4, Cert.Reference26Ideal.Read.val_main_v12, Cert.Reference26Ideal.Read.val_main_v11, Cert.Reference26Ideal.Read.val_main_cst_3]

end Reference

theorem algebraic : algebraic_Kernel26Ideal_Reference26Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference26Ideal.Value.run m' g')⟩
  all_goals
    obtain ⟨a0, a1, a2, a3⟩ := hm c
    have hi : ∀ i : S512x256.Idx, ∃ (p : Fin 512) (q : Fin 256), i = ix2 p q := fun i => ⟨i 0, i 1, eq_ix2 i⟩
  · rw [a1]
    funext i
    obtain ⟨p, q, rfl⟩ := hi i
    exact (result_gradient m c p q).symm
  · rw [Cert.Reference26Ideal.Read.val_main_v23_eq, a0, a1, a2, a3]
    funext i
    obtain ⟨p, q, rfl⟩ := hi i
    exact (reference_delta _ _ _ _ p q).trans (result_delta m c p q).symm
  · rw [Cert.Reference26Ideal.Read.val_main_v4_eq, a1, a2]
    funext i
    obtain ⟨p, q, rfl⟩ := hi i
    exact (reference_mean _ _ p q).trans (result_mean m c p q).symm
  · rw [Cert.Reference26Ideal.Read.val_main_v10_eq, a1, a3]
    funext i
    obtain ⟨p, q, rfl⟩ := hi i
    exact (reference_square _ _ p q).trans (result_square m c p q).symm

end Cert.Update.KeyValueB
-- ==== Proof.Update.CdIn.lean ====
/- The update of the input projections of the second kind of mixing layer: [2048, 576], 4 tiles of 512 rows. -/
module

public import proofs.«01_k».proof.Defs
public import proofs.«01_k».proof.Proof.Update.Step
public import proofs.«01_k».proof.Proof.Gen.Kernel27
public import proofs.«01_k».proof.Proof.Gen.Kernel27Ideal.Value
public import proofs.«01_k».proof.Proof.Gen.Reference27Ideal.Read
public import proofs.«01_k».proof.Proof.Gen.Reference27Ideal.Run

@[expose] public section

set_option maxRecDepth 16384

noncomputable section

namespace Cert.Update.CdIn

open Cert.Kernel27Ideal Cert.Kernel27Ideal.Gen Cert.Product
open Idealize.ShloMosaic Idealize.ShloMosaic.TcCoe Idealize.SL.Sem

/-! ## The frames -/

/-- The kernel as printed and its idealization have the same definitions. -/
theorem defs_eq : Cert.Kernel27.defs (F := Bits) = Cert.Kernel27Ideal.defs (F := Bits) := by
  refine congrArg (Pipeline.defs Cert.Kernel27Ideal.pcfgs) ?_
  unfold Cert.Kernel27.defs₀ Cert.Kernel27Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel27 := fun m g _ => by
  rw [defs_eq]
  exact frame (F := Bits) m g

theorem frame_ideal : quiescent_Kernel27Ideal := fun m g _ => frame (F := Ideal) m g

theorem frame_reference : quiescent_Reference27Ideal := fun m g _ =>
  (θ_run Cert.Reference27Ideal.defs _ _).mono (fun r h => ⟨fun c => (h c).2.2.2.2, sem_eq_zero_of_no_sems (by decide) r.2⟩)
    (Cert.Reference27Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The grid point that computes a row, -/
def point (p : Fin 2048) : Fin cfg0.N := ⟨p.val / 512, by have := p.isLt; show _ < 4; omega⟩
/-- and the row's place in that point's block. -/
def place (p : Fin 2048) : Fin 512 := ⟨p.val % 512, by omega⟩

theorem tile (p : Fin 2048) : (point p).val * 512 + (place p).val = p.val := by
  show p.val / 512 * 512 + p.val % 512 = p.val
  omega

/-- The blocks of a grid point, entry by entry. -/
theorem w_apply (c : Dev nD) (p : Fin 2048) (q : Fin 576) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 2048) (q : Fin 576) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 2048) (q : Fin 576) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 2048) (q : Fin 576) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S512x576 .f32) (p : Fin 512) (q : Fin 576) :
    k0_pay1 (F := Ideal) g m (ix2 p q) = mean (g (ix2 p q)) (m (ix2 p q)) := by
  pointwise [k0_pay1, mean]

theorem pay_square (g v : Vec Ideal S512x576 .f32) (p : Fin 512) (q : Fin 576) :
    k0_pay2 (F := Ideal) g v (ix2 p q) = square (g (ix2 p q)) (v (ix2 p q)) := by
  pointwise [k0_pay2, square]

theorem pay_delta (w g m v : Vec Ideal S512x576 .f32) (p : Fin 512) (q : Fin 576) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S512x576 .f32) (p : Fin 512) (q : Fin 576)

theorem block_gradient : out0_4 x0 x1 x2 x3 (ix2 p q) = x1 (ix2 p q) := by
  unfold out0_4
  rw [View.canon_unit_zero zero2]
  exact congrFun (View.ld_unit_zero (S := S512x576) zero2 _ _) _

theorem block_delta : out0_5 x0 x1 x2 x3 (ix2 p q) = delta (x0 (ix2 p q)) (x1 (ix2 p q)) (x2 (ix2 p q)) (x3 (ix2 p q)) := by
  unfold out0_5
  rw [View.canon_unit_zero zero2]
  simp only [View.ld_unit_zero (S := S512x576) zero2]
  exact pay_delta _ _ _ _ p q

theorem block_mean : out0_6 x0 x1 x2 x3 (ix2 p q) = mean (x1 (ix2 p q)) (x2 (ix2 p q)) := by
  unfold out0_6
  rw [View.canon_unit_zero zero2]
  simp only [View.ld_unit_zero (S := S512x576) zero2]
  exact pay_mean _ _ p q

theorem block_square : out0_7 x0 x1 x2 x3 (ix2 p q) = square (x1 (ix2 p q)) (x3 (ix2 p q)) := by
  unfold out0_7
  rw [View.canon_unit_zero zero2]
  simp only [View.ld_unit_zero (S := S512x576) zero2]
  exact pay_square _ _ p q

end Blocks

/-- The results after the run, entry by entry. -/
theorem result_gradient (c : Dev nD) (p : Fin 2048) (q : Fin 576) :
    (dats m 0 c).arrAt 4 cfg0.N (ix2 p q)
      = m ((c.tc : Thread nD τ).loc main_arg1) (ix2 p q) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_gradient _ _ _ _ _ _).trans ?_))
  rw [g_apply]

theorem result_delta (c : Dev nD) (p : Fin 2048) (q : Fin 576) :
    (dats m 0 c).arrAt 5 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_delta _ _ _ _ _ _).trans ?_))
  rw [w_apply, g_apply, m_apply, v_apply]

theorem result_mean (c : Dev nD) (p : Fin 2048) (q : Fin 576) :
    (dats m 0 c).arrAt 6 cfg0.N (ix2 p q)
      = mean (m ((c.tc : Thread nD τ).loc main_arg1) (ix2 p q)) (m ((c.tc : Thread nD τ).loc main_arg2) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2.1 rfl rfl).symm).trans
    (e.trans ((block_mean _ _ _ _ _ _).trans ?_))
  rw [g_apply, m_apply]

theorem result_square (c : Dev nD) (p : Fin 2048) (q : Fin 576) :
    (dats m 0 c).arrAt 7 cfg0.N (ix2 p q)
      = square (m ((c.tc : Thread nD τ).loc main_arg1) (ix2 p q)) (m ((c.tc : Thread nD τ).loc main_arg3) (ix2 p q)) := by
  have e := congrFun (Value.blocks7 m c (point p) (flush0_7 _)) (ix2 (place p) q)
  rw [Value.flushed7] at e
  refine (congrArg ((dats m 0 c).arrAt 7 cfg0.N) (entry p q _ (tile p) _ _ (index (point p)).2.2.2.2.2.2.2 rfl rfl).symm).trans
    (e.trans ((block_square _ _ _ _ _ _).trans ?_))
  rw [g_apply, v_apply]

/-! ## The reference -/

section Reference

variable (w g m v : (⟨S2048x576, .f32⟩ : BufTy).Contents (Elt Ideal)) (p : Fin 2048) (q : Fin 576)

theorem reference_mean : Cert.Reference27Ideal.Read.val_main_v4 (F := Ideal) g m (ix2 p q) = mean (g (ix2 p q)) (m (ix2 p q)) := by
  pointwise [Cert.Reference27Ideal.Read.val_main_v4, Cert.Reference27Ideal.Read.val_main_v3, Cert.Reference27Ideal.Read.val_main_v2, Cert.Reference27Ideal.Read.val_main_cst_0, Cert.Reference27Ideal.Read.val_main_v1, Cert.Reference27Ideal.Read.val_main_v0, Cert.Reference27Ideal.Read.val_main_cst, mean]

theorem reference_square : Cert.Reference27Ideal.Read.val_main_v10 (F := Ideal) g v (ix2 p q) = square (g (ix2 p q)) (v (ix2 p q)) := by
  pointwise [Cert.Reference27Ideal.Read.val_main_v10, Cert.Reference27Ideal.Read.val_main_v9, Cert.Reference27Ideal.Read.val_main_v8, Cert.Reference27Ideal.Read.val_main_cst_2, Cert.Reference27Ideal.Read.val_main_v7, Cert.Reference27Ideal.Read.val_main_v6, Cert.Reference27Ideal.Read.val_main_v5, Cert.Reference27Ideal.Read.val_main_cst_1, square]

theorem reference_delta :
    Cert.Reference27Ideal.Read.val_main_v23 (F := Ideal) w g m v (ix2 p q) = delta (w (ix2 p q)) (g (ix2 p q)) (m (ix2 p q)) (v (ix2 p q)) := by
  unfold delta
  rw [← reference_mean, ← reference_square]
  pointwise [Cert.Reference27Ideal.Read.val_main_v23, Cert.Reference27Ideal.Read.val_main_v22, Cert.Reference27Ideal.Read.val_main_cst_7, Cert.Reference27Ideal.Read.val_main_v21, Cert.Reference27Ideal.Read.val_main_v20, Cert.Reference27Ideal.Read.val_main_v19, Cert.Reference27Ideal.Read.val_main_cst_6, Cert.Reference27Ideal.Read.val_main_v18, Cert.Reference27Ideal.Read.val_main_v17, Cert.Reference27Ideal.Read.val_main_v16, Cert.Reference27Ideal.Read.val_main_cst_5, Cert.Reference27Ideal.Read.val_main_v15, Cert.Reference27Ideal.Read.val_main_v14, Cert.Reference27Ideal.Read.val_main_v13, Cert.Reference27Ideal.Read.val_main_cst_4, Cert.Reference27Ideal.Read.val_main_v12, Cert.Reference27Ideal.Read.val_main_v11, Cert.Reference27Ideal.Read.val_main_cst_3]

end Reference

theorem algebraic : algebraic_Kernel27Ideal_Reference27Ideal := by
  intro m g m' g' _ hm
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m g,
    (θ_run _ _ _).mono (fun r h c => ⟨(h c).1.trans ?_, (h c).2.1.trans ?_, (h c).2.2.1.trans ?_, (h c).2.2.2.1.trans ?_, (h c).2.2.2.2⟩) (Cert.Reference27Ideal.Value.run m' g')⟩
  all_goals
    obtain ⟨a0, a1, a2, a3⟩ := hm c
    have hi : ∀ i : S2048x576.Idx, ∃ (p : Fin 2048) (q : Fin 576), i = ix2 p q := fun i => ⟨i 0, i 1, eq_ix2 i⟩
  · rw [a1]
    funext i
    obtain ⟨p, q, rfl⟩ := hi i
    exact (result_gradient m c p q).symm
  · rw [Cert.Reference27Ideal.Read.val_main_v23_eq, a0, a1, a2, a3]
    funext i
    obtain ⟨p, q, rfl⟩ := hi i
    exact (reference_delta _ _ _ _ p q).trans (result_delta m c p q).symm
  · rw [Cert.Reference27Ideal.Read.val_main_v4_eq, a1, a2]
    funext i
    obtain ⟨p, q, rfl⟩ := hi i
    exact (reference_mean _ _ p q).trans (result_mean m c p q).symm
  · rw [Cert.Reference27Ideal.Read.val_main_v10_eq, a1, a3]
    funext i
    obtain ⟨p, q, rfl⟩ := hi i
    exact (reference_square _ _ p q).trans (result_square m c p q).symm

end Cert.Update.CdIn
-- ==== Proof.Update.AdaW.lean ====
/- The update of the modulation's weights: [4096, 1536], 16 tiles of 256 rows. -/
module

public import proofs.«01_k».proof.Defs
public import proofs.«01_k».proof.Proof.Update.Step
public import proofs.«01_k».proof.Proof.Gen.Kernel28
public import proofs.«01_k».proof.Proof.Gen.Kernel28Ideal.Value
public import proofs.«01_k».proof.Proof.Gen.Reference28Ideal.Read
public import proofs.«01_k».proof.Proof.Gen.Reference28Ideal.Run

@[expose] public section

set_option maxRecDepth 16384

noncomputable section

namespace Cert.Update.AdaW

open Cert.Kernel28Ideal Cert.Kernel28Ideal.Gen Cert.Product
open Idealize.ShloMosaic Idealize.ShloMosaic.TcCoe Idealize.SL.Sem

/-! ## The frames -/

/-- The kernel as printed and its idealization have the same definitions. -/
theorem defs_eq : Cert.Kernel28.defs (F := Bits) = Cert.Kernel28Ideal.defs (F := Bits) := by
  refine congrArg (Pipeline.defs Cert.Kernel28Ideal.pcfgs) ?_
  unfold Cert.Kernel28.defs₀ Cert.Kernel28Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel28 := fun m g _ => by
  rw [defs_eq]
  exact frame (F := Bits) m g

theorem frame_ideal : quiescent_Kernel28Ideal := fun m g _ => frame (F := Ideal) m g

theorem frame_reference : quiescent_Reference28Ideal := fun m g _ =>
  (θ_run Cert.Reference28Ideal.defs _ _).mono (fun r h => ⟨fun c => (h c).2.2.2, sem_eq_zero_of_no_sems (by decide) r.2⟩)
    (Cert.Reference28Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The grid point that computes a row, -/
def point (p : Fin 4096) : Fin cfg0.N := ⟨p.val / 256, by have := p.isLt; show _ < 16; omega⟩
/-- and the row's place in that point's block. -/
def place (p : Fin 4096) : Fin 256 := ⟨p.val % 256, by omega⟩

theorem tile (p : Fin 4096) : (point p).val * 256 + (place p).val = p.val := by
  show p.val / 256 * 256 + p.val % 256 = p.val
  omega

/-- The blocks of a grid point, entry by entry. -/
theorem w_apply (c : Dev nD) (p : Fin 4096) (q : Fin 1536) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 4096) (q : Fin 1536) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 4096) (q : Fin 1536) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 4096) (q : Fin 1536) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S256x1536 .f32) (p : Fin 256) (q : Fin 1536) :
    k0_pay1 (F := Ideal) g m (ix2 p q) = mean (g (ix2 p q)) (m (ix2 p q)) := by
  pointwise [k0_pay1, mean]

theorem pay_square (g v : Vec Ideal S256x1536 .f32) (p : Fin 256) (q : Fin 1536) :
    k0_pay2 (F := Ideal) g v (ix2 p q) = square (g (ix2 p q)) (v (ix2 p q)) := by
  pointwise [k0_pay2, square]

theorem pay_delta (w g m v : Vec Ideal S256x1536 .f32) (p : Fin 256) (q : Fin 1536) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S256x1536 .f32) (p : Fin 256) (q : Fin 1536)

theorem block_delta : out0_4 x0 x1 x2 x3 (ix2 p q) = delta (x0 (ix2 p q)) (x1 (ix2 p q)) (x2 (ix2 p q)) (x3 (ix2 p q)) := by
  unfold out0_4
  rw [View.canon_unit_zero zero2]
  simp only [View.ld_unit_zero (S := S256x1536) zero2]
  exact pay_delta _ _ _ _ p q

theorem block_mean : out0_5 x0 x1 x2 x3 (ix2 p q) = mean (x1 (ix2 p q)) (x2 (ix2 p q)) := by
  unfold out0_5
  rw [View.canon_unit_zero zero2]
  simp only [View.ld_unit_zero (S := S256x1536) zero2]
  exact pay_mean _ _ p q

theorem block_square : out0_6 x0 x1 x2 x3 (ix2 p q) = square (x1 (ix2 p q)) (x3 (ix2 p q)) := by
  unfold out0_6
  rw [View.canon_unit_zero zero2]
  simp only [View.ld_unit_zero (S := S256x1536) zero2]
  exact pay_square _ _ p q

end Blocks

/-- The results after the run, entry by entry. -/
theorem result_delta (c : Dev nD) (p : Fin 4096) (q : Fin 1536) :
    (dats m 0 c).arrAt 4 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_delta _ _ _ _ _ _).trans ?_))
  rw [w_apply, g_apply, m_apply, v_apply]

theorem result_mean (c : Dev nD) (p : Fin 4096) (q : Fin 1536) :
    (dats m 0 c).arrAt 5 cfg0.N (ix2 p q)
      = mean (m ((c.tc : Thread nD τ).loc main_arg1) (ix2 p q)) (m ((c.tc : Thread nD τ).loc main_arg2) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_mean _ _ _ _ _ _).trans ?_))
  rw [g_apply, m_apply]

theorem result_square (c : Dev nD) (p : Fin 4096) (q : Fin 1536) :
    (dats m 0 c).arrAt 6 cfg0.N (ix2 p q)
      = square (m ((c.tc : Thread nD τ).loc main_arg1) (ix2 p q)) (m ((c.tc : Thread nD τ).loc main_arg3) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2 rfl rfl).symm).trans
    (e.trans ((block_square _ _ _ _ _ _).trans ?_))
  rw [g_apply, v_apply]

/-! ## The reference -/

section Reference

variable (w g m v : (⟨S4096x1536, .f32⟩ : BufTy).Contents (Elt Ideal)) (p : Fin 4096) (q : Fin 1536)

theorem reference_mean : Cert.Reference28Ideal.Read.val_main_v4 (F := Ideal) g m (ix2 p q) = mean (g (ix2 p q)) (m (ix2 p q)) := by
  pointwise [Cert.Reference28Ideal.Read.val_main_v4, Cert.Reference28Ideal.Read.val_main_v3, Cert.Reference28Ideal.Read.val_main_v2, Cert.Reference28Ideal.Read.val_main_cst_0, Cert.Reference28Ideal.Read.val_main_v1, Cert.Reference28Ideal.Read.val_main_v0, Cert.Reference28Ideal.Read.val_main_cst, mean]

theorem reference_square : Cert.Reference28Ideal.Read.val_main_v10 (F := Ideal) g v (ix2 p q) = square (g (ix2 p q)) (v (ix2 p q)) := by
  pointwise [Cert.Reference28Ideal.Read.val_main_v10, Cert.Reference28Ideal.Read.val_main_v9, Cert.Reference28Ideal.Read.val_main_v8, Cert.Reference28Ideal.Read.val_main_cst_2, Cert.Reference28Ideal.Read.val_main_v7, Cert.Reference28Ideal.Read.val_main_v6, Cert.Reference28Ideal.Read.val_main_v5, Cert.Reference28Ideal.Read.val_main_cst_1, square]

theorem reference_delta :
    Cert.Reference28Ideal.Read.val_main_v23 (F := Ideal) w g m v (ix2 p q) = delta (w (ix2 p q)) (g (ix2 p q)) (m (ix2 p q)) (v (ix2 p q)) := by
  unfold delta
  rw [← reference_mean, ← reference_square]
  pointwise [Cert.Reference28Ideal.Read.val_main_v23, Cert.Reference28Ideal.Read.val_main_v22, Cert.Reference28Ideal.Read.val_main_cst_7, Cert.Reference28Ideal.Read.val_main_v21, Cert.Reference28Ideal.Read.val_main_v20, Cert.Reference28Ideal.Read.val_main_v19, Cert.Reference28Ideal.Read.val_main_cst_6, Cert.Reference28Ideal.Read.val_main_v18, Cert.Reference28Ideal.Read.val_main_v17, Cert.Reference28Ideal.Read.val_main_v16, Cert.Reference28Ideal.Read.val_main_cst_5, Cert.Reference28Ideal.Read.val_main_v15, Cert.Reference28Ideal.Read.val_main_v14, Cert.Reference28Ideal.Read.val_main_v13, Cert.Reference28Ideal.Read.val_main_cst_4, Cert.Reference28Ideal.Read.val_main_v12, Cert.Reference28Ideal.Read.val_main_v11, Cert.Reference28Ideal.Read.val_main_cst_3]

end Reference

theorem algebraic : algebraic_Kernel28Ideal_Reference28Ideal := by
  intro m g m' g' _ hm
  refine ⟨fun c => (dats m 0 c).arrAt 4 cfg0.N, fun c => (dats m 0 c).arrAt 5 cfg0.N, fun c => (dats m 0 c).arrAt 6 cfg0.N, Value.run_blocks m g,
    (θ_run _ _ _).mono (fun r h c => ⟨(h c).1.trans ?_, (h c).2.1.trans ?_, (h c).2.2.1.trans ?_, (h c).2.2.2⟩) (Cert.Reference28Ideal.Value.run m' g')⟩
  all_goals
    obtain ⟨a0, a1, a2, a3⟩ := hm c
    have hi : ∀ i : S4096x1536.Idx, ∃ (p : Fin 4096) (q : Fin 1536), i = ix2 p q := fun i => ⟨i 0, i 1, eq_ix2 i⟩
  · rw [Cert.Reference28Ideal.Read.val_main_v23_eq, a0, a1, a2, a3]
    funext i
    obtain ⟨p, q, rfl⟩ := hi i
    exact (reference_delta _ _ _ _ p q).trans (result_delta m c p q).symm
  · rw [Cert.Reference28Ideal.Read.val_main_v4_eq, a1, a2]
    funext i
    obtain ⟨p, q, rfl⟩ := hi i
    exact (reference_mean _ _ p q).trans (result_mean m c p q).symm
  · rw [Cert.Reference28Ideal.Read.val_main_v10_eq, a1, a3]
    funext i
    obtain ⟨p, q, rfl⟩ := hi i
    exact (reference_square _ _ p q).trans (result_square m c p q).symm

end Cert.Update.AdaW
-- ==== Proof.Update.Small.lean ====
/- The update of the other weights, packed in one array: [1360, 128], 1 tile of 1360 rows. -/
module

public import proofs.«01_k».proof.Defs
public import proofs.«01_k».proof.Proof.Update.Step
public import proofs.«01_k».proof.Proof.Gen.Kernel29
public import proofs.«01_k».proof.Proof.Gen.Kernel29Ideal.Value
public import proofs.«01_k».proof.Proof.Gen.Reference29Ideal.Read
public import proofs.«01_k».proof.Proof.Gen.Reference29Ideal.Run

@[expose] public section

set_option maxRecDepth 16384

noncomputable section

namespace Cert.Update.Small

open Cert.Kernel29Ideal Cert.Kernel29Ideal.Gen Cert.Product
open Idealize.ShloMosaic Idealize.ShloMosaic.TcCoe Idealize.SL.Sem

/-! ## The frames -/

/-- The kernel as printed and its idealization have the same definitions. -/
theorem defs_eq : Cert.Kernel29.defs (F := Bits) = Cert.Kernel29Ideal.defs (F := Bits) := by
  refine congrArg (Pipeline.defs Cert.Kernel29Ideal.pcfgs) ?_
  unfold Cert.Kernel29.defs₀ Cert.Kernel29Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel29 := fun m g _ => by
  rw [defs_eq]
  exact frame (F := Bits) m g

theorem frame_ideal : quiescent_Kernel29Ideal := fun m g _ => frame (F := Ideal) m g

theorem frame_reference : quiescent_Reference29Ideal := fun m g _ =>
  (θ_run Cert.Reference29Ideal.defs _ _).mono (fun r h => ⟨fun c => (h c).2.2.2, sem_eq_zero_of_no_sems (by decide) r.2⟩)
    (Cert.Reference29Ideal.Value.run (F := Ideal) m g)

/-! ## The value -/

variable (m : (ℓ : Loc nD τ sig) → Buf (Elt Ideal) ℓ)

/-- Every window's block at a grid point: the rows' tile. -/
theorem index : ∀ t : Fin cfg0.N,
    win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0] :=
  (by decide +kernel : ∀ t : Fin grid0.N, _)

/-- The grid point that computes a row, -/
def point (p : Fin 1360) : Fin cfg0.N := ⟨p.val / 1360, by have := p.isLt; show _ < 1; omega⟩
/-- and the row's place in that point's block. -/
def place (p : Fin 1360) : Fin 1360 := ⟨p.val % 1360, by omega⟩

theorem tile (p : Fin 1360) : (point p).val * 1360 + (place p).val = p.val := by
  show p.val / 1360 * 1360 + p.val % 1360 = p.val
  omega

/-- The blocks of a grid point, entry by entry. -/
theorem w_apply (c : Dev nD) (p : Fin 1360) (q : Fin 128) :
    iblk m c 0 (point p) (ix2 (place p) q) = m ((c.tc : Thread nD τ).loc main_arg0) (ix2 p q) :=
  (congrArg (V m c main_arg0) (entry p q _ (tile p) _ _ (index (point p)).1 rfl rfl)).trans (congrFun (V_main_arg0 m c) _)

theorem g_apply (c : Dev nD) (p : Fin 1360) (q : Fin 128) :
    iblk m c 1 (point p) (ix2 (place p) q) = m ((c.tc : Thread nD τ).loc main_arg1) (ix2 p q) :=
  (congrArg (V m c main_arg1) (entry p q _ (tile p) _ _ (index (point p)).2.1 rfl rfl)).trans (congrFun (V_main_arg1 m c) _)

theorem m_apply (c : Dev nD) (p : Fin 1360) (q : Fin 128) :
    iblk m c 2 (point p) (ix2 (place p) q) = m ((c.tc : Thread nD τ).loc main_arg2) (ix2 p q) :=
  (congrArg (V m c main_arg2) (entry p q _ (tile p) _ _ (index (point p)).2.2.1 rfl rfl)).trans (congrFun (V_main_arg2 m c) _)

theorem v_apply (c : Dev nD) (p : Fin 1360) (q : Fin 128) :
    iblk m c 3 (point p) (ix2 (place p) q) = m ((c.tc : Thread nD τ).loc main_arg3) (ix2 p q) :=
  (congrArg (V m c main_arg3) (entry p q _ (tile p) _ _ (index (point p)).2.2.2.1 rfl rfl)).trans (congrFun (V_main_arg3 m c) _)

/-- What the body stores, entry by entry. -/
theorem pay_mean (g m : Vec Ideal S1360x128 .f32) (p : Fin 1360) (q : Fin 128) :
    k0_pay1 (F := Ideal) g m (ix2 p q) = mean (g (ix2 p q)) (m (ix2 p q)) := by
  pointwise [k0_pay1, mean]

theorem pay_square (g v : Vec Ideal S1360x128 .f32) (p : Fin 1360) (q : Fin 128) :
    k0_pay2 (F := Ideal) g v (ix2 p q) = square (g (ix2 p q)) (v (ix2 p q)) := by
  pointwise [k0_pay2, square]

theorem pay_delta (w g m v : Vec Ideal S1360x128 .f32) (p : Fin 1360) (q : Fin 128) :
    k0_pay3 (F := Ideal) w g m v (ix2 p q) = delta (w (ix2 p q)) (g (ix2 p q)) (m (ix2 p q)) (v (ix2 p q)) := by
  unfold delta
  rw [← pay_mean, ← pay_square]
  pointwise [k0_pay3]

section Blocks

variable (x0 x1 x2 x3 : Vec Ideal S1360x128 .f32) (p : Fin 1360) (q : Fin 128)

theorem block_delta : out0_4 x0 x1 x2 x3 (ix2 p q) = delta (x0 (ix2 p q)) (x1 (ix2 p q)) (x2 (ix2 p q)) (x3 (ix2 p q)) := by
  unfold out0_4
  rw [View.canon_unit_zero zero2]
  simp only [View.ld_unit_zero (S := S1360x128) zero2]
  exact pay_delta _ _ _ _ p q

theorem block_mean : out0_5 x0 x1 x2 x3 (ix2 p q) = mean (x1 (ix2 p q)) (x2 (ix2 p q)) := by
  unfold out0_5
  rw [View.canon_unit_zero zero2]
  simp only [View.ld_unit_zero (S := S1360x128) zero2]
  exact pay_mean _ _ p q

theorem block_square : out0_6 x0 x1 x2 x3 (ix2 p q) = square (x1 (ix2 p q)) (x3 (ix2 p q)) := by
  unfold out0_6
  rw [View.canon_unit_zero zero2]
  simp only [View.ld_unit_zero (S := S1360x128) zero2]
  exact pay_square _ _ p q

end Blocks

/-- The results after the run, entry by entry. -/
theorem result_delta (c : Dev nD) (p : Fin 1360) (q : Fin 128) :
    (dats m 0 c).arrAt 4 cfg0.N (ix2 p q)
      = delta (m ((c.tc : Thread nD τ).loc main_arg0) (ix2 p q)) (m ((c.tc : Thread nD τ).loc main_arg1) (ix2 p q)) (m ((c.tc : Thread nD τ).loc main_arg2) (ix2 p q)) (m ((c.tc : Thread nD τ).loc main_arg3) (ix2 p q)) := by
  have e := congrFun (Value.blocks4 m c (point p) (flush0_4 _)) (ix2 (place p) q)
  rw [Value.flushed4] at e
  refine (congrArg ((dats m 0 c).arrAt 4 cfg0.N) (entry p q _ (tile p) _ _ (index (point p)).2.2.2.2.1 rfl rfl).symm).trans
    (e.trans ((block_delta _ _ _ _ _ _).trans ?_))
  rw [w_apply, g_apply, m_apply, v_apply]

theorem result_mean (c : Dev nD) (p : Fin 1360) (q : Fin 128) :
    (dats m 0 c).arrAt 5 cfg0.N (ix2 p q)
      = mean (m ((c.tc : Thread nD τ).loc main_arg1) (ix2 p q)) (m ((c.tc : Thread nD τ).loc main_arg2) (ix2 p q)) := by
  have e := congrFun (Value.blocks5 m c (point p) (flush0_5 _)) (ix2 (place p) q)
  rw [Value.flushed5] at e
  refine (congrArg ((dats m 0 c).arrAt 5 cfg0.N) (entry p q _ (tile p) _ _ (index (point p)).2.2.2.2.2.1 rfl rfl).symm).trans
    (e.trans ((block_mean _ _ _ _ _ _).trans ?_))
  rw [g_apply, m_apply]

theorem result_square (c : Dev nD) (p : Fin 1360) (q : Fin 128) :
    (dats m 0 c).arrAt 6 cfg0.N (ix2 p q)
      = square (m ((c.tc : Thread nD τ).loc main_arg1) (ix2 p q)) (m ((c.tc : Thread nD τ).loc main_arg3) (ix2 p q)) := by
  have e := congrFun (Value.blocks6 m c (point p) (flush0_6 _)) (ix2 (place p) q)
  rw [Value.flushed6] at e
  refine (congrArg ((dats m 0 c).arrAt 6 cfg0.N) (entry p q _ (tile p) _ _ (index (point p)).2.2.2.2.2.2 rfl rfl).symm).trans
    (e.trans ((block_square _ _ _ _ _ _).trans ?_))
  rw [g_apply, v_apply]

/-! ## The reference -/

section Reference

variable (w g m v : (⟨S1360x128, .f32⟩ : BufTy).Contents (Elt Ideal)) (p : Fin 1360) (q : Fin 128)

theorem reference_mean : Cert.Reference29Ideal.Read.val_main_v4 (F := Ideal) g m (ix2 p q) = mean (g (ix2 p q)) (m (ix2 p q)) := by
  pointwise [Cert.Reference29Ideal.Read.val_main_v4, Cert.Reference29Ideal.Read.val_main_v3, Cert.Reference29Ideal.Read.val_main_v2, Cert.Reference29Ideal.Read.val_main_cst_0, Cert.Reference29Ideal.Read.val_main_v1, Cert.Reference29Ideal.Read.val_main_v0, Cert.Reference29Ideal.Read.val_main_cst, mean]

theorem reference_square : Cert.Reference29Ideal.Read.val_main_v10 (F := Ideal) g v (ix2 p q) = square (g (ix2 p q)) (v (ix2 p q)) := by
  pointwise [Cert.Reference29Ideal.Read.val_main_v10, Cert.Reference29Ideal.Read.val_main_v9, Cert.Reference29Ideal.Read.val_main_v8, Cert.Reference29Ideal.Read.val_main_cst_2, Cert.Reference29Ideal.Read.val_main_v7, Cert.Reference29Ideal.Read.val_main_v6, Cert.Reference29Ideal.Read.val_main_v5, Cert.Reference29Ideal.Read.val_main_cst_1, square]

theorem reference_delta :
    Cert.Reference29Ideal.Read.val_main_v23 (F := Ideal) w g m v (ix2 p q) = delta (w (ix2 p q)) (g (ix2 p q)) (m (ix2 p q)) (v (ix2 p q)) := by
  unfold delta
  rw [← reference_mean, ← reference_square]
  pointwise [Cert.Reference29Ideal.Read.val_main_v23, Cert.Reference29Ideal.Read.val_main_v22, Cert.Reference29Ideal.Read.val_main_cst_7, Cert.Reference29Ideal.Read.val_main_v21, Cert.Reference29Ideal.Read.val_main_v20, Cert.Reference29Ideal.Read.val_main_v19, Cert.Reference29Ideal.Read.val_main_cst_6, Cert.Reference29Ideal.Read.val_main_v18, Cert.Reference29Ideal.Read.val_main_v17, Cert.Reference29Ideal.Read.val_main_v16, Cert.Reference29Ideal.Read.val_main_cst_5, Cert.Reference29Ideal.Read.val_main_v15, Cert.Reference29Ideal.Read.val_main_v14, Cert.Reference29Ideal.Read.val_main_v13, Cert.Reference29Ideal.Read.val_main_cst_4, Cert.Reference29Ideal.Read.val_main_v12, Cert.Reference29Ideal.Read.val_main_v11, Cert.Reference29Ideal.Read.val_main_cst_3]

end Reference

theorem algebraic : algebraic_Kernel29Ideal_Reference29Ideal := by
  intro m g m' g' _ hm
  refine ⟨fun c => (dats m 0 c).arrAt 4 cfg0.N, fun c => (dats m 0 c).arrAt 5 cfg0.N, fun c => (dats m 0 c).arrAt 6 cfg0.N, Value.run_blocks m g,
    (θ_run _ _ _).mono (fun r h c => ⟨(h c).1.trans ?_, (h c).2.1.trans ?_, (h c).2.2.1.trans ?_, (h c).2.2.2⟩) (Cert.Reference29Ideal.Value.run m' g')⟩
  all_goals
    obtain ⟨a0, a1, a2, a3⟩ := hm c
    have hi : ∀ i : S1360x128.Idx, ∃ (p : Fin 1360) (q : Fin 128), i = ix2 p q := fun i => ⟨i 0, i 1, eq_ix2 i⟩
  · rw [Cert.Reference29Ideal.Read.val_main_v23_eq, a0, a1, a2, a3]
    funext i
    obtain ⟨p, q, rfl⟩ := hi i
    exact (reference_delta _ _ _ _ p q).trans (result_delta m c p q).symm
  · rw [Cert.Reference29Ideal.Read.val_main_v4_eq, a1, a2]
    funext i
    obtain ⟨p, q, rfl⟩ := hi i
    exact (reference_mean _ _ p q).trans (result_mean m c p q).symm
  · rw [Cert.Reference29Ideal.Read.val_main_v10_eq, a1, a3]
    funext i
    obtain ⟨p, q, rfl⟩ := hi i
    exact (reference_square _ _ p q).trans (result_square m c p q).symm

end Cert.Update.Small
-- ==== Proof.Product.Ada.lean ====
/- The modulation: `silu(c) · w + b` for each layer. The kernel takes a layer's columns in three tiles. -/
module

public import proofs.«01_k».proof.Defs
public import proofs.«01_k».proof.Proof.Product.AdaBwd
public import proofs.«01_k».proof.Proof.Gen.Kernel30
public import proofs.«01_k».proof.Proof.Gen.Kernel30Ideal.Value
public import proofs.«01_k».proof.Proof.Gen.Reference30Ideal.Read
public import proofs.«01_k».proof.Proof.Gen.Reference30Ideal.Run

@[expose] public section

set_option maxRecDepth 16384

noncomputable section

namespace Cert.Ada

open Cert.Kernel30Ideal Cert.Kernel30Ideal.Gen Cert.Product
open Idealize.ShloMosaic Idealize.ShloMosaic.TcCoe Idealize.SL.Sem

/-! ## The frames -/

/-- The kernel as printed and its idealization have the same definitions. -/
theorem defs_eq : Cert.Kernel30.defs (F := Bits) = Cert.Kernel30Ideal.defs (F := Bits) := by
  refine congrArg (Pipeline.defs Cert.Kernel30Ideal.pcfgs) ?_
  unfold Cert.Kernel30.defs₀ Cert.Kernel30Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel30 := fun m g _ => by
  rw [defs_eq]
  exact frame (F := Bits) m g

theorem frame_ideal : quiescent_Kernel30Ideal := fun m g _ => frame (F := Ideal) m g

theorem frame_reference : quiescent_Reference30Ideal := fun m g _ =>
  (θ_run Cert.Reference30Ideal.defs _ _).mono (fun r h => ⟨fun c => (h c).2, sem_eq_zero_of_no_sems (by decide) r.2⟩)
    (Cert.Reference30Ideal.Value.run (F := Ideal) m g)

/-! ## The value -/

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block of each window at a grid point. -/
theorem index : ∀ t : Fin cfg0.N,
    win0_0.index t = ![0, 0] ∧ win0_1.index t = ![t.val / 3, 0, t.val % 3] ∧ win0_2.index t = ![t.val / 3, 0, t.val % 3]
    ∧ win0_3.index t = ![t.val / 3, 0, t.val % 3] :=
  (by decide +kernel : ∀ t : Fin grid0.N, _)

/-- The layer of a grid point, -/
def layer (t : Fin cfg0.N) : Fin 4 := ⟨t.val / 3, by have : t.val < 12 := t.isLt; omega⟩
/-- and a column of its tile. -/
def col (t : Fin cfg0.N) (r : Fin 512) : Fin 1536 := ⟨t.val % 3 * 512 + r.val, by have := r.isLt; omega⟩

/-- The grid point of a column of a layer, -/
def point (l : Fin 4) (q : Fin 1536) : Fin cfg0.N := ⟨l.val * 3 + q.val / 512, by have := l.isLt; have := q.isLt; show _ < 12; omega⟩
/-- and the column's place in its tile. -/
def place (q : Fin 1536) : Fin 512 := ⟨q.val % 512, by omega⟩

theorem layer_point (l : Fin 4) (q : Fin 1536) : layer (point l q) = l := Fin.ext (by
  show (l.val * 3 + q.val / 512) / 3 = l.val
  have := q.isLt; omega)

theorem col_point (l : Fin 4) (q : Fin 1536) : col (point l q) (place q) = q := Fin.ext (by
  show (l.val * 3 + q.val / 512) % 3 * 512 + q.val % 512 = q.val
  have := q.isLt; omega)

/-- The conditioning, whole, -/
theorem c_apply (c : Dev nD) (t : Fin cfg0.N) (s : Fin 48) (d : Fin 1024) :
    iblk m c 0 t (ix2 s d) = m ((c.tc : Thread nD τ).loc main_arg0) (ix2 s d) := by
  have e0 : win0_0.index t (0 : Fin 2) = 0 := congrFun (index t).1 0
  have e1 : win0_0.index t (1 : Fin 2) = 0 := congrFun (index t).1 1
  refine congrArg (m ((c.tc : Thread nD τ).loc main_arg0)) (ix2_of ?_ ?_)
  · show win0_0.index t (0 : Fin 2) * 48 + 1 * s.val = s.val; rw [e0]; omega
  · show win0_0.index t (1 : Fin 2) * 1024 + 1 * d.val = d.val; rw [e1]; omega

/-- a tile of a layer's weights -/
theorem w_apply (c : Dev nD) (t : Fin cfg0.N) (d : Fin 1024) (r : Fin 512) :
    iblk m c 1 t (ix3 0 d r) = m ((c.tc : Thread nD τ).loc main_arg1) (ix3 (layer t) d (col t r)) := by
  have e0 : win0_1.index t (0 : Fin 3) = t.val / 3 := congrFun (index t).2.1 0
  have e1 : win0_1.index t (1 : Fin 3) = 0 := congrFun (index t).2.1 1
  have e2 : win0_1.index t (2 : Fin 3) = t.val % 3 := congrFun (index t).2.1 2
  refine congrArg (m ((c.tc : Thread nD τ).loc main_arg1)) (ix3_of ?_ ?_ ?_)
  · show win0_1.index t (0 : Fin 3) * 1 + 1 * 0 = t.val / 3; rw [e0]; omega
  · show win0_1.index t (1 : Fin 3) * 1024 + 1 * d.val = d.val; rw [e1]; omega
  · show win0_1.index t (2 : Fin 3) * 512 + 1 * r.val = t.val % 3 * 512 + r.val; rw [e2]; omega

/-- and of its bias. -/
theorem b_apply (c : Dev nD) (t : Fin cfg0.N) (r : Fin 512) :
    iblk m c 2 t (ix3 0 0 r) = m ((c.tc : Thread nD τ).loc main_arg2) (ix3 (layer t) 0 (col t r)) := by
  have e0 : win0_2.index t (0 : Fin 3) = t.val / 3 := congrFun (index t).2.2.1 0
  have e1 : win0_2.index t (1 : Fin 3) = 0 := congrFun (index t).2.2.1 1
  have e2 : win0_2.index t (2 : Fin 3) = t.val % 3 := congrFun (index t).2.2.1 2
  refine congrArg (m ((c.tc : Thread nD τ).loc main_arg2)) (ix3_of ?_ ?_ ?_)
  · show win0_2.index t (0 : Fin 3) * 1 + 1 * 0 = t.val / 3; rw [e0]; omega
  · show win0_2.index t (1 : Fin 3) * 1 + 1 * 0 = 0; rw [e1]
  · show win0_2.index t (2 : Fin 3) * 512 + 1 * r.val = t.val % 3 * 512 + r.val; rw [e2]; omega

/-- An entry of the modulation. -/
def modulation (C : (⟨2, ![48, 1024]⟩ : Shape).Idx → EReal) (W : (⟨3, ![4, 1024, 1536]⟩ : Shape).Idx → EReal)
    (B : (⟨3, ![4, 1, 1536]⟩ : Shape).Idx → EReal) (l : Fin 4) (s : Fin 48) (q : Fin 1536) : EReal :=
  (∑ d : Fin 1024, AdaBwd.silu (C (ix2 s d)) * W (ix3 l d q)) + B (ix3 l 0 q)

theorem pay_apply (x0 : Vec Ideal S48x1024 .f32) (x1 : Vec Ideal S1x1024x512 .f32) (x2 : Vec Ideal S1x1x512 .f32) (s : Fin 48) (r : Fin 512) :
    k0_pay1 (F := Ideal) x0 x1 x2 (ix3 0 s r) = (∑ d : Fin 1024, AdaBwd.silu (x0 (ix2 s d)) * x1 (ix3 0 d r)) + x2 (ix3 0 0 r) := by
  pointwise [k0_pay1, AdaBwd.silu]

/-- A block of the result. -/
theorem block_apply (x0 : Vec Ideal S48x1024 .f32) (x1 : Vec Ideal S1x1024x512 .f32) (x2 : Vec Ideal S1x1x512 .f32) (s : Fin 48) (r : Fin 512) :
    out0_3 x0 x1 x2 (ix3 0 s r) = (∑ d : Fin 1024, AdaBwd.silu (x0 (ix2 s d)) * x1 (ix3 0 d r)) + x2 (ix3 0 0 r) := by
  unfold out0_3
  rw [View.canon_unit_zero zero3]
  simp only [View.ld_unit_zero (S := S48x1024) zero2, View.ld_unit_zero (S := S1x1024x512) zero3, View.ld_unit_zero (S := S1x1x512) zero3]
  exact pay_apply _ _ _ s r

/-- The result after the run. -/
theorem result_apply (c : Dev nD) (l : Fin 4) (s : Fin 48) (q : Fin 1536) :
    (dats m 0 c).arrAt 3 cfg0.N (ix3 l s q)
      = modulation (m ((c.tc : Thread nD τ).loc main_arg0)) (m ((c.tc : Thread nD τ).loc main_arg1)) (m ((c.tc : Thread nD τ).loc main_arg2)) l s q := by
  have e := congrFun (Value.blocks3 m c (point l q) (flush0_3 _)) (ix3 0 s (place q))
  rw [Value.flushed3] at e
  have v : out0_3 (iblk m c 0 (point l q)) (iblk m c 1 (point l q)) (iblk m c 2 (point l q)) (ix3 0 s (place q))
      = modulation (m ((c.tc : Thread nD τ).loc main_arg0)) (m ((c.tc : Thread nD τ).loc main_arg1)) (m ((c.tc : Thread nD τ).loc main_arg2))
          (layer (point l q)) s (col (point l q) (place q)) :=
    (block_apply _ _ _ s _).trans (congrArg₂ (· + ·)
      (Finset.sum_congr rfl fun d _ => mul_congr (congrArg AdaBwd.silu (c_apply m c _ s d)) (w_apply m c _ d _)) (b_apply m c _ _))
  rw [layer_point, col_point] at v
  refine Eq.trans (congrArg ((dats m 0 c).arrAt 3 cfg0.N) (ix3_of ?_ ?_ ?_).symm) (e.trans v)
  · show win0_3.index (point l q) (0 : Fin 3) * 1 + 1 * 0 = l.val
    rw [(index (point l q)).2.2.2]
    exact (by omega : ∀ k : ℕ, k * 1 + 1 * 0 = k) _ |>.trans (congrArg Fin.val (layer_point l q))
  · show win0_3.index (point l q) (1 : Fin 3) * 48 + 1 * s.val = s.val
    rw [(index (point l q)).2.2.2]
    show 0 * 48 + 1 * s.val = s.val
    omega
  · show win0_3.index (point l q) (2 : Fin 3) * 512 + 1 * (place q).val = q.val
    rw [(index (point l q)).2.2.2, Nat.one_mul]
    exact congrArg Fin.val (col_point l q)

/-! ## The reference -/

theorem reference_silu (x0 : (⟨S48x1024, .f32⟩ : BufTy).Contents (Elt Ideal)) (s : Fin 48) (d : Fin 1024) :
    Cert.Reference30Ideal.Read.val_main_v0 (F := Ideal) x0 (ix2 s d) = AdaBwd.silu (x0 (ix2 s d)) := by
  pointwise [Cert.Reference30Ideal.Read.val_main_v0, Cert.Reference30Ideal.Read.val_main_call0_v5, Cert.Reference30Ideal.Read.val_main_call0_v4, Cert.Reference30Ideal.Read.val_main_call0_v3, Cert.Reference30Ideal.Read.val_main_call0_v2, Cert.Reference30Ideal.Read.val_main_call0_v1, Cert.Reference30Ideal.Read.val_main_call0_v0, Cert.Reference30Ideal.Read.val_main_call0_cst, Cert.Reference30Ideal.Read.val_main_call0_cst_0, AdaBwd.silu]
  rfl

theorem reference_apply (x0 : (⟨S48x1024, .f32⟩ : BufTy).Contents (Elt Ideal)) (x1 : (⟨S4x1024x1536, .f32⟩ : BufTy).Contents (Elt Ideal))
    (x2 : (⟨S4x1x1536, .f32⟩ : BufTy).Contents (Elt Ideal)) (l : Fin 4) (s : Fin 48) (q : Fin 1536) :
    Cert.Reference30Ideal.Read.val_main_v4 (F := Ideal) x0 x1 x2 (ix3 l s q) = modulation x0 x1 x2 l s q := by
  rw [Cert.Reference30Ideal.Read.val_main_v4_apply, Cert.Reference30Ideal.Read.val_main_v2_apply, Cert.Reference30Ideal.Read.val_main_v1_apply, Cert.Reference30Ideal.Read.val_main_v3_apply]
  refine congrArg₂ (· + ·) (Finset.sum_congr rfl fun d _ => (mul_comm _ _).trans (mul_congr ?_ ?_)) (congrArg x2 (ix3_of rfl rfl rfl))
  · exact (congrArg (Cert.Reference30Ideal.Read.val_main_v0 (F := Ideal) x0) (ix2_of rfl rfl)).trans (reference_silu x0 s d)
  · exact congrArg x1 (ix3_of rfl rfl rfl)

theorem algebraic : algebraic_Kernel30Ideal_Reference30Ideal := by
  intro m g m' g' _ hm
  refine ⟨fun c => (dats m 0 c).arrAt 3 cfg0.N, Value.run_blocks m g,
    (θ_run _ _ _).mono (fun r h c => ⟨(h c).1.trans ?_, (h c).2⟩) (Cert.Reference30Ideal.Value.run m' g')⟩
  obtain ⟨a0, a1, a2⟩ := hm c
  rw [Cert.Reference30Ideal.Read.val_main_v4_eq, a0, a1, a2]
  funext i
  obtain ⟨l, s, q, rfl⟩ : ∃ (l : Fin 4) (s : Fin 48) (q : Fin 1536), i = ix3 l s q := ⟨i 0, i 1, i 2, ix3_of rfl rfl rfl⟩
  exact (reference_apply _ _ _ l s q).trans (result_apply m c l s q).symm

end Cert.Ada
-- ==== Proof.Product.AdaAct.lean ====
/- The gradient of the conditioning before its activation: the derivative of silu times half the incoming sum, entry by entry. -/
module

public import proofs.«01_k».proof.Defs
public import proofs.«01_k».proof.Proof.Product.Sums
public import proofs.«01_k».proof.Proof.Gen.Kernel31
public import proofs.«01_k».proof.Proof.Gen.Kernel31Ideal.Value
public import proofs.«01_k».proof.Proof.Gen.Reference31Ideal.Read
public import proofs.«01_k».proof.Proof.Gen.Reference31Ideal.Run

@[expose] public section

set_option maxRecDepth 16384

noncomputable section

namespace Cert.AdaAct

open Cert.Kernel31Ideal Cert.Kernel31Ideal.Gen Cert.Product
open Idealize.ShloMosaic Idealize.ShloMosaic.TcCoe Idealize.SL.Sem

/-! ## The frames -/

/-- The kernel as printed and its idealization have the same definitions. -/
theorem defs_eq : Cert.Kernel31.defs (F := Bits) = Cert.Kernel31Ideal.defs (F := Bits) := by
  refine congrArg (Pipeline.defs Cert.Kernel31Ideal.pcfgs) ?_
  unfold Cert.Kernel31.defs₀ Cert.Kernel31Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem frame_kernel : quiescent_Kernel31 := fun m g _ => by
  rw [defs_eq]
  exact frame (F := Bits) m g

theorem frame_ideal : quiescent_Kernel31Ideal := fun m g _ => frame (F := Ideal) m g

theorem frame_reference : quiescent_Reference31Ideal := fun m g _ =>
  (θ_run Cert.Reference31Ideal.defs _ _).mono (fun r h => ⟨fun c => (h c).2, sem_eq_zero_of_no_sems (by decide) r.2⟩)
    (Cert.Reference31Ideal.Value.run (F := Ideal) m g)

/-! ## The value -/

/-- The derivative of `x · σ(x)` times `d`. -/
def grad (d x : EReal) : EReal := d * Ideal.logistic x + x * d * (Ideal.logistic x * (1 - Ideal.logistic x))

/-- The result after the run, entry by entry, -/
theorem result_apply (a0 a1 : S8x1024.Idx → Elt Ideal .f32) (i : S8x1024.Idx) :
    Value.G2 a1 a0 i = grad (Ideal.ofBits .f32 0x3F000000#32 * a0 i) (a1 i) := by
  pointwise [Value.G2, grad]

/-- and the reference's. -/
theorem reference_apply (x0 x1 : (⟨S8x1024, .f32⟩ : BufTy).Contents (Elt Ideal)) (p : Fin 8) (q : Fin 1024) :
    Cert.Reference31Ideal.Read.val_main_v3 (F := Ideal) x0 x1 (ix2 p q) = grad (Ideal.ofBits .f32 0x3F000000#32 * x0 (ix2 p q)) (x1 (ix2 p q)) := by
  pointwise [Cert.Reference31Ideal.Read.val_main_v3, Cert.Reference31Ideal.Read.val_main_call1_v2, Cert.Reference31Ideal.Read.val_main_call1_v1, Cert.Reference31Ideal.Read.val_main_call1_v0, Cert.Reference31Ideal.Read.val_main_v2, Cert.Reference31Ideal.Read.val_main_v1, Cert.Reference31Ideal.Read.val_main_cst, Cert.Reference31Ideal.Read.val_main_v0_1, Cert.Reference31Ideal.Read.val_main_v0_2, Cert.Reference31Ideal.Read.val_main_call0_v7, Cert.Reference31Ideal.Read.val_main_call0_v6, Cert.Reference31Ideal.Read.val_main_call0_v4, Cert.Reference31Ideal.Read.val_main_call0_v3, Cert.Reference31Ideal.Read.val_main_call0_v2, Cert.Reference31Ideal.Read.val_main_call0_v1, Cert.Reference31Ideal.Read.val_main_call0_v0, Cert.Reference31Ideal.Read.val_main_call0_cst, Cert.Reference31Ideal.Read.val_main_call0_cst_0, Cert.Reference31Ideal.Read.val_main_call0_cst_1, grad]
  rfl

theorem algebraic : algebraic_Kernel31Ideal_Reference31Ideal := by
  intro m g m' g' _ hm
  refine ⟨fun c => Value.G2 (m ((c.tc : Thread nD τ).loc main_arg1)) (m ((c.tc : Thread nD τ).loc main_arg0)), Value.run m g,
    (θ_run _ _ _).mono (fun r h c => ⟨(h c).1.trans ?_, (h c).2⟩) (Cert.Reference31Ideal.Value.run m' g')⟩
  obtain ⟨a0, a1⟩ := hm c
  rw [Cert.Reference31Ideal.Read.val_main_v3_eq, a0, a1]
  funext i
  obtain ⟨p, q, rfl⟩ : ∃ (p : Fin 8) (q : Fin 1024), i = ix2 p q := ⟨i 0, i 1, eq_ix2 i⟩
  exact (reference_apply _ _ p q).trans (result_apply _ _ _).symm

end Cert.AdaAct
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite_inputs
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Attention.Claims
public import Idealize.ShloMosaic.Adequacy
public import Idealize.ShloMosaic.Init
public import proofs.«01_k».proof.Proof.Product.FfnOutDx
public import proofs.«01_k».proof.Proof.Product.FfnInDx
public import proofs.«01_k».proof.Proof.Product.FfnOutDw
public import proofs.«01_k».proof.Proof.Product.FfnInDw
public import proofs.«01_k».proof.Proof.Product.FfnIn
public import proofs.«01_k».proof.Proof.Product.MixOutDx
public import proofs.«01_k».proof.Proof.Product.MixOutDw
public import proofs.«01_k».proof.Proof.Product.AbInDw
public import proofs.«01_k».proof.Proof.Product.CdInDw
public import proofs.«01_k».proof.Proof.Product.AbInDx
public import proofs.«01_k».proof.Proof.Product.CdInDx
public import proofs.«01_k».proof.Proof.Product.AbIn
public import proofs.«01_k».proof.Proof.Product.CdIn
public import proofs.«01_k».proof.Proof.Gen.Kernel15
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Product.FfnOut
public import proofs.«01_k».proof.Proof.Gen.Kernel16
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Product.MixOut
public import proofs.«01_k».proof.Proof.Gen.Kernel17
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Product.FfnOutLast
public import proofs.«01_k».proof.Proof.Gen.Kernel18
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Product.NormFwd
public import proofs.«01_k».proof.Proof.Gen.Kernel19
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Attention.Forward
public import proofs.«01_k».proof.Proof.Gen.Kernel20
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Product.AdaBwd
public import proofs.«01_k».proof.Proof.Gen.Kernel21
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Update.FfnIn
public import proofs.«01_k».proof.Proof.Gen.Kernel22
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Update.FfnOutWeights
public import proofs.«01_k».proof.Proof.Gen.Kernel23
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Update.AbIn
public import proofs.«01_k».proof.Proof.Gen.Kernel24
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Update.MixOutWeights
public import proofs.«01_k».proof.Proof.Gen.Kernel25
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Update.QueryB
public import proofs.«01_k».proof.Proof.Gen.Kernel26
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Update.KeyValueB
public import proofs.«01_k».proof.Proof.Gen.Kernel27
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Update.CdIn
public import proofs.«01_k».proof.Proof.Gen.Kernel28
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Update.AdaW
public import proofs.«01_k».proof.Proof.Gen.Kernel29
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Update.Small
public import proofs.«01_k».proof.Proof.Gen.Kernel30
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Product.Ada
public import proofs.«01_k».proof.Proof.Gen.Kernel31
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Product.AdaAct

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Pre_finite.Gen.facts, Cert.Pre_finite_inputs.Gen.facts,
    Cert.Attention.frame_Kernel, Cert.Attention.frame_KernelIdeal, Cert.Attention.frame_KernelIdeal_pre, Cert.Attention.frame_ReferenceIdeal, Cert.Attention.frame_ReferenceIdeal_pre,
    Cert.FfnOutDx.frame_kernel, Cert.FfnOutDx.frame_ideal, Cert.FfnOutDx.frame_reference,
    Cert.FfnInDx.frame_kernel, Cert.FfnInDx.frame_ideal, Cert.FfnInDx.frame_reference,
    Cert.FfnOutDw.frame_kernel, Cert.FfnOutDw.frame_ideal, Cert.FfnOutDw.frame_reference,
    Cert.FfnInDw.frame_kernel, Cert.FfnInDw.frame_ideal, Cert.FfnInDw.frame_reference,
    Cert.FfnIn.frame_kernel, Cert.FfnIn.frame_ideal, Cert.FfnIn.frame_reference,
    Cert.MixOutDx.frame_kernel, Cert.MixOutDx.frame_ideal, Cert.MixOutDx.frame_reference,
    Cert.MixOutDw.frame_kernel, Cert.MixOutDw.frame_ideal, Cert.MixOutDw.frame_reference,
    Cert.AbInDw.frame_kernel, Cert.AbInDw.frame_ideal, Cert.AbInDw.frame_reference,
    Cert.CdInDw.frame_kernel, Cert.CdInDw.frame_ideal, Cert.CdInDw.frame_reference,
    Cert.AbInDx.frame_kernel, Cert.AbInDx.frame_ideal, Cert.AbInDx.frame_reference,
    Cert.CdInDx.frame_kernel, Cert.CdInDx.frame_ideal, Cert.CdInDx.frame_reference,
    Cert.AbIn.frame_kernel, Cert.AbIn.frame_ideal, Cert.AbIn.frame_reference,
    Cert.CdIn.frame_kernel, Cert.CdIn.frame_ideal, Cert.CdIn.frame_reference,
    Cert.FfnOut.frame_kernel, Cert.FfnOut.frame_ideal, Cert.FfnOut.frame_reference,
    Cert.MixOut.frame_kernel, Cert.MixOut.frame_ideal, Cert.MixOut.frame_reference,
    Cert.FfnOutLast.frame_kernel, Cert.FfnOutLast.frame_ideal, Cert.FfnOutLast.frame_reference,
    Cert.NormFwd.frame_kernel, Cert.NormFwd.frame_ideal, Cert.NormFwd.frame_reference,
    Cert.MlaFwd.frame_kernel, Cert.MlaFwd.frame_ideal, Cert.MlaFwd.frame_ideal_pre, Cert.MlaFwd.frame_reference, Cert.MlaFwd.frame_reference_pre,
    Cert.AdaBwd.frame_kernel, Cert.AdaBwd.frame_ideal, Cert.AdaBwd.frame_reference,
    Cert.Update.FfnIn.frame_kernel, Cert.Update.FfnIn.frame_ideal, Cert.Update.FfnIn.frame_reference,
    Cert.Update.FfnOutWeights.frame_kernel, Cert.Update.FfnOutWeights.frame_ideal, Cert.Update.FfnOutWeights.frame_reference,
    Cert.Update.AbIn.frame_kernel, Cert.Update.AbIn.frame_ideal, Cert.Update.AbIn.frame_reference,
    Cert.Update.MixOutWeights.frame_kernel, Cert.Update.MixOutWeights.frame_ideal, Cert.Update.MixOutWeights.frame_reference,
    Cert.Update.QueryB.frame_kernel, Cert.Update.QueryB.frame_ideal, Cert.Update.QueryB.frame_reference,
    Cert.Update.KeyValueB.frame_kernel, Cert.Update.KeyValueB.frame_ideal, Cert.Update.KeyValueB.frame_reference,
    Cert.Update.CdIn.frame_kernel, Cert.Update.CdIn.frame_ideal, Cert.Update.CdIn.frame_reference,
    Cert.Update.AdaW.frame_kernel, Cert.Update.AdaW.frame_ideal, Cert.Update.AdaW.frame_reference,
    Cert.Update.Small.frame_kernel, Cert.Update.Small.frame_ideal, Cert.Update.Small.frame_reference,
    Cert.Ada.frame_kernel, Cert.Ada.frame_ideal, Cert.Ada.frame_reference,
    Cert.AdaAct.frame_kernel, Cert.AdaAct.frame_ideal, Cert.AdaAct.frame_reference,
    trivial, Cert.Attention.algebraic,
    trivial, Cert.FfnOutDx.algebraic,
    trivial, Cert.FfnInDx.algebraic,
    trivial, Cert.FfnOutDw.algebraic,
    trivial, Cert.FfnInDw.algebraic,
    trivial, Cert.FfnIn.algebraic,
    trivial, Cert.MixOutDx.algebraic,
    trivial, Cert.MixOutDw.algebraic,
    trivial, Cert.AbInDw.algebraic,
    trivial, Cert.CdInDw.algebraic,
    trivial, Cert.AbInDx.algebraic,
    trivial, Cert.CdInDx.algebraic,
    trivial, Cert.AbIn.algebraic,
    trivial, Cert.CdIn.algebraic,
    trivial, Cert.FfnOut.algebraic,
    trivial, Cert.MixOut.algebraic,
    trivial, Cert.FfnOutLast.algebraic,
    trivial, Cert.NormFwd.algebraic,
    trivial, Cert.MlaFwd.algebraic,
    trivial, Cert.AdaBwd.algebraic,
    trivial, Cert.Update.FfnIn.algebraic,
    trivial, Cert.Update.FfnOutWeights.algebraic,
    trivial, Cert.Update.AbIn.algebraic,
    trivial, Cert.Update.MixOutWeights.algebraic,
    trivial, Cert.Update.QueryB.algebraic,
    trivial, Cert.Update.KeyValueB.algebraic,
    trivial, Cert.Update.CdIn.algebraic,
    trivial, Cert.Update.AdaW.algebraic,
    trivial, Cert.Update.Small.algebraic,
    trivial, Cert.Ada.algebraic,
    trivial, Cert.AdaAct.algebraic⟩

end Cert.Proof

end
